-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11)
      ∧ r.2.mem ((c.tc : Thread Cert.Kernel22.nD Cert.Kernel22.τ).loc Cert.Kernel22.main_arg12) = m ((c.tc : Thread Cert.Kernel22.nD Cert.Kernel22.τ).loc Cert.Kernel22.main_arg12)
      ∧ r.2.mem ((c.tc : Thread Cert.Kernel22.nD Cert.Kernel22.τ).loc Cert.Kernel22.main_arg13) = m ((c.tc : Thread Cert.Kernel22.nD Cert.Kernel22.τ).loc Cert.Kernel22.main_arg13)
      ∧ r.2.mem ((c.tc : Thread Cert.Kernel22.nD Cert.Kernel22.τ).loc Cert.Kernel22.main_arg14) = m ((c.tc : Thread Cert.Kernel22.nD Cert.Kernel22.τ).loc Cert.Kernel22.main_arg14)
      ∧ r.2.mem ((c.tc : Thread Cert.Kernel22.nD Cert.Kernel22.τ).loc Cert.Kernel22.main_arg15) = m ((c.tc : Thread Cert.Kernel22.nD Cert.Kernel22.τ).loc Cert.Kernel22.main_arg15)
      ∧ r.2.mem ((c.tc : Thread Cert.Kernel22.nD Cert.Kernel22.τ).loc Cert.Kernel22.main_arg16) = m ((c.tc : Thread Cert.Kernel22.nD Cert.Kernel22.τ).loc Cert.Kernel22.main_arg16)
      ∧ r.2.mem ((c.tc : Thread Cert.Kernel22.nD Cert.Kernel22.τ).loc Cert.Kernel22.main_arg17) = m ((c.tc : Thread Cert.Kernel22.nD Cert.Kernel22.τ).loc Cert.Kernel22.main_arg17)
      ∧ r.2.mem ((c.tc : Thread Cert.Kernel22.nD Cert.Kernel22.τ).loc Cert.Kernel22.main_arg18) = m ((c.tc : Thread Cert.Kernel22.nD Cert.Kernel22.τ).loc Cert.Kernel22.main_arg18)
      ∧ r.2.mem ((c.tc : Thread Cert.Kernel22.nD Cert.Kernel22.τ).loc Cert.Kernel22.main_arg19) = m ((c.tc : Thread Cert.Kernel22.nD Cert.Kernel22.τ).loc Cert.Kernel22.main_arg19)
      ∧ r.2.mem ((c.tc : Thread Cert.Kernel22.nD Cert.Kernel22.τ).loc Cert.Kernel22.main_arg20) = m ((c.tc : Thread Cert.Kernel22.nD Cert.Kernel22.τ).loc Cert.Kernel22.main_arg20)
      ∧ r.2.mem ((c.tc : Thread Cert.Kernel22.nD Cert.Kernel22.τ).loc Cert.Kernel22.main_arg21) = m ((c.tc : Thread Cert.Kernel22.nD Cert.Kernel22.τ).loc Cert.Kernel22.main_arg21)
      ∧ r.2.mem ((c.tc : Thread Cert.Kernel22.nD Cert.Kernel22.τ).loc Cert.Kernel22.main_arg22) = m ((c.tc : Thread Cert.Kernel22.nD Cert.Kernel22.τ).loc Cert.Kernel22.main_arg22)
      ∧ r.2.mem ((c.tc : Thread Cert.Kernel22.nD Cert.Kernel22.τ).loc Cert.Kernel22.main_arg23) = m ((c.tc : Thread Cert.Kernel22.nD Cert.Kernel22.τ).loc Cert.Kernel22.main_arg23)
      ∧ r.2.mem ((c.tc : Thread Cert.Kernel22.nD Cert.Kernel22.τ).loc Cert.Kernel22.main_arg24) = m ((c.tc : Thread Cert.Kernel22.nD Cert.Kernel22.τ).loc Cert.Kernel22.main_arg24)
      ∧ r.2.mem ((c.tc : Thread Cert.Kernel22.nD Cert.Kernel22.τ).loc Cert.Kernel22.main_arg25) = m ((c.tc : Thread Cert.Kernel22.nD Cert.Kernel22.τ).loc Cert.Kernel22.main_arg25)
      ∧ r.2.mem ((c.tc : Thread Cert.Kernel22.nD Cert.Kernel22.τ).loc Cert.Kernel22.main_arg26) = m ((c.tc : Thread Cert.Kernel22.nD Cert.Kernel22.τ).loc Cert.Kernel22.main_arg26)
      ∧ r.2.mem ((c.tc : Thread Cert.Kernel22.nD Cert.Kernel22.τ).loc Cert.Kernel22.main_arg27) = m ((c.tc : Thread Cert.Kernel22.nD Cert.Kernel22.τ).loc Cert.Kernel22.main_arg27)
      ∧ r.2.mem ((c.tc : Thread Cert.Kernel22.nD Cert.Kernel22.τ).loc Cert.Kernel22.main_arg28) = m ((c.tc : Thread Cert.Kernel22.nD Cert.Kernel22.τ).loc Cert.Kernel22.main_arg28)
      ∧ r.2.mem ((c.tc : Thread Cert.Kernel22.nD Cert.Kernel22.τ).loc Cert.Kernel22.main_arg29) = m ((c.tc : Thread Cert.Kernel22.nD Cert.Kernel22.τ).loc Cert.Kernel22.main_arg29)
      ∧ r.2.mem ((c.tc : Thread Cert.Kernel22.nD Cert.Kernel22.τ).loc Cert.Kernel22.main_arg30) = m ((c.tc : Thread Cert.Kernel22.nD Cert.Kernel22.τ).loc Cert.Kernel22.main_arg30)
      ∧ r.2.mem ((c.tc : Thread Cert.Kernel22.nD Cert.Kernel22.τ).loc Cert.Kernel22.main_arg31) = m ((c.tc : Thread Cert.Kernel22.nD Cert.Kernel22.τ).loc Cert.Kernel22.main_arg31)
      ∧ r.2.mem ((c.tc : Thread Cert.Kernel22.nD Cert.Kernel22.τ).loc Cert.Kernel22.main_arg32) = m ((c.tc : Thread Cert.Kernel22.nD Cert.Kernel22.τ).loc Cert.Kernel22.main_arg32)
      ∧ r.2.mem ((c.tc : Thread Cert.Kernel22.nD Cert.Kernel22.τ).loc Cert.Kernel22.main_arg33) = m ((c.tc : Thread Cert.Kernel22.nD Cert.Kernel22.τ).loc Cert.Kernel22.main_arg33)
      ∧ r.2.mem ((c.tc : Thread Cert.Kernel22.nD Cert.Kernel22.τ).loc Cert.Kernel22.main_arg34) = m ((c.tc : Thread Cert.Kernel22.nD Cert.Kernel22.τ).loc Cert.Kernel22.main_arg34)
      ∧ r.2.mem ((c.tc : Thread Cert.Kernel22.nD Cert.Kernel22.τ).loc Cert.Kernel22.main_arg35) = m ((c.tc : Thread Cert.Kernel22.nD Cert.Kernel22.τ).loc Cert.Kernel22.main_arg35)
      ∧ r.2.mem ((c.tc : Thread Cert.Kernel22.nD Cert.Kernel22.τ).loc Cert.Kernel22.main_arg36) = m ((c.tc : Thread Cert.Kernel22.nD Cert.Kernel22.τ).loc Cert.Kernel22.main_arg36)
      ∧ r.2.mem ((c.tc : Thread Cert.Kernel22.nD Cert.Kernel22.τ).loc Cert.Kernel22.main_arg37) = m ((c.tc : Thread Cert.Kernel22.nD Cert.Kernel22.τ).loc Cert.Kernel22.main_arg37)
      ∧ r.2.mem ((c.tc : Thread Cert.Kernel22.nD Cert.Kernel22.τ).loc Cert.Kernel22.main_arg38) = m ((c.tc : Thread Cert.Kernel22.nD Cert.Kernel22.τ).loc Cert.Kernel22.main_arg38)
      ∧ r.2.mem ((c.tc : Thread Cert.Kernel22.nD Cert.Kernel22.τ).loc Cert.Kernel22.main_arg39) = m ((c.tc : Thread Cert.Kernel22.nD Cert.Kernel22.τ).loc Cert.Kernel22.main_arg39)
      ∧ r.2.mem ((c.tc : Thread Cert.Kernel22.nD Cert.Kernel22.τ).loc Cert.Kernel22.main_arg40) = m ((c.tc : Thread Cert.Kernel22.nD Cert.Kernel22.τ).loc Cert.Kernel22.main_arg40)
      ∧ r.2.mem ((c.tc : Thread Cert.Kernel22.nD Cert.Kernel22.τ).loc Cert.Kernel22.main_arg41) = m ((c.tc : Thread Cert.Kernel22.nD Cert.Kernel22.τ).loc Cert.Kernel22.main_arg41)
      ∧ r.2.mem ((c.tc : Thread Cert.Kernel22.nD Cert.Kernel22.τ).loc Cert.Kernel22.main_arg42) = m ((c.tc : Thread Cert.Kernel22.nD Cert.Kernel22.τ).loc Cert.Kernel22.main_arg42)
      ∧ r.2.mem ((c.tc : Thread Cert.Kernel22.nD Cert.Kernel22.τ).loc Cert.Kernel22.main_arg43) = m ((c.tc : Thread Cert.Kernel22.nD Cert.Kernel22.τ).loc Cert.Kernel22.main_arg43)
      ∧ r.2.mem ((c.tc : Thread Cert.Kernel22.nD Cert.Kernel22.τ).loc Cert.Kernel22.main_arg44) = m ((c.tc : Thread Cert.Kernel22.nD Cert.Kernel22.τ).loc Cert.Kernel22.main_arg44)
      ∧ r.2.mem ((c.tc : Thread Cert.Kernel22.nD Cert.Kernel22.τ).loc Cert.Kernel22.main_arg45) = m ((c.tc : Thread Cert.Kernel22.nD Cert.Kernel22.τ).loc Cert.Kernel22.main_arg45)
      ∧ r.2.mem ((c.tc : Thread Cert.Kernel22.nD Cert.Kernel22.τ).loc Cert.Kernel22.main_arg46) = m ((c.tc : Thread Cert.Kernel22.nD Cert.Kernel22.τ).loc Cert.Kernel22.main_arg46)
      ∧ r.2.mem ((c.tc : Thread Cert.Kernel22.nD Cert.Kernel22.τ).loc Cert.Kernel22.main_arg47) = m ((c.tc : Thread Cert.Kernel22.nD Cert.Kernel22.τ).loc Cert.Kernel22.main_arg47)
      ∧ r.2.mem ((c.tc : Thread Cert.Kernel22.nD Cert.Kernel22.τ).loc Cert.Kernel22.main_arg48) = m ((c.tc : Thread Cert.Kernel22.nD Cert.Kernel22.τ).loc Cert.Kernel22.main_arg48)
      ∧ r.2.mem ((c.tc : Thread Cert.Kernel22.nD Cert.Kernel22.τ).loc Cert.Kernel22.main_arg49) = m ((c.tc : Thread Cert.Kernel22.nD Cert.Kernel22.τ).loc Cert.Kernel22.main_arg49)
      ∧ r.2.mem ((c.tc : Thread Cert.Kernel22.nD Cert.Kernel22.τ).loc Cert.Kernel22.main_arg50) = m ((c.tc : Thread Cert.Kernel22.nD Cert.Kernel22.τ).loc Cert.Kernel22.main_arg50)
      ∧ r.2.mem ((c.tc : Thread Cert.Kernel22.nD Cert.Kernel22.τ).loc Cert.Kernel22.main_arg51) = m ((c.tc : Thread Cert.Kernel22.nD Cert.Kernel22.τ).loc Cert.Kernel22.main_arg51)
      ∧ r.2.mem ((c.tc : Thread Cert.Kernel22.nD Cert.Kernel22.τ).loc Cert.Kernel22.main_arg52) = m ((c.tc : Thread Cert.Kernel22.nD Cert.Kernel22.τ).loc Cert.Kernel22.main_arg52)
      ∧ r.2.mem ((c.tc : Thread Cert.Kernel22.nD Cert.Kernel22.τ).loc Cert.Kernel22.main_arg53) = m ((c.tc : Thread Cert.Kernel22.nD Cert.Kernel22.τ).loc Cert.Kernel22.main_arg53)
      ∧ r.2.mem ((c.tc : Thread Cert.Kernel22.nD Cert.Kernel22.τ).loc Cert.Kernel22.main_arg54) = m ((c.tc : Thread Cert.Kernel22.nD Cert.Kernel22.τ).loc Cert.Kernel22.main_arg54)
      ∧ r.2.mem ((c.tc : Thread Cert.Kernel22.nD Cert.Kernel22.τ).loc Cert.Kernel22.main_arg55) = m ((c.tc : Thread Cert.Kernel22.nD Cert.Kernel22.τ).loc Cert.Kernel22.main_arg55)
      ∧ r.2.mem ((c.tc : Thread Cert.Kernel22.nD Cert.Kernel22.τ).loc Cert.Kernel22.main_arg56) = m ((c.tc : Thread Cert.Kernel22.nD Cert.Kernel22.τ).loc Cert.Kernel22.main_arg56)
      ∧ r.2.mem ((c.tc : Thread Cert.Kernel22.nD Cert.Kernel22.τ).loc Cert.Kernel22.main_arg57) = m ((c.tc : Thread Cert.Kernel22.nD Cert.Kernel22.τ).loc Cert.Kernel22.main_arg57)
      ∧ r.2.mem ((c.tc : Thread Cert.Kernel22.nD Cert.Kernel22.τ).loc Cert.Kernel22.main_arg58) = m ((c.tc : Thread Cert.Kernel22.nD Cert.Kernel22.τ).loc Cert.Kernel22.main_arg58)
      ∧ r.2.mem ((c.tc : Thread Cert.Kernel22.nD Cert.Kernel22.τ).loc Cert.Kernel22.main_arg59) = m ((c.tc : Thread Cert.Kernel22.nD Cert.Kernel22.τ).loc Cert.Kernel22.main_arg59)
      ∧ r.2.mem ((c.tc : Thread Cert.Kernel22.nD Cert.Kernel22.τ).loc Cert.Kernel22.main_arg60) = m ((c.tc : Thread Cert.Kernel22.nD Cert.Kernel22.τ).loc Cert.Kernel22.main_arg60)
      ∧ r.2.mem ((c.tc : Thread Cert.Kernel22.nD Cert.Kernel22.τ).loc Cert.Kernel22.main_arg61) = m ((c.tc : Thread Cert.Kernel22.nD Cert.Kernel22.τ).loc Cert.Kernel22.main_arg61)
      ∧ r.2.mem ((c.tc : Thread Cert.Kernel22.nD Cert.Kernel22.τ).loc Cert.Kernel22.main_arg62) = m ((c.tc : Thread Cert.Kernel22.nD Cert.Kernel22.τ).loc Cert.Kernel22.main_arg62)
      ∧ r.2.mem ((c.tc : Thread Cert.Kernel22.nD Cert.Kernel22.τ).loc Cert.Kernel22.main_arg63) = m ((c.tc : Thread Cert.Kernel22.nD Cert.Kernel22.τ).loc Cert.Kernel22.main_arg63)
      ∧ r.2.mem ((c.tc : Thread Cert.Kernel22.nD Cert.Kernel22.τ).loc Cert.Kernel22.main_arg64) = m ((c.tc : Thread Cert.Kernel22.nD Cert.Kernel22.τ).loc Cert.Kernel22.main_arg64)
      ∧ r.2.mem ((c.tc : Thread Cert.Kernel22.nD Cert.Kernel22.τ).loc Cert.Kernel22.main_arg65) = m ((c.tc : Thread Cert.Kernel22.nD Cert.Kernel22.τ).loc Cert.Kernel22.main_arg65)
      ∧ r.2.mem ((c.tc : Thread Cert.Kernel22.nD Cert.Kernel22.τ).loc Cert.Kernel22.main_arg66) = m ((c.tc : Thread Cert.Kernel22.nD Cert.Kernel22.τ).loc Cert.Kernel22.main_arg66)
      ∧ r.2.mem ((c.tc : Thread Cert.Kernel22.nD Cert.Kernel22.τ).loc Cert.Kernel22.main_arg67) = m ((c.tc : Thread Cert.Kernel22.nD Cert.Kernel22.τ).loc Cert.Kernel22.main_arg67))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
      ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
      ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
      ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
      ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15)
      ∧ r.2.mem ((c.tc : Thread Cert.Kernel22Ideal.nD Cert.Kernel22Ideal.τ).loc Cert.Kernel22Ideal.main_arg16) = m ((c.tc : Thread Cert.Kernel22Ideal.nD Cert.Kernel22Ideal.τ).loc Cert.Kernel22Ideal.main_arg16)
      ∧ r.2.mem ((c.tc : Thread Cert.Kernel22Ideal.nD Cert.Kernel22Ideal.τ).loc Cert.Kernel22Ideal.main_arg17) = m ((c.tc : Thread Cert.Kernel22Ideal.nD Cert.Kernel22Ideal.τ).loc Cert.Kernel22Ideal.main_arg17)
      ∧ r.2.mem ((c.tc : Thread Cert.Kernel22Ideal.nD Cert.Kernel22Ideal.τ).loc Cert.Kernel22Ideal.main_arg18) = m ((c.tc : Thread Cert.Kernel22Ideal.nD Cert.Kernel22Ideal.τ).loc Cert.Kernel22Ideal.main_arg18)
      ∧ r.2.mem ((c.tc : Thread Cert.Kernel22Ideal.nD Cert.Kernel22Ideal.τ).loc Cert.Kernel22Ideal.main_arg19) = m ((c.tc : Thread Cert.Kernel22Ideal.nD Cert.Kernel22Ideal.τ).loc Cert.Kernel22Ideal.main_arg19)
      ∧ r.2.mem ((c.tc : Thread Cert.Kernel22Ideal.nD Cert.Kernel22Ideal.τ).loc Cert.Kernel22Ideal.main_arg20) = m ((c.tc : Thread Cert.Kernel22Ideal.nD Cert.Kernel22Ideal.τ).loc Cert.Kernel22Ideal.main_arg20)
      ∧ r.2.mem ((c.tc : Thread Cert.Kernel22Ideal.nD Cert.Kernel22Ideal.τ).loc Cert.Kernel22Ideal.main_arg21) = m ((c.tc : Thread Cert.Kernel22Ideal.nD Cert.Kernel22Ideal.τ).loc Cert.Kernel22Ideal.main_arg21)
      ∧ r.2.mem ((c.tc : Thread Cert.Kernel22Ideal.nD Cert.Kernel22Ideal.τ).loc Cert.Kernel22Ideal.main_arg22) = m ((c.tc : Thread Cert.Kernel22Ideal.nD Cert.Kernel22Ideal.τ).loc Cert.Kernel22Ideal.main_arg22)
      ∧ r.2.mem ((c.tc : Thread Cert.Kernel22Ideal.nD Cert.Kernel22Ideal.τ).loc Cert.Kernel22Ideal.main_arg23) = m ((c.tc : Thread Cert.Kernel22Ideal.nD Cert.Kernel22Ideal.τ).loc Cert.Kernel22Ideal.main_arg23)
      ∧ r.2.mem ((c.tc : Thread Cert.Kernel22Ideal.nD Cert.Kernel22Ideal.τ).loc Cert.Kernel22Ideal.main_arg24) = m ((c.tc : Thread Cert.Kernel22Ideal.nD Cert.Kernel22Ideal.τ).loc Cert.Kernel22Ideal.main_arg24)
      ∧ r.2.mem ((c.tc : Thread Cert.Kernel22Ideal.nD Cert.Kernel22Ideal.τ).loc Cert.Kernel22Ideal.main_arg25) = m ((c.tc : Thread Cert.Kernel22Ideal.nD Cert.Kernel22Ideal.τ).loc Cert.Kernel22Ideal.main_arg25)
      ∧ r.2.mem ((c.tc : Thread Cert.Kernel22Ideal.nD Cert.Kernel22Ideal.τ).loc Cert.Kernel22Ideal.main_arg26) = m ((c.tc : Thread Cert.Kernel22Ideal.nD Cert.Kernel22Ideal.τ).loc Cert.Kernel22Ideal.main_arg26)
      ∧ r.2.mem ((c.tc : Thread Cert.Kernel22Ideal.nD Cert.Kernel22Ideal.τ).loc Cert.Kernel22Ideal.main_arg27) = m ((c.tc : Thread Cert.Kernel22Ideal.nD Cert.Kernel22Ideal.τ).loc Cert.Kernel22Ideal.main_arg27)
      ∧ r.2.mem ((c.tc : Thread Cert.Kernel22Ideal.nD Cert.Kernel22Ideal.τ).loc Cert.Kernel22Ideal.main_arg28) = m ((c.tc : Thread Cert.Kernel22Ideal.nD Cert.Kernel22Ideal.τ).loc Cert.Kernel22Ideal.main_arg28)
      ∧ r.2.mem ((c.tc : Thread Cert.Kernel22Ideal.nD Cert.Kernel22Ideal.τ).loc Cert.Kernel22Ideal.main_arg29) = m ((c.tc : Thread Cert.Kernel22Ideal.nD Cert.Kernel22Ideal.τ).loc Cert.Kernel22Ideal.main_arg29)
      ∧ r.2.mem ((c.tc : Thread Cert.Kernel22Ideal.nD Cert.Kernel22Ideal.τ).loc Cert.Kernel22Ideal.main_arg30) = m ((c.tc : Thread Cert.Kernel22Ideal.nD Cert.Kernel22Ideal.τ).loc Cert.Kernel22Ideal.main_arg30)
      ∧ r.2.mem ((c.tc : Thread Cert.Kernel22Ideal.nD Cert.Kernel22Ideal.τ).loc Cert.Kernel22Ideal.main_arg31) = m ((c.tc : Thread Cert.Kernel22Ideal.nD Cert.Kernel22Ideal.τ).loc Cert.Kernel22Ideal.main_arg31)
      ∧ r.2.mem ((c.tc : Thread Cert.Kernel22Ideal.nD Cert.Kernel22Ideal.τ).loc Cert.Kernel22Ideal.main_arg32) = m ((c.tc : Thread Cert.Kernel22Ideal.nD Cert.Kernel22Ideal.τ).loc Cert.Kernel22Ideal.main_arg32)
      ∧ r.2.mem ((c.tc : Thread Cert.Kernel22Ideal.nD Cert.Kernel22Ideal.τ).loc Cert.Kernel22Ideal.main_arg33) = m ((c.tc : Thread Cert.Kernel22Ideal.nD Cert.Kernel22Ideal.τ).loc Cert.Kernel22Ideal.main_arg33)
      ∧ r.2.mem ((c.tc : Thread Cert.Kernel22Ideal.nD Cert.Kernel22Ideal.τ).loc Cert.Kernel22Ideal.main_arg34) = m ((c.tc : Thread Cert.Kernel22Ideal.nD Cert.Kernel22Ideal.τ).loc Cert.Kernel22Ideal.main_arg34)
      ∧ r.2.mem ((c.tc : Thread Cert.Kernel22Ideal.nD Cert.Kernel22Ideal.τ).loc Cert.Kernel22Ideal.main_arg35) = m ((c.tc : Thread Cert.Kernel22Ideal.nD Cert.Kernel22Ideal.τ).loc Cert.Kernel22Ideal.main_arg35)
      ∧ r.2.mem ((c.tc : Thread Cert.Kernel22Ideal.nD Cert.Kernel22Ideal.τ).loc Cert.Kernel22Ideal.main_arg36) = m ((c.tc : Thread Cert.Kernel22Ideal.nD Cert.Kernel22Ideal.τ).loc Cert.Kernel22Ideal.main_arg36)
      ∧ r.2.mem ((c.tc : Thread Cert.Kernel22Ideal.nD Cert.Kernel22Ideal.τ).loc Cert.Kernel22Ideal.main_arg37) = m ((c.tc : Thread Cert.Kernel22Ideal.nD Cert.Kernel22Ideal.τ).loc Cert.Kernel22Ideal.main_arg37)
      ∧ r.2.mem ((c.tc : Thread Cert.Kernel22Ideal.nD Cert.Kernel22Ideal.τ).loc Cert.Kernel22Ideal.main_arg38) = m ((c.tc : Thread Cert.Kernel22Ideal.nD Cert.Kernel22Ideal.τ).loc Cert.Kernel22Ideal.main_arg38)
      ∧ r.2.mem ((c.tc : Thread Cert.Kernel22Ideal.nD Cert.Kernel22Ideal.τ).loc Cert.Kernel22Ideal.main_arg39) = m ((c.tc : Thread Cert.Kernel22Ideal.nD Cert.Kernel22Ideal.τ).loc Cert.Kernel22Ideal.main_arg39)
      ∧ r.2.mem ((c.tc : Thread Cert.Kernel22Ideal.nD Cert.Kernel22Ideal.τ).loc Cert.Kernel22Ideal.main_arg40) = m ((c.tc : Thread Cert.Kernel22Ideal.nD Cert.Kernel22Ideal.τ).loc Cert.Kernel22Ideal.main_arg40)
      ∧ r.2.mem ((c.tc : Thread Cert.Kernel22Ideal.nD Cert.Kernel22Ideal.τ).loc Cert.Kernel22Ideal.main_arg41) = m ((c.tc : Thread Cert.Kernel22Ideal.nD Cert.Kernel22Ideal.τ).loc Cert.Kernel22Ideal.main_arg41)
      ∧ r.2.mem ((c.tc : Thread Cert.Kernel22Ideal.nD Cert.Kernel22Ideal.τ).loc Cert.Kernel22Ideal.main_arg42) = m ((c.tc : Thread Cert.Kernel22Ideal.nD Cert.Kernel22Ideal.τ).loc Cert.Kernel22Ideal.main_arg42)
      ∧ r.2.mem ((c.tc : Thread Cert.Kernel22Ideal.nD Cert.Kernel22Ideal.τ).loc Cert.Kernel22Ideal.main_arg43) = m ((c.tc : Thread Cert.Kernel22Ideal.nD Cert.Kernel22Ideal.τ).loc Cert.Kernel22Ideal.main_arg43)
      ∧ r.2.mem ((c.tc : Thread Cert.Kernel22Ideal.nD Cert.Kernel22Ideal.τ).loc Cert.Kernel22Ideal.main_arg44) = m ((c.tc : Thread Cert.Kernel22Ideal.nD Cert.Kernel22Ideal.τ).loc Cert.Kernel22Ideal.main_arg44)
      ∧ r.2.mem ((c.tc : Thread Cert.Kernel22Ideal.nD Cert.Kernel22Ideal.τ).loc Cert.Kernel22Ideal.main_arg45) = m ((c.tc : Thread Cert.Kernel22Ideal.nD Cert.Kernel22Ideal.τ).loc Cert.Kernel22Ideal.main_arg45)
      ∧ r.2.mem ((c.tc : Thread Cert.Kernel22Ideal.nD Cert.Kernel22Ideal.τ).loc Cert.Kernel22Ideal.main_arg46) = m ((c.tc : Thread Cert.Kernel22Ideal.nD Cert.Kernel22Ideal.τ).loc Cert.Kernel22Ideal.main_arg46)
      ∧ r.2.mem ((c.tc : Thread Cert.Kernel22Ideal.nD Cert.Kernel22Ideal.τ).loc Cert.Kernel22Ideal.main_arg47) = m ((c.tc : Thread Cert.Kernel22Ideal.nD Cert.Kernel22Ideal.τ).loc Cert.Kernel22Ideal.main_arg47)
      ∧ r.2.mem ((c.tc : Thread Cert.Kernel22Ideal.nD Cert.Kernel22Ideal.τ).loc Cert.Kernel22Ideal.main_arg48) = m ((c.tc : Thread Cert.Kernel22Ideal.nD Cert.Kernel22Ideal.τ).loc Cert.Kernel22Ideal.main_arg48)
      ∧ r.2.mem ((c.tc : Thread Cert.Kernel22Ideal.nD Cert.Kernel22Ideal.τ).loc Cert.Kernel22Ideal.main_arg49) = m ((c.tc : Thread Cert.Kernel22Ideal.nD Cert.Kernel22Ideal.τ).loc Cert.Kernel22Ideal.main_arg49)
      ∧ r.2.mem ((c.tc : Thread Cert.Kernel22Ideal.nD Cert.Kernel22Ideal.τ).loc Cert.Kernel22Ideal.main_arg50) = m ((c.tc : Thread Cert.Kernel22Ideal.nD Cert.Kernel22Ideal.τ).loc Cert.Kernel22Ideal.main_arg50)
      ∧ r.2.mem ((c.tc : Thread Cert.Kernel22Ideal.nD Cert.Kernel22Ideal.τ).loc Cert.Kernel22Ideal.main_arg51) = m ((c.tc : Thread Cert.Kernel22Ideal.nD Cert.Kernel22Ideal.τ).loc Cert.Kernel22Ideal.main_arg51)
      ∧ r.2.mem ((c.tc : Thread Cert.Kernel22Ideal.nD Cert.Kernel22Ideal.τ).loc Cert.Kernel22Ideal.main_arg52) = m ((c.tc : Thread Cert.Kernel22Ideal.nD Cert.Kernel22Ideal.τ).loc Cert.Kernel22Ideal.main_arg52)
      ∧ r.2.mem ((c.tc : Thread Cert.Kernel22Ideal.nD Cert.Kernel22Ideal.τ).loc Cert.Kernel22Ideal.main_arg53) = m ((c.tc : Thread Cert.Kernel22Ideal.nD Cert.Kernel22Ideal.τ).loc Cert.Kernel22Ideal.main_arg53)
      ∧ r.2.mem ((c.tc : Thread Cert.Kernel22Ideal.nD Cert.Kernel22Ideal.τ).loc Cert.Kernel22Ideal.main_arg54) = m ((c.tc : Thread Cert.Kernel22Ideal.nD Cert.Kernel22Ideal.τ).loc Cert.Kernel22Ideal.main_arg54)
      ∧ r.2.mem ((c.tc : Thread Cert.Kernel22Ideal.nD Cert.Kernel22Ideal.τ).loc Cert.Kernel22Ideal.main_arg55) = m ((c.tc : Thread Cert.Kernel22Ideal.nD Cert.Kernel22Ideal.τ).loc Cert.Kernel22Ideal.main_arg55)
      ∧ r.2.mem ((c.tc : Thread Cert.Kernel22Ideal.nD Cert.Kernel22Ideal.τ).loc Cert.Kernel22Ideal.main_arg56) = m ((c.tc : Thread Cert.Kernel22Ideal.nD Cert.Kernel22Ideal.τ).loc Cert.Kernel22Ideal.main_arg56)
      ∧ r.2.mem ((c.tc : Thread Cert.Kernel22Ideal.nD Cert.Kernel22Ideal.τ).loc Cert.Kernel22Ideal.main_arg57) = m ((c.tc : Thread Cert.Kernel22Ideal.nD Cert.Kernel22Ideal.τ).loc Cert.Kernel22Ideal.main_arg57)
      ∧ r.2.mem ((c.tc : Thread Cert.Kernel22Ideal.nD Cert.Kernel22Ideal.τ).loc Cert.Kernel22Ideal.main_arg58) = m ((c.tc : Thread Cert.Kernel22Ideal.nD Cert.Kernel22Ideal.τ).loc Cert.Kernel22Ideal.main_arg58)
      ∧ r.2.mem ((c.tc : Thread Cert.Kernel22Ideal.nD Cert.Kernel22Ideal.τ).loc Cert.Kernel22Ideal.main_arg59) = m ((c.tc : Thread Cert.Kernel22Ideal.nD Cert.Kernel22Ideal.τ).loc Cert.Kernel22Ideal.main_arg59)
      ∧ r.2.mem ((c.tc : Thread Cert.Kernel22Ideal.nD Cert.Kernel22Ideal.τ).loc Cert.Kernel22Ideal.main_arg60) = m ((c.tc : Thread Cert.Kernel22Ideal.nD Cert.Kernel22Ideal.τ).loc Cert.Kernel22Ideal.main_arg60)
      ∧ r.2.mem ((c.tc : Thread Cert.Kernel22Ideal.nD Cert.Kernel22Ideal.τ).loc Cert.Kernel22Ideal.main_arg61) = m ((c.tc : Thread Cert.Kernel22Ideal.nD Cert.Kernel22Ideal.τ).loc Cert.Kernel22Ideal.main_arg61)
      ∧ r.2.mem ((c.tc : Thread Cert.Kernel22Ideal.nD Cert.Kernel22Ideal.τ).loc Cert.Kernel22Ideal.main_arg62) = m ((c.tc : Thread Cert.Kernel22Ideal.nD Cert.Kernel22Ideal.τ).loc Cert.Kernel22Ideal.main_arg62)
      ∧ r.2.mem ((c.tc : Thread Cert.Kernel22Ideal.nD Cert.Kernel22Ideal.τ).loc Cert.Kernel22Ideal.main_arg63) = m ((c.tc : Thread Cert.Kernel22Ideal.nD Cert.Kernel22Ideal.τ).loc Cert.Kernel22Ideal.main_arg63)
      ∧ r.2.mem ((c.tc : Thread Cert.Kernel22Ideal.nD Cert.Kernel22Ideal.τ).loc Cert.Kernel22Ideal.main_arg64) = m ((c.tc : Thread Cert.Kernel22Ideal.nD Cert.Kernel22Ideal.τ).loc Cert.Kernel22Ideal.main_arg64)
      ∧ r.2.mem ((c.tc : Thread Cert.Kernel22Ideal.nD Cert.Kernel22Ideal.τ).loc Cert.Kernel22Ideal.main_arg65) = m ((c.tc : Thread Cert.Kernel22Ideal.nD Cert.Kernel22Ideal.τ).loc Cert.Kernel22Ideal.main_arg65)
      ∧ r.2.mem ((c.tc : Thread Cert.Kernel22Ideal.nD Cert.Kernel22Ideal.τ).loc Cert.Kernel22Ideal.main_arg66) = m ((c.tc : Thread Cert.Kernel22Ideal.nD Cert.Kernel22Ideal.τ).loc Cert.Kernel22Ideal.main_arg66)
      ∧ r.2.mem ((c.tc : Thread Cert.Kernel22Ideal.nD Cert.Kernel22Ideal.τ).loc Cert.Kernel22Ideal.main_arg67) = m ((c.tc : Thread Cert.Kernel22Ideal.nD Cert.Kernel22Ideal.τ).loc Cert.Kernel22Ideal.main_arg67))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11)
      ∧ r.2.mem ((c.tc : Thread Cert.Reference22Ideal.nD Cert.Reference22Ideal.τ).loc Cert.Reference22Ideal.main_arg12) = m ((c.tc : Thread Cert.Reference22Ideal.nD Cert.Reference22Ideal.τ).loc Cert.Reference22Ideal.main_arg12)
      ∧ r.2.mem ((c.tc : Thread Cert.Reference22Ideal.nD Cert.Reference22Ideal.τ).loc Cert.Reference22Ideal.main_arg13) = m ((c.tc : Thread Cert.Reference22Ideal.nD Cert.Reference22Ideal.τ).loc Cert.Reference22Ideal.main_arg13)
      ∧ r.2.mem ((c.tc : Thread Cert.Reference22Ideal.nD Cert.Reference22Ideal.τ).loc Cert.Reference22Ideal.main_arg14) = m ((c.tc : Thread Cert.Reference22Ideal.nD Cert.Reference22Ideal.τ).loc Cert.Reference22Ideal.main_arg14)
      ∧ r.2.mem ((c.tc : Thread Cert.Reference22Ideal.nD Cert.Reference22Ideal.τ).loc Cert.Reference22Ideal.main_arg15) = m ((c.tc : Thread Cert.Reference22Ideal.nD Cert.Reference22Ideal.τ).loc Cert.Reference22Ideal.main_arg15)
      ∧ r.2.mem ((c.tc : Thread Cert.Reference22Ideal.nD Cert.Reference22Ideal.τ).loc Cert.Reference22Ideal.main_arg16) = m ((c.tc : Thread Cert.Reference22Ideal.nD Cert.Reference22Ideal.τ).loc Cert.Reference22Ideal.main_arg16)
      ∧ r.2.mem ((c.tc : Thread Cert.Reference22Ideal.nD Cert.Reference22Ideal.τ).loc Cert.Reference22Ideal.main_arg17) = m ((c.tc : Thread Cert.Reference22Ideal.nD Cert.Reference22Ideal.τ).loc Cert.Reference22Ideal.main_arg17)
      ∧ r.2.mem ((c.tc : Thread Cert.Reference22Ideal.nD Cert.Reference22Ideal.τ).loc Cert.Reference22Ideal.main_arg18) = m ((c.tc : Thread Cert.Reference22Ideal.nD Cert.Reference22Ideal.τ).loc Cert.Reference22Ideal.main_arg18)
      ∧ r.2.mem ((c.tc : Thread Cert.Reference22Ideal.nD Cert.Reference22Ideal.τ).loc Cert.Reference22Ideal.main_arg19) = m ((c.tc : Thread Cert.Reference22Ideal.nD Cert.Reference22Ideal.τ).loc Cert.Reference22Ideal.main_arg19)
      ∧ r.2.mem ((c.tc : Thread Cert.Reference22Ideal.nD Cert.Reference22Ideal.τ).loc Cert.Reference22Ideal.main_arg20) = m ((c.tc : Thread Cert.Reference22Ideal.nD Cert.Reference22Ideal.τ).loc Cert.Reference22Ideal.main_arg20)
      ∧ r.2.mem ((c.tc : Thread Cert.Reference22Ideal.nD Cert.Reference22Ideal.τ).loc Cert.Reference22Ideal.main_arg21) = m ((c.tc : Thread Cert.Reference22Ideal.nD Cert.Reference22Ideal.τ).loc Cert.Reference22Ideal.main_arg21)
      ∧ r.2.mem ((c.tc : Thread Cert.Reference22Ideal.nD Cert.Reference22Ideal.τ).loc Cert.Reference22Ideal.main_arg22) = m ((c.tc : Thread Cert.Reference22Ideal.nD Cert.Reference22Ideal.τ).loc Cert.Reference22Ideal.main_arg22)
      ∧ r.2.mem ((c.tc : Thread Cert.Reference22Ideal.nD Cert.Reference22Ideal.τ).loc Cert.Reference22Ideal.main_arg23) = m ((c.tc : Thread Cert.Reference22Ideal.nD Cert.Reference22Ideal.τ).loc Cert.Reference22Ideal.main_arg23)
      ∧ r.2.mem ((c.tc : Thread Cert.Reference22Ideal.nD Cert.Reference22Ideal.τ).loc Cert.Reference22Ideal.main_arg24) = m ((c.tc : Thread Cert.Reference22Ideal.nD Cert.Reference22Ideal.τ).loc Cert.Reference22Ideal.main_arg24)
      ∧ r.2.mem ((c.tc : Thread Cert.Reference22Ideal.nD Cert.Reference22Ideal.τ).loc Cert.Reference22Ideal.main_arg25) = m ((c.tc : Thread Cert.Reference22Ideal.nD Cert.Reference22Ideal.τ).loc Cert.Reference22Ideal.main_arg25)
      ∧ r.2.mem ((c.tc : Thread Cert.Reference22Ideal.nD Cert.Reference22Ideal.τ).loc Cert.Reference22Ideal.main_arg26) = m ((c.tc : Thread Cert.Reference22Ideal.nD Cert.Reference22Ideal.τ).loc Cert.Reference22Ideal.main_arg26)
      ∧ r.2.mem ((c.tc : Thread Cert.Reference22Ideal.nD Cert.Reference22Ideal.τ).loc Cert.Reference22Ideal.main_arg27) = m ((c.tc : Thread Cert.Reference22Ideal.nD Cert.Reference22Ideal.τ).loc Cert.Reference22Ideal.main_arg27)
      ∧ r.2.mem ((c.tc : Thread Cert.Reference22Ideal.nD Cert.Reference22Ideal.τ).loc Cert.Reference22Ideal.main_arg28) = m ((c.tc : Thread Cert.Reference22Ideal.nD Cert.Reference22Ideal.τ).loc Cert.Reference22Ideal.main_arg28)
      ∧ r.2.mem ((c.tc : Thread Cert.Reference22Ideal.nD Cert.Reference22Ideal.τ).loc Cert.Reference22Ideal.main_arg29) = m ((c.tc : Thread Cert.Reference22Ideal.nD Cert.Reference22Ideal.τ).loc Cert.Reference22Ideal.main_arg29)
      ∧ r.2.mem ((c.tc : Thread Cert.Reference22Ideal.nD Cert.Reference22Ideal.τ).loc Cert.Reference22Ideal.main_arg30) = m ((c.tc : Thread Cert.Reference22Ideal.nD Cert.Reference22Ideal.τ).loc Cert.Reference22Ideal.main_arg30)
      ∧ r.2.mem ((c.tc : Thread Cert.Reference22Ideal.nD Cert.Reference22Ideal.τ).loc Cert.Reference22Ideal.main_arg31) = m ((c.tc : Thread Cert.Reference22Ideal.nD Cert.Reference22Ideal.τ).loc Cert.Reference22Ideal.main_arg31)
      ∧ r.2.mem ((c.tc : Thread Cert.Reference22Ideal.nD Cert.Reference22Ideal.τ).loc Cert.Reference22Ideal.main_arg32) = m ((c.tc : Thread Cert.Reference22Ideal.nD Cert.Reference22Ideal.τ).loc Cert.Reference22Ideal.main_arg32)
      ∧ r.2.mem ((c.tc : Thread Cert.Reference22Ideal.nD Cert.Reference22Ideal.τ).loc Cert.Reference22Ideal.main_arg33) = m ((c.tc : Thread Cert.Reference22Ideal.nD Cert.Reference22Ideal.τ).loc Cert.Reference22Ideal.main_arg33)
      ∧ r.2.mem ((c.tc : Thread Cert.Reference22Ideal.nD Cert.Reference22Ideal.τ).loc Cert.Reference22Ideal.main_arg34) = m ((c.tc : Thread Cert.Reference22Ideal.nD Cert.Reference22Ideal.τ).loc Cert.Reference22Ideal.main_arg34)
      ∧ r.2.mem ((c.tc : Thread Cert.Reference22Ideal.nD Cert.Reference22Ideal.τ).loc Cert.Reference22Ideal.main_arg35) = m ((c.tc : Thread Cert.Reference22Ideal.nD Cert.Reference22Ideal.τ).loc Cert.Reference22Ideal.main_arg35)
      ∧ r.2.mem ((c.tc : Thread Cert.Reference22Ideal.nD Cert.Reference22Ideal.τ).loc Cert.Reference22Ideal.main_arg36) = m ((c.tc : Thread Cert.Reference22Ideal.nD Cert.Reference22Ideal.τ).loc Cert.Reference22Ideal.main_arg36)
      ∧ r.2.mem ((c.tc : Thread Cert.Reference22Ideal.nD Cert.Reference22Ideal.τ).loc Cert.Reference22Ideal.main_arg37) = m ((c.tc : Thread Cert.Reference22Ideal.nD Cert.Reference22Ideal.τ).loc Cert.Reference22Ideal.main_arg37)
      ∧ r.2.mem ((c.tc : Thread Cert.Reference22Ideal.nD Cert.Reference22Ideal.τ).loc Cert.Reference22Ideal.main_arg38) = m ((c.tc : Thread Cert.Reference22Ideal.nD Cert.Reference22Ideal.τ).loc Cert.Reference22Ideal.main_arg38)
      ∧ r.2.mem ((c.tc : Thread Cert.Reference22Ideal.nD Cert.Reference22Ideal.τ).loc Cert.Reference22Ideal.main_arg39) = m ((c.tc : Thread Cert.Reference22Ideal.nD Cert.Reference22Ideal.τ).loc Cert.Reference22Ideal.main_arg39)
      ∧ r.2.mem ((c.tc : Thread Cert.Reference22Ideal.nD Cert.Reference22Ideal.τ).loc Cert.Reference22Ideal.main_arg40) = m ((c.tc : Thread Cert.Reference22Ideal.nD Cert.Reference22Ideal.τ).loc Cert.Reference22Ideal.main_arg40)
      ∧ r.2.mem ((c.tc : Thread Cert.Reference22Ideal.nD Cert.Reference22Ideal.τ).loc Cert.Reference22Ideal.main_arg41) = m ((c.tc : Thread Cert.Reference22Ideal.nD Cert.Reference22Ideal.τ).loc Cert.Reference22Ideal.main_arg41)
      ∧ r.2.mem ((c.tc : Thread Cert.Reference22Ideal.nD Cert.Reference22Ideal.τ).loc Cert.Reference22Ideal.main_arg42) = m ((c.tc : Thread Cert.Reference22Ideal.nD Cert.Reference22Ideal.τ).loc Cert.Reference22Ideal.main_arg42)
      ∧ r.2.mem ((c.tc : Thread Cert.Reference22Ideal.nD Cert.Reference22Ideal.τ).loc Cert.Reference22Ideal.main_arg43) = m ((c.tc : Thread Cert.Reference22Ideal.nD Cert.Reference22Ideal.τ).loc Cert.Reference22Ideal.main_arg43)
      ∧ r.2.mem ((c.tc : Thread Cert.Reference22Ideal.nD Cert.Reference22Ideal.τ).loc Cert.Reference22Ideal.main_arg44) = m ((c.tc : Thread Cert.Reference22Ideal.nD Cert.Reference22Ideal.τ).loc Cert.Reference22Ideal.main_arg44)
      ∧ r.2.mem ((c.tc : Thread Cert.Reference22Ideal.nD Cert.Reference22Ideal.τ).loc Cert.Reference22Ideal.main_arg45) = m ((c.tc : Thread Cert.Reference22Ideal.nD Cert.Reference22Ideal.τ).loc Cert.Reference22Ideal.main_arg45)
      ∧ r.2.mem ((c.tc : Thread Cert.Reference22Ideal.nD Cert.Reference22Ideal.τ).loc Cert.Reference22Ideal.main_arg46) = m ((c.tc : Thread Cert.Reference22Ideal.nD Cert.Reference22Ideal.τ).loc Cert.Reference22Ideal.main_arg46)
      ∧ r.2.mem ((c.tc : Thread Cert.Reference22Ideal.nD Cert.Reference22Ideal.τ).loc Cert.Reference22Ideal.main_arg47) = m ((c.tc : Thread Cert.Reference22Ideal.nD Cert.Reference22Ideal.τ).loc Cert.Reference22Ideal.main_arg47)
      ∧ r.2.mem ((c.tc : Thread Cert.Reference22Ideal.nD Cert.Reference22Ideal.τ).loc Cert.Reference22Ideal.main_arg48) = m ((c.tc : Thread Cert.Reference22Ideal.nD Cert.Reference22Ideal.τ).loc Cert.Reference22Ideal.main_arg48)
      ∧ r.2.mem ((c.tc : Thread Cert.Reference22Ideal.nD Cert.Reference22Ideal.τ).loc Cert.Reference22Ideal.main_arg49) = m ((c.tc : Thread Cert.Reference22Ideal.nD Cert.Reference22Ideal.τ).loc Cert.Reference22Ideal.main_arg49)
      ∧ r.2.mem ((c.tc : Thread Cert.Reference22Ideal.nD Cert.Reference22Ideal.τ).loc Cert.Reference22Ideal.main_arg50) = m ((c.tc : Thread Cert.Reference22Ideal.nD Cert.Reference22Ideal.τ).loc Cert.Reference22Ideal.main_arg50)
      ∧ r.2.mem ((c.tc : Thread Cert.Reference22Ideal.nD Cert.Reference22Ideal.τ).loc Cert.Reference22Ideal.main_arg51) = m ((c.tc : Thread Cert.Reference22Ideal.nD Cert.Reference22Ideal.τ).loc Cert.Reference22Ideal.main_arg51)
      ∧ r.2.mem ((c.tc : Thread Cert.Reference22Ideal.nD Cert.Reference22Ideal.τ).loc Cert.Reference22Ideal.main_arg52) = m ((c.tc : Thread Cert.Reference22Ideal.nD Cert.Reference22Ideal.τ).loc Cert.Reference22Ideal.main_arg52)
      ∧ r.2.mem ((c.tc : Thread Cert.Reference22Ideal.nD Cert.Reference22Ideal.τ).loc Cert.Reference22Ideal.main_arg53) = m ((c.tc : Thread Cert.Reference22Ideal.nD Cert.Reference22Ideal.τ).loc Cert.Reference22Ideal.main_arg53)
      ∧ r.2.mem ((c.tc : Thread Cert.Reference22Ideal.nD Cert.Reference22Ideal.τ).loc Cert.Reference22Ideal.main_arg54) = m ((c.tc : Thread Cert.Reference22Ideal.nD Cert.Reference22Ideal.τ).loc Cert.Reference22Ideal.main_arg54)
      ∧ r.2.mem ((c.tc : Thread Cert.Reference22Ideal.nD Cert.Reference22Ideal.τ).loc Cert.Reference22Ideal.main_arg55) = m ((c.tc : Thread Cert.Reference22Ideal.nD Cert.Reference22Ideal.τ).loc Cert.Reference22Ideal.main_arg55)
      ∧ r.2.mem ((c.tc : Thread Cert.Reference22Ideal.nD Cert.Reference22Ideal.τ).loc Cert.Reference22Ideal.main_arg56) = m ((c.tc : Thread Cert.Reference22Ideal.nD Cert.Reference22Ideal.τ).loc Cert.Reference22Ideal.main_arg56)
      ∧ r.2.mem ((c.tc : Thread Cert.Reference22Ideal.nD Cert.Reference22Ideal.τ).loc Cert.Reference22Ideal.main_arg57) = m ((c.tc : Thread Cert.Reference22Ideal.nD Cert.Reference22Ideal.τ).loc Cert.Reference22Ideal.main_arg57)
      ∧ r.2.mem ((c.tc : Thread Cert.Reference22Ideal.nD Cert.Reference22Ideal.τ).loc Cert.Reference22Ideal.main_arg58) = m ((c.tc : Thread Cert.Reference22Ideal.nD Cert.Reference22Ideal.τ).loc Cert.Reference22Ideal.main_arg58)
      ∧ r.2.mem ((c.tc : Thread Cert.Reference22Ideal.nD Cert.Reference22Ideal.τ).loc Cert.Reference22Ideal.main_arg59) = m ((c.tc : Thread Cert.Reference22Ideal.nD Cert.Reference22Ideal.τ).loc Cert.Reference22Ideal.main_arg59)
      ∧ r.2.mem ((c.tc : Thread Cert.Reference22Ideal.nD Cert.Reference22Ideal.τ).loc Cert.Reference22Ideal.main_arg60) = m ((c.tc : Thread Cert.Reference22Ideal.nD Cert.Reference22Ideal.τ).loc Cert.Reference22Ideal.main_arg60)
      ∧ r.2.mem ((c.tc : Thread Cert.Reference22Ideal.nD Cert.Reference22Ideal.τ).loc Cert.Reference22Ideal.main_arg61) = m ((c.tc : Thread Cert.Reference22Ideal.nD Cert.Reference22Ideal.τ).loc Cert.Reference22Ideal.main_arg61)
      ∧ r.2.mem ((c.tc : Thread Cert.Reference22Ideal.nD Cert.Reference22Ideal.τ).loc Cert.Reference22Ideal.main_arg62) = m ((c.tc : Thread Cert.Reference22Ideal.nD Cert.Reference22Ideal.τ).loc Cert.Reference22Ideal.main_arg62)
      ∧ r.2.mem ((c.tc : Thread Cert.Reference22Ideal.nD Cert.Reference22Ideal.τ).loc Cert.Reference22Ideal.main_arg63) = m ((c.tc : Thread Cert.Reference22Ideal.nD Cert.Reference22Ideal.τ).loc Cert.Reference22Ideal.main_arg63)
      ∧ r.2.mem ((c.tc : Thread Cert.Reference22Ideal.nD Cert.Reference22Ideal.τ).loc Cert.Reference22Ideal.main_arg64) = m ((c.tc : Thread Cert.Reference22Ideal.nD Cert.Reference22Ideal.τ).loc Cert.Reference22Ideal.main_arg64)
      ∧ r.2.mem ((c.tc : Thread Cert.Reference22Ideal.nD Cert.Reference22Ideal.τ).loc Cert.Reference22Ideal.main_arg65) = m ((c.tc : Thread Cert.Reference22Ideal.nD Cert.Reference22Ideal.τ).loc Cert.Reference22Ideal.main_arg65)
      ∧ r.2.mem ((c.tc : Thread Cert.Reference22Ideal.nD Cert.Reference22Ideal.τ).loc Cert.Reference22Ideal.main_arg66) = m ((c.tc : Thread Cert.Reference22Ideal.nD Cert.Reference22Ideal.τ).loc Cert.Reference22Ideal.main_arg66)
      ∧ r.2.mem ((c.tc : Thread Cert.Reference22Ideal.nD Cert.Reference22Ideal.τ).loc Cert.Reference22Ideal.main_arg67) = m ((c.tc : Thread Cert.Reference22Ideal.nD Cert.Reference22Ideal.τ).loc Cert.Reference22Ideal.main_arg67))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_v87) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_v38) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v36) = v1 c
          ∧ r.2.mem ((c.tc : Thread Cert.Reference7Ideal.nD Cert.Reference7Ideal.τ).loc Cert.Reference7Ideal.main_v17) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v23) = v2 c
          ∧ r.2.mem ((c.tc : Thread Cert.Reference8Ideal.nD Cert.Reference8Ideal.τ).loc Cert.Reference8Ideal.main_v21) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v9) = v1 c
          ∧ r.2.mem ((c.tc : Thread Cert.Reference16Ideal.nD Cert.Reference16Ideal.τ).loc Cert.Reference16Ideal.main_v17) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v11) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)
      ∧ m' ((c.tc : Thread Cert.Reference22Ideal.nD Cert.Reference22Ideal.τ).loc Cert.Reference22Ideal.main_arg12) = m ((c.tc : Thread Cert.Kernel22Ideal.nD Cert.Kernel22Ideal.τ).loc Cert.Kernel22Ideal.main_arg12)
      ∧ m' ((c.tc : Thread Cert.Reference22Ideal.nD Cert.Reference22Ideal.τ).loc Cert.Reference22Ideal.main_arg13) = m ((c.tc : Thread Cert.Kernel22Ideal.nD Cert.Kernel22Ideal.τ).loc Cert.Kernel22Ideal.main_arg13)
      ∧ m' ((c.tc : Thread Cert.Reference22Ideal.nD Cert.Reference22Ideal.τ).loc Cert.Reference22Ideal.main_arg14) = m ((c.tc : Thread Cert.Kernel22Ideal.nD Cert.Kernel22Ideal.τ).loc Cert.Kernel22Ideal.main_arg14)
      ∧ m' ((c.tc : Thread Cert.Reference22Ideal.nD Cert.Reference22Ideal.τ).loc Cert.Reference22Ideal.main_arg15) = m ((c.tc : Thread Cert.Kernel22Ideal.nD Cert.Kernel22Ideal.τ).loc Cert.Kernel22Ideal.main_arg15)
      ∧ m' ((c.tc : Thread Cert.Reference22Ideal.nD Cert.Reference22Ideal.τ).loc Cert.Reference22Ideal.main_arg16) = m ((c.tc : Thread Cert.Kernel22Ideal.nD Cert.Kernel22Ideal.τ).loc Cert.Kernel22Ideal.main_arg16)
      ∧ m' ((c.tc : Thread Cert.Reference22Ideal.nD Cert.Reference22Ideal.τ).loc Cert.Reference22Ideal.main_arg17) = m ((c.tc : Thread Cert.Kernel22Ideal.nD Cert.Kernel22Ideal.τ).loc Cert.Kernel22Ideal.main_arg17)
      ∧ m' ((c.tc : Thread Cert.Reference22Ideal.nD Cert.Reference22Ideal.τ).loc Cert.Reference22Ideal.main_arg18) = m ((c.tc : Thread Cert.Kernel22Ideal.nD Cert.Kernel22Ideal.τ).loc Cert.Kernel22Ideal.main_arg18)
      ∧ m' ((c.tc : Thread Cert.Reference22Ideal.nD Cert.Reference22Ideal.τ).loc Cert.Reference22Ideal.main_arg19) = m ((c.tc : Thread Cert.Kernel22Ideal.nD Cert.Kernel22Ideal.τ).loc Cert.Kernel22Ideal.main_arg19)
      ∧ m' ((c.tc : Thread Cert.Reference22Ideal.nD Cert.Reference22Ideal.τ).loc Cert.Reference22Ideal.main_arg20) = m ((c.tc : Thread Cert.Kernel22Ideal.nD Cert.Kernel22Ideal.τ).loc Cert.Kernel22Ideal.main_arg20)
      ∧ m' ((c.tc : Thread Cert.Reference22Ideal.nD Cert.Reference22Ideal.τ).loc Cert.Reference22Ideal.main_arg21) = m ((c.tc : Thread Cert.Kernel22Ideal.nD Cert.Kernel22Ideal.τ).loc Cert.Kernel22Ideal.main_arg21)
      ∧ m' ((c.tc : Thread Cert.Reference22Ideal.nD Cert.Reference22Ideal.τ).loc Cert.Reference22Ideal.main_arg22) = m ((c.tc : Thread Cert.Kernel22Ideal.nD Cert.Kernel22Ideal.τ).loc Cert.Kernel22Ideal.main_arg22)
      ∧ m' ((c.tc : Thread Cert.Reference22Ideal.nD Cert.Reference22Ideal.τ).loc Cert.Reference22Ideal.main_arg23) = m ((c.tc : Thread Cert.Kernel22Ideal.nD Cert.Kernel22Ideal.τ).loc Cert.Kernel22Ideal.main_arg23)
      ∧ m' ((c.tc : Thread Cert.Reference22Ideal.nD Cert.Reference22Ideal.τ).loc Cert.Reference22Ideal.main_arg24) = m ((c.tc : Thread Cert.Kernel22Ideal.nD Cert.Kernel22Ideal.τ).loc Cert.Kernel22Ideal.main_arg24)
      ∧ m' ((c.tc : Thread Cert.Reference22Ideal.nD Cert.Reference22Ideal.τ).loc Cert.Reference22Ideal.main_arg25) = m ((c.tc : Thread Cert.Kernel22Ideal.nD Cert.Kernel22Ideal.τ).loc Cert.Kernel22Ideal.main_arg25)
      ∧ m' ((c.tc : Thread Cert.Reference22Ideal.nD Cert.Reference22Ideal.τ).loc Cert.Reference22Ideal.main_arg26) = m ((c.tc : Thread Cert.Kernel22Ideal.nD Cert.Kernel22Ideal.τ).loc Cert.Kernel22Ideal.main_arg26)
      ∧ m' ((c.tc : Thread Cert.Reference22Ideal.nD Cert.Reference22Ideal.τ).loc Cert.Reference22Ideal.main_arg27) = m ((c.tc : Thread Cert.Kernel22Ideal.nD Cert.Kernel22Ideal.τ).loc Cert.Kernel22Ideal.main_arg27)
      ∧ m' ((c.tc : Thread Cert.Reference22Ideal.nD Cert.Reference22Ideal.τ).loc Cert.Reference22Ideal.main_arg28) = m ((c.tc : Thread Cert.Kernel22Ideal.nD Cert.Kernel22Ideal.τ).loc Cert.Kernel22Ideal.main_arg28)
      ∧ m' ((c.tc : Thread Cert.Reference22Ideal.nD Cert.Reference22Ideal.τ).loc Cert.Reference22Ideal.main_arg29) = m ((c.tc : Thread Cert.Kernel22Ideal.nD Cert.Kernel22Ideal.τ).loc Cert.Kernel22Ideal.main_arg29)
      ∧ m' ((c.tc : Thread Cert.Reference22Ideal.nD Cert.Reference22Ideal.τ).loc Cert.Reference22Ideal.main_arg30) = m ((c.tc : Thread Cert.Kernel22Ideal.nD Cert.Kernel22Ideal.τ).loc Cert.Kernel22Ideal.main_arg30)
      ∧ m' ((c.tc : Thread Cert.Reference22Ideal.nD Cert.Reference22Ideal.τ).loc Cert.Reference22Ideal.main_arg31) = m ((c.tc : Thread Cert.Kernel22Ideal.nD Cert.Kernel22Ideal.τ).loc Cert.Kernel22Ideal.main_arg31)
      ∧ m' ((c.tc : Thread Cert.Reference22Ideal.nD Cert.Reference22Ideal.τ).loc Cert.Reference22Ideal.main_arg32) = m ((c.tc : Thread Cert.Kernel22Ideal.nD Cert.Kernel22Ideal.τ).loc Cert.Kernel22Ideal.main_arg32)
      ∧ m' ((c.tc : Thread Cert.Reference22Ideal.nD Cert.Reference22Ideal.τ).loc Cert.Reference22Ideal.main_arg33) = m ((c.tc : Thread Cert.Kernel22Ideal.nD Cert.Kernel22Ideal.τ).loc Cert.Kernel22Ideal.main_arg33)
      ∧ m' ((c.tc : Thread Cert.Reference22Ideal.nD Cert.Reference22Ideal.τ).loc Cert.Reference22Ideal.main_arg34) = m ((c.tc : Thread Cert.Kernel22Ideal.nD Cert.Kernel22Ideal.τ).loc Cert.Kernel22Ideal.main_arg34)
      ∧ m' ((c.tc : Thread Cert.Reference22Ideal.nD Cert.Reference22Ideal.τ).loc Cert.Reference22Ideal.main_arg35) = m ((c.tc : Thread Cert.Kernel22Ideal.nD Cert.Kernel22Ideal.τ).loc Cert.Kernel22Ideal.main_arg35)
      ∧ m' ((c.tc : Thread Cert.Reference22Ideal.nD Cert.Reference22Ideal.τ).loc Cert.Reference22Ideal.main_arg36) = m ((c.tc : Thread Cert.Kernel22Ideal.nD Cert.Kernel22Ideal.τ).loc Cert.Kernel22Ideal.main_arg36)
      ∧ m' ((c.tc : Thread Cert.Reference22Ideal.nD Cert.Reference22Ideal.τ).loc Cert.Reference22Ideal.main_arg37) = m ((c.tc : Thread Cert.Kernel22Ideal.nD Cert.Kernel22Ideal.τ).loc Cert.Kernel22Ideal.main_arg37)
      ∧ m' ((c.tc : Thread Cert.Reference22Ideal.nD Cert.Reference22Ideal.τ).loc Cert.Reference22Ideal.main_arg38) = m ((c.tc : Thread Cert.Kernel22Ideal.nD Cert.Kernel22Ideal.τ).loc Cert.Kernel22Ideal.main_arg38)
      ∧ m' ((c.tc : Thread Cert.Reference22Ideal.nD Cert.Reference22Ideal.τ).loc Cert.Reference22Ideal.main_arg39) = m ((c.tc : Thread Cert.Kernel22Ideal.nD Cert.Kernel22Ideal.τ).loc Cert.Kernel22Ideal.main_arg39)
      ∧ m' ((c.tc : Thread Cert.Reference22Ideal.nD Cert.Reference22Ideal.τ).loc Cert.Reference22Ideal.main_arg40) = m ((c.tc : Thread Cert.Kernel22Ideal.nD Cert.Kernel22Ideal.τ).loc Cert.Kernel22Ideal.main_arg40)
      ∧ m' ((c.tc : Thread Cert.Reference22Ideal.nD Cert.Reference22Ideal.τ).loc Cert.Reference22Ideal.main_arg41) = m ((c.tc : Thread Cert.Kernel22Ideal.nD Cert.Kernel22Ideal.τ).loc Cert.Kernel22Ideal.main_arg41)
      ∧ m' ((c.tc : Thread Cert.Reference22Ideal.nD Cert.Reference22Ideal.τ).loc Cert.Reference22Ideal.main_arg42) = m ((c.tc : Thread Cert.Kernel22Ideal.nD Cert.Kernel22Ideal.τ).loc Cert.Kernel22Ideal.main_arg42)
      ∧ m' ((c.tc : Thread Cert.Reference22Ideal.nD Cert.Reference22Ideal.τ).loc Cert.Reference22Ideal.main_arg43) = m ((c.tc : Thread Cert.Kernel22Ideal.nD Cert.Kernel22Ideal.τ).loc Cert.Kernel22Ideal.main_arg43)
      ∧ m' ((c.tc : Thread Cert.Reference22Ideal.nD Cert.Reference22Ideal.τ).loc Cert.Reference22Ideal.main_arg44) = m ((c.tc : Thread Cert.Kernel22Ideal.nD Cert.Kernel22Ideal.τ).loc Cert.Kernel22Ideal.main_arg44)
      ∧ m' ((c.tc : Thread Cert.Reference22Ideal.nD Cert.Reference22Ideal.τ).loc Cert.Reference22Ideal.main_arg45) = m ((c.tc : Thread Cert.Kernel22Ideal.nD Cert.Kernel22Ideal.τ).loc Cert.Kernel22Ideal.main_arg45)
      ∧ m' ((c.tc : Thread Cert.Reference22Ideal.nD Cert.Reference22Ideal.τ).loc Cert.Reference22Ideal.main_arg46) = m ((c.tc : Thread Cert.Kernel22Ideal.nD Cert.Kernel22Ideal.τ).loc Cert.Kernel22Ideal.main_arg46)
      ∧ m' ((c.tc : Thread Cert.Reference22Ideal.nD Cert.Reference22Ideal.τ).loc Cert.Reference22Ideal.main_arg47) = m ((c.tc : Thread Cert.Kernel22Ideal.nD Cert.Kernel22Ideal.τ).loc Cert.Kernel22Ideal.main_arg47)
      ∧ m' ((c.tc : Thread Cert.Reference22Ideal.nD Cert.Reference22Ideal.τ).loc Cert.Reference22Ideal.main_arg48) = m ((c.tc : Thread Cert.Kernel22Ideal.nD Cert.Kernel22Ideal.τ).loc Cert.Kernel22Ideal.main_arg48)
      ∧ m' ((c.tc : Thread Cert.Reference22Ideal.nD Cert.Reference22Ideal.τ).loc Cert.Reference22Ideal.main_arg49) = m ((c.tc : Thread Cert.Kernel22Ideal.nD Cert.Kernel22Ideal.τ).loc Cert.Kernel22Ideal.main_arg49)
      ∧ m' ((c.tc : Thread Cert.Reference22Ideal.nD Cert.Reference22Ideal.τ).loc Cert.Reference22Ideal.main_arg50) = m ((c.tc : Thread Cert.Kernel22Ideal.nD Cert.Kernel22Ideal.τ).loc Cert.Kernel22Ideal.main_arg50)
      ∧ m' ((c.tc : Thread Cert.Reference22Ideal.nD Cert.Reference22Ideal.τ).loc Cert.Reference22Ideal.main_arg51) = m ((c.tc : Thread Cert.Kernel22Ideal.nD Cert.Kernel22Ideal.τ).loc Cert.Kernel22Ideal.main_arg51)
      ∧ m' ((c.tc : Thread Cert.Reference22Ideal.nD Cert.Reference22Ideal.τ).loc Cert.Reference22Ideal.main_arg52) = m ((c.tc : Thread Cert.Kernel22Ideal.nD Cert.Kernel22Ideal.τ).loc Cert.Kernel22Ideal.main_arg52)
      ∧ m' ((c.tc : Thread Cert.Reference22Ideal.nD Cert.Reference22Ideal.τ).loc Cert.Reference22Ideal.main_arg53) = m ((c.tc : Thread Cert.Kernel22Ideal.nD Cert.Kernel22Ideal.τ).loc Cert.Kernel22Ideal.main_arg53)
      ∧ m' ((c.tc : Thread Cert.Reference22Ideal.nD Cert.Reference22Ideal.τ).loc Cert.Reference22Ideal.main_arg54) = m ((c.tc : Thread Cert.Kernel22Ideal.nD Cert.Kernel22Ideal.τ).loc Cert.Kernel22Ideal.main_arg54)
      ∧ m' ((c.tc : Thread Cert.Reference22Ideal.nD Cert.Reference22Ideal.τ).loc Cert.Reference22Ideal.main_arg55) = m ((c.tc : Thread Cert.Kernel22Ideal.nD Cert.Kernel22Ideal.τ).loc Cert.Kernel22Ideal.main_arg55)
      ∧ m' ((c.tc : Thread Cert.Reference22Ideal.nD Cert.Reference22Ideal.τ).loc Cert.Reference22Ideal.main_arg56) = m ((c.tc : Thread Cert.Kernel22Ideal.nD Cert.Kernel22Ideal.τ).loc Cert.Kernel22Ideal.main_arg56)
      ∧ m' ((c.tc : Thread Cert.Reference22Ideal.nD Cert.Reference22Ideal.τ).loc Cert.Reference22Ideal.main_arg57) = m ((c.tc : Thread Cert.Kernel22Ideal.nD Cert.Kernel22Ideal.τ).loc Cert.Kernel22Ideal.main_arg57)
      ∧ m' ((c.tc : Thread Cert.Reference22Ideal.nD Cert.Reference22Ideal.τ).loc Cert.Reference22Ideal.main_arg58) = m ((c.tc : Thread Cert.Kernel22Ideal.nD Cert.Kernel22Ideal.τ).loc Cert.Kernel22Ideal.main_arg58)
      ∧ m' ((c.tc : Thread Cert.Reference22Ideal.nD Cert.Reference22Ideal.τ).loc Cert.Reference22Ideal.main_arg59) = m ((c.tc : Thread Cert.Kernel22Ideal.nD Cert.Kernel22Ideal.τ).loc Cert.Kernel22Ideal.main_arg59)
      ∧ m' ((c.tc : Thread Cert.Reference22Ideal.nD Cert.Reference22Ideal.τ).loc Cert.Reference22Ideal.main_arg60) = m ((c.tc : Thread Cert.Kernel22Ideal.nD Cert.Kernel22Ideal.τ).loc Cert.Kernel22Ideal.main_arg60)
      ∧ m' ((c.tc : Thread Cert.Reference22Ideal.nD Cert.Reference22Ideal.τ).loc Cert.Reference22Ideal.main_arg61) = m ((c.tc : Thread Cert.Kernel22Ideal.nD Cert.Kernel22Ideal.τ).loc Cert.Kernel22Ideal.main_arg61)
      ∧ m' ((c.tc : Thread Cert.Reference22Ideal.nD Cert.Reference22Ideal.τ).loc Cert.Reference22Ideal.main_arg62) = m ((c.tc : Thread Cert.Kernel22Ideal.nD Cert.Kernel22Ideal.τ).loc Cert.Kernel22Ideal.main_arg62)
      ∧ m' ((c.tc : Thread Cert.Reference22Ideal.nD Cert.Reference22Ideal.τ).loc Cert.Reference22Ideal.main_arg63) = m ((c.tc : Thread Cert.Kernel22Ideal.nD Cert.Kernel22Ideal.τ).loc Cert.Kernel22Ideal.main_arg63)
      ∧ m' ((c.tc : Thread Cert.Reference22Ideal.nD Cert.Reference22Ideal.τ).loc Cert.Reference22Ideal.main_arg64) = m ((c.tc : Thread Cert.Kernel22Ideal.nD Cert.Kernel22Ideal.τ).loc Cert.Kernel22Ideal.main_arg64)
      ∧ m' ((c.tc : Thread Cert.Reference22Ideal.nD Cert.Reference22Ideal.τ).loc Cert.Reference22Ideal.main_arg65) = m ((c.tc : Thread Cert.Kernel22Ideal.nD Cert.Kernel22Ideal.τ).loc Cert.Kernel22Ideal.main_arg65)
      ∧ m' ((c.tc : Thread Cert.Reference22Ideal.nD Cert.Reference22Ideal.τ).loc Cert.Reference22Ideal.main_arg66) = m ((c.tc : Thread Cert.Kernel22Ideal.nD Cert.Kernel22Ideal.τ).loc Cert.Kernel22Ideal.main_arg66)
      ∧ m' ((c.tc : Thread Cert.Reference22Ideal.nD Cert.Reference22Ideal.τ).loc Cert.Reference22Ideal.main_arg67) = m ((c.tc : Thread Cert.Kernel22Ideal.nD Cert.Kernel22Ideal.τ).loc Cert.Kernel22Ideal.main_arg67)) →
    ∃ (v0 : (c : Dev Cert.Kernel22Ideal.nD) → Buf (Elt Ideal) ((c.tc : Thread Cert.Kernel22Ideal.nD Cert.Kernel22Ideal.τ).loc Cert.Kernel22Ideal.main_v88_0)) (v1 : (c : Dev Cert.Kernel22Ideal.nD) → Buf (Elt Ideal) ((c.tc : Thread Cert.Kernel22Ideal.nD Cert.Kernel22Ideal.τ).loc Cert.Kernel22Ideal.main_v88_1)) (v2 : (c : Dev Cert.Kernel22Ideal.nD) → Buf (Elt Ideal) ((c.tc : Thread Cert.Kernel22Ideal.nD Cert.Kernel22Ideal.τ).loc Cert.Kernel22Ideal.main_v88_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v88_0) = v0 c
          ∧ r.2.mem ((c.tc : Thread Cert.Kernel22Ideal.nD Cert.Kernel22Ideal.τ).loc Cert.Kernel22Ideal.main_v88_1) = v1 c
          ∧ r.2.mem ((c.tc : Thread Cert.Kernel22Ideal.nD Cert.Kernel22Ideal.τ).loc Cert.Kernel22Ideal.main_v88_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
          ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
          ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
          ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
          ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15)
          ∧ r.2.mem ((c.tc : Thread Cert.Kernel22Ideal.nD Cert.Kernel22Ideal.τ).loc Cert.Kernel22Ideal.main_arg16) = m ((c.tc : Thread Cert.Kernel22Ideal.nD Cert.Kernel22Ideal.τ).loc Cert.Kernel22Ideal.main_arg16)
          ∧ r.2.mem ((c.tc : Thread Cert.Kernel22Ideal.nD Cert.Kernel22Ideal.τ).loc Cert.Kernel22Ideal.main_arg17) = m ((c.tc : Thread Cert.Kernel22Ideal.nD Cert.Kernel22Ideal.τ).loc Cert.Kernel22Ideal.main_arg17)
          ∧ r.2.mem ((c.tc : Thread Cert.Kernel22Ideal.nD Cert.Kernel22Ideal.τ).loc Cert.Kernel22Ideal.main_arg18) = m ((c.tc : Thread Cert.Kernel22Ideal.nD Cert.Kernel22Ideal.τ).loc Cert.Kernel22Ideal.main_arg18)
          ∧ r.2.mem ((c.tc : Thread Cert.Kernel22Ideal.nD Cert.Kernel22Ideal.τ).loc Cert.Kernel22Ideal.main_arg19) = m ((c.tc : Thread Cert.Kernel22Ideal.nD Cert.Kernel22Ideal.τ).loc Cert.Kernel22Ideal.main_arg19)
          ∧ r.2.mem ((c.tc : Thread Cert.Kernel22Ideal.nD Cert.Kernel22Ideal.τ).loc Cert.Kernel22Ideal.main_arg20) = m ((c.tc : Thread Cert.Kernel22Ideal.nD Cert.Kernel22Ideal.τ).loc Cert.Kernel22Ideal.main_arg20)
          ∧ r.2.mem ((c.tc : Thread Cert.Kernel22Ideal.nD Cert.Kernel22Ideal.τ).loc Cert.Kernel22Ideal.main_arg21) = m ((c.tc : Thread Cert.Kernel22Ideal.nD Cert.Kernel22Ideal.τ).loc Cert.Kernel22Ideal.main_arg21)
          ∧ r.2.mem ((c.tc : Thread Cert.Kernel22Ideal.nD Cert.Kernel22Ideal.τ).loc Cert.Kernel22Ideal.main_arg22) = m ((c.tc : Thread Cert.Kernel22Ideal.nD Cert.Kernel22Ideal.τ).loc Cert.Kernel22Ideal.main_arg22)
          ∧ r.2.mem ((c.tc : Thread Cert.Kernel22Ideal.nD Cert.Kernel22Ideal.τ).loc Cert.Kernel22Ideal.main_arg23) = m ((c.tc : Thread Cert.Kernel22Ideal.nD Cert.Kernel22Ideal.τ).loc Cert.Kernel22Ideal.main_arg23)
          ∧ r.2.mem ((c.tc : Thread Cert.Kernel22Ideal.nD Cert.Kernel22Ideal.τ).loc Cert.Kernel22Ideal.main_arg24) = m ((c.tc : Thread Cert.Kernel22Ideal.nD Cert.Kernel22Ideal.τ).loc Cert.Kernel22Ideal.main_arg24)
          ∧ r.2.mem ((c.tc : Thread Cert.Kernel22Ideal.nD Cert.Kernel22Ideal.τ).loc Cert.Kernel22Ideal.main_arg25) = m ((c.tc : Thread Cert.Kernel22Ideal.nD Cert.Kernel22Ideal.τ).loc Cert.Kernel22Ideal.main_arg25)
          ∧ r.2.mem ((c.tc : Thread Cert.Kernel22Ideal.nD Cert.Kernel22Ideal.τ).loc Cert.Kernel22Ideal.main_arg26) = m ((c.tc : Thread Cert.Kernel22Ideal.nD Cert.Kernel22Ideal.τ).loc Cert.Kernel22Ideal.main_arg26)
          ∧ r.2.mem ((c.tc : Thread Cert.Kernel22Ideal.nD Cert.Kernel22Ideal.τ).loc Cert.Kernel22Ideal.main_arg27) = m ((c.tc : Thread Cert.Kernel22Ideal.nD Cert.Kernel22Ideal.τ).loc Cert.Kernel22Ideal.main_arg27)
          ∧ r.2.mem ((c.tc : Thread Cert.Kernel22Ideal.nD Cert.Kernel22Ideal.τ).loc Cert.Kernel22Ideal.main_arg28) = m ((c.tc : Thread Cert.Kernel22Ideal.nD Cert.Kernel22Ideal.τ).loc Cert.Kernel22Ideal.main_arg28)
          ∧ r.2.mem ((c.tc : Thread Cert.Kernel22Ideal.nD Cert.Kernel22Ideal.τ).loc Cert.Kernel22Ideal.main_arg29) = m ((c.tc : Thread Cert.Kernel22Ideal.nD Cert.Kernel22Ideal.τ).loc Cert.Kernel22Ideal.main_arg29)
          ∧ r.2.mem ((c.tc : Thread Cert.Kernel22Ideal.nD Cert.Kernel22Ideal.τ).loc Cert.Kernel22Ideal.main_arg30) = m ((c.tc : Thread Cert.Kernel22Ideal.nD Cert.Kernel22Ideal.τ).loc Cert.Kernel22Ideal.main_arg30)
          ∧ r.2.mem ((c.tc : Thread Cert.Kernel22Ideal.nD Cert.Kernel22Ideal.τ).loc Cert.Kernel22Ideal.main_arg31) = m ((c.tc : Thread Cert.Kernel22Ideal.nD Cert.Kernel22Ideal.τ).loc Cert.Kernel22Ideal.main_arg31)
          ∧ r.2.mem ((c.tc : Thread Cert.Kernel22Ideal.nD Cert.Kernel22Ideal.τ).loc Cert.Kernel22Ideal.main_arg32) = m ((c.tc : Thread Cert.Kernel22Ideal.nD Cert.Kernel22Ideal.τ).loc Cert.Kernel22Ideal.main_arg32)
          ∧ r.2.mem ((c.tc : Thread Cert.Kernel22Ideal.nD Cert.Kernel22Ideal.τ).loc Cert.Kernel22Ideal.main_arg33) = m ((c.tc : Thread Cert.Kernel22Ideal.nD Cert.Kernel22Ideal.τ).loc Cert.Kernel22Ideal.main_arg33)
          ∧ r.2.mem ((c.tc : Thread Cert.Kernel22Ideal.nD Cert.Kernel22Ideal.τ).loc Cert.Kernel22Ideal.main_arg34) = m ((c.tc : Thread Cert.Kernel22Ideal.nD Cert.Kernel22Ideal.τ).loc Cert.Kernel22Ideal.main_arg34)
          ∧ r.2.mem ((c.tc : Thread Cert.Kernel22Ideal.nD Cert.Kernel22Ideal.τ).loc Cert.Kernel22Ideal.main_arg35) = m ((c.tc : Thread Cert.Kernel22Ideal.nD Cert.Kernel22Ideal.τ).loc Cert.Kernel22Ideal.main_arg35)
          ∧ r.2.mem ((c.tc : Thread Cert.Kernel22Ideal.nD Cert.Kernel22Ideal.τ).loc Cert.Kernel22Ideal.main_arg36) = m ((c.tc : Thread Cert.Kernel22Ideal.nD Cert.Kernel22Ideal.τ).loc Cert.Kernel22Ideal.main_arg36)
          ∧ r.2.mem ((c.tc : Thread Cert.Kernel22Ideal.nD Cert.Kernel22Ideal.τ).loc Cert.Kernel22Ideal.main_arg37) = m ((c.tc : Thread Cert.Kernel22Ideal.nD Cert.Kernel22Ideal.τ).loc Cert.Kernel22Ideal.main_arg37)
          ∧ r.2.mem ((c.tc : Thread Cert.Kernel22Ideal.nD Cert.Kernel22Ideal.τ).loc Cert.Kernel22Ideal.main_arg38) = m ((c.tc : Thread Cert.Kernel22Ideal.nD Cert.Kernel22Ideal.τ).loc Cert.Kernel22Ideal.main_arg38)
          ∧ r.2.mem ((c.tc : Thread Cert.Kernel22Ideal.nD Cert.Kernel22Ideal.τ).loc Cert.Kernel22Ideal.main_arg39) = m ((c.tc : Thread Cert.Kernel22Ideal.nD Cert.Kernel22Ideal.τ).loc Cert.Kernel22Ideal.main_arg39)
          ∧ r.2.mem ((c.tc : Thread Cert.Kernel22Ideal.nD Cert.Kernel22Ideal.τ).loc Cert.Kernel22Ideal.main_arg40) = m ((c.tc : Thread Cert.Kernel22Ideal.nD Cert.Kernel22Ideal.τ).loc Cert.Kernel22Ideal.main_arg40)
          ∧ r.2.mem ((c.tc : Thread Cert.Kernel22Ideal.nD Cert.Kernel22Ideal.τ).loc Cert.Kernel22Ideal.main_arg41) = m ((c.tc : Thread Cert.Kernel22Ideal.nD Cert.Kernel22Ideal.τ).loc Cert.Kernel22Ideal.main_arg41)
          ∧ r.2.mem ((c.tc : Thread Cert.Kernel22Ideal.nD Cert.Kernel22Ideal.τ).loc Cert.Kernel22Ideal.main_arg42) = m ((c.tc : Thread Cert.Kernel22Ideal.nD Cert.Kernel22Ideal.τ).loc Cert.Kernel22Ideal.main_arg42)
          ∧ r.2.mem ((c.tc : Thread Cert.Kernel22Ideal.nD Cert.Kernel22Ideal.τ).loc Cert.Kernel22Ideal.main_arg43) = m ((c.tc : Thread Cert.Kernel22Ideal.nD Cert.Kernel22Ideal.τ).loc Cert.Kernel22Ideal.main_arg43)
          ∧ r.2.mem ((c.tc : Thread Cert.Kernel22Ideal.nD Cert.Kernel22Ideal.τ).loc Cert.Kernel22Ideal.main_arg44) = m ((c.tc : Thread Cert.Kernel22Ideal.nD Cert.Kernel22Ideal.τ).loc Cert.Kernel22Ideal.main_arg44)
          ∧ r.2.mem ((c.tc : Thread Cert.Kernel22Ideal.nD Cert.Kernel22Ideal.τ).loc Cert.Kernel22Ideal.main_arg45) = m ((c.tc : Thread Cert.Kernel22Ideal.nD Cert.Kernel22Ideal.τ).loc Cert.Kernel22Ideal.main_arg45)
          ∧ r.2.mem ((c.tc : Thread Cert.Kernel22Ideal.nD Cert.Kernel22Ideal.τ).loc Cert.Kernel22Ideal.main_arg46) = m ((c.tc : Thread Cert.Kernel22Ideal.nD Cert.Kernel22Ideal.τ).loc Cert.Kernel22Ideal.main_arg46)
          ∧ r.2.mem ((c.tc : Thread Cert.Kernel22Ideal.nD Cert.Kernel22Ideal.τ).loc Cert.Kernel22Ideal.main_arg47) = m ((c.tc : Thread Cert.Kernel22Ideal.nD Cert.Kernel22Ideal.τ).loc Cert.Kernel22Ideal.main_arg47)
          ∧ r.2.mem ((c.tc : Thread Cert.Kernel22Ideal.nD Cert.Kernel22Ideal.τ).loc Cert.Kernel22Ideal.main_arg48) = m ((c.tc : Thread Cert.Kernel22Ideal.nD Cert.Kernel22Ideal.τ).loc Cert.Kernel22Ideal.main_arg48)
          ∧ r.2.mem ((c.tc : Thread Cert.Kernel22Ideal.nD Cert.Kernel22Ideal.τ).loc Cert.Kernel22Ideal.main_arg49) = m ((c.tc : Thread Cert.Kernel22Ideal.nD Cert.Kernel22Ideal.τ).loc Cert.Kernel22Ideal.main_arg49)
          ∧ r.2.mem ((c.tc : Thread Cert.Kernel22Ideal.nD Cert.Kernel22Ideal.τ).loc Cert.Kernel22Ideal.main_arg50) = m ((c.tc : Thread Cert.Kernel22Ideal.nD Cert.Kernel22Ideal.τ).loc Cert.Kernel22Ideal.main_arg50)
          ∧ r.2.mem ((c.tc : Thread Cert.Kernel22Ideal.nD Cert.Kernel22Ideal.τ).loc Cert.Kernel22Ideal.main_arg51) = m ((c.tc : Thread Cert.Kernel22Ideal.nD Cert.Kernel22Ideal.τ).loc Cert.Kernel22Ideal.main_arg51)
          ∧ r.2.mem ((c.tc : Thread Cert.Kernel22Ideal.nD Cert.Kernel22Ideal.τ).loc Cert.Kernel22Ideal.main_arg52) = m ((c.tc : Thread Cert.Kernel22Ideal.nD Cert.Kernel22Ideal.τ).loc Cert.Kernel22Ideal.main_arg52)
          ∧ r.2.mem ((c.tc : Thread Cert.Kernel22Ideal.nD Cert.Kernel22Ideal.τ).loc Cert.Kernel22Ideal.main_arg53) = m ((c.tc : Thread Cert.Kernel22Ideal.nD Cert.Kernel22Ideal.τ).loc Cert.Kernel22Ideal.main_arg53)
          ∧ r.2.mem ((c.tc : Thread Cert.Kernel22Ideal.nD Cert.Kernel22Ideal.τ).loc Cert.Kernel22Ideal.main_arg54) = m ((c.tc : Thread Cert.Kernel22Ideal.nD Cert.Kernel22Ideal.τ).loc Cert.Kernel22Ideal.main_arg54)
          ∧ r.2.mem ((c.tc : Thread Cert.Kernel22Ideal.nD Cert.Kernel22Ideal.τ).loc Cert.Kernel22Ideal.main_arg55) = m ((c.tc : Thread Cert.Kernel22Ideal.nD Cert.Kernel22Ideal.τ).loc Cert.Kernel22Ideal.main_arg55)
          ∧ r.2.mem ((c.tc : Thread Cert.Kernel22Ideal.nD Cert.Kernel22Ideal.τ).loc Cert.Kernel22Ideal.main_arg56) = m ((c.tc : Thread Cert.Kernel22Ideal.nD Cert.Kernel22Ideal.τ).loc Cert.Kernel22Ideal.main_arg56)
          ∧ r.2.mem ((c.tc : Thread Cert.Kernel22Ideal.nD Cert.Kernel22Ideal.τ).loc Cert.Kernel22Ideal.main_arg57) = m ((c.tc : Thread Cert.Kernel22Ideal.nD Cert.Kernel22Ideal.τ).loc Cert.Kernel22Ideal.main_arg57)
          ∧ r.2.mem ((c.tc : Thread Cert.Kernel22Ideal.nD Cert.Kernel22Ideal.τ).loc Cert.Kernel22Ideal.main_arg58) = m ((c.tc : Thread Cert.Kernel22Ideal.nD Cert.Kernel22Ideal.τ).loc Cert.Kernel22Ideal.main_arg58)
          ∧ r.2.mem ((c.tc : Thread Cert.Kernel22Ideal.nD Cert.Kernel22Ideal.τ).loc Cert.Kernel22Ideal.main_arg59) = m ((c.tc : Thread Cert.Kernel22Ideal.nD Cert.Kernel22Ideal.τ).loc Cert.Kernel22Ideal.main_arg59)
          ∧ r.2.mem ((c.tc : Thread Cert.Kernel22Ideal.nD Cert.Kernel22Ideal.τ).loc Cert.Kernel22Ideal.main_arg60) = m ((c.tc : Thread Cert.Kernel22Ideal.nD Cert.Kernel22Ideal.τ).loc Cert.Kernel22Ideal.main_arg60)
          ∧ r.2.mem ((c.tc : Thread Cert.Kernel22Ideal.nD Cert.Kernel22Ideal.τ).loc Cert.Kernel22Ideal.main_arg61) = m ((c.tc : Thread Cert.Kernel22Ideal.nD Cert.Kernel22Ideal.τ).loc Cert.Kernel22Ideal.main_arg61)
          ∧ r.2.mem ((c.tc : Thread Cert.Kernel22Ideal.nD Cert.Kernel22Ideal.τ).loc Cert.Kernel22Ideal.main_arg62) = m ((c.tc : Thread Cert.Kernel22Ideal.nD Cert.Kernel22Ideal.τ).loc Cert.Kernel22Ideal.main_arg62)
          ∧ r.2.mem ((c.tc : Thread Cert.Kernel22Ideal.nD Cert.Kernel22Ideal.τ).loc Cert.Kernel22Ideal.main_arg63) = m ((c.tc : Thread Cert.Kernel22Ideal.nD Cert.Kernel22Ideal.τ).loc Cert.Kernel22Ideal.main_arg63)
          ∧ r.2.mem ((c.tc : Thread Cert.Kernel22Ideal.nD Cert.Kernel22Ideal.τ).loc Cert.Kernel22Ideal.main_arg64) = m ((c.tc : Thread Cert.Kernel22Ideal.nD Cert.Kernel22Ideal.τ).loc Cert.Kernel22Ideal.main_arg64)
          ∧ r.2.mem ((c.tc : Thread Cert.Kernel22Ideal.nD Cert.Kernel22Ideal.τ).loc Cert.Kernel22Ideal.main_arg65) = m ((c.tc : Thread Cert.Kernel22Ideal.nD Cert.Kernel22Ideal.τ).loc Cert.Kernel22Ideal.main_arg65)
          ∧ r.2.mem ((c.tc : Thread Cert.Kernel22Ideal.nD Cert.Kernel22Ideal.τ).loc Cert.Kernel22Ideal.main_arg66) = m ((c.tc : Thread Cert.Kernel22Ideal.nD Cert.Kernel22Ideal.τ).loc Cert.Kernel22Ideal.main_arg66)
          ∧ r.2.mem ((c.tc : Thread Cert.Kernel22Ideal.nD Cert.Kernel22Ideal.τ).loc Cert.Kernel22Ideal.main_arg67) = m ((c.tc : Thread Cert.Kernel22Ideal.nD Cert.Kernel22Ideal.τ).loc Cert.Kernel22Ideal.main_arg67))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v429) = v0 c
          ∧ r.2.mem ((c.tc : Thread Cert.Reference22Ideal.nD Cert.Reference22Ideal.τ).loc Cert.Reference22Ideal.main_v450) = v1 c
          ∧ r.2.mem ((c.tc : Thread Cert.Reference22Ideal.nD Cert.Reference22Ideal.τ).loc Cert.Reference22Ideal.main_v471) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11)
          ∧ r.2.mem ((c.tc : Thread Cert.Reference22Ideal.nD Cert.Reference22Ideal.τ).loc Cert.Reference22Ideal.main_arg12) = m' ((c.tc : Thread Cert.Reference22Ideal.nD Cert.Reference22Ideal.τ).loc Cert.Reference22Ideal.main_arg12)
          ∧ r.2.mem ((c.tc : Thread Cert.Reference22Ideal.nD Cert.Reference22Ideal.τ).loc Cert.Reference22Ideal.main_arg13) = m' ((c.tc : Thread Cert.Reference22Ideal.nD Cert.Reference22Ideal.τ).loc Cert.Reference22Ideal.main_arg13)
          ∧ r.2.mem ((c.tc : Thread Cert.Reference22Ideal.nD Cert.Reference22Ideal.τ).loc Cert.Reference22Ideal.main_arg14) = m' ((c.tc : Thread Cert.Reference22Ideal.nD Cert.Reference22Ideal.τ).loc Cert.Reference22Ideal.main_arg14)
          ∧ r.2.mem ((c.tc : Thread Cert.Reference22Ideal.nD Cert.Reference22Ideal.τ).loc Cert.Reference22Ideal.main_arg15) = m' ((c.tc : Thread Cert.Reference22Ideal.nD Cert.Reference22Ideal.τ).loc Cert.Reference22Ideal.main_arg15)
          ∧ r.2.mem ((c.tc : Thread Cert.Reference22Ideal.nD Cert.Reference22Ideal.τ).loc Cert.Reference22Ideal.main_arg16) = m' ((c.tc : Thread Cert.Reference22Ideal.nD Cert.Reference22Ideal.τ).loc Cert.Reference22Ideal.main_arg16)
          ∧ r.2.mem ((c.tc : Thread Cert.Reference22Ideal.nD Cert.Reference22Ideal.τ).loc Cert.Reference22Ideal.main_arg17) = m' ((c.tc : Thread Cert.Reference22Ideal.nD Cert.Reference22Ideal.τ).loc Cert.Reference22Ideal.main_arg17)
          ∧ r.2.mem ((c.tc : Thread Cert.Reference22Ideal.nD Cert.Reference22Ideal.τ).loc Cert.Reference22Ideal.main_arg18) = m' ((c.tc : Thread Cert.Reference22Ideal.nD Cert.Reference22Ideal.τ).loc Cert.Reference22Ideal.main_arg18)
          ∧ r.2.mem ((c.tc : Thread Cert.Reference22Ideal.nD Cert.Reference22Ideal.τ).loc Cert.Reference22Ideal.main_arg19) = m' ((c.tc : Thread Cert.Reference22Ideal.nD Cert.Reference22Ideal.τ).loc Cert.Reference22Ideal.main_arg19)
          ∧ r.2.mem ((c.tc : Thread Cert.Reference22Ideal.nD Cert.Reference22Ideal.τ).loc Cert.Reference22Ideal.main_arg20) = m' ((c.tc : Thread Cert.Reference22Ideal.nD Cert.Reference22Ideal.τ).loc Cert.Reference22Ideal.main_arg20)
          ∧ r.2.mem ((c.tc : Thread Cert.Reference22Ideal.nD Cert.Reference22Ideal.τ).loc Cert.Reference22Ideal.main_arg21) = m' ((c.tc : Thread Cert.Reference22Ideal.nD Cert.Reference22Ideal.τ).loc Cert.Reference22Ideal.main_arg21)
          ∧ r.2.mem ((c.tc : Thread Cert.Reference22Ideal.nD Cert.Reference22Ideal.τ).loc Cert.Reference22Ideal.main_arg22) = m' ((c.tc : Thread Cert.Reference22Ideal.nD Cert.Reference22Ideal.τ).loc Cert.Reference22Ideal.main_arg22)
          ∧ r.2.mem ((c.tc : Thread Cert.Reference22Ideal.nD Cert.Reference22Ideal.τ).loc Cert.Reference22Ideal.main_arg23) = m' ((c.tc : Thread Cert.Reference22Ideal.nD Cert.Reference22Ideal.τ).loc Cert.Reference22Ideal.main_arg23)
          ∧ r.2.mem ((c.tc : Thread Cert.Reference22Ideal.nD Cert.Reference22Ideal.τ).loc Cert.Reference22Ideal.main_arg24) = m' ((c.tc : Thread Cert.Reference22Ideal.nD Cert.Reference22Ideal.τ).loc Cert.Reference22Ideal.main_arg24)
          ∧ r.2.mem ((c.tc : Thread Cert.Reference22Ideal.nD Cert.Reference22Ideal.τ).loc Cert.Reference22Ideal.main_arg25) = m' ((c.tc : Thread Cert.Reference22Ideal.nD Cert.Reference22Ideal.τ).loc Cert.Reference22Ideal.main_arg25)
          ∧ r.2.mem ((c.tc : Thread Cert.Reference22Ideal.nD Cert.Reference22Ideal.τ).loc Cert.Reference22Ideal.main_arg26) = m' ((c.tc : Thread Cert.Reference22Ideal.nD Cert.Reference22Ideal.τ).loc Cert.Reference22Ideal.main_arg26)
          ∧ r.2.mem ((c.tc : Thread Cert.Reference22Ideal.nD Cert.Reference22Ideal.τ).loc Cert.Reference22Ideal.main_arg27) = m' ((c.tc : Thread Cert.Reference22Ideal.nD Cert.Reference22Ideal.τ).loc Cert.Reference22Ideal.main_arg27)
          ∧ r.2.mem ((c.tc : Thread Cert.Reference22Ideal.nD Cert.Reference22Ideal.τ).loc Cert.Reference22Ideal.main_arg28) = m' ((c.tc : Thread Cert.Reference22Ideal.nD Cert.Reference22Ideal.τ).loc Cert.Reference22Ideal.main_arg28)
          ∧ r.2.mem ((c.tc : Thread Cert.Reference22Ideal.nD Cert.Reference22Ideal.τ).loc Cert.Reference22Ideal.main_arg29) = m' ((c.tc : Thread Cert.Reference22Ideal.nD Cert.Reference22Ideal.τ).loc Cert.Reference22Ideal.main_arg29)
          ∧ r.2.mem ((c.tc : Thread Cert.Reference22Ideal.nD Cert.Reference22Ideal.τ).loc Cert.Reference22Ideal.main_arg30) = m' ((c.tc : Thread Cert.Reference22Ideal.nD Cert.Reference22Ideal.τ).loc Cert.Reference22Ideal.main_arg30)
          ∧ r.2.mem ((c.tc : Thread Cert.Reference22Ideal.nD Cert.Reference22Ideal.τ).loc Cert.Reference22Ideal.main_arg31) = m' ((c.tc : Thread Cert.Reference22Ideal.nD Cert.Reference22Ideal.τ).loc Cert.Reference22Ideal.main_arg31)
          ∧ r.2.mem ((c.tc : Thread Cert.Reference22Ideal.nD Cert.Reference22Ideal.τ).loc Cert.Reference22Ideal.main_arg32) = m' ((c.tc : Thread Cert.Reference22Ideal.nD Cert.Reference22Ideal.τ).loc Cert.Reference22Ideal.main_arg32)
          ∧ r.2.mem ((c.tc : Thread Cert.Reference22Ideal.nD Cert.Reference22Ideal.τ).loc Cert.Reference22Ideal.main_arg33) = m' ((c.tc : Thread Cert.Reference22Ideal.nD Cert.Reference22Ideal.τ).loc Cert.Reference22Ideal.main_arg33)
          ∧ r.2.mem ((c.tc : Thread Cert.Reference22Ideal.nD Cert.Reference22Ideal.τ).loc Cert.Reference22Ideal.main_arg34) = m' ((c.tc : Thread Cert.Reference22Ideal.nD Cert.Reference22Ideal.τ).loc Cert.Reference22Ideal.main_arg34)
          ∧ r.2.mem ((c.tc : Thread Cert.Reference22Ideal.nD Cert.Reference22Ideal.τ).loc Cert.Reference22Ideal.main_arg35) = m' ((c.tc : Thread Cert.Reference22Ideal.nD Cert.Reference22Ideal.τ).loc Cert.Reference22Ideal.main_arg35)
          ∧ r.2.mem ((c.tc : Thread Cert.Reference22Ideal.nD Cert.Reference22Ideal.τ).loc Cert.Reference22Ideal.main_arg36) = m' ((c.tc : Thread Cert.Reference22Ideal.nD Cert.Reference22Ideal.τ).loc Cert.Reference22Ideal.main_arg36)
          ∧ r.2.mem ((c.tc : Thread Cert.Reference22Ideal.nD Cert.Reference22Ideal.τ).loc Cert.Reference22Ideal.main_arg37) = m' ((c.tc : Thread Cert.Reference22Ideal.nD Cert.Reference22Ideal.τ).loc Cert.Reference22Ideal.main_arg37)
          ∧ r.2.mem ((c.tc : Thread Cert.Reference22Ideal.nD Cert.Reference22Ideal.τ).loc Cert.Reference22Ideal.main_arg38) = m' ((c.tc : Thread Cert.Reference22Ideal.nD Cert.Reference22Ideal.τ).loc Cert.Reference22Ideal.main_arg38)
          ∧ r.2.mem ((c.tc : Thread Cert.Reference22Ideal.nD Cert.Reference22Ideal.τ).loc Cert.Reference22Ideal.main_arg39) = m' ((c.tc : Thread Cert.Reference22Ideal.nD Cert.Reference22Ideal.τ).loc Cert.Reference22Ideal.main_arg39)
          ∧ r.2.mem ((c.tc : Thread Cert.Reference22Ideal.nD Cert.Reference22Ideal.τ).loc Cert.Reference22Ideal.main_arg40) = m' ((c.tc : Thread Cert.Reference22Ideal.nD Cert.Reference22Ideal.τ).loc Cert.Reference22Ideal.main_arg40)
          ∧ r.2.mem ((c.tc : Thread Cert.Reference22Ideal.nD Cert.Reference22Ideal.τ).loc Cert.Reference22Ideal.main_arg41) = m' ((c.tc : Thread Cert.Reference22Ideal.nD Cert.Reference22Ideal.τ).loc Cert.Reference22Ideal.main_arg41)
          ∧ r.2.mem ((c.tc : Thread Cert.Reference22Ideal.nD Cert.Reference22Ideal.τ).loc Cert.Reference22Ideal.main_arg42) = m' ((c.tc : Thread Cert.Reference22Ideal.nD Cert.Reference22Ideal.τ).loc Cert.Reference22Ideal.main_arg42)
          ∧ r.2.mem ((c.tc : Thread Cert.Reference22Ideal.nD Cert.Reference22Ideal.τ).loc Cert.Reference22Ideal.main_arg43) = m' ((c.tc : Thread Cert.Reference22Ideal.nD Cert.Reference22Ideal.τ).loc Cert.Reference22Ideal.main_arg43)
          ∧ r.2.mem ((c.tc : Thread Cert.Reference22Ideal.nD Cert.Reference22Ideal.τ).loc Cert.Reference22Ideal.main_arg44) = m' ((c.tc : Thread Cert.Reference22Ideal.nD Cert.Reference22Ideal.τ).loc Cert.Reference22Ideal.main_arg44)
          ∧ r.2.mem ((c.tc : Thread Cert.Reference22Ideal.nD Cert.Reference22Ideal.τ).loc Cert.Reference22Ideal.main_arg45) = m' ((c.tc : Thread Cert.Reference22Ideal.nD Cert.Reference22Ideal.τ).loc Cert.Reference22Ideal.main_arg45)
          ∧ r.2.mem ((c.tc : Thread Cert.Reference22Ideal.nD Cert.Reference22Ideal.τ).loc Cert.Reference22Ideal.main_arg46) = m' ((c.tc : Thread Cert.Reference22Ideal.nD Cert.Reference22Ideal.τ).loc Cert.Reference22Ideal.main_arg46)
          ∧ r.2.mem ((c.tc : Thread Cert.Reference22Ideal.nD Cert.Reference22Ideal.τ).loc Cert.Reference22Ideal.main_arg47) = m' ((c.tc : Thread Cert.Reference22Ideal.nD Cert.Reference22Ideal.τ).loc Cert.Reference22Ideal.main_arg47)
          ∧ r.2.mem ((c.tc : Thread Cert.Reference22Ideal.nD Cert.Reference22Ideal.τ).loc Cert.Reference22Ideal.main_arg48) = m' ((c.tc : Thread Cert.Reference22Ideal.nD Cert.Reference22Ideal.τ).loc Cert.Reference22Ideal.main_arg48)
          ∧ r.2.mem ((c.tc : Thread Cert.Reference22Ideal.nD Cert.Reference22Ideal.τ).loc Cert.Reference22Ideal.main_arg49) = m' ((c.tc : Thread Cert.Reference22Ideal.nD Cert.Reference22Ideal.τ).loc Cert.Reference22Ideal.main_arg49)
          ∧ r.2.mem ((c.tc : Thread Cert.Reference22Ideal.nD Cert.Reference22Ideal.τ).loc Cert.Reference22Ideal.main_arg50) = m' ((c.tc : Thread Cert.Reference22Ideal.nD Cert.Reference22Ideal.τ).loc Cert.Reference22Ideal.main_arg50)
          ∧ r.2.mem ((c.tc : Thread Cert.Reference22Ideal.nD Cert.Reference22Ideal.τ).loc Cert.Reference22Ideal.main_arg51) = m' ((c.tc : Thread Cert.Reference22Ideal.nD Cert.Reference22Ideal.τ).loc Cert.Reference22Ideal.main_arg51)
          ∧ r.2.mem ((c.tc : Thread Cert.Reference22Ideal.nD Cert.Reference22Ideal.τ).loc Cert.Reference22Ideal.main_arg52) = m' ((c.tc : Thread Cert.Reference22Ideal.nD Cert.Reference22Ideal.τ).loc Cert.Reference22Ideal.main_arg52)
          ∧ r.2.mem ((c.tc : Thread Cert.Reference22Ideal.nD Cert.Reference22Ideal.τ).loc Cert.Reference22Ideal.main_arg53) = m' ((c.tc : Thread Cert.Reference22Ideal.nD Cert.Reference22Ideal.τ).loc Cert.Reference22Ideal.main_arg53)
          ∧ r.2.mem ((c.tc : Thread Cert.Reference22Ideal.nD Cert.Reference22Ideal.τ).loc Cert.Reference22Ideal.main_arg54) = m' ((c.tc : Thread Cert.Reference22Ideal.nD Cert.Reference22Ideal.τ).loc Cert.Reference22Ideal.main_arg54)
          ∧ r.2.mem ((c.tc : Thread Cert.Reference22Ideal.nD Cert.Reference22Ideal.τ).loc Cert.Reference22Ideal.main_arg55) = m' ((c.tc : Thread Cert.Reference22Ideal.nD Cert.Reference22Ideal.τ).loc Cert.Reference22Ideal.main_arg55)
          ∧ r.2.mem ((c.tc : Thread Cert.Reference22Ideal.nD Cert.Reference22Ideal.τ).loc Cert.Reference22Ideal.main_arg56) = m' ((c.tc : Thread Cert.Reference22Ideal.nD Cert.Reference22Ideal.τ).loc Cert.Reference22Ideal.main_arg56)
          ∧ r.2.mem ((c.tc : Thread Cert.Reference22Ideal.nD Cert.Reference22Ideal.τ).loc Cert.Reference22Ideal.main_arg57) = m' ((c.tc : Thread Cert.Reference22Ideal.nD Cert.Reference22Ideal.τ).loc Cert.Reference22Ideal.main_arg57)
          ∧ r.2.mem ((c.tc : Thread Cert.Reference22Ideal.nD Cert.Reference22Ideal.τ).loc Cert.Reference22Ideal.main_arg58) = m' ((c.tc : Thread Cert.Reference22Ideal.nD Cert.Reference22Ideal.τ).loc Cert.Reference22Ideal.main_arg58)
          ∧ r.2.mem ((c.tc : Thread Cert.Reference22Ideal.nD Cert.Reference22Ideal.τ).loc Cert.Reference22Ideal.main_arg59) = m' ((c.tc : Thread Cert.Reference22Ideal.nD Cert.Reference22Ideal.τ).loc Cert.Reference22Ideal.main_arg59)
          ∧ r.2.mem ((c.tc : Thread Cert.Reference22Ideal.nD Cert.Reference22Ideal.τ).loc Cert.Reference22Ideal.main_arg60) = m' ((c.tc : Thread Cert.Reference22Ideal.nD Cert.Reference22Ideal.τ).loc Cert.Reference22Ideal.main_arg60)
          ∧ r.2.mem ((c.tc : Thread Cert.Reference22Ideal.nD Cert.Reference22Ideal.τ).loc Cert.Reference22Ideal.main_arg61) = m' ((c.tc : Thread Cert.Reference22Ideal.nD Cert.Reference22Ideal.τ).loc Cert.Reference22Ideal.main_arg61)
          ∧ r.2.mem ((c.tc : Thread Cert.Reference22Ideal.nD Cert.Reference22Ideal.τ).loc Cert.Reference22Ideal.main_arg62) = m' ((c.tc : Thread Cert.Reference22Ideal.nD Cert.Reference22Ideal.τ).loc Cert.Reference22Ideal.main_arg62)
          ∧ r.2.mem ((c.tc : Thread Cert.Reference22Ideal.nD Cert.Reference22Ideal.τ).loc Cert.Reference22Ideal.main_arg63) = m' ((c.tc : Thread Cert.Reference22Ideal.nD Cert.Reference22Ideal.τ).loc Cert.Reference22Ideal.main_arg63)
          ∧ r.2.mem ((c.tc : Thread Cert.Reference22Ideal.nD Cert.Reference22Ideal.τ).loc Cert.Reference22Ideal.main_arg64) = m' ((c.tc : Thread Cert.Reference22Ideal.nD Cert.Reference22Ideal.τ).loc Cert.Reference22Ideal.main_arg64)
          ∧ r.2.mem ((c.tc : Thread Cert.Reference22Ideal.nD Cert.Reference22Ideal.τ).loc Cert.Reference22Ideal.main_arg65) = m' ((c.tc : Thread Cert.Reference22Ideal.nD Cert.Reference22Ideal.τ).loc Cert.Reference22Ideal.main_arg65)
          ∧ r.2.mem ((c.tc : Thread Cert.Reference22Ideal.nD Cert.Reference22Ideal.τ).loc Cert.Reference22Ideal.main_arg66) = m' ((c.tc : Thread Cert.Reference22Ideal.nD Cert.Reference22Ideal.τ).loc Cert.Reference22Ideal.main_arg66)
          ∧ r.2.mem ((c.tc : Thread Cert.Reference22Ideal.nD Cert.Reference22Ideal.τ).loc Cert.Reference22Ideal.main_arg67) = m' ((c.tc : Thread Cert.Reference22Ideal.nD Cert.Reference22Ideal.τ).loc Cert.Reference22Ideal.main_arg67))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)) (v3 : (c : Dev Cert.Kernel23Ideal.nD) → Buf (Elt Ideal) ((c.tc : Thread Cert.Kernel23Ideal.nD Cert.Kernel23Ideal.τ).loc Cert.Kernel23Ideal.main_v4_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_v4_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v32) = v0 c
          ∧ r.2.mem ((c.tc : Thread Cert.Reference23Ideal.nD Cert.Reference23Ideal.τ).loc Cert.Reference23Ideal.main_v34) = v1 c
          ∧ r.2.mem ((c.tc : Thread Cert.Reference23Ideal.nD Cert.Reference23Ideal.τ).loc Cert.Reference23Ideal.main_v36) = v2 c
          ∧ r.2.mem ((c.tc : Thread Cert.Reference23Ideal.nD Cert.Reference23Ideal.τ).loc Cert.Reference23Ideal.main_v38) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v28) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v32) = v2 c
          ∧ r.2.mem ((c.tc : Thread Cert.Reference24Ideal.nD Cert.Reference24Ideal.τ).loc Cert.Reference24Ideal.main_v34) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v28) = v0 c
          ∧ r.2.mem ((c.tc : Thread Cert.Reference25Ideal.nD Cert.Reference25Ideal.τ).loc Cert.Reference25Ideal.main_v30) = v1 c
          ∧ r.2.mem ((c.tc : Thread Cert.Reference25Ideal.nD Cert.Reference25Ideal.τ).loc Cert.Reference25Ideal.main_v32) = v2 c
          ∧ r.2.mem ((c.tc : Thread Cert.Reference25Ideal.nD Cert.Reference25Ideal.τ).loc Cert.Reference25Ideal.main_v34) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite_inputs.lean ====
abbrev S2048x2048 : Shape := ⟨2, ![2048, 2048]⟩
abbrev S1x5632x2048 : Shape := ⟨3, ![1, 5632, 2048]⟩
abbrev S2048x5632 : Shape := ⟨2, ![2048, 5632]⟩
abbrev S3x11264 : Shape := ⟨2, ![3, 11264]⟩
abbrev S1x11264 : Shape := ⟨2, ![1, 11264]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x5632x2048 : S_.BroadcastsInDim S1x5632x2048 (![] : Fin 0 → Fin S1x5632x2048.rank)
  reducesTo_S1x5632x2048_S_d0_1_2 : S1x5632x2048.ReducesTo [0, 1, 2] S_
  bcast_S_S2048x5632 : S_.BroadcastsInDim S2048x5632 (![] : Fin 0 → Fin S2048x5632.rank)
  reducesTo_S2048x5632_S_d0_1 : S2048x5632.ReducesTo [0, 1] S_
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_

variable [Facts]

def fn_part1 {F : FTy → Type} [FloatOps F] (main_arg5 : FVec F S1x11264 .f32) (main_v4 : IVec S_ 1) (main_v9 : IVec S_ 1) (main_v14 : IVec S_ 1) (main_v15 : FVec F S3x11264 .f32) (main_v16 : FVec F S3x11264 .f32) : IVec S_ 1 × IVec S_ 1 × IVec S_ 1 × IVec S_ 1 × IVec S_ 1 :=
  let main_v17 : IVec S3x11264 1 := cmpf .olt main_v15 main_v16
  let main_c_5 : IVec S_ 1 := constantI S_ 1 1#1
  let main_v18 : IVec S_ 1 := (fun x v => Host.reduce IntOp.andi x v reducesTo_S3x11264_S_d0_1 h_S_) main_v17 main_c_5
  let main_v19 : FVec F S1x11264 .f32 := Host.absf main_arg5
  let main_cst_6 : FVec F S_ .f32 := constant S_ .f32 0x7F800000#32
  let main_v20 : FVec F S1x11264 .f32 := broadcastInDim S1x11264 ![] bcast_S_S1x11264 main_cst_6
  let main_v21 : IVec S1x11264 1 := cmpf .olt main_v19 main_v20
  let main_c_7 : IVec S_ 1 := constantI S_ 1 1#1
  let main_v22 : IVec S_ 1 := (fun x v => Host.reduce IntOp.andi x v reducesTo_S1x11264_S_d0_1 h_S_) main_v21 main_c_7
  (main_v4, main_v9, main_v14, main_v18, main_v22)

def fn {F : FTy → Type} [FloatOps F] (main_arg0 : FVec F S2048x2048 .bf16) (main_arg1 : FVec F S1x5632x2048 .bf16) (main_arg2 : FVec F S2048x5632 .bf16) (main_arg3 : FVec F S2048x5632 .bf16) (main_arg4 : FVec F S3x11264 .f32) (main_arg5 : FVec F S1x11264 .f32) : IVec S_ 1 × IVec S_ 1 × IVec S_ 1 × IVec S_ 1 × IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S1x5632x2048 .f32 := (extf .f32 · bitsLt_bf16_f32) main_arg1
  let main_v6 : FVec F S1x5632x2048 .f32 := Host.absf main_v5
  let main_cst_0 : FVec F S_ .f32 := constant S_ .f32 0x7F800000#32
  let main_v7 : FVec F S1x5632x2048 .f32 := broadcastInDim S1x5632x2048 ![] bcast_S_S1x5632x2048 main_cst_0
  let main_v8 : IVec S1x5632x2048 1 := cmpf .olt main_v6 main_v7
  let main_c_1 : IVec S_ 1 := constantI S_ 1 1#1
  let main_v9 : IVec S_ 1 := (fun x v => Host.reduce IntOp.andi x v reducesTo_S1x5632x2048_S_d0_1_2 h_S_) main_v8 main_c_1
  let main_v10 : FVec F S2048x5632 .f32 := (extf .f32 · bitsLt_bf16_f32) main_arg2
  let main_v11 : FVec F S2048x5632 .f32 := Host.absf main_v10
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_c_3 : IVec S_ 1 := constantI S_ 1 1#1
  let main_v14 : IVec S_ 1 := (fun x v => Host.reduce IntOp.andi x v reducesTo_S2048x5632_S_d0_1 h_S_) main_v13 main_c_3
  let main_v15 : FVec F S3x11264 .f32 := Host.absf main_arg4
  let main_cst_4 : FVec F S_ .f32 := constant S_ .f32 0x7F800000#32
  let main_v16 : FVec F S3x11264 .f32 := broadcastInDim S3x11264 ![] bcast_S_S3x11264 main_cst_4
  fn_part1 (F := F) main_arg5 main_v4 main_v9 main_v14 main_v15 main_v16
-- ==== Kernel.lean ====
abbrev S2048x2048 : Shape := ⟨2, ![2048, 2048]⟩
abbrev S1x5632x2048 : Shape := ⟨3, ![1, 5632, 2048]⟩
abbrev S2048x5632 : Shape := ⟨2, ![2048, 5632]⟩
abbrev S3x11264 : Shape := ⟨2, ![3, 11264]⟩
abbrev S1x11264 : Shape := ⟨2, ![1, 11264]⟩
abbrev S3x5632 : Shape := ⟨2, ![3, 5632]⟩
abbrev S1x5632 : Shape := ⟨2, ![1, 5632]⟩
abbrev S1x256x2048 : Shape := ⟨3, ![1, 256, 2048]⟩
abbrev S2048x256 : Shape := ⟨2, ![2048, 256]⟩
abbrev S3x256 : Shape := ⟨2, ![3, 256]⟩
abbrev S1x256 : Shape := ⟨2, ![1, 256]⟩
abbrev S2056x256 : Shape := ⟨2, ![2056, 256]⟩
abbrev S8x256 : Shape := ⟨2, ![8, 256]⟩
abbrev S256x2048 : Shape := ⟨2, ![256, 2048]⟩
abbrev S72x256 : Shape := ⟨2, ![72, 256]⟩
abbrev S64x256 : Shape := ⟨2, ![64, 256]⟩
abbrev S256 : Shape := ⟨1, ![256]⟩

abbrev nBuf : Space → Nat
  | .hbm => 12
  | .vmem => 32
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .bf16⟩
  | .hbm, ⟨3, _⟩ => ⟨S2048x5632, .bf16⟩
  | .hbm, ⟨4, _⟩ => ⟨S3x11264, .f32⟩
  | .hbm, ⟨5, _⟩ => ⟨S1x11264, .f32⟩
  | .hbm, ⟨6, _⟩ => ⟨S2048x5632, .bf16⟩
  | .hbm, ⟨7, _⟩ => ⟨S2048x5632, .bf16⟩
  | .hbm, ⟨8, _⟩ => ⟨S3x5632, .f32⟩
  | .hbm, ⟨9, _⟩ => ⟨S3x5632, .f32⟩
  | .hbm, ⟨10, _⟩ => ⟨S1x5632, .f32⟩
  | .hbm, ⟨11, _⟩ => ⟨S1x5632, .f32⟩
  | .local _ .vmem, ⟨0, _⟩ => ⟨S2048x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S3x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S2048x256, .f32⟩
  | .local _ .vmem, ⟨28, _⟩ => ⟨S2056x256, .f32⟩
  | .local _ .vmem, ⟨29, _⟩ => ⟨S2056x256, .f32⟩
  | .local _ .vmem, ⟨30, _⟩ => ⟨S2056x256, .f32⟩
  | .local _ .vmem, ⟨31, _⟩ => ⟨S2056x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c32_i32 : BitVec 32 := 32#32
  let v35 : BitVec 32 := Scalar.addi c0_i32 c32_i32
  let c1_i32 : BitVec 32 := 1#32
  ⟨c0_i32, v35, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c64_i32 : BitVec 32 := 64#32
  let v46 : BitVec 32 := Scalar.muli arg20 c64_i32
  v46
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c64_i32 : BitVec 32 := 64#32
  let v46 : BitVec 32 := Scalar.muli arg20 c64_i32
  let v47 : BitVec 32 := v46
  let v48 : Index := Scalar.indexCast v47
  let c0_49 : Index := 0#32
  ![v48.toNat, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c64_i32 : BitVec 32 := 64#32
  let v46 : BitVec 32 := Scalar.muli arg20 c64_i32
  let v47 : BitVec 32 := v46
  let v95 : Index := Scalar.indexCast v47
  let c0_57 : Index := 0#32
  ![v95.toNat, 0]
def k0_off3 (k0_t1 : Fin k0_t1_loop.trips) : Fin 2 → Nat :=
  let c0_i32 : BitVec 32 := 0#32
  let c1_i32 : BitVec 32 := 1#32
  let arg20 : BitVec 32 := Scf.iv c0_i32 c1_i32 k0_t1
  let c64_i32 : BitVec 32 := 64#32
  let v46 : BitVec 32 := Scalar.muli arg20 c64_i32
  let v47 : BitVec 32 := v46
  let v107 : Index := Scalar.indexCast v47
  let c0_60 : Index := 0#32
  ![v107.toNat, 0]
@[reducible] def k0_t2_loop : Scf.Loop 32 :=
  let c0_i32_45 : BitVec 32 := 0#32
  let c32_i32_46 : BitVec 32 := 32#32
  let v45 : BitVec 32 := Scalar.addi c0_i32_45 c32_i32_46
  let c1_i32_47 : BitVec 32 := 1#32
  ⟨c0_i32_45, v45, c1_i32_47⟩
def k0_mult2 (k0_t2 : Fin k0_t2_loop.trips) : BitVec 32 :=
  let c0_i32_45 : BitVec 32 := 0#32
  let c1_i32_47 : BitVec 32 := 1#32
  let arg20 : BitVec 32 := Scf.iv c0_i32_45 c1_i32_47 k0_t2
  let c64_i32 : BitVec 32 := 64#32
  let v46 : BitVec 32 := Scalar.muli arg20 c64_i32
  v46
def k0_off4 (k0_t2 : Fin k0_t2_loop.trips) : Fin 2 → Nat :=
  let c0_i32_45 : BitVec 32 := 0#32
  let c1_i32_47 : BitVec 32 := 1#32
  let arg20 : BitVec 32 := Scf.iv c0_i32_45 c1_i32_47 k0_t2
  let c64_i32 : BitVec 32 := 64#32
  let v46 : BitVec 32 := Scalar.muli arg20 c64_i32
  let v47 : BitVec 32 := v46
  let v48 : Index := Scalar.indexCast v47
  let c0_49 : Index := 0#32
  ![v48.toNat, 0]
def k0_off5 (k0_t2 : Fin k0_t2_loop.trips) : Fin 2 → Nat :=
  let c0_i32_45 : BitVec 32 := 0#32
  let c1_i32_47 : BitVec 32 := 1#32
  let arg20 : BitVec 32 := Scf.iv c0_i32_45 c1_i32_47 k0_t2
  let c64_i32 : BitVec 32 := 64#32
  let v46 : BitVec 32 := Scalar.muli arg20 c64_i32
  let v47 : BitVec 32 := v46
  let v67 : Index := Scalar.indexCast v47
  let c0_50 : Index := 0#32
  ![v67.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x2048 : Shape := ⟨2, ![2048, 2048]⟩
abbrev S1x5632x2048 : Shape := ⟨3, ![1, 5632, 2048]⟩
abbrev S2048x5632 : Shape := ⟨2, ![2048, 5632]⟩
abbrev S3x11264 : Shape := ⟨2, ![3, 11264]⟩
abbrev S1x11264 : Shape := ⟨2, ![1, 11264]⟩
abbrev S5632x2048 : Shape := ⟨2, ![5632, 2048]⟩
abbrev S2048x11264 : Shape := ⟨2, ![2048, 11264]⟩
abbrev S_ : Shape := ⟨0, ![]⟩
abbrev S2x11264 : Shape := ⟨2, ![2, 11264]⟩
abbrev S2050x11264 : Shape := ⟨2, ![2050, 11264]⟩
abbrev S11264 : Shape := ⟨1, ![11264]⟩
abbrev S3x5632 : Shape := ⟨2, ![3, 5632]⟩
abbrev S1x5632 : Shape := ⟨2, ![1, 5632]⟩

abbrev nBuf : Space → Nat
  | .hbm => 125
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .bf16⟩
  | .hbm, ⟨3, _⟩ => ⟨S2048x5632, .bf16⟩
  | .hbm, ⟨4, _⟩ => ⟨S3x11264, .f32⟩
  | .hbm, ⟨5, _⟩ => ⟨S1x11264, .f32⟩
  | .hbm, ⟨6, _⟩ => ⟨S5632x2048, .bf16⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x11264, .f32⟩
  | .hbm, ⟨11, _⟩ => ⟨S_, .f32⟩
  | .hbm, ⟨12, _⟩ => ⟨S2x11264, .f32⟩
  | .hbm, ⟨13, _⟩ => ⟨S2050x11264, .f32⟩
  | .hbm, ⟨14, _⟩ => ⟨S_, .f32⟩
  | .hbm, ⟨15, _⟩ => ⟨S2x11264, .f32⟩
  | .hbm, ⟨16, _⟩ => ⟨S1x11264, .f32⟩
  | .hbm, ⟨17, _⟩ => ⟨S11264, .f32⟩
  | .hbm, ⟨18, _⟩ => ⟨S2048x11264, .f32⟩
  | .hbm, ⟨19, _⟩ => ⟨S1x11264, .f32⟩
  | .hbm, ⟨20, _⟩ => ⟨S2048x11264, .f32⟩
  | .hbm, ⟨21, _⟩ => ⟨S2048x11264, .f32⟩
  | .hbm, ⟨22, _⟩ => ⟨S_, .f32⟩
  | .hbm, ⟨23, _⟩ => ⟨S2048x11264, .f32⟩
  | .hbm, ⟨24, _⟩ => ⟨S2048x11264, .f32⟩
  | .hbm, ⟨25, _⟩ => ⟨S1x11264, .f32⟩
  | .hbm, ⟨26, _⟩ => ⟨S11264, .f32⟩
  | .hbm, ⟨27, _⟩ => ⟨S2048x11264, .f32⟩
  | .hbm, ⟨28, _⟩ => ⟨S1x11264, .f32⟩
  | .hbm, ⟨29, _⟩ => ⟨S2048x11264, .f32⟩
  | .hbm, ⟨30, _⟩ => ⟨S2048x11264, .f32⟩
  | .hbm, ⟨31, _⟩ => ⟨S2048x11264, .f32⟩
  | .hbm, ⟨32, _⟩ => ⟨S1x11264, .f32⟩
  | .hbm, ⟨33, _⟩ => ⟨S11264, .f32⟩
  | .hbm, ⟨34, _⟩ => ⟨S2048x11264, .f32⟩
  | .hbm, ⟨35, _⟩ => ⟨S1x11264, .f32⟩
  | .hbm, ⟨36, _⟩ => ⟨S2048x11264, .f32⟩
  | .hbm, ⟨37, _⟩ => ⟨S2048x11264, .f32⟩
  | .hbm, ⟨38, _⟩ => ⟨S2048x11264, .f32⟩
  | .hbm, ⟨39, _⟩ => ⟨S2048x11264, .f32⟩
  | .hbm, ⟨40, _⟩ => ⟨S2048x11264, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S_, .f32⟩
  | .hbm, ⟨46, _⟩ => ⟨S2048x5632, .f32⟩
  | .hbm, ⟨47, _⟩ => ⟨S2048x5632, .f32⟩
  | .hbm, ⟨48, _⟩ => ⟨S_, .f32⟩
  | .hbm, ⟨49, _⟩ => ⟨S2048x5632, .f32⟩
  | .hbm, ⟨50, _⟩ => ⟨S2048x5632, .f32⟩
  | .hbm, ⟨51, _⟩ => ⟨S_, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x2048, .f32⟩
  | .hbm, ⟨58, _⟩ => ⟨S2048x2048, .f32⟩
  | .hbm, ⟨59, _⟩ => ⟨S2048x5632, .f32⟩
  | .hbm, ⟨60, _⟩ => ⟨S5632x2048, .f32⟩
  | .hbm, ⟨61, _⟩ => ⟨S2048x5632, .f32⟩
  | .hbm, ⟨62, _⟩ => ⟨S2048x5632, .f32⟩
  | .hbm, ⟨63, _⟩ => ⟨S2048x5632, .f32⟩
  | .hbm, ⟨64, _⟩ => ⟨S2048x5632, .f32⟩
  | .hbm, ⟨65, _⟩ => ⟨S2048x5632, .f32⟩
  | .hbm, ⟨66, _⟩ => ⟨S2048x5632, .f32⟩
  | .hbm, ⟨67, _⟩ => ⟨S2048x5632, .f32⟩
  | .hbm, ⟨68, _⟩ => ⟨S2048x11264, .f32⟩
  | .hbm, ⟨69, _⟩ => ⟨S_, .f32⟩
  | .hbm, ⟨70, _⟩ => ⟨S11264, .f32⟩
  | .hbm, ⟨71, _⟩ => ⟨S1x11264, .f32⟩
  | .hbm, ⟨72, _⟩ => ⟨S2048x11264, .f32⟩
  | .hbm, ⟨73, _⟩ => ⟨S2048x11264, .f32⟩
  | .hbm, ⟨74, _⟩ => ⟨S2048x11264, .f32⟩
  | .hbm, ⟨75, _⟩ => ⟨S_, .f32⟩
  | .hbm, ⟨76, _⟩ => ⟨S11264, .f32⟩
  | .hbm, ⟨77, _⟩ => ⟨S1x11264, .f32⟩
  | .hbm, ⟨78, _⟩ => ⟨S_, .f32⟩
  | .hbm, ⟨79, _⟩ => ⟨S11264, .f32⟩
  | .hbm, ⟨80, _⟩ => ⟨S_, .f32⟩
  | .hbm, ⟨81, _⟩ => ⟨S2050x11264, .f32⟩
  | .hbm, ⟨82, _⟩ => ⟨S1x11264, .f32⟩
  | .hbm, ⟨83, _⟩ => ⟨S_, .f32⟩
  | .hbm, ⟨84, _⟩ => ⟨S3x11264, .f32⟩
  | .hbm, ⟨85, _⟩ => ⟨S2048x11264, .f32⟩
  | .hbm, ⟨86, _⟩ => ⟨S2048x11264, .f32⟩
  | .hbm, ⟨87, _⟩ => ⟨S2048x11264, .f32⟩
  | .hbm, ⟨88, _⟩ => ⟨S_, .f32⟩
  | .hbm, ⟨89, _⟩ => ⟨S11264, .f32⟩
  | .hbm, ⟨90, _⟩ => ⟨S1x11264, .f32⟩
  | .hbm, ⟨91, _⟩ => ⟨S_, .f32⟩
  | .hbm, ⟨92, _⟩ => ⟨S11264, .f32⟩
  | .hbm, ⟨93, _⟩ => ⟨S_, .f32⟩
  | .hbm, ⟨94, _⟩ => ⟨S2050x11264, .f32⟩
  | .hbm, ⟨95, _⟩ => ⟨S2050x11264, .f32⟩
  | .hbm, ⟨96, _⟩ => ⟨S1x11264, .f32⟩
  | .hbm, ⟨97, _⟩ => ⟨S_, .f32⟩
  | .hbm, ⟨98, _⟩ => ⟨S3x11264, .f32⟩
  | .hbm, ⟨99, _⟩ => ⟨S3x11264, .f32⟩
  | .hbm, ⟨100, _⟩ => ⟨S2048x11264, .f32⟩
  | .hbm, ⟨101, _⟩ => ⟨S2048x11264, .f32⟩
  | .hbm, ⟨102, _⟩ => ⟨S2048x11264, .f32⟩
  | .hbm, ⟨103, _⟩ => ⟨S_, .f32⟩
  | .hbm, ⟨104, _⟩ => ⟨S11264, .f32⟩
  | .hbm, ⟨105, _⟩ => ⟨S1x11264, .f32⟩
  | .hbm, ⟨106, _⟩ => ⟨S_, .f32⟩
  | .hbm, ⟨107, _⟩ => ⟨S11264, .f32⟩
  | .hbm, ⟨108, _⟩ => ⟨S_, .f32⟩
  | .hbm, ⟨109, _⟩ => ⟨S2050x11264, .f32⟩
  | .hbm, ⟨110, _⟩ => ⟨S2050x11264, .f32⟩
  | .hbm, ⟨111, _⟩ => ⟨S1x11264, .f32⟩
  | .hbm, ⟨112, _⟩ => ⟨S_, .f32⟩
  | .hbm, ⟨113, _⟩ => ⟨S3x11264, .f32⟩
  | .hbm, ⟨114, _⟩ => ⟨S3x11264, .f32⟩
  | .hbm, ⟨115, _⟩ => ⟨S2x11264, .f32⟩
  | .hbm, ⟨116, _⟩ => ⟨S2048x11264, .f32⟩
  | .hbm, ⟨117, _⟩ => ⟨S2048x5632, .f32⟩
  | .hbm, ⟨118, _⟩ => ⟨S2048x5632, .f32⟩
  | .hbm, ⟨119, _⟩ => ⟨S2048x5632, .bf16⟩
  | .hbm, ⟨120, _⟩ => ⟨S2048x5632, .bf16⟩
  | .hbm, ⟨121, _⟩ => ⟨S3x5632, .f32⟩
  | .hbm, ⟨122, _⟩ => ⟨S3x5632, .f32⟩
  | .hbm, ⟨123, _⟩ => ⟨S1x5632, .f32⟩
  | .hbm, ⟨124, _⟩ => ⟨S1x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v34_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v34_1 : Ref sig .tc := ⟨.hbm, 54, rfl⟩
abbrev main_v34_0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v43 : Ref sig .tc := ⟨.hbm, 67, rfl⟩
abbrev main_v44 : Ref sig .tc := ⟨.hbm, 68, rfl⟩
abbrev main_cst_2 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_3 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_cst_5 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_11 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]
-- ==== Kernel2.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x2048 : Shape := ⟨2, ![2048, 2048]⟩
abbrev S2048x5632 : Shape := ⟨2, ![2048, 5632]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x5632 : Shape := ⟨2, ![2048, 5632]⟩
abbrev S1x2048x11264 : Shape := ⟨3, ![1, 2048, 11264]⟩
abbrev S2048x2048 : Shape := ⟨2, ![2048, 2048]⟩
abbrev S2048x512 : Shape := ⟨2, ![2048, 512]⟩
abbrev S1x1024x512 : Shape := ⟨3, ![1, 1024, 512]⟩
abbrev S2048x1024 : Shape := ⟨2, ![2048, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S1x2048x11264, .bf16⟩
  | .hbm, ⟨3, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .f32⟩
  | .local _ .vmem, ⟨7, _⟩ => ⟨S2048x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c11_i32 : BitVec 32 := 11#32
  let v4 : BitVec 1 := Scalar.cmpi .slt arg1 c11_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c11_i32_3 : BitVec 32 := 11#32
  let v8 : BitVec 1 := Scalar.cmpi .sge arg1 c11_i32_3
  let c22_i32 : BitVec 32 := 22#32
  let v9 : BitVec 1 := Scalar.cmpi .slt arg1 c22_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S2048x5632 : Shape := ⟨2, ![2048, 5632]⟩
abbrev S1x2048x11264 : Shape := ⟨3, ![1, 2048, 11264]⟩
abbrev S_ : Shape := ⟨0, ![]⟩
abbrev S2048x2048 : Shape := ⟨2, ![2048, 2048]⟩
abbrev S2048x11264 : Shape := ⟨2, ![2048, 11264]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S1x2048x11264, .bf16⟩
  | .hbm, ⟨3, _⟩ => ⟨S_, .f32⟩
  | .hbm, ⟨4, _⟩ => ⟨S2048x2048, .f32⟩
  | .hbm, ⟨5, _⟩ => ⟨S2048x11264, .bf16⟩
  | .hbm, ⟨6, _⟩ => ⟨S2048x11264, .f32⟩
  | .hbm, ⟨7, _⟩ => ⟨S2048x11264, .bf16⟩
  | .hbm, ⟨8, _⟩ => ⟨S2048x11264, .f32⟩
  | .hbm, ⟨9, _⟩ => ⟨S2048x11264, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S2048x5632 : Shape := ⟨2, ![2048, 5632]⟩
abbrev S1x5632x2048 : Shape := ⟨3, ![1, 5632, 2048]⟩
abbrev S2048x2048 : Shape := ⟨2, ![2048, 2048]⟩
abbrev S2048x512 : Shape := ⟨2, ![2048, 512]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c11_i32 : BitVec 32 := 11#32
  let v4 : BitVec 1 := Scalar.cmpi .slt arg1 c11_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S2048x5632 : Shape := ⟨2, ![2048, 5632]⟩
abbrev S1x5632x2048 : Shape := ⟨3, ![1, 5632, 2048]⟩
abbrev S2048x2048 : Shape := ⟨2, ![2048, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S2048x5632, .f32⟩
  | .hbm, ⟨4, _⟩ => ⟨S5632x2048, .bf16⟩
  | .hbm, ⟨5, _⟩ => ⟨S5632x2048, .f32⟩
  | .hbm, ⟨6, _⟩ => ⟨S2048x2048, .f32⟩
  | .hbm, ⟨7, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x2048 : Shape := ⟨2, ![2048, 2048]⟩
abbrev S1x2048x11264 : Shape := ⟨3, ![1, 2048, 11264]⟩
abbrev S3x11264 : Shape := ⟨2, ![3, 11264]⟩
abbrev S1x11264 : Shape := ⟨2, ![1, 11264]⟩
abbrev S2048x5632 : Shape := ⟨2, ![2048, 5632]⟩
abbrev S1x2048x256 : Shape := ⟨3, ![1, 2048, 256]⟩
abbrev S3x256 : Shape := ⟨2, ![3, 256]⟩
abbrev S1x256 : Shape := ⟨2, ![1, 256]⟩
abbrev S2048x256 : Shape := ⟨2, ![2048, 256]⟩
abbrev S2056x256 : Shape := ⟨2, ![2056, 256]⟩
abbrev S8x256 : Shape := ⟨2, ![8, 256]⟩
abbrev S72x256 : Shape := ⟨2, ![72, 256]⟩
abbrev S64x256 : Shape := ⟨2, ![64, 256]⟩

abbrev nBuf : Space → Nat
  | .hbm => 7
  | .vmem => 21
  | .smem => 0
  | _ => 0

abbrev bufTy : (tb : Table) → Fin (tcTables nBuf tb) → BufTy
  | .hbm, ⟨0, _⟩ => ⟨S2048x2048, .bf16⟩
  | .hbm, ⟨1, _⟩ => ⟨S1x2048x11264, .bf16⟩
  | .hbm, ⟨2, _⟩ => ⟨S3x11264, .f32⟩
  | .hbm, ⟨3, _⟩ => ⟨S1x11264, .f32⟩
  | .hbm, ⟨4, _⟩ => ⟨S2048x5632, .bf16⟩
  | .hbm, ⟨5, _⟩ => ⟨S2048x5632, .bf16⟩
  | .hbm, ⟨6, _⟩ => ⟨S2048x5632, .bf16⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2056x256, .f32⟩
  | .local _ .vmem, ⟨20, _⟩ => ⟨S2056x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c32_i32 : BitVec 32 := 32#32
  let v28 : BitVec 32 := Scalar.addi c0_i32 c32_i32
  let c1_i32 : BitVec 32 := 1#32
  ⟨c0_i32, v28, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32 : BitVec 32 := 64#32
  let v29 : BitVec 32 := Scalar.muli arg13 c64_i32
  v29
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v29 : BitVec 32 := Scalar.muli arg13 c64_i32
  let v30 : BitVec 32 := v29
  let v31 : Index := Scalar.indexCast v30
  let c0_25 : Index := 0#32
  ![v31.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v29 : BitVec 32 := Scalar.muli arg13 c64_i32
  let v30 : BitVec 32 := v29
  let v72 : Index := Scalar.indexCast v30
  let c0_30 : Index := 0#32
  ![v72.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S2048x2048 : Shape := ⟨2, ![2048, 2048]⟩
abbrev S1x2048x11264 : Shape := ⟨3, ![1, 2048, 11264]⟩
abbrev S3x11264 : Shape := ⟨2, ![3, 11264]⟩
abbrev S1x11264 : Shape := ⟨2, ![1, 11264]⟩
abbrev S2048x11264 : Shape := ⟨2, ![2048, 11264]⟩
abbrev S_ : Shape := ⟨0, ![]⟩
abbrev S2x11264 : Shape := ⟨2, ![2, 11264]⟩
abbrev S2050x11264 : Shape := ⟨2, ![2050, 11264]⟩
abbrev S11264 : Shape := ⟨1, ![11264]⟩
abbrev S2048x5632 : Shape := ⟨2, ![2048, 5632]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x11264, .bf16⟩
  | .hbm, ⟨2, _⟩ => ⟨S3x11264, .f32⟩
  | .hbm, ⟨3, _⟩ => ⟨S1x11264, .f32⟩
  | .hbm, ⟨4, _⟩ => ⟨S2048x2048, .f32⟩
  | .hbm, ⟨5, _⟩ => ⟨S2048x11264, .bf16⟩
  | .hbm, ⟨6, _⟩ => ⟨S2048x11264, .f32⟩
  | .hbm, ⟨7, _⟩ => ⟨S2048x11264, .f32⟩
  | .hbm, ⟨8, _⟩ => ⟨S_, .f32⟩
  | .hbm, ⟨9, _⟩ => ⟨S2x11264, .f32⟩
  | .hbm, ⟨10, _⟩ => ⟨S2050x11264, .f32⟩
  | .hbm, ⟨11, _⟩ => ⟨S1x11264, .f32⟩
  | .hbm, ⟨12, _⟩ => ⟨S11264, .f32⟩
  | .hbm, ⟨13, _⟩ => ⟨S2048x11264, .f32⟩
  | .hbm, ⟨14, _⟩ => ⟨S1x11264, .f32⟩
  | .hbm, ⟨15, _⟩ => ⟨S2048x11264, .f32⟩
  | .hbm, ⟨16, _⟩ => ⟨S2048x11264, .f32⟩
  | .hbm, ⟨17, _⟩ => ⟨S_, .f32⟩
  | .hbm, ⟨18, _⟩ => ⟨S2048x11264, .f32⟩
  | .hbm, ⟨19, _⟩ => ⟨S2048x11264, .f32⟩
  | .hbm, ⟨20, _⟩ => ⟨S1x11264, .f32⟩
  | .hbm, ⟨21, _⟩ => ⟨S11264, .f32⟩
  | .hbm, ⟨22, _⟩ => ⟨S2048x11264, .f32⟩
  | .hbm, ⟨23, _⟩ => ⟨S1x11264, .f32⟩
  | .hbm, ⟨24, _⟩ => ⟨S2048x11264, .f32⟩
  | .hbm, ⟨25, _⟩ => ⟨S2048x11264, .f32⟩
  | .hbm, ⟨26, _⟩ => ⟨S2048x11264, .f32⟩
  | .hbm, ⟨27, _⟩ => ⟨S1x11264, .f32⟩
  | .hbm, ⟨28, _⟩ => ⟨S11264, .f32⟩
  | .hbm, ⟨29, _⟩ => ⟨S2048x11264, .f32⟩
  | .hbm, ⟨30, _⟩ => ⟨S1x11264, .f32⟩
  | .hbm, ⟨31, _⟩ => ⟨S2048x11264, .f32⟩
  | .hbm, ⟨32, _⟩ => ⟨S2048x11264, .f32⟩
  | .hbm, ⟨33, _⟩ => ⟨S2048x11264, .f32⟩
  | .hbm, ⟨34, _⟩ => ⟨S2048x11264, .f32⟩
  | .hbm, ⟨35, _⟩ => ⟨S2048x11264, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S_, .f32⟩
  | .hbm, ⟨43, _⟩ => ⟨S2048x5632, .f32⟩
  | .hbm, ⟨44, _⟩ => ⟨S2048x5632, .f32⟩
  | .hbm, ⟨45, _⟩ => ⟨S_, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .bf16⟩
  | .hbm, ⟨51, _⟩ => ⟨S2048x5632, .bf16⟩
  | .hbm, ⟨52, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel7.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .ne arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel8.lean ====
abbrev S2048x2048 : Shape := ⟨2, ![2048, 2048]⟩
abbrev S1x2048 : Shape := ⟨2, ![1, 2048]⟩
abbrev S2048x256 : Shape := ⟨2, ![2048, 256]⟩
abbrev S1x256 : Shape := ⟨2, ![1, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S1x2048, .f32⟩
  | .hbm, ⟨6, _⟩ => ⟨S1x2048, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2048x2048 : Shape := ⟨2, ![2048, 2048]⟩
abbrev S_ : Shape := ⟨0, ![]⟩
abbrev S1x2048 : Shape := ⟨2, ![1, 2048]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S_, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2048x2048, .bf16⟩
  | .hbm, ⟨34, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel9.lean ====
abbrev S2048x2048 : Shape := ⟨2, ![2048, 2048]⟩
abbrev S2048x6144 : Shape := ⟨2, ![2048, 6144]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x2048 : Shape := ⟨2, ![2048, 2048]⟩
abbrev S1x2048x2048 : Shape := ⟨3, ![1, 2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .local _ .vmem, ⟨0, _⟩ => ⟨S2048x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S_, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x6144 : Shape := ⟨2, ![2048, 6144]⟩
abbrev S1x2048x6144 : Shape := ⟨3, ![1, 2048, 6144]⟩
abbrev S2048x2048 : Shape := ⟨2, ![2048, 2048]⟩
abbrev S2048x512 : Shape := ⟨2, ![2048, 512]⟩
abbrev S1x1024x512 : Shape := ⟨3, ![1, 1024, 512]⟩
abbrev S2048x1024 : Shape := ⟨2, ![2048, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S1x2048x6144, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .f32⟩
  | .local _ .vmem, ⟨5, _⟩ => ⟨S2048x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c12_i32 : BitVec 32 := 12#32
  let v4 : BitVec 1 := Scalar.cmpi .slt arg1 c12_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c11_i32 : BitVec 32 := 11#32
  let v1 : BitVec 32 := Scalar.maxsi c0_i32_0 v0
  let v2 : BitVec 32 := Scalar.minsi c11_i32 v1
  let c0_i32_1 : BitVec 32 := 0#32
  let c0_i32_2 : BitVec 32 := 0#32
  ![c0_i32_1.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S2048x6144 : Shape := ⟨2, ![2048, 6144]⟩
abbrev S1x2048x6144 : Shape := ⟨3, ![1, 2048, 6144]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1x2048x6144, .bf16⟩
  | .hbm, ⟨2, _⟩ => ⟨S_, .f32⟩
  | .hbm, ⟨3, _⟩ => ⟨S2048x2048, .f32⟩
  | .hbm, ⟨4, _⟩ => ⟨S2048x6144, .bf16⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x2048 : Shape := ⟨2, ![2048, 2048]⟩
abbrev S1x2048x4096 : Shape := ⟨3, ![1, 2048, 4096]⟩
abbrev S2048x512 : Shape := ⟨2, ![2048, 512]⟩
abbrev S1x1024x512 : Shape := ⟨3, ![1, 1024, 512]⟩
abbrev S2048x1024 : Shape := ⟨2, ![2048, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x4096, .bf16⟩
  | .hbm, ⟨3, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .f32⟩
  | .local _ .vmem, ⟨7, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let c8_i32 : BitVec 32 := 8#32
  let v9 : BitVec 1 := Scalar.cmpi .slt arg1 c8_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference13Ideal.lean ====
abbrev S2048x2048 : Shape := ⟨2, ![2048, 2048]⟩
abbrev S1x2048x4096 : Shape := ⟨3, ![1, 2048, 4096]⟩
abbrev S_ : Shape := ⟨0, ![]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x4096, .bf16⟩
  | .hbm, ⟨3, _⟩ => ⟨S_, .f32⟩
  | .hbm, ⟨4, _⟩ => ⟨S2048x2048, .f32⟩
  | .hbm, ⟨5, _⟩ => ⟨S2048x4096, .bf16⟩
  | .hbm, ⟨6, _⟩ => ⟨S2048x4096, .f32⟩
  | .hbm, ⟨7, _⟩ => ⟨S2048x4096, .bf16⟩
  | .hbm, ⟨8, _⟩ => ⟨S2048x4096, .f32⟩
  | .hbm, ⟨9, _⟩ => ⟨S2048x4096, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S2048x2048 : Shape := ⟨2, ![2048, 2048]⟩
abbrev S1x2048x6144 : Shape := ⟨3, ![1, 2048, 6144]⟩
abbrev S2048x6144 : Shape := ⟨2, ![2048, 6144]⟩
abbrev S1x2048x512 : Shape := ⟨3, ![1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x2048x6144, .bf16⟩
  | .hbm, ⟨2, _⟩ => ⟨S2048x6144, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S2048x2048 : Shape := ⟨2, ![2048, 2048]⟩
abbrev S1x2048x6144 : Shape := ⟨3, ![1, 2048, 6144]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x6144, .bf16⟩
  | .hbm, ⟨2, _⟩ => ⟨S2048x2048, .f32⟩
  | .hbm, ⟨3, _⟩ => ⟨S2048x6144, .bf16⟩
  | .hbm, ⟨4, _⟩ => ⟨S2048x6144, .f32⟩
  | .hbm, ⟨5, _⟩ => ⟨S2048x6144, .f32⟩
  | .hbm, ⟨6, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S2048x2048 : Shape := ⟨2, ![2048, 2048]⟩
abbrev S1x2048x2048 : Shape := ⟨3, ![1, 2048, 2048]⟩
abbrev S1x2048x512 : Shape := ⟨3, ![1, 2048, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S2048x2048 : Shape := ⟨2, ![2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S2048x2048 : Shape := ⟨2, ![2048, 2048]⟩
abbrev S1x2048x4096 : Shape := ⟨3, ![1, 2048, 4096]⟩
abbrev S1x4096 : Shape := ⟨2, ![1, 4096]⟩
abbrev S1x2048x256 : Shape := ⟨3, ![1, 2048, 256]⟩
abbrev S1x256 : Shape := ⟨2, ![1, 256]⟩
abbrev S2048x256 : Shape := ⟨2, ![2048, 256]⟩

abbrev nBuf : Space → Nat
  | .hbm => 7
  | .vmem => 17
  | .smem => 0
  | _ => 0

abbrev bufTy : (tb : Table) → Fin (tcTables nBuf tb) → BufTy
  | .hbm, ⟨0, _⟩ => ⟨S2048x2048, .bf16⟩
  | .hbm, ⟨1, _⟩ => ⟨S1x2048x4096, .bf16⟩
  | .hbm, ⟨2, _⟩ => ⟨S1x4096, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .f32⟩
  | .local _ .vmem, ⟨16, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S2048x2048 : Shape := ⟨2, ![2048, 2048]⟩
abbrev S1x2048x4096 : Shape := ⟨3, ![1, 2048, 4096]⟩
abbrev S1x4096 : Shape := ⟨2, ![1, 4096]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x4096, .bf16⟩
  | .hbm, ⟨2, _⟩ => ⟨S1x4096, .f32⟩
  | .hbm, ⟨3, _⟩ => ⟨S2048x2048, .f32⟩
  | .hbm, ⟨4, _⟩ => ⟨S2048x2048, .f32⟩
  | .hbm, ⟨5, _⟩ => ⟨S2048x4096, .bf16⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x2048, .f32⟩
  | .hbm, ⟨11, _⟩ => ⟨S2048x2048, .f32⟩
  | .hbm, ⟨12, _⟩ => ⟨S2048x2048, .bf16⟩
  | .hbm, ⟨13, _⟩ => ⟨S2048x2048, .bf16⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel17.lean ====
abbrev S1x2048x1536 : Shape := ⟨3, ![1, 2048, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S1x2048x1536, .f32⟩
  | .hbm, ⟨6, _⟩ => ⟨S1x2048x1536, .f32⟩
  | .hbm, ⟨7, _⟩ => ⟨S1x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S1x2048x1536 : Shape := ⟨3, ![1, 2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S1x2048x1536, .f32⟩
  | .hbm, ⟨4, _⟩ => ⟨S_, .f32⟩
  | .hbm, ⟨5, _⟩ => ⟨S1x2048x1536, .f32⟩
  | .hbm, ⟨6, _⟩ => ⟨S1x2048x1536, .f32⟩
  | .hbm, ⟨7, _⟩ => ⟨S_, .f32⟩
  | .hbm, ⟨8, _⟩ => ⟨S1x2048x1536, .f32⟩
  | .hbm, ⟨9, _⟩ => ⟨S1x2048x1536, .f32⟩
  | .hbm, ⟨10, _⟩ => ⟨S1x2048x1536, .f32⟩
  | .hbm, ⟨11, _⟩ => ⟨S_, .f32⟩
  | .hbm, ⟨12, _⟩ => ⟨S1x2048x1536, .f32⟩
  | .hbm, ⟨13, _⟩ => ⟨S1x2048x1536, .f32⟩
  | .hbm, ⟨14, _⟩ => ⟨S1x2048x1536, .f32⟩
  | .hbm, ⟨15, _⟩ => ⟨S_, .f32⟩
  | .hbm, ⟨16, _⟩ => ⟨S1x2048x1536, .f32⟩
  | .hbm, ⟨17, _⟩ => ⟨S1x2048x1536, .f32⟩
  | .hbm, ⟨18, _⟩ => ⟨S1x2048x1536, .f32⟩
  | .hbm, ⟨19, _⟩ => ⟨S_, .f32⟩
  | .hbm, ⟨20, _⟩ => ⟨S1x2048x1536, .f32⟩
  | .hbm, ⟨21, _⟩ => ⟨S1x2048x1536, .f32⟩
  | .hbm, ⟨22, _⟩ => ⟨S_, .f32⟩
  | .hbm, ⟨23, _⟩ => ⟨S1x2048x1536, .f32⟩
  | .hbm, ⟨24, _⟩ => ⟨S1x2048x1536, .f32⟩
  | .hbm, ⟨25, _⟩ => ⟨S1x2048x1536, .f32⟩
  | .hbm, ⟨26, _⟩ => ⟨S_, .f32⟩
  | .hbm, ⟨27, _⟩ => ⟨S1x2048x1536, .f32⟩
  | .hbm, ⟨28, _⟩ => ⟨S1x2048x1536, .f32⟩
  | .hbm, ⟨29, _⟩ => ⟨S1x2048x1536, .f32⟩
  | .hbm, ⟨30, _⟩ => ⟨S_, .f32⟩
  | .hbm, ⟨31, _⟩ => ⟨S1x2048x1536, .f32⟩
  | .hbm, ⟨32, _⟩ => ⟨S1x2048x1536, .f32⟩
  | .hbm, ⟨33, _⟩ => ⟨S1x2048x1536, .f32⟩
  | .hbm, ⟨34, _⟩ => ⟨S_, .f32⟩
  | .hbm, ⟨35, _⟩ => ⟨S1x2048x1536, .f32⟩
  | .hbm, ⟨36, _⟩ => ⟨S1x2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1x512x2048 : Shape := ⟨3, ![1, 512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1x512x2048 : Shape := ⟨3, ![1, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1x2048x1024 : Shape := ⟨3, ![1, 2048, 1024]⟩
abbrev S1x512x1024 : Shape := ⟨3, ![1, 512, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1x2048x1024 : Shape := ⟨3, ![1, 2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S_, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel22.lean ====
abbrev S4x2048 : Shape := ⟨2, ![4, 2048]⟩
abbrev S2x512 : Shape := ⟨2, ![2, 512]⟩
abbrev S1x128 : Shape := ⟨2, ![1, 128]⟩
abbrev S1x128x64 : Shape := ⟨3, ![1, 128, 64]⟩
abbrev S1x128x64x16 : Shape := ⟨4, ![1, 128, 64, 16]⟩
abbrev S1x128x16x64 : Shape := ⟨4, ![1, 128, 16, 64]⟩
abbrev S1x512 : Shape := ⟨2, ![1, 512]⟩
abbrev S1x1024 : Shape := ⟨2, ![1, 1024]⟩
abbrev S4x3x2816 : Shape := ⟨3, ![4, 3, 2816]⟩
abbrev S4x11264 : Shape := ⟨2, ![4, 11264]⟩
abbrev S8192 : Shape := ⟨1, ![8192]⟩
abbrev S1024 : Shape := ⟨1, ![1024]⟩
abbrev S128 : Shape := ⟨1, ![128]⟩
abbrev S131072 : Shape := ⟨1, ![131072]⟩
abbrev S512 : Shape := ⟨1, ![512]⟩
abbrev S33792 : Shape := ⟨1, ![33792]⟩
abbrev S45056 : Shape := ⟨1, ![45056]⟩
abbrev S594816 : Shape := ⟨1, ![594816]⟩
abbrev S639872 : Shape := ⟨1, ![639872]⟩
abbrev S_ : Shape := ⟨0, ![]⟩
abbrev S647168 : Shape := ⟨1, ![647168]⟩
abbrev S8x632x128 : Shape := ⟨3, ![8, 632, 128]⟩
abbrev S5056x128 : Shape := ⟨2, ![5056, 128]⟩
abbrev S2528x128 : Shape := ⟨2, ![2528, 128]⟩

abbrev nBuf : Space → Nat
  | .hbm => 167
  | .vmem => 14
  | .smem => 0
  | _ => 0

abbrev hbmTy0_0 (i : Nat) : BufTy := match i % 128 with
  | 0 => ⟨S4x2048, .f32⟩
  | 1 => ⟨S4x2048, .f32⟩
  | 2 => ⟨S2x512, .f32⟩
  | 3 => ⟨S2x512, .f32⟩
  | 4 => ⟨S1x128, .f32⟩
  | 5 => ⟨S1x128, .f32⟩
  | 6 => ⟨S1x128x64, .f32⟩
  | 7 => ⟨S1x128x64, .f32⟩
  | 8 => ⟨S1x128, .f32⟩
  | 9 => ⟨S1x128x64x16, .f32⟩
  | 10 => ⟨S1x128x64x16, .f32⟩
  | 11 => ⟨S1x128x16x64, .f32⟩
  | 12 => ⟨S1x128x16x64, .f32⟩
  | 13 => ⟨S1x512, .f32⟩
  | 14 => ⟨S1x1024, .f32⟩
  | 15 => ⟨S4x3x2816, .f32⟩
  | 16 => ⟨S4x11264, .f32⟩
  | 17 => ⟨S4x2048, .f32⟩
  | 18 => ⟨S4x2048, .f32⟩
  | 19 => ⟨S2x512, .f32⟩
  | 20 => ⟨S2x512, .f32⟩
  | 21 => ⟨S1x128, .f32⟩
  | 22 => ⟨S1x128, .f32⟩
  | 23 => ⟨S1x128x64, .f32⟩
  | 24 => ⟨S1x128x64, .f32⟩
  | 25 => ⟨S1x128, .f32⟩
  | 26 => ⟨S1x128x64x16, .f32⟩
  | 27 => ⟨S1x128x64x16, .f32⟩
  | 28 => ⟨S1x128x16x64, .f32⟩
  | 29 => ⟨S1x128x16x64, .f32⟩
  | 30 => ⟨S1x512, .f32⟩
  | 31 => ⟨S1x1024, .f32⟩
  | 32 => ⟨S4x3x2816, .f32⟩
  | 33 => ⟨S4x11264, .f32⟩
  | 34 => ⟨S4x2048, .f32⟩
  | 35 => ⟨S4x2048, .f32⟩
  | 36 => ⟨S2x512, .f32⟩
  | 37 => ⟨S2x512, .f32⟩
  | 38 => ⟨S1x128, .f32⟩
  | 39 => ⟨S1x128, .f32⟩
  | 40 => ⟨S1x128x64, .f32⟩
  | 41 => ⟨S1x128x64, .f32⟩
  | 42 => ⟨S1x128, .f32⟩
  | 43 => ⟨S1x128x64x16, .f32⟩
  | 44 => ⟨S1x128x64x16, .f32⟩
  | 45 => ⟨S1x128x16x64, .f32⟩
  | 46 => ⟨S1x128x16x64, .f32⟩
  | 47 => ⟨S1x512, .f32⟩
  | 48 => ⟨S1x1024, .f32⟩
  | 49 => ⟨S4x3x2816, .f32⟩
  | 50 => ⟨S4x11264, .f32⟩
  | 51 => ⟨S4x2048, .f32⟩
  | 52 => ⟨S4x2048, .f32⟩
  | 53 => ⟨S2x512, .f32⟩
  | 54 => ⟨S2x512, .f32⟩
  | 55 => ⟨S1x128, .f32⟩
  | 56 => ⟨S1x128, .f32⟩
  | 57 => ⟨S1x128x64, .f32⟩
  | 58 => ⟨S1x128x64, .f32⟩
  | 59 => ⟨S1x128, .f32⟩
  | 60 => ⟨S1x128x64x16, .f32⟩
  | 61 => ⟨S1x128x64x16, .f32⟩
  | 62 => ⟨S1x128x16x64, .f32⟩
  | 63 => ⟨S1x128x16x64, .f32⟩
  | 64 => ⟨S1x512, .f32⟩
  | 65 => ⟨S1x1024, .f32⟩
  | 66 => ⟨S4x3x2816, .f32⟩
  | 67 => ⟨S4x11264, .f32⟩
  | 68 => ⟨S8192, .f32⟩
  | 69 => ⟨S8192, .f32⟩
  | 70 => ⟨S1024, .f32⟩
  | 71 => ⟨S1024, .f32⟩
  | 72 => ⟨S128, .f32⟩
  | 73 => ⟨S128, .f32⟩
  | 74 => ⟨S8192, .f32⟩
  | 75 => ⟨S8192, .f32⟩
  | 76 => ⟨S128, .f32⟩
  | 77 => ⟨S131072, .f32⟩
  | 78 => ⟨S131072, .f32⟩
  | 79 => ⟨S131072, .f32⟩
  | 80 => ⟨S131072, .f32⟩
  | 81 => ⟨S512, .f32⟩
  | 82 => ⟨S1024, .f32⟩
  | 83 => ⟨S33792, .f32⟩
  | 84 => ⟨S45056, .f32⟩
  | 85 => ⟨S594816, .f32⟩
  | 86 => ⟨S639872, .f32⟩
  | 87 => ⟨S_, .i32⟩
  | 88 => ⟨S_, .f32⟩
  | 89 => ⟨S647168, .f32⟩
  | 90 => ⟨S8x632x128, .f32⟩
  | 91 => ⟨S5056x128, .f32⟩
  | 92 => ⟨S8192, .f32⟩
  | 93 => ⟨S8192, .f32⟩
  | 94 => ⟨S1024, .f32⟩
  | 95 => ⟨S1024, .f32⟩
  | 96 => ⟨S128, .f32⟩
  | 97 => ⟨S128, .f32⟩
  | 98 => ⟨S8192, .f32⟩
  | 99 => ⟨S8192, .f32⟩
  | 100 => ⟨S128, .f32⟩
  | 101 => ⟨S131072, .f32⟩
  | 102 => ⟨S131072, .f32⟩
  | 103 => ⟨S131072, .f32⟩
  | 104 => ⟨S131072, .f32⟩
  | 105 => ⟨S512, .f32⟩
  | 106 => ⟨S1024, .f32⟩
  | 107 => ⟨S33792, .f32⟩
  | 108 => ⟨S45056, .f32⟩
  | 109 => ⟨S594816, .f32⟩
  | 110 => ⟨S639872, .f32⟩
  | 111 => ⟨S_, .i32⟩
  | 112 => ⟨S_, .f32⟩
  | 113 => ⟨S647168, .f32⟩
  | 114 => ⟨S8x632x128, .f32⟩
  | 115 => ⟨S5056x128, .f32⟩
  | 116 => ⟨S8192, .f32⟩
  | 117 => ⟨S8192, .f32⟩
  | 118 => ⟨S1024, .f32⟩
  | 119 => ⟨S1024, .f32⟩
  | 120 => ⟨S128, .f32⟩
  | 121 => ⟨S128, .f32⟩
  | 122 => ⟨S8192, .f32⟩
  | 123 => ⟨S8192, .f32⟩
  | 124 => ⟨S128, .f32⟩
  | 125 => ⟨S131072, .f32⟩
  | 126 => ⟨S131072, .f32⟩
  | 127 => ⟨S131072, .f32⟩
  | _ => ⟨S4x2048, .f32⟩

abbrev hbmTy0_1 (i : Nat) : BufTy := match i % 128 with
  | 0 => ⟨S131072, .f32⟩
  | 1 => ⟨S512, .f32⟩
  | 2 => ⟨S1024, .f32⟩
  | 3 => ⟨S33792, .f32⟩
  | 4 => ⟨S45056, .f32⟩
  | 5 => ⟨S594816, .f32⟩
  | 6 => ⟨S639872, .f32⟩
  | 7 => ⟨S_, .i32⟩
  | 8 => ⟨S_, .f32⟩
  | 9 => ⟨S647168, .f32⟩
  | 10 => ⟨S8x632x128, .f32⟩
  | 11 => ⟨S5056x128, .f32⟩
  | 12 => ⟨S8192, .f32⟩
  | 13 => ⟨S8192, .f32⟩
  | 14 => ⟨S1024, .f32⟩
  | 15 => ⟨S1024, .f32⟩
  | 16 => ⟨S128, .f32⟩
  | 17 => ⟨S128, .f32⟩
  | 18 => ⟨S8192, .f32⟩
  | 19 => ⟨S8192, .f32⟩
  | 20 => ⟨S128, .f32⟩
  | 21 => ⟨S131072, .f32⟩
  | 22 => ⟨S131072, .f32⟩
  | 23 => ⟨S131072, .f32⟩
  | 24 => ⟨S131072, .f32⟩
  | 25 => ⟨S512, .f32⟩
  | 26 => ⟨S1024, .f32⟩
  | 27 => ⟨S33792, .f32⟩
  | 28 => ⟨S45056, .f32⟩
  | 29 => ⟨S594816, .f32⟩
  | 30 => ⟨S639872, .f32⟩
  | 31 => ⟨S_, .i32⟩
  | 32 => ⟨S_, .f32⟩
  | 33 => ⟨S647168, .f32⟩
  | 34 => ⟨S8x632x128, .f32⟩
  | 35 => ⟨S5056x128, .f32⟩
  | 36 => ⟨S5056x128, .f32⟩
  | 37 => ⟨S5056x128, .f32⟩
  | 38 => ⟨S5056x128, .f32⟩
  | _ => ⟨S4x2048, .f32⟩

abbrev hbmTy (i : Nat) : BufTy := match i / 128 with
  | 0 => hbmTy0_0 i
  | 1 => hbmTy0_1 i
  | _ => ⟨S4x2048, .f32⟩

abbrev bufTy : (tb : Table) → Fin (tcTables nBuf tb) → BufTy
  | .hbm, ⟨i, _⟩ => hbmTy i
  | .local _ .vmem, ⟨0, _⟩ => ⟨S2528x128, .f32⟩
  | .local _ .vmem, ⟨1, _⟩ => ⟨S2528x128, .f32⟩
  | .local _ .vmem, ⟨2, _⟩ => ⟨S2528x128, .f32⟩
  | .local _ .vmem, ⟨3, _⟩ => ⟨S2528x128, .f32⟩
  | .local _ .vmem, ⟨4, _⟩ => ⟨S2528x128, .f32⟩
  | .local _ .vmem, ⟨5, _⟩ => ⟨S2528x128, .f32⟩
  | .local _ .vmem, ⟨6, _⟩ => ⟨S2528x128, .f32⟩
  | .local _ .vmem, ⟨7, _⟩ => ⟨S2528x128, .f32⟩
  | .local _ .vmem, ⟨8, _⟩ => ⟨S2528x128, .f32⟩
  | .local _ .vmem, ⟨9, _⟩ => ⟨S2528x128, .f32⟩
  | .local _ .vmem, ⟨10, _⟩ => ⟨S2528x128, .f32⟩
  | .local _ .vmem, ⟨11, _⟩ => ⟨S2528x128, .f32⟩
  | .local _ .vmem, ⟨12, _⟩ => ⟨S2528x128, .f32⟩
  | .local _ .vmem, ⟨13, _⟩ => ⟨S2528x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_v0 : Ref sig .tc := ⟨.hbm, 68, rfl⟩
abbrev main_v1 : Ref sig .tc := ⟨.hbm, 69, rfl⟩
abbrev main_v2 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_c : Ref sig .tc := ⟨.hbm, 87, rfl⟩
abbrev main_call0_v0 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_c_0 : Ref sig .tc := ⟨.hbm, 111, rfl⟩
abbrev main_call1_v0 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_c_1 : Ref sig .tc := ⟨.hbm, 135, rfl⟩
abbrev main_call2_v0 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_c_2 : Ref sig .tc := ⟨.hbm, 159, rfl⟩
abbrev main_call3_v0 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88_0 : Ref sig .tc := ⟨.hbm, 164, rfl⟩
abbrev main_v88_1 : Ref sig .tc := ⟨.hbm, 165, rfl⟩
abbrev main_v88_2 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2528x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2528x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2528x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2528x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2528x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2528x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S4x2048 : Shape := ⟨2, ![4, 2048]⟩
abbrev S2x512 : Shape := ⟨2, ![2, 512]⟩
abbrev S1x128 : Shape := ⟨2, ![1, 128]⟩
abbrev S1x128x64 : Shape := ⟨3, ![1, 128, 64]⟩
abbrev S1x128x64x16 : Shape := ⟨4, ![1, 128, 64, 16]⟩
abbrev S1x128x16x64 : Shape := ⟨4, ![1, 128, 16, 64]⟩
abbrev S1x512 : Shape := ⟨2, ![1, 512]⟩
abbrev S1x1024 : Shape := ⟨2, ![1, 1024]⟩
abbrev S4x3x2816 : Shape := ⟨3, ![4, 3, 2816]⟩
abbrev S4x11264 : Shape := ⟨2, ![4, 11264]⟩
abbrev S_ : Shape := ⟨0, ![]⟩
abbrev S7296 : Shape := ⟨1, ![7296]⟩
abbrev S8192 : Shape := ⟨1, ![8192]⟩
abbrev S1024 : Shape := ⟨1, ![1024]⟩
abbrev S128 : Shape := ⟨1, ![128]⟩
abbrev S131072 : Shape := ⟨1, ![131072]⟩
abbrev S512 : Shape := ⟨1, ![512]⟩
abbrev S33792 : Shape := ⟨1, ![33792]⟩
abbrev S45056 : Shape := ⟨1, ![45056]⟩
abbrev S594816 : Shape := ⟨1, ![594816]⟩
abbrev S52352 : Shape := ⟨1, ![52352]⟩
abbrev S647168 : Shape := ⟨1, ![647168]⟩
abbrev S5056x128 : Shape := ⟨2, ![5056, 128]⟩

abbrev nBuf : Space → Nat
  | .hbm => 694
  | .vmem => 0
  | .smem => 0
  | _ => 0

abbrev hbmTy0_0 (i : Nat) : BufTy := match i % 128 with
  | 0 => ⟨S4x2048, .f32⟩
  | 1 => ⟨S4x2048, .f32⟩
  | 2 => ⟨S2x512, .f32⟩
  | 3 => ⟨S2x512, .f32⟩
  | 4 => ⟨S1x128, .f32⟩
  | 5 => ⟨S1x128, .f32⟩
  | 6 => ⟨S1x128x64, .f32⟩
  | 7 => ⟨S1x128x64, .f32⟩
  | 8 => ⟨S1x128, .f32⟩
  | 9 => ⟨S1x128x64x16, .f32⟩
  | 10 => ⟨S1x128x64x16, .f32⟩
  | 11 => ⟨S1x128x16x64, .f32⟩
  | 12 => ⟨S1x128x16x64, .f32⟩
  | 13 => ⟨S1x512, .f32⟩
  | 14 => ⟨S1x1024, .f32⟩
  | 15 => ⟨S4x3x2816, .f32⟩
  | 16 => ⟨S4x11264, .f32⟩
  | 17 => ⟨S4x2048, .f32⟩
  | 18 => ⟨S4x2048, .f32⟩
  | 19 => ⟨S2x512, .f32⟩
  | 20 => ⟨S2x512, .f32⟩
  | 21 => ⟨S1x128, .f32⟩
  | 22 => ⟨S1x128, .f32⟩
  | 23 => ⟨S1x128x64, .f32⟩
  | 24 => ⟨S1x128x64, .f32⟩
  | 25 => ⟨S1x128, .f32⟩
  | 26 => ⟨S1x128x64x16, .f32⟩
  | 27 => ⟨S1x128x64x16, .f32⟩
  | 28 => ⟨S1x128x16x64, .f32⟩
  | 29 => ⟨S1x128x16x64, .f32⟩
  | 30 => ⟨S1x512, .f32⟩
  | 31 => ⟨S1x1024, .f32⟩
  | 32 => ⟨S4x3x2816, .f32⟩
  | 33 => ⟨S4x11264, .f32⟩
  | 34 => ⟨S4x2048, .f32⟩
  | 35 => ⟨S4x2048, .f32⟩
  | 36 => ⟨S2x512, .f32⟩
  | 37 => ⟨S2x512, .f32⟩
  | 38 => ⟨S1x128, .f32⟩
  | 39 => ⟨S1x128, .f32⟩
  | 40 => ⟨S1x128x64, .f32⟩
  | 41 => ⟨S1x128x64, .f32⟩
  | 42 => ⟨S1x128, .f32⟩
  | 43 => ⟨S1x128x64x16, .f32⟩
  | 44 => ⟨S1x128x64x16, .f32⟩
  | 45 => ⟨S1x128x16x64, .f32⟩
  | 46 => ⟨S1x128x16x64, .f32⟩
  | 47 => ⟨S1x512, .f32⟩
  | 48 => ⟨S1x1024, .f32⟩
  | 49 => ⟨S4x3x2816, .f32⟩
  | 50 => ⟨S4x11264, .f32⟩
  | 51 => ⟨S4x2048, .f32⟩
  | 52 => ⟨S4x2048, .f32⟩
  | 53 => ⟨S2x512, .f32⟩
  | 54 => ⟨S2x512, .f32⟩
  | 55 => ⟨S1x128, .f32⟩
  | 56 => ⟨S1x128, .f32⟩
  | 57 => ⟨S1x128x64, .f32⟩
  | 58 => ⟨S1x128x64, .f32⟩
  | 59 => ⟨S1x128, .f32⟩
  | 60 => ⟨S1x128x64x16, .f32⟩
  | 61 => ⟨S1x128x64x16, .f32⟩
  | 62 => ⟨S1x128x16x64, .f32⟩
  | 63 => ⟨S1x128x16x64, .f32⟩
  | 64 => ⟨S1x512, .f32⟩
  | 65 => ⟨S1x1024, .f32⟩
  | 66 => ⟨S4x3x2816, .f32⟩
  | 67 => ⟨S4x11264, .f32⟩
  | 68 => ⟨S_, .f32⟩
  | 69 => ⟨S4x2048, .f32⟩
  | 70 => ⟨S4x2048, .f32⟩
  | 71 => ⟨S_, .f32⟩
  | 72 => ⟨S4x2048, .f32⟩
  | 73 => ⟨S4x2048, .f32⟩
  | 74 => ⟨S4x2048, .f32⟩
  | 75 => ⟨S_, .f32⟩
  | 76 => ⟨S4x2048, .f32⟩
  | 77 => ⟨S4x2048, .f32⟩
  | 78 => ⟨S4x2048, .f32⟩
  | 79 => ⟨S_, .f32⟩
  | 80 => ⟨S4x2048, .f32⟩
  | 81 => ⟨S4x2048, .f32⟩
  | 82 => ⟨S4x2048, .f32⟩
  | 83 => ⟨S_, .f32⟩
  | 84 => ⟨S4x2048, .f32⟩
  | 85 => ⟨S4x2048, .f32⟩
  | 86 => ⟨S_, .f32⟩
  | 87 => ⟨S4x2048, .f32⟩
  | 88 => ⟨S4x2048, .f32⟩
  | 89 => ⟨S4x2048, .f32⟩
  | 90 => ⟨S_, .f32⟩
  | 91 => ⟨S4x2048, .f32⟩
  | 92 => ⟨S4x2048, .f32⟩
  | 93 => ⟨S4x2048, .f32⟩
  | 94 => ⟨S_, .f32⟩
  | 95 => ⟨S4x2048, .f32⟩
  | 96 => ⟨S4x2048, .f32⟩
  | 97 => ⟨S4x2048, .f32⟩
  | 98 => ⟨S_, .f32⟩
  | 99 => ⟨S4x2048, .f32⟩
  | 100 => ⟨S4x2048, .f32⟩
  | 101 => ⟨S_, .f32⟩
  | 102 => ⟨S4x2048, .f32⟩
  | 103 => ⟨S4x2048, .f32⟩
  | 104 => ⟨S_, .f32⟩
  | 105 => ⟨S4x2048, .f32⟩
  | 106 => ⟨S4x2048, .f32⟩
  | 107 => ⟨S4x2048, .f32⟩
  | 108 => ⟨S_, .f32⟩
  | 109 => ⟨S4x2048, .f32⟩
  | 110 => ⟨S4x2048, .f32⟩
  | 111 => ⟨S4x2048, .f32⟩
  | 112 => ⟨S_, .f32⟩
  | 113 => ⟨S4x2048, .f32⟩
  | 114 => ⟨S4x2048, .f32⟩
  | 115 => ⟨S4x2048, .f32⟩
  | 116 => ⟨S_, .f32⟩
  | 117 => ⟨S4x2048, .f32⟩
  | 118 => ⟨S4x2048, .f32⟩
  | 119 => ⟨S_, .f32⟩
  | 120 => ⟨S4x2048, .f32⟩
  | 121 => ⟨S4x2048, .f32⟩
  | 122 => ⟨S4x2048, .f32⟩
  | 123 => ⟨S_, .f32⟩
  | 124 => ⟨S4x2048, .f32⟩
  | 125 => ⟨S4x2048, .f32⟩
  | 126 => ⟨S4x2048, .f32⟩
  | 127 => ⟨S_, .f32⟩
  | _ => ⟨S4x2048, .f32⟩

abbrev hbmTy0_1 (i : Nat) : BufTy := match i % 128 with
  | 0 => ⟨S4x2048, .f32⟩
  | 1 => ⟨S4x2048, .f32⟩
  | 2 => ⟨S4x2048, .f32⟩
  | 3 => ⟨S_, .f32⟩
  | 4 => ⟨S4x2048, .f32⟩
  | 5 => ⟨S4x2048, .f32⟩
  | 6 => ⟨S_, .f32⟩
  | 7 => ⟨S2x512, .f32⟩
  | 8 => ⟨S2x512, .f32⟩
  | 9 => ⟨S_, .f32⟩
  | 10 => ⟨S2x512, .f32⟩
  | 11 => ⟨S2x512, .f32⟩
  | 12 => ⟨S2x512, .f32⟩
  | 13 => ⟨S_, .f32⟩
  | 14 => ⟨S2x512, .f32⟩
  | 15 => ⟨S2x512, .f32⟩
  | 16 => ⟨S2x512, .f32⟩
  | 17 => ⟨S_, .f32⟩
  | 18 => ⟨S2x512, .f32⟩
  | 19 => ⟨S2x512, .f32⟩
  | 20 => ⟨S2x512, .f32⟩
  | 21 => ⟨S_, .f32⟩
  | 22 => ⟨S2x512, .f32⟩
  | 23 => ⟨S2x512, .f32⟩
  | 24 => ⟨S_, .f32⟩
  | 25 => ⟨S2x512, .f32⟩
  | 26 => ⟨S2x512, .f32⟩
  | 27 => ⟨S2x512, .f32⟩
  | 28 => ⟨S_, .f32⟩
  | 29 => ⟨S2x512, .f32⟩
  | 30 => ⟨S2x512, .f32⟩
  | 31 => ⟨S2x512, .f32⟩
  | 32 => ⟨S_, .f32⟩
  | 33 => ⟨S2x512, .f32⟩
  | 34 => ⟨S2x512, .f32⟩
  | 35 => ⟨S2x512, .f32⟩
  | 36 => ⟨S_, .f32⟩
  | 37 => ⟨S2x512, .f32⟩
  | 38 => ⟨S2x512, .f32⟩
  | 39 => ⟨S_, .f32⟩
  | 40 => ⟨S2x512, .f32⟩
  | 41 => ⟨S2x512, .f32⟩
  | 42 => ⟨S_, .f32⟩
  | 43 => ⟨S2x512, .f32⟩
  | 44 => ⟨S2x512, .f32⟩
  | 45 => ⟨S2x512, .f32⟩
  | 46 => ⟨S_, .f32⟩
  | 47 => ⟨S2x512, .f32⟩
  | 48 => ⟨S2x512, .f32⟩
  | 49 => ⟨S2x512, .f32⟩
  | 50 => ⟨S_, .f32⟩
  | 51 => ⟨S2x512, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S_, .f32⟩
  | 58 => ⟨S2x512, .f32⟩
  | 59 => ⟨S2x512, .f32⟩
  | 60 => ⟨S2x512, .f32⟩
  | 61 => ⟨S_, .f32⟩
  | 62 => ⟨S2x512, .f32⟩
  | 63 => ⟨S2x512, .f32⟩
  | 64 => ⟨S2x512, .f32⟩
  | 65 => ⟨S_, .f32⟩
  | 66 => ⟨S2x512, .f32⟩
  | 67 => ⟨S2x512, .f32⟩
  | 68 => ⟨S2x512, .f32⟩
  | 69 => ⟨S_, .f32⟩
  | 70 => ⟨S2x512, .f32⟩
  | 71 => ⟨S2x512, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S_, .f32⟩
  | _ => ⟨S4x2048, .f32⟩

abbrev hbmTy0_2 (i : Nat) : BufTy := match i % 128 with
  | 0 => ⟨S1x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S_, .f32⟩
  | 11 => ⟨S1x128x64, .f32⟩
  | 12 => ⟨S1x128x64, .f32⟩
  | 13 => ⟨S_, .f32⟩
  | 14 => ⟨S1x128x64, .f32⟩
  | 15 => ⟨S1x128x64, .f32⟩
  | 16 => ⟨S1x128x64, .f32⟩
  | 17 => ⟨S_, .f32⟩
  | 18 => ⟨S1x128x64, .f32⟩
  | 19 => ⟨S1x128x64, .f32⟩
  | 20 => ⟨S1x128x64, .f32⟩
  | 21 => ⟨S_, .f32⟩
  | 22 => ⟨S1x128x64, .f32⟩
  | 23 => ⟨S1x128x64, .f32⟩
  | 24 => ⟨S1x128x64, .f32⟩
  | 25 => ⟨S_, .f32⟩
  | 26 => ⟨S1x128x64, .f32⟩
  | 27 => ⟨S1x128x64, .f32⟩
  | 28 => ⟨S_, .f32⟩
  | 29 => ⟨S1x128x64, .f32⟩
  | 30 => ⟨S1x128x64, .f32⟩
  | 31 => ⟨S1x128x64, .f32⟩
  | 32 => ⟨S_, .f32⟩
  | 33 => ⟨S1x128x64, .f32⟩
  | 34 => ⟨S1x128x64, .f32⟩
  | 35 => ⟨S1x128x64, .f32⟩
  | 36 => ⟨S_, .f32⟩
  | 37 => ⟨S1x128x64, .f32⟩
  | 38 => ⟨S1x128x64, .f32⟩
  | 39 => ⟨S1x128x64, .f32⟩
  | 40 => ⟨S_, .f32⟩
  | 41 => ⟨S1x128x64, .f32⟩
  | 42 => ⟨S1x128x64, .f32⟩
  | 43 => ⟨S_, .f32⟩
  | 44 => ⟨S1x128x64, .f32⟩
  | 45 => ⟨S1x128x64, .f32⟩
  | 46 => ⟨S_, .f32⟩
  | 47 => ⟨S1x128x64, .f32⟩
  | 48 => ⟨S1x128x64, .f32⟩
  | 49 => ⟨S1x128x64, .f32⟩
  | 50 => ⟨S_, .f32⟩
  | 51 => ⟨S1x128x64, .f32⟩
  | 52 => ⟨S1x128x64, .f32⟩
  | 53 => ⟨S1x128x64, .f32⟩
  | 54 => ⟨S_, .f32⟩
  | 55 => ⟨S1x128x64, .f32⟩
  | 56 => ⟨S1x128x64, .f32⟩
  | 57 => ⟨S1x128x64, .f32⟩
  | 58 => ⟨S_, .f32⟩
  | 59 => ⟨S1x128x64, .f32⟩
  | 60 => ⟨S1x128x64, .f32⟩
  | 61 => ⟨S_, .f32⟩
  | 62 => ⟨S1x128x64, .f32⟩
  | 63 => ⟨S1x128x64, .f32⟩
  | 64 => ⟨S1x128x64, .f32⟩
  | 65 => ⟨S_, .f32⟩
  | 66 => ⟨S1x128x64, .f32⟩
  | 67 => ⟨S1x128x64, .f32⟩
  | 68 => ⟨S1x128x64, .f32⟩
  | 69 => ⟨S_, .f32⟩
  | 70 => ⟨S1x128x64, .f32⟩
  | 71 => ⟨S1x128x64, .f32⟩
  | 72 => ⟨S1x128x64, .f32⟩
  | 73 => ⟨S_, .f32⟩
  | 74 => ⟨S1x128x64, .f32⟩
  | 75 => ⟨S1x128x64, .f32⟩
  | 76 => ⟨S_, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S_, .f32⟩
  | 110 => ⟨S1x128x64x16, .f32⟩
  | 111 => ⟨S1x128x64x16, .f32⟩
  | 112 => ⟨S_, .f32⟩
  | 113 => ⟨S1x128x64x16, .f32⟩
  | 114 => ⟨S1x128x64x16, .f32⟩
  | 115 => ⟨S1x128x64x16, .f32⟩
  | 116 => ⟨S_, .f32⟩
  | 117 => ⟨S1x128x64x16, .f32⟩
  | 118 => ⟨S1x128x64x16, .f32⟩
  | 119 => ⟨S1x128x64x16, .f32⟩
  | 120 => ⟨S_, .f32⟩
  | 121 => ⟨S1x128x64x16, .f32⟩
  | 122 => ⟨S1x128x64x16, .f32⟩
  | 123 => ⟨S1x128x64x16, .f32⟩
  | 124 => ⟨S_, .f32⟩
  | 125 => ⟨S1x128x64x16, .f32⟩
  | 126 => ⟨S1x128x64x16, .f32⟩
  | 127 => ⟨S_, .f32⟩
  | _ => ⟨S4x2048, .f32⟩

abbrev hbmTy0_3 (i : Nat) : BufTy := match i % 128 with
  | 0 => ⟨S1x128x64x16, .f32⟩
  | 1 => ⟨S1x128x64x16, .f32⟩
  | 2 => ⟨S1x128x64x16, .f32⟩
  | 3 => ⟨S_, .f32⟩
  | 4 => ⟨S1x128x64x16, .f32⟩
  | 5 => ⟨S1x128x64x16, .f32⟩
  | 6 => ⟨S1x128x64x16, .f32⟩
  | 7 => ⟨S_, .f32⟩
  | 8 => ⟨S1x128x64x16, .f32⟩
  | 9 => ⟨S1x128x64x16, .f32⟩
  | 10 => ⟨S1x128x64x16, .f32⟩
  | 11 => ⟨S_, .f32⟩
  | 12 => ⟨S1x128x64x16, .f32⟩
  | 13 => ⟨S1x128x64x16, .f32⟩
  | 14 => ⟨S_, .f32⟩
  | 15 => ⟨S1x128x64x16, .f32⟩
  | 16 => ⟨S1x128x64x16, .f32⟩
  | 17 => ⟨S_, .f32⟩
  | 18 => ⟨S1x128x64x16, .f32⟩
  | 19 => ⟨S1x128x64x16, .f32⟩
  | 20 => ⟨S1x128x64x16, .f32⟩
  | 21 => ⟨S_, .f32⟩
  | 22 => ⟨S1x128x64x16, .f32⟩
  | 23 => ⟨S1x128x64x16, .f32⟩
  | 24 => ⟨S1x128x64x16, .f32⟩
  | 25 => ⟨S_, .f32⟩
  | 26 => ⟨S1x128x64x16, .f32⟩
  | 27 => ⟨S1x128x64x16, .f32⟩
  | 28 => ⟨S1x128x64x16, .f32⟩
  | 29 => ⟨S_, .f32⟩
  | 30 => ⟨S1x128x64x16, .f32⟩
  | 31 => ⟨S1x128x64x16, .f32⟩
  | 32 => ⟨S_, .f32⟩
  | 33 => ⟨S1x128x64x16, .f32⟩
  | 34 => ⟨S1x128x64x16, .f32⟩
  | 35 => ⟨S1x128x64x16, .f32⟩
  | 36 => ⟨S_, .f32⟩
  | 37 => ⟨S1x128x64x16, .f32⟩
  | 38 => ⟨S1x128x64x16, .f32⟩
  | 39 => ⟨S1x128x64x16, .f32⟩
  | 40 => ⟨S_, .f32⟩
  | 41 => ⟨S1x128x64x16, .f32⟩
  | 42 => ⟨S1x128x64x16, .f32⟩
  | 43 => ⟨S1x128x64x16, .f32⟩
  | 44 => ⟨S_, .f32⟩
  | 45 => ⟨S1x128x64x16, .f32⟩
  | 46 => ⟨S1x128x64x16, .f32⟩
  | 47 => ⟨S_, .f32⟩
  | 48 => ⟨S1x128x16x64, .f32⟩
  | 49 => ⟨S1x128x16x64, .f32⟩
  | 50 => ⟨S_, .f32⟩
  | 51 => ⟨S1x128x16x64, .f32⟩
  | 52 => ⟨S1x128x16x64, .f32⟩
  | 53 => ⟨S1x128x16x64, .f32⟩
  | 54 => ⟨S_, .f32⟩
  | 55 => ⟨S1x128x16x64, .f32⟩
  | 56 => ⟨S1x128x16x64, .f32⟩
  | 57 => ⟨S1x128x16x64, .f32⟩
  | 58 => ⟨S_, .f32⟩
  | 59 => ⟨S1x128x16x64, .f32⟩
  | 60 => ⟨S1x128x16x64, .f32⟩
  | 61 => ⟨S1x128x16x64, .f32⟩
  | 62 => ⟨S_, .f32⟩
  | 63 => ⟨S1x128x16x64, .f32⟩
  | 64 => ⟨S1x128x16x64, .f32⟩
  | 65 => ⟨S_, .f32⟩
  | 66 => ⟨S1x128x16x64, .f32⟩
  | 67 => ⟨S1x128x16x64, .f32⟩
  | 68 => ⟨S1x128x16x64, .f32⟩
  | 69 => ⟨S_, .f32⟩
  | 70 => ⟨S1x128x16x64, .f32⟩
  | 71 => ⟨S1x128x16x64, .f32⟩
  | 72 => ⟨S1x128x16x64, .f32⟩
  | 73 => ⟨S_, .f32⟩
  | 74 => ⟨S1x128x16x64, .f32⟩
  | 75 => ⟨S1x128x16x64, .f32⟩
  | 76 => ⟨S1x128x16x64, .f32⟩
  | 77 => ⟨S_, .f32⟩
  | 78 => ⟨S1x128x16x64, .f32⟩
  | 79 => ⟨S1x128x16x64, .f32⟩
  | 80 => ⟨S_, .f32⟩
  | 81 => ⟨S1x128x16x64, .f32⟩
  | 82 => ⟨S1x128x16x64, .f32⟩
  | 83 => ⟨S_, .f32⟩
  | 84 => ⟨S1x128x16x64, .f32⟩
  | 85 => ⟨S1x128x16x64, .f32⟩
  | 86 => ⟨S1x128x16x64, .f32⟩
  | 87 => ⟨S_, .f32⟩
  | 88 => ⟨S1x128x16x64, .f32⟩
  | 89 => ⟨S1x128x16x64, .f32⟩
  | 90 => ⟨S1x128x16x64, .f32⟩
  | 91 => ⟨S_, .f32⟩
  | 92 => ⟨S1x128x16x64, .f32⟩
  | 93 => ⟨S1x128x16x64, .f32⟩
  | 94 => ⟨S1x128x16x64, .f32⟩
  | 95 => ⟨S_, .f32⟩
  | 96 => ⟨S1x128x16x64, .f32⟩
  | 97 => ⟨S1x128x16x64, .f32⟩
  | 98 => ⟨S_, .f32⟩
  | 99 => ⟨S1x128x16x64, .f32⟩
  | 100 => ⟨S1x128x16x64, .f32⟩
  | 101 => ⟨S1x128x16x64, .f32⟩
  | 102 => ⟨S_, .f32⟩
  | 103 => ⟨S1x128x16x64, .f32⟩
  | 104 => ⟨S1x128x16x64, .f32⟩
  | 105 => ⟨S1x128x16x64, .f32⟩
  | 106 => ⟨S_, .f32⟩
  | 107 => ⟨S1x128x16x64, .f32⟩
  | 108 => ⟨S1x128x16x64, .f32⟩
  | 109 => ⟨S1x128x16x64, .f32⟩
  | 110 => ⟨S_, .f32⟩
  | 111 => ⟨S1x128x16x64, .f32⟩
  | 112 => ⟨S1x128x16x64, .f32⟩
  | 113 => ⟨S_, .f32⟩
  | 114 => ⟨S1x512, .f32⟩
  | 115 => ⟨S1x512, .f32⟩
  | 116 => ⟨S_, .f32⟩
  | 117 => ⟨S1x512, .f32⟩
  | 118 => ⟨S1x512, .f32⟩
  | 119 => ⟨S1x512, .f32⟩
  | 120 => ⟨S_, .f32⟩
  | 121 => ⟨S1x512, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S1x512, .f32⟩
  | _ => ⟨S4x2048, .f32⟩

abbrev hbmTy0_4 (i : Nat) : BufTy := match i % 128 with
  | 0 => ⟨S_, .f32⟩
  | 1 => ⟨S1x512, .f32⟩
  | 2 => ⟨S1x512, .f32⟩
  | 3 => ⟨S_, .f32⟩
  | 4 => ⟨S1x512, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S1x512, .f32⟩
  | 11 => ⟨S_, .f32⟩
  | 12 => ⟨S1x512, .f32⟩
  | 13 => ⟨S1x512, .f32⟩
  | 14 => ⟨S1x512, .f32⟩
  | 15 => ⟨S_, .f32⟩
  | 16 => ⟨S1x512, .f32⟩
  | 17 => ⟨S1x512, .f32⟩
  | 18 => ⟨S_, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S4x3x2816, .f32⟩
  | 53 => ⟨S4x3x2816, .f32⟩
  | 54 => ⟨S_, .f32⟩
  | 55 => ⟨S4x3x2816, .f32⟩
  | 56 => ⟨S4x3x2816, .f32⟩
  | 57 => ⟨S4x3x2816, .f32⟩
  | 58 => ⟨S_, .f32⟩
  | 59 => ⟨S4x3x2816, .f32⟩
  | 60 => ⟨S4x3x2816, .f32⟩
  | 61 => ⟨S4x3x2816, .f32⟩
  | 62 => ⟨S_, .f32⟩
  | 63 => ⟨S4x3x2816, .f32⟩
  | 64 => ⟨S4x3x2816, .f32⟩
  | 65 => ⟨S4x3x2816, .f32⟩
  | 66 => ⟨S_, .f32⟩
  | 67 => ⟨S4x3x2816, .f32⟩
  | 68 => ⟨S4x3x2816, .f32⟩
  | 69 => ⟨S_, .f32⟩
  | 70 => ⟨S4x3x2816, .f32⟩
  | 71 => ⟨S4x3x2816, .f32⟩
  | 72 => ⟨S4x3x2816, .f32⟩
  | 73 => ⟨S_, .f32⟩
  | 74 => ⟨S4x3x2816, .f32⟩
  | 75 => ⟨S4x3x2816, .f32⟩
  | 76 => ⟨S4x3x2816, .f32⟩
  | 77 => ⟨S_, .f32⟩
  | 78 => ⟨S4x3x2816, .f32⟩
  | 79 => ⟨S4x3x2816, .f32⟩
  | 80 => ⟨S4x3x2816, .f32⟩
  | 81 => ⟨S_, .f32⟩
  | 82 => ⟨S4x3x2816, .f32⟩
  | 83 => ⟨S4x3x2816, .f32⟩
  | 84 => ⟨S_, .f32⟩
  | 85 => ⟨S4x11264, .f32⟩
  | 86 => ⟨S4x11264, .f32⟩
  | 87 => ⟨S_, .f32⟩
  | 88 => ⟨S4x11264, .f32⟩
  | 89 => ⟨S4x11264, .f32⟩
  | 90 => ⟨S4x11264, .f32⟩
  | 91 => ⟨S_, .f32⟩
  | 92 => ⟨S4x11264, .f32⟩
  | 93 => ⟨S4x11264, .f32⟩
  | 94 => ⟨S4x11264, .f32⟩
  | 95 => ⟨S_, .f32⟩
  | 96 => ⟨S4x11264, .f32⟩
  | 97 => ⟨S4x11264, .f32⟩
  | 98 => ⟨S4x11264, .f32⟩
  | 99 => ⟨S_, .f32⟩
  | 100 => ⟨S4x11264, .f32⟩
  | 101 => ⟨S4x11264, .f32⟩
  | 102 => ⟨S_, .f32⟩
  | 103 => ⟨S4x11264, .f32⟩
  | 104 => ⟨S4x11264, .f32⟩
  | 105 => ⟨S4x11264, .f32⟩
  | 106 => ⟨S_, .f32⟩
  | 107 => ⟨S4x11264, .f32⟩
  | 108 => ⟨S4x11264, .f32⟩
  | 109 => ⟨S4x11264, .f32⟩
  | 110 => ⟨S_, .f32⟩
  | 111 => ⟨S4x11264, .f32⟩
  | 112 => ⟨S4x11264, .f32⟩
  | 113 => ⟨S4x11264, .f32⟩
  | 114 => ⟨S_, .f32⟩
  | 115 => ⟨S4x11264, .f32⟩
  | 116 => ⟨S4x11264, .f32⟩
  | 117 => ⟨S_, .f32⟩
  | 118 => ⟨S7296, .f32⟩
  | 119 => ⟨S8192, .f32⟩
  | 120 => ⟨S8192, .f32⟩
  | 121 => ⟨S1024, .f32⟩
  | 122 => ⟨S1024, .f32⟩
  | 123 => ⟨S128, .f32⟩
  | 124 => ⟨S128, .f32⟩
  | 125 => ⟨S8192, .f32⟩
  | 126 => ⟨S8192, .f32⟩
  | 127 => ⟨S128, .f32⟩
  | _ => ⟨S4x2048, .f32⟩

abbrev hbmTy0_5 (i : Nat) : BufTy := match i % 128 with
  | 0 => ⟨S131072, .f32⟩
  | 1 => ⟨S131072, .f32⟩
  | 2 => ⟨S131072, .f32⟩
  | 3 => ⟨S131072, .f32⟩
  | 4 => ⟨S512, .f32⟩
  | 5 => ⟨S1024, .f32⟩
  | 6 => ⟨S33792, .f32⟩
  | 7 => ⟨S45056, .f32⟩
  | 8 => ⟨S594816, .f32⟩
  | 9 => ⟨S52352, .f32⟩
  | 10 => ⟨S647168, .f32⟩
  | 11 => ⟨S5056x128, .f32⟩
  | 12 => ⟨S8192, .f32⟩
  | 13 => ⟨S8192, .f32⟩
  | 14 => ⟨S1024, .f32⟩
  | 15 => ⟨S1024, .f32⟩
  | 16 => ⟨S128, .f32⟩
  | 17 => ⟨S128, .f32⟩
  | 18 => ⟨S8192, .f32⟩
  | 19 => ⟨S8192, .f32⟩
  | 20 => ⟨S128, .f32⟩
  | 21 => ⟨S131072, .f32⟩
  | 22 => ⟨S131072, .f32⟩
  | 23 => ⟨S131072, .f32⟩
  | 24 => ⟨S131072, .f32⟩
  | 25 => ⟨S512, .f32⟩
  | 26 => ⟨S1024, .f32⟩
  | 27 => ⟨S33792, .f32⟩
  | 28 => ⟨S45056, .f32⟩
  | 29 => ⟨S594816, .f32⟩
  | 30 => ⟨S52352, .f32⟩
  | 31 => ⟨S647168, .f32⟩
  | 32 => ⟨S5056x128, .f32⟩
  | 33 => ⟨S8192, .f32⟩
  | 34 => ⟨S8192, .f32⟩
  | 35 => ⟨S1024, .f32⟩
  | 36 => ⟨S1024, .f32⟩
  | 37 => ⟨S128, .f32⟩
  | 38 => ⟨S128, .f32⟩
  | 39 => ⟨S8192, .f32⟩
  | 40 => ⟨S8192, .f32⟩
  | 41 => ⟨S128, .f32⟩
  | 42 => ⟨S131072, .f32⟩
  | 43 => ⟨S131072, .f32⟩
  | 44 => ⟨S131072, .f32⟩
  | 45 => ⟨S131072, .f32⟩
  | 46 => ⟨S512, .f32⟩
  | 47 => ⟨S1024, .f32⟩
  | 48 => ⟨S33792, .f32⟩
  | 49 => ⟨S45056, .f32⟩
  | 50 => ⟨S594816, .f32⟩
  | 51 => ⟨S52352, .f32⟩
  | 52 => ⟨S647168, .f32⟩
  | 53 => ⟨S5056x128, .f32⟩
  | _ => ⟨S4x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_cst : Ref sig .tc := ⟨.hbm, 68, rfl⟩
abbrev main_v0 : Ref sig .tc := ⟨.hbm, 69, rfl⟩
abbrev main_v1 : Ref sig .tc := ⟨.hbm, 70, rfl⟩
abbrev main_cst_0 : Ref sig .tc := ⟨.hbm, 71, rfl⟩
abbrev main_v2 : Ref sig .tc := ⟨.hbm, 72, rfl⟩
abbrev main_v3 : Ref sig .tc := ⟨.hbm, 73, rfl⟩
abbrev main_v4 : Ref sig .tc := ⟨.hbm, 74, rfl⟩
abbrev main_cst_1 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_cst_2 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_cst_3 : Ref sig .tc := ⟨.hbm, 83, rfl⟩
abbrev main_v11 : Ref sig .tc := ⟨.hbm, 84, rfl⟩
abbrev main_v12 : Ref sig .tc := ⟨.hbm, 85, rfl⟩
abbrev main_cst_4 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_cst_5 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_cst_6 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_cst_7 : Ref sig .tc := ⟨.hbm, 98, rfl⟩
abbrev main_v22 : Ref sig .tc := ⟨.hbm, 99, rfl⟩
abbrev main_v23 : Ref sig .tc := ⟨.hbm, 100, rfl⟩
abbrev main_cst_8 : Ref sig .tc := ⟨.hbm, 101, rfl⟩
abbrev main_v24 : Ref sig .tc := ⟨.hbm, 102, rfl⟩
abbrev main_v25 : Ref sig .tc := ⟨.hbm, 103, rfl⟩
abbrev main_cst_9 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_cst_10 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_11 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_cst_12 : Ref sig .tc := ⟨.hbm, 116, rfl⟩
abbrev main_v35 : Ref sig .tc := ⟨.hbm, 117, rfl⟩
abbrev main_v36 : Ref sig .tc := ⟨.hbm, 118, rfl⟩
abbrev main_cst_13 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_cst_14 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_cst_15 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_cst_16 : Ref sig .tc := ⟨.hbm, 131, rfl⟩
abbrev main_v46 : Ref sig .tc := ⟨.hbm, 132, rfl⟩
abbrev main_v47 : Ref sig .tc := ⟨.hbm, 133, rfl⟩
abbrev main_cst_17 : Ref sig .tc := ⟨.hbm, 134, rfl⟩
abbrev main_v48 : Ref sig .tc := ⟨.hbm, 135, rfl⟩
abbrev main_v49 : Ref sig .tc := ⟨.hbm, 136, rfl⟩
abbrev main_cst_18 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_cst_19 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_cst_20 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_cst_21 : Ref sig .tc := ⟨.hbm, 149, rfl⟩
abbrev main_v59 : Ref sig .tc := ⟨.hbm, 150, rfl⟩
abbrev main_v60 : Ref sig .tc := ⟨.hbm, 151, rfl⟩
abbrev main_cst_22 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_cst_23 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_cst_24 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_cst_25 : Ref sig .tc := ⟨.hbm, 164, rfl⟩
abbrev main_v70 : Ref sig .tc := ⟨.hbm, 165, rfl⟩
abbrev main_v71 : Ref sig .tc := ⟨.hbm, 166, rfl⟩
abbrev main_cst_26 : Ref sig .tc := ⟨.hbm, 167, rfl⟩
abbrev main_v72 : Ref sig .tc := ⟨.hbm, 168, rfl⟩
abbrev main_v73 : Ref sig .tc := ⟨.hbm, 169, rfl⟩
abbrev main_cst_27 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_cst_28 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_cst_29 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_cst_30 : Ref sig .tc := ⟨.hbm, 182, rfl⟩
abbrev main_v83 : Ref sig .tc := ⟨.hbm, 183, rfl⟩
abbrev main_v84 : Ref sig .tc := ⟨.hbm, 184, rfl⟩
abbrev main_cst_31 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_cst_32 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_cst_33 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_cst_34 : Ref sig .tc := ⟨.hbm, 197, rfl⟩
abbrev main_v94 : Ref sig .tc := ⟨.hbm, 198, rfl⟩
abbrev main_v95 : Ref sig .tc := ⟨.hbm, 199, rfl⟩
abbrev main_cst_35 : Ref sig .tc := ⟨.hbm, 200, rfl⟩
abbrev main_v96 : Ref sig .tc := ⟨.hbm, 201, rfl⟩
abbrev main_v97 : Ref sig .tc := ⟨.hbm, 202, rfl⟩
abbrev main_cst_36 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_cst_37 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_cst_38 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_cst_39 : Ref sig .tc := ⟨.hbm, 215, rfl⟩
abbrev main_v107 : Ref sig .tc := ⟨.hbm, 216, rfl⟩
abbrev main_v108 : Ref sig .tc := ⟨.hbm, 217, rfl⟩
abbrev main_cst_40 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_cst_41 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_cst_42 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_cst_43 : Ref sig .tc := ⟨.hbm, 230, rfl⟩
abbrev main_v118 : Ref sig .tc := ⟨.hbm, 231, rfl⟩
abbrev main_v119 : Ref sig .tc := ⟨.hbm, 232, rfl⟩
abbrev main_cst_44 : Ref sig .tc := ⟨.hbm, 233, rfl⟩
abbrev main_v120 : Ref sig .tc := ⟨.hbm, 234, rfl⟩
abbrev main_v121 : Ref sig .tc := ⟨.hbm, 235, rfl⟩
abbrev main_cst_45 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_cst_46 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_cst_47 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_cst_48 : Ref sig .tc := ⟨.hbm, 248, rfl⟩
abbrev main_v131 : Ref sig .tc := ⟨.hbm, 249, rfl⟩
abbrev main_v132 : Ref sig .tc := ⟨.hbm, 250, rfl⟩
abbrev main_cst_49 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_cst_50 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_cst_51 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_cst_52 : Ref sig .tc := ⟨.hbm, 263, rfl⟩
abbrev main_v142 : Ref sig .tc := ⟨.hbm, 264, rfl⟩
abbrev main_v143 : Ref sig .tc := ⟨.hbm, 265, rfl⟩
abbrev main_cst_53 : Ref sig .tc := ⟨.hbm, 266, rfl⟩
abbrev main_v144 : Ref sig .tc := ⟨.hbm, 267, rfl⟩
abbrev main_v145 : Ref sig .tc := ⟨.hbm, 268, rfl⟩
abbrev main_cst_54 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_cst_55 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_cst_56 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_cst_57 : Ref sig .tc := ⟨.hbm, 281, rfl⟩
abbrev main_v155 : Ref sig .tc := ⟨.hbm, 282, rfl⟩
abbrev main_v156 : Ref sig .tc := ⟨.hbm, 283, rfl⟩
abbrev main_cst_58 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_cst_59 : Ref sig .tc := ⟨.hbm, 288, rfl⟩
abbrev main_v160 : Ref sig .tc := ⟨.hbm, 289, rfl⟩
abbrev main_v161 : Ref sig .tc := ⟨.hbm, 290, rfl⟩
abbrev main_v162 : Ref sig .tc := ⟨.hbm, 291, rfl⟩
abbrev main_cst_60 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_cst_61 : Ref sig .tc := ⟨.hbm, 296, rfl⟩
abbrev main_v166 : Ref sig .tc := ⟨.hbm, 297, rfl⟩
abbrev main_v167 : Ref sig .tc := ⟨.hbm, 298, rfl⟩
abbrev main_cst_62 : Ref sig .tc := ⟨.hbm, 299, rfl⟩
abbrev main_v168 : Ref sig .tc := ⟨.hbm, 300, rfl⟩
abbrev main_v169 : Ref sig .tc := ⟨.hbm, 301, rfl⟩
abbrev main_cst_63 : Ref sig .tc := ⟨.hbm, 302, rfl⟩
abbrev main_v170 : Ref sig .tc := ⟨.hbm, 303, rfl⟩
abbrev main_v171 : Ref sig .tc := ⟨.hbm, 304, rfl⟩
abbrev main_v172 : Ref sig .tc := ⟨.hbm, 305, rfl⟩
abbrev main_cst_64 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_cst_65 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_cst_66 : Ref sig .tc := ⟨.hbm, 314, rfl⟩
abbrev main_v179 : Ref sig .tc := ⟨.hbm, 315, rfl⟩
abbrev main_v180 : Ref sig .tc := ⟨.hbm, 316, rfl⟩
abbrev main_cst_67 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_cst_68 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_cst_69 : Ref sig .tc := ⟨.hbm, 325, rfl⟩
abbrev main_v187 : Ref sig .tc := ⟨.hbm, 326, rfl⟩
abbrev main_v188 : Ref sig .tc := ⟨.hbm, 327, rfl⟩
abbrev main_v189 : Ref sig .tc := ⟨.hbm, 328, rfl⟩
abbrev main_cst_70 : Ref sig .tc := ⟨.hbm, 329, rfl⟩
abbrev main_v190 : Ref sig .tc := ⟨.hbm, 330, rfl⟩
abbrev main_v191 : Ref sig .tc := ⟨.hbm, 331, rfl⟩
abbrev main_cst_71 : Ref sig .tc := ⟨.hbm, 332, rfl⟩
abbrev main_v192 : Ref sig .tc := ⟨.hbm, 333, rfl⟩
abbrev main_v193 : Ref sig .tc := ⟨.hbm, 334, rfl⟩
abbrev main_cst_72 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_cst_73 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_cst_74 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_cst_75 : Ref sig .tc := ⟨.hbm, 347, rfl⟩
abbrev main_v203 : Ref sig .tc := ⟨.hbm, 348, rfl⟩
abbrev main_v204 : Ref sig .tc := ⟨.hbm, 349, rfl⟩
abbrev main_cst_76 : Ref sig .tc := ⟨.hbm, 350, rfl⟩
abbrev main_v205 : Ref sig .tc := ⟨.hbm, 351, rfl⟩
abbrev main_v206 : Ref sig .tc := ⟨.hbm, 352, rfl⟩
abbrev main_v207 : Ref sig .tc := ⟨.hbm, 353, rfl⟩
abbrev main_cst_77 : Ref sig .tc := ⟨.hbm, 354, rfl⟩
abbrev main_v208 : Ref sig .tc := ⟨.hbm, 355, rfl⟩
abbrev main_v209 : Ref sig .tc := ⟨.hbm, 356, rfl⟩
abbrev main_v210 : Ref sig .tc := ⟨.hbm, 357, rfl⟩
abbrev main_cst_78 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_cst_79 : Ref sig .tc := ⟨.hbm, 362, rfl⟩
abbrev main_v214 : Ref sig .tc := ⟨.hbm, 363, rfl⟩
abbrev main_v215 : Ref sig .tc := ⟨.hbm, 364, rfl⟩
abbrev main_cst_80 : Ref sig .tc := ⟨.hbm, 365, rfl⟩
abbrev main_v216 : Ref sig .tc := ⟨.hbm, 366, rfl⟩
abbrev main_v217 : Ref sig .tc := ⟨.hbm, 367, rfl⟩
abbrev main_cst_81 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_cst_82 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_cst_83 : Ref sig .tc := ⟨.hbm, 376, rfl⟩
abbrev main_v224 : Ref sig .tc := ⟨.hbm, 377, rfl⟩
abbrev main_v225 : Ref sig .tc := ⟨.hbm, 378, rfl⟩
abbrev main_v226 : Ref sig .tc := ⟨.hbm, 379, rfl⟩
abbrev main_cst_84 : Ref sig .tc := ⟨.hbm, 380, rfl⟩
abbrev main_v227 : Ref sig .tc := ⟨.hbm, 381, rfl⟩
abbrev main_v228 : Ref sig .tc := ⟨.hbm, 382, rfl⟩
abbrev main_cst_85 : Ref sig .tc := ⟨.hbm, 383, rfl⟩
abbrev main_v229 : Ref sig .tc := ⟨.hbm, 384, rfl⟩
abbrev main_v230 : Ref sig .tc := ⟨.hbm, 385, rfl⟩
abbrev main_v231 : Ref sig .tc := ⟨.hbm, 386, rfl⟩
abbrev main_cst_86 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_cst_87 : Ref sig .tc := ⟨.hbm, 391, rfl⟩
abbrev main_v235 : Ref sig .tc := ⟨.hbm, 392, rfl⟩
abbrev main_v236 : Ref sig .tc := ⟨.hbm, 393, rfl⟩
abbrev main_v237 : Ref sig .tc := ⟨.hbm, 394, rfl⟩
abbrev main_cst_88 : Ref sig .tc := ⟨.hbm, 395, rfl⟩
abbrev main_v238 : Ref sig .tc := ⟨.hbm, 396, rfl⟩
abbrev main_v239 : Ref sig .tc := ⟨.hbm, 397, rfl⟩
abbrev main_cst_89 : Ref sig .tc := ⟨.hbm, 398, rfl⟩
abbrev main_v240 : Ref sig .tc := ⟨.hbm, 399, rfl⟩
abbrev main_v241 : Ref sig .tc := ⟨.hbm, 400, rfl⟩
abbrev main_cst_90 : Ref sig .tc := ⟨.hbm, 401, rfl⟩
abbrev main_v242 : Ref sig .tc := ⟨.hbm, 402, rfl⟩
abbrev main_v243 : Ref sig .tc := ⟨.hbm, 403, rfl⟩
abbrev main_v244 : Ref sig .tc := ⟨.hbm, 404, rfl⟩
abbrev main_cst_91 : Ref sig .tc := ⟨.hbm, 405, rfl⟩
abbrev main_v245 : Ref sig .tc := ⟨.hbm, 406, rfl⟩
abbrev main_v246 : Ref sig .tc := ⟨.hbm, 407, rfl⟩
abbrev main_v247 : Ref sig .tc := ⟨.hbm, 408, rfl⟩
abbrev main_cst_92 : Ref sig .tc := ⟨.hbm, 409, rfl⟩
abbrev main_v248 : Ref sig .tc := ⟨.hbm, 410, rfl⟩
abbrev main_v249 : Ref sig .tc := ⟨.hbm, 411, rfl⟩
abbrev main_v250 : Ref sig .tc := ⟨.hbm, 412, rfl⟩
abbrev main_cst_93 : Ref sig .tc := ⟨.hbm, 413, rfl⟩
abbrev main_v251 : Ref sig .tc := ⟨.hbm, 414, rfl⟩
abbrev main_v252 : Ref sig .tc := ⟨.hbm, 415, rfl⟩
abbrev main_cst_94 : Ref sig .tc := ⟨.hbm, 416, rfl⟩
abbrev main_v253 : Ref sig .tc := ⟨.hbm, 417, rfl⟩
abbrev main_v254 : Ref sig .tc := ⟨.hbm, 418, rfl⟩
abbrev main_v255 : Ref sig .tc := ⟨.hbm, 419, rfl⟩
abbrev main_cst_95 : Ref sig .tc := ⟨.hbm, 420, rfl⟩
abbrev main_v256 : Ref sig .tc := ⟨.hbm, 421, rfl⟩
abbrev main_v257 : Ref sig .tc := ⟨.hbm, 422, rfl⟩
abbrev main_v258 : Ref sig .tc := ⟨.hbm, 423, rfl⟩
abbrev main_cst_96 : Ref sig .tc := ⟨.hbm, 424, rfl⟩
abbrev main_v259 : Ref sig .tc := ⟨.hbm, 425, rfl⟩
abbrev main_v260 : Ref sig .tc := ⟨.hbm, 426, rfl⟩
abbrev main_v261 : Ref sig .tc := ⟨.hbm, 427, rfl⟩
abbrev main_cst_97 : Ref sig .tc := ⟨.hbm, 428, rfl⟩
abbrev main_v262 : Ref sig .tc := ⟨.hbm, 429, rfl⟩
abbrev main_v263 : Ref sig .tc := ⟨.hbm, 430, rfl⟩
abbrev main_cst_98 : Ref sig .tc := ⟨.hbm, 431, rfl⟩
abbrev main_v264 : Ref sig .tc := ⟨.hbm, 432, rfl⟩
abbrev main_v265 : Ref sig .tc := ⟨.hbm, 433, rfl⟩
abbrev main_cst_99 : Ref sig .tc := ⟨.hbm, 434, rfl⟩
abbrev main_v266 : Ref sig .tc := ⟨.hbm, 435, rfl⟩
abbrev main_v267 : Ref sig .tc := ⟨.hbm, 436, rfl⟩
abbrev main_v268 : Ref sig .tc := ⟨.hbm, 437, rfl⟩
abbrev main_cst_100 : Ref sig .tc := ⟨.hbm, 438, rfl⟩
abbrev main_v269 : Ref sig .tc := ⟨.hbm, 439, rfl⟩
abbrev main_v270 : Ref sig .tc := ⟨.hbm, 440, rfl⟩
abbrev main_v271 : Ref sig .tc := ⟨.hbm, 441, rfl⟩
abbrev main_cst_101 : Ref sig .tc := ⟨.hbm, 442, rfl⟩
abbrev main_v272 : Ref sig .tc := ⟨.hbm, 443, rfl⟩
abbrev main_v273 : Ref sig .tc := ⟨.hbm, 444, rfl⟩
abbrev main_v274 : Ref sig .tc := ⟨.hbm, 445, rfl⟩
abbrev main_cst_102 : Ref sig .tc := ⟨.hbm, 446, rfl⟩
abbrev main_v275 : Ref sig .tc := ⟨.hbm, 447, rfl⟩
abbrev main_v276 : Ref sig .tc := ⟨.hbm, 448, rfl⟩
abbrev main_cst_103 : Ref sig .tc := ⟨.hbm, 449, rfl⟩
abbrev main_v277 : Ref sig .tc := ⟨.hbm, 450, rfl⟩
abbrev main_v278 : Ref sig .tc := ⟨.hbm, 451, rfl⟩
abbrev main_v279 : Ref sig .tc := ⟨.hbm, 452, rfl⟩
abbrev main_cst_104 : Ref sig .tc := ⟨.hbm, 453, rfl⟩
abbrev main_v280 : Ref sig .tc := ⟨.hbm, 454, rfl⟩
abbrev main_v281 : Ref sig .tc := ⟨.hbm, 455, rfl⟩
abbrev main_v282 : Ref sig .tc := ⟨.hbm, 456, rfl⟩
abbrev main_cst_105 : Ref sig .tc := ⟨.hbm, 457, rfl⟩
abbrev main_v283 : Ref sig .tc := ⟨.hbm, 458, rfl⟩
abbrev main_v284 : Ref sig .tc := ⟨.hbm, 459, rfl⟩
abbrev main_v285 : Ref sig .tc := ⟨.hbm, 460, rfl⟩
abbrev main_cst_106 : Ref sig .tc := ⟨.hbm, 461, rfl⟩
abbrev main_v286 : Ref sig .tc := ⟨.hbm, 462, rfl⟩
abbrev main_v287 : Ref sig .tc := ⟨.hbm, 463, rfl⟩
abbrev main_cst_107 : Ref sig .tc := ⟨.hbm, 464, rfl⟩
abbrev main_v288 : Ref sig .tc := ⟨.hbm, 465, rfl⟩
abbrev main_v289 : Ref sig .tc := ⟨.hbm, 466, rfl⟩
abbrev main_cst_108 : Ref sig .tc := ⟨.hbm, 467, rfl⟩
abbrev main_v290 : Ref sig .tc := ⟨.hbm, 468, rfl⟩
abbrev main_v291 : Ref sig .tc := ⟨.hbm, 469, rfl⟩
abbrev main_v292 : Ref sig .tc := ⟨.hbm, 470, rfl⟩
abbrev main_cst_109 : Ref sig .tc := ⟨.hbm, 471, rfl⟩
abbrev main_v293 : Ref sig .tc := ⟨.hbm, 472, rfl⟩
abbrev main_v294 : Ref sig .tc := ⟨.hbm, 473, rfl⟩
abbrev main_v295 : Ref sig .tc := ⟨.hbm, 474, rfl⟩
abbrev main_cst_110 : Ref sig .tc := ⟨.hbm, 475, rfl⟩
abbrev main_v296 : Ref sig .tc := ⟨.hbm, 476, rfl⟩
abbrev main_v297 : Ref sig .tc := ⟨.hbm, 477, rfl⟩
abbrev main_v298 : Ref sig .tc := ⟨.hbm, 478, rfl⟩
abbrev main_cst_111 : Ref sig .tc := ⟨.hbm, 479, rfl⟩
abbrev main_v299 : Ref sig .tc := ⟨.hbm, 480, rfl⟩
abbrev main_v300 : Ref sig .tc := ⟨.hbm, 481, rfl⟩
abbrev main_cst_112 : Ref sig .tc := ⟨.hbm, 482, rfl⟩
abbrev main_v301 : Ref sig .tc := ⟨.hbm, 483, rfl⟩
abbrev main_v302 : Ref sig .tc := ⟨.hbm, 484, rfl⟩
abbrev main_v303 : Ref sig .tc := ⟨.hbm, 485, rfl⟩
abbrev main_cst_113 : Ref sig .tc := ⟨.hbm, 486, rfl⟩
abbrev main_v304 : Ref sig .tc := ⟨.hbm, 487, rfl⟩
abbrev main_v305 : Ref sig .tc := ⟨.hbm, 488, rfl⟩
abbrev main_v306 : Ref sig .tc := ⟨.hbm, 489, rfl⟩
abbrev main_cst_114 : Ref sig .tc := ⟨.hbm, 490, rfl⟩
abbrev main_v307 : Ref sig .tc := ⟨.hbm, 491, rfl⟩
abbrev main_v308 : Ref sig .tc := ⟨.hbm, 492, rfl⟩
abbrev main_v309 : Ref sig .tc := ⟨.hbm, 493, rfl⟩
abbrev main_cst_115 : Ref sig .tc := ⟨.hbm, 494, rfl⟩
abbrev main_v310 : Ref sig .tc := ⟨.hbm, 495, rfl⟩
abbrev main_v311 : Ref sig .tc := ⟨.hbm, 496, rfl⟩
abbrev main_cst_116 : Ref sig .tc := ⟨.hbm, 497, rfl⟩
abbrev main_v312 : Ref sig .tc := ⟨.hbm, 498, rfl⟩
abbrev main_v313 : Ref sig .tc := ⟨.hbm, 499, rfl⟩
abbrev main_cst_117 : Ref sig .tc := ⟨.hbm, 500, rfl⟩
abbrev main_v314 : Ref sig .tc := ⟨.hbm, 501, rfl⟩
abbrev main_v315 : Ref sig .tc := ⟨.hbm, 502, rfl⟩
abbrev main_v316 : Ref sig .tc := ⟨.hbm, 503, rfl⟩
abbrev main_cst_118 : Ref sig .tc := ⟨.hbm, 504, rfl⟩
abbrev main_v317 : Ref sig .tc := ⟨.hbm, 505, rfl⟩
abbrev main_v318 : Ref sig .tc := ⟨.hbm, 506, rfl⟩
abbrev main_v319 : Ref sig .tc := ⟨.hbm, 507, rfl⟩
abbrev main_cst_119 : Ref sig .tc := ⟨.hbm, 508, rfl⟩
abbrev main_v320 : Ref sig .tc := ⟨.hbm, 509, rfl⟩
abbrev main_v321 : Ref sig .tc := ⟨.hbm, 510, rfl⟩
abbrev main_v322 : Ref sig .tc := ⟨.hbm, 511, rfl⟩
abbrev main_cst_120 : Ref sig .tc := ⟨.hbm, 512, rfl⟩
abbrev main_v323 : Ref sig .tc := ⟨.hbm, 513, rfl⟩
abbrev main_v324 : Ref sig .tc := ⟨.hbm, 514, rfl⟩
abbrev main_cst_121 : Ref sig .tc := ⟨.hbm, 515, rfl⟩
abbrev main_v325 : Ref sig .tc := ⟨.hbm, 516, rfl⟩
abbrev main_v326 : Ref sig .tc := ⟨.hbm, 517, rfl⟩
abbrev main_v327 : Ref sig .tc := ⟨.hbm, 518, rfl⟩
abbrev main_cst_122 : Ref sig .tc := ⟨.hbm, 519, rfl⟩
abbrev main_v328 : Ref sig .tc := ⟨.hbm, 520, rfl⟩
abbrev main_v329 : Ref sig .tc := ⟨.hbm, 521, rfl⟩
abbrev main_v330 : Ref sig .tc := ⟨.hbm, 522, rfl⟩
abbrev main_cst_123 : Ref sig .tc := ⟨.hbm, 523, rfl⟩
abbrev main_v331 : Ref sig .tc := ⟨.hbm, 524, rfl⟩
abbrev main_v332 : Ref sig .tc := ⟨.hbm, 525, rfl⟩
abbrev main_v333 : Ref sig .tc := ⟨.hbm, 526, rfl⟩
abbrev main_cst_124 : Ref sig .tc := ⟨.hbm, 527, rfl⟩
abbrev main_v334 : Ref sig .tc := ⟨.hbm, 528, rfl⟩
abbrev main_v335 : Ref sig .tc := ⟨.hbm, 529, rfl⟩
abbrev main_cst_125 : Ref sig .tc := ⟨.hbm, 530, rfl⟩
abbrev main_v336 : Ref sig .tc := ⟨.hbm, 531, rfl⟩
abbrev main_v337 : Ref sig .tc := ⟨.hbm, 532, rfl⟩
abbrev main_cst_126 : Ref sig .tc := ⟨.hbm, 533, rfl⟩
abbrev main_v338 : Ref sig .tc := ⟨.hbm, 534, rfl⟩
abbrev main_v339 : Ref sig .tc := ⟨.hbm, 535, rfl⟩
abbrev main_v340 : Ref sig .tc := ⟨.hbm, 536, rfl⟩
abbrev main_cst_127 : Ref sig .tc := ⟨.hbm, 537, rfl⟩
abbrev main_v341 : Ref sig .tc := ⟨.hbm, 538, rfl⟩
abbrev main_v342 : Ref sig .tc := ⟨.hbm, 539, rfl⟩
abbrev main_v343 : Ref sig .tc := ⟨.hbm, 540, rfl⟩
abbrev main_cst_128 : Ref sig .tc := ⟨.hbm, 541, rfl⟩
abbrev main_v344 : Ref sig .tc := ⟨.hbm, 542, rfl⟩
abbrev main_v345 : Ref sig .tc := ⟨.hbm, 543, rfl⟩
abbrev main_v346 : Ref sig .tc := ⟨.hbm, 544, rfl⟩
abbrev main_cst_129 : Ref sig .tc := ⟨.hbm, 545, rfl⟩
abbrev main_v347 : Ref sig .tc := ⟨.hbm, 546, rfl⟩
abbrev main_v348 : Ref sig .tc := ⟨.hbm, 547, rfl⟩
abbrev main_cst_130 : Ref sig .tc := ⟨.hbm, 548, rfl⟩
abbrev main_v349 : Ref sig .tc := ⟨.hbm, 549, rfl⟩
abbrev main_v350 : Ref sig .tc := ⟨.hbm, 550, rfl⟩
abbrev main_v351 : Ref sig .tc := ⟨.hbm, 551, rfl⟩
abbrev main_cst_131 : Ref sig .tc := ⟨.hbm, 552, rfl⟩
abbrev main_v352 : Ref sig .tc := ⟨.hbm, 553, rfl⟩
abbrev main_v353 : Ref sig .tc := ⟨.hbm, 554, rfl⟩
abbrev main_v354 : Ref sig .tc := ⟨.hbm, 555, rfl⟩
abbrev main_cst_132 : Ref sig .tc := ⟨.hbm, 556, rfl⟩
abbrev main_v355 : Ref sig .tc := ⟨.hbm, 557, rfl⟩
abbrev main_v356 : Ref sig .tc := ⟨.hbm, 558, rfl⟩
abbrev main_v357 : Ref sig .tc := ⟨.hbm, 559, rfl⟩
abbrev main_cst_133 : Ref sig .tc := ⟨.hbm, 560, rfl⟩
abbrev main_v358 : Ref sig .tc := ⟨.hbm, 561, rfl⟩
abbrev main_v359 : Ref sig .tc := ⟨.hbm, 562, rfl⟩
abbrev main_cst_134 : Ref sig .tc := ⟨.hbm, 563, rfl⟩
abbrev main_v360 : Ref sig .tc := ⟨.hbm, 564, rfl⟩
abbrev main_v361 : Ref sig .tc := ⟨.hbm, 565, rfl⟩
abbrev main_cst_135 : Ref sig .tc := ⟨.hbm, 566, rfl⟩
abbrev main_v362 : Ref sig .tc := ⟨.hbm, 567, rfl⟩
abbrev main_v363 : Ref sig .tc := ⟨.hbm, 568, rfl⟩
abbrev main_v364 : Ref sig .tc := ⟨.hbm, 569, rfl⟩
abbrev main_cst_136 : Ref sig .tc := ⟨.hbm, 570, rfl⟩
abbrev main_v365 : Ref sig .tc := ⟨.hbm, 571, rfl⟩
abbrev main_v366 : Ref sig .tc := ⟨.hbm, 572, rfl⟩
abbrev main_v367 : Ref sig .tc := ⟨.hbm, 573, rfl⟩
abbrev main_cst_137 : Ref sig .tc := ⟨.hbm, 574, rfl⟩
abbrev main_v368 : Ref sig .tc := ⟨.hbm, 575, rfl⟩
abbrev main_v369 : Ref sig .tc := ⟨.hbm, 576, rfl⟩
abbrev main_v370 : Ref sig .tc := ⟨.hbm, 577, rfl⟩
abbrev main_cst_138 : Ref sig .tc := ⟨.hbm, 578, rfl⟩
abbrev main_v371 : Ref sig .tc := ⟨.hbm, 579, rfl⟩
abbrev main_v372 : Ref sig .tc := ⟨.hbm, 580, rfl⟩
abbrev main_cst_139 : Ref sig .tc := ⟨.hbm, 581, rfl⟩
abbrev main_v373 : Ref sig .tc := ⟨.hbm, 582, rfl⟩
abbrev main_v374 : Ref sig .tc := ⟨.hbm, 583, rfl⟩
abbrev main_v375 : Ref sig .tc := ⟨.hbm, 584, rfl⟩
abbrev main_cst_140 : Ref sig .tc := ⟨.hbm, 585, rfl⟩
abbrev main_v376 : Ref sig .tc := ⟨.hbm, 586, rfl⟩
abbrev main_v377 : Ref sig .tc := ⟨.hbm, 587, rfl⟩
abbrev main_v378 : Ref sig .tc := ⟨.hbm, 588, rfl⟩
abbrev main_cst_141 : Ref sig .tc := ⟨.hbm, 589, rfl⟩
abbrev main_v379 : Ref sig .tc := ⟨.hbm, 590, rfl⟩
abbrev main_v380 : Ref sig .tc := ⟨.hbm, 591, rfl⟩
abbrev main_v381 : Ref sig .tc := ⟨.hbm, 592, rfl⟩
abbrev main_cst_142 : Ref sig .tc := ⟨.hbm, 593, rfl⟩
abbrev main_v382 : Ref sig .tc := ⟨.hbm, 594, rfl⟩
abbrev main_v383 : Ref sig .tc := ⟨.hbm, 595, rfl⟩
abbrev main_cst_143 : Ref sig .tc := ⟨.hbm, 596, rfl⟩
abbrev main_v384 : Ref sig .tc := ⟨.hbm, 597, rfl⟩
abbrev main_v385 : Ref sig .tc := ⟨.hbm, 598, rfl⟩
abbrev main_cst_144 : Ref sig .tc := ⟨.hbm, 599, rfl⟩
abbrev main_v386 : Ref sig .tc := ⟨.hbm, 600, rfl⟩
abbrev main_v387 : Ref sig .tc := ⟨.hbm, 601, rfl⟩
abbrev main_v388 : Ref sig .tc := ⟨.hbm, 602, rfl⟩
abbrev main_cst_145 : Ref sig .tc := ⟨.hbm, 603, rfl⟩
abbrev main_v389 : Ref sig .tc := ⟨.hbm, 604, rfl⟩
abbrev main_v390 : Ref sig .tc := ⟨.hbm, 605, rfl⟩
abbrev main_v391 : Ref sig .tc := ⟨.hbm, 606, rfl⟩
abbrev main_cst_146 : Ref sig .tc := ⟨.hbm, 607, rfl⟩
abbrev main_v392 : Ref sig .tc := ⟨.hbm, 608, rfl⟩
abbrev main_v393 : Ref sig .tc := ⟨.hbm, 609, rfl⟩
abbrev main_v394 : Ref sig .tc := ⟨.hbm, 610, rfl⟩
abbrev main_cst_147 : Ref sig .tc := ⟨.hbm, 611, rfl⟩
abbrev main_v395 : Ref sig .tc := ⟨.hbm, 612, rfl⟩
abbrev main_v396 : Ref sig .tc := ⟨.hbm, 613, rfl⟩
abbrev main_cst_148 : Ref sig .tc := ⟨.hbm, 614, rfl⟩
abbrev main_v397 : Ref sig .tc := ⟨.hbm, 615, rfl⟩
abbrev main_v398 : Ref sig .tc := ⟨.hbm, 616, rfl⟩
abbrev main_v399 : Ref sig .tc := ⟨.hbm, 617, rfl⟩
abbrev main_cst_149 : Ref sig .tc := ⟨.hbm, 618, rfl⟩
abbrev main_v400 : Ref sig .tc := ⟨.hbm, 619, rfl⟩
abbrev main_v401 : Ref sig .tc := ⟨.hbm, 620, rfl⟩
abbrev main_v402 : Ref sig .tc := ⟨.hbm, 621, rfl⟩
abbrev main_cst_150 : Ref sig .tc := ⟨.hbm, 622, rfl⟩
abbrev main_v403 : Ref sig .tc := ⟨.hbm, 623, rfl⟩
abbrev main_v404 : Ref sig .tc := ⟨.hbm, 624, rfl⟩
abbrev main_v405 : Ref sig .tc := ⟨.hbm, 625, rfl⟩
abbrev main_cst_151 : Ref sig .tc := ⟨.hbm, 626, rfl⟩
abbrev main_v406 : Ref sig .tc := ⟨.hbm, 627, rfl⟩
abbrev main_v407 : Ref sig .tc := ⟨.hbm, 628, rfl⟩
abbrev main_cst_152 : Ref sig .tc := ⟨.hbm, 629, rfl⟩
abbrev main_v408 : Ref sig .tc := ⟨.hbm, 630, rfl⟩
abbrev main_v409 : Ref sig .tc := ⟨.hbm, 631, rfl⟩
abbrev main_v410 : Ref sig .tc := ⟨.hbm, 632, rfl⟩
abbrev main_v411 : Ref sig .tc := ⟨.hbm, 633, rfl⟩
abbrev main_v412 : Ref sig .tc := ⟨.hbm, 634, rfl⟩
abbrev main_v413 : Ref sig .tc := ⟨.hbm, 635, rfl⟩
abbrev main_v414 : Ref sig .tc := ⟨.hbm, 636, rfl⟩
abbrev main_v415 : Ref sig .tc := ⟨.hbm, 637, rfl⟩
abbrev main_v416 : Ref sig .tc := ⟨.hbm, 638, rfl⟩
abbrev main_v417 : Ref sig .tc := ⟨.hbm, 639, rfl⟩
abbrev main_v418 : Ref sig .tc := ⟨.hbm, 640, rfl⟩
abbrev main_v419 : Ref sig .tc := ⟨.hbm, 641, rfl⟩
abbrev main_v420 : Ref sig .tc := ⟨.hbm, 642, rfl⟩
abbrev main_v421 : Ref sig .tc := ⟨.hbm, 643, rfl⟩
abbrev main_v422 : Ref sig .tc := ⟨.hbm, 644, rfl⟩
abbrev main_v423 : Ref sig .tc := ⟨.hbm, 645, rfl⟩
abbrev main_v424 : Ref sig .tc := ⟨.hbm, 646, rfl⟩
abbrev main_v425 : Ref sig .tc := ⟨.hbm, 647, rfl⟩
abbrev main_v426 : Ref sig .tc := ⟨.hbm, 648, rfl⟩
abbrev main_v427 : Ref sig .tc := ⟨.hbm, 649, rfl⟩
abbrev main_v428 : Ref sig .tc := ⟨.hbm, 650, rfl⟩
abbrev main_v429 : Ref sig .tc := ⟨.hbm, 651, rfl⟩
abbrev main_v430 : Ref sig .tc := ⟨.hbm, 652, rfl⟩
abbrev main_v431 : Ref sig .tc := ⟨.hbm, 653, rfl⟩
abbrev main_v432 : Ref sig .tc := ⟨.hbm, 654, rfl⟩
abbrev main_v433 : Ref sig .tc := ⟨.hbm, 655, rfl⟩
abbrev main_v434 : Ref sig .tc := ⟨.hbm, 656, rfl⟩
abbrev main_v435 : Ref sig .tc := ⟨.hbm, 657, rfl⟩
abbrev main_v436 : Ref sig .tc := ⟨.hbm, 658, rfl⟩
abbrev main_v437 : Ref sig .tc := ⟨.hbm, 659, rfl⟩
abbrev main_v438 : Ref sig .tc := ⟨.hbm, 660, rfl⟩
abbrev main_v439 : Ref sig .tc := ⟨.hbm, 661, rfl⟩
abbrev main_v440 : Ref sig .tc := ⟨.hbm, 662, rfl⟩
abbrev main_v441 : Ref sig .tc := ⟨.hbm, 663, rfl⟩
abbrev main_v442 : Ref sig .tc := ⟨.hbm, 664, rfl⟩
abbrev main_v443 : Ref sig .tc := ⟨.hbm, 665, rfl⟩
abbrev main_v444 : Ref sig .tc := ⟨.hbm, 666, rfl⟩
abbrev main_v445 : Ref sig .tc := ⟨.hbm, 667, rfl⟩
abbrev main_v446 : Ref sig .tc := ⟨.hbm, 668, rfl⟩
abbrev main_v447 : Ref sig .tc := ⟨.hbm, 669, rfl⟩
abbrev main_v448 : Ref sig .tc := ⟨.hbm, 670, rfl⟩
abbrev main_v449 : Ref sig .tc := ⟨.hbm, 671, rfl⟩
abbrev main_v450 : Ref sig .tc := ⟨.hbm, 672, rfl⟩
abbrev main_v451 : Ref sig .tc := ⟨.hbm, 673, rfl⟩
abbrev main_v452 : Ref sig .tc := ⟨.hbm, 674, rfl⟩
abbrev main_v453 : Ref sig .tc := ⟨.hbm, 675, rfl⟩
abbrev main_v454 : Ref sig .tc := ⟨.hbm, 676, rfl⟩
abbrev main_v455 : Ref sig .tc := ⟨.hbm, 677, rfl⟩
abbrev main_v456 : Ref sig .tc := ⟨.hbm, 678, rfl⟩
abbrev main_v457 : Ref sig .tc := ⟨.hbm, 679, rfl⟩
abbrev main_v458 : Ref sig .tc := ⟨.hbm, 680, rfl⟩
abbrev main_v459 : Ref sig .tc := ⟨.hbm, 681, rfl⟩
abbrev main_v460 : Ref sig .tc := ⟨.hbm, 682, rfl⟩
abbrev main_v461 : Ref sig .tc := ⟨.hbm, 683, rfl⟩
abbrev main_v462 : Ref sig .tc := ⟨.hbm, 684, rfl⟩
abbrev main_v463 : Ref sig .tc := ⟨.hbm, 685, rfl⟩
abbrev main_v464 : Ref sig .tc := ⟨.hbm, 686, rfl⟩
abbrev main_v465 : Ref sig .tc := ⟨.hbm, 687, rfl⟩
abbrev main_v466 : Ref sig .tc := ⟨.hbm, 688, rfl⟩
abbrev main_v467 : Ref sig .tc := ⟨.hbm, 689, rfl⟩
abbrev main_v468 : Ref sig .tc := ⟨.hbm, 690, rfl⟩
abbrev main_v469 : Ref sig .tc := ⟨.hbm, 691, rfl⟩
abbrev main_v470 : Ref sig .tc := ⟨.hbm, 692, rfl⟩
abbrev main_v471 : Ref sig .tc := ⟨.hbm, 693, rfl⟩

abbrev nD : Nat := 1
abbrev τ : Topo := Topo.v7x

variable {F : FTy → Type} [FloatOps F]
-- ==== Kernel23.lean ====
abbrev S2x1x512x512 : Shape := ⟨4, ![2, 1, 512, 512]⟩
abbrev S1x1x512x512 : Shape := ⟨4, ![1, 1, 512, 512]⟩
abbrev S2x512x512 : Shape := ⟨3, ![2, 512, 512]⟩
abbrev S1x512x512 : Shape := ⟨3, ![1, 512, 512]⟩
abbrev S512x512 : Shape := ⟨2, ![512, 512]⟩

abbrev nBuf : Space → Nat
  | .hbm => 16
  | .vmem => 8
  | .smem => 0
  | _ => 0

abbrev bufTy : (tb : Table) → Fin (tcTables nBuf tb) → BufTy
  | .hbm, ⟨0, _⟩ => ⟨S2x1x512x512, .f32⟩
  | .hbm, ⟨1, _⟩ => ⟨S1x1x512x512, .f32⟩
  | .hbm, ⟨2, _⟩ => ⟨S2x1x512x512, .f32⟩
  | .hbm, ⟨3, _⟩ => ⟨S2x1x512x512, .f32⟩
  | .hbm, ⟨4, _⟩ => ⟨S2x512x512, .f32⟩
  | .hbm, ⟨5, _⟩ => ⟨S2x512x512, .f32⟩
  | .hbm, ⟨6, _⟩ => ⟨S2x512x512, .f32⟩
  | .hbm, ⟨7, _⟩ => ⟨S2x512x512, .f32⟩
  | .hbm, ⟨8, _⟩ => ⟨S2x512x512, .f32⟩
  | .hbm, ⟨9, _⟩ => ⟨S1x512x512, .f32⟩
  | .hbm, ⟨10, _⟩ => ⟨S2x512x512, .f32⟩
  | .hbm, ⟨11, _⟩ => ⟨S2x512x512, .f32⟩
  | .hbm, ⟨12, _⟩ => ⟨S2x512x512, .f32⟩
  | .hbm, ⟨13, _⟩ => ⟨S2x512x512, .f32⟩
  | .hbm, ⟨14, _⟩ => ⟨S2x512x512, .f32⟩
  | .hbm, ⟨15, _⟩ => ⟨S2x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | _, _ => ⟨S2x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S2x1x512x512 : Shape := ⟨4, ![2, 1, 512, 512]⟩
abbrev S1x1x512x512 : Shape := ⟨4, ![1, 1, 512, 512]⟩
abbrev S2x512x512 : Shape := ⟨3, ![2, 512, 512]⟩
abbrev S1x512x512 : Shape := ⟨3, ![1, 512, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S2x1x512x512, .f32⟩
  | .hbm, ⟨1, _⟩ => ⟨S1x1x512x512, .f32⟩
  | .hbm, ⟨2, _⟩ => ⟨S2x1x512x512, .f32⟩
  | .hbm, ⟨3, _⟩ => ⟨S2x1x512x512, .f32⟩
  | .hbm, ⟨4, _⟩ => ⟨S2x512x512, .f32⟩
  | .hbm, ⟨5, _⟩ => ⟨S2x512x512, .f32⟩
  | .hbm, ⟨6, _⟩ => ⟨S2x512x512, .f32⟩
  | .hbm, ⟨7, _⟩ => ⟨S2x512x512, .f32⟩
  | .hbm, ⟨8, _⟩ => ⟨S2x512x512, .f32⟩
  | .hbm, ⟨9, _⟩ => ⟨S1x512x512, .f32⟩
  | .hbm, ⟨10, _⟩ => ⟨S2x512x512, .f32⟩
  | .hbm, ⟨11, _⟩ => ⟨S2x512x512, .f32⟩
  | .hbm, ⟨12, _⟩ => ⟨S1x512x512, .f32⟩
  | .hbm, ⟨13, _⟩ => ⟨S1x512x512, .f32⟩
  | .hbm, ⟨14, _⟩ => ⟨S1x512x512, .f32⟩
  | .hbm, ⟨15, _⟩ => ⟨S_, .f32⟩
  | .hbm, ⟨16, _⟩ => ⟨S1x512x512, .f32⟩
  | .hbm, ⟨17, _⟩ => ⟨S1x512x512, .f32⟩
  | .hbm, ⟨18, _⟩ => ⟨S_, .f32⟩
  | .hbm, ⟨19, _⟩ => ⟨S1x512x512, .f32⟩
  | .hbm, ⟨20, _⟩ => ⟨S1x512x512, .f32⟩
  | .hbm, ⟨21, _⟩ => ⟨S1x512x512, .f32⟩
  | .hbm, ⟨22, _⟩ => ⟨S_, .f32⟩
  | .hbm, ⟨23, _⟩ => ⟨S1x512x512, .f32⟩
  | .hbm, ⟨24, _⟩ => ⟨S1x512x512, .f32⟩
  | .hbm, ⟨25, _⟩ => ⟨S1x512x512, .f32⟩
  | .hbm, ⟨26, _⟩ => ⟨S_, .f32⟩
  | .hbm, ⟨27, _⟩ => ⟨S1x512x512, .f32⟩
  | .hbm, ⟨28, _⟩ => ⟨S1x512x512, .f32⟩
  | .hbm, ⟨29, _⟩ => ⟨S1x512x512, .f32⟩
  | .hbm, ⟨30, _⟩ => ⟨S_, .f32⟩
  | .hbm, ⟨31, _⟩ => ⟨S1x512x512, .f32⟩
  | .hbm, ⟨32, _⟩ => ⟨S1x512x512, .f32⟩
  | .hbm, ⟨33, _⟩ => ⟨S_, .f32⟩
  | .hbm, ⟨34, _⟩ => ⟨S1x512x512, .f32⟩
  | .hbm, ⟨35, _⟩ => ⟨S1x512x512, .f32⟩
  | .hbm, ⟨36, _⟩ => ⟨S1x512x512, .f32⟩
  | .hbm, ⟨37, _⟩ => ⟨S_, .f32⟩
  | .hbm, ⟨38, _⟩ => ⟨S1x512x512, .f32⟩
  | .hbm, ⟨39, _⟩ => ⟨S1x512x512, .f32⟩
  | .hbm, ⟨40, _⟩ => ⟨S1x512x512, .f32⟩
  | .hbm, ⟨41, _⟩ => ⟨S_, .f32⟩
  | .hbm, ⟨42, _⟩ => ⟨S1x512x512, .f32⟩
  | .hbm, ⟨43, _⟩ => ⟨S1x512x512, .f32⟩
  | .hbm, ⟨44, _⟩ => ⟨S1x512x512, .f32⟩
  | .hbm, ⟨45, _⟩ => ⟨S_, .f32⟩
  | .hbm, ⟨46, _⟩ => ⟨S1x512x512, .f32⟩
  | .hbm, ⟨47, _⟩ => ⟨S1x512x512, .f32⟩
  | .hbm, ⟨48, _⟩ => ⟨S1x512x512, .f32⟩
  | .hbm, ⟨49, _⟩ => ⟨S2x512x512, .f32⟩
  | .hbm, ⟨50, _⟩ => ⟨S1x512x512, .f32⟩
  | .hbm, ⟨51, _⟩ => ⟨S2x512x512, .f32⟩
  | .hbm, ⟨52, _⟩ => ⟨S1x512x512, .f32⟩
  | .hbm, ⟨53, _⟩ => ⟨S2x512x512, .f32⟩
  | .hbm, ⟨54, _⟩ => ⟨S1x512x512, .f32⟩
  | .hbm, ⟨55, _⟩ => ⟨S2x512x512, .f32⟩
  | _, _ => ⟨S2x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel24.lean ====
abbrev S4x2048x2816 : Shape := ⟨3, ![4, 2048, 2816]⟩
abbrev S1x2048x2816 : Shape := ⟨3, ![1, 2048, 2816]⟩
abbrev S1x128x2816 : Shape := ⟨3, ![1, 128, 2816]⟩
abbrev S128x2816 : Shape := ⟨2, ![128, 2816]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2816, .f32⟩
  | .hbm, ⟨1, _⟩ => ⟨S1x2048x2816, .f32⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S4x2048x2816, .f32⟩
  | .hbm, ⟨9, _⟩ => ⟨S4x2048x2816, .f32⟩
  | .hbm, ⟨10, _⟩ => ⟨S4x2048x2816, .f32⟩
  | .hbm, ⟨11, _⟩ => ⟨S4x2048x2816, .f32⟩
  | .local _ .vmem, ⟨0, _⟩ => ⟨S1x128x2816, .f32⟩
  | .local _ .vmem, ⟨1, _⟩ => ⟨S1x128x2816, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .f32⟩
  | .local _ .vmem, ⟨5, _⟩ => ⟨S1x128x2816, .f32⟩
  | .local _ .vmem, ⟨6, _⟩ => ⟨S1x128x2816, .f32⟩
  | .local _ .vmem, ⟨7, _⟩ => ⟨S1x128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S4x2048x2816 : Shape := ⟨3, ![4, 2048, 2816]⟩
abbrev S1x2048x2816 : Shape := ⟨3, ![1, 2048, 2816]⟩
abbrev S_ : Shape := ⟨0, ![]⟩
abbrev S3x2048x2816 : Shape := ⟨3, ![3, 2048, 2816]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S1x2048x2816, .f32⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S1x2048x2816, .f32⟩
  | .hbm, ⟨9, _⟩ => ⟨S1x2048x2816, .f32⟩
  | .hbm, ⟨10, _⟩ => ⟨S1x2048x2816, .f32⟩
  | .hbm, ⟨11, _⟩ => ⟨S_, .f32⟩
  | .hbm, ⟨12, _⟩ => ⟨S1x2048x2816, .f32⟩
  | .hbm, ⟨13, _⟩ => ⟨S1x2048x2816, .f32⟩
  | .hbm, ⟨14, _⟩ => ⟨S_, .f32⟩
  | .hbm, ⟨15, _⟩ => ⟨S1x2048x2816, .f32⟩
  | .hbm, ⟨16, _⟩ => ⟨S1x2048x2816, .f32⟩
  | .hbm, ⟨17, _⟩ => ⟨S1x2048x2816, .f32⟩
  | .hbm, ⟨18, _⟩ => ⟨S_, .f32⟩
  | .hbm, ⟨19, _⟩ => ⟨S1x2048x2816, .f32⟩
  | .hbm, ⟨20, _⟩ => ⟨S1x2048x2816, .f32⟩
  | .hbm, ⟨21, _⟩ => ⟨S1x2048x2816, .f32⟩
  | .hbm, ⟨22, _⟩ => ⟨S_, .f32⟩
  | .hbm, ⟨23, _⟩ => ⟨S1x2048x2816, .f32⟩
  | .hbm, ⟨24, _⟩ => ⟨S1x2048x2816, .f32⟩
  | .hbm, ⟨25, _⟩ => ⟨S1x2048x2816, .f32⟩
  | .hbm, ⟨26, _⟩ => ⟨S_, .f32⟩
  | .hbm, ⟨27, _⟩ => ⟨S1x2048x2816, .f32⟩
  | .hbm, ⟨28, _⟩ => ⟨S1x2048x2816, .f32⟩
  | .hbm, ⟨29, _⟩ => ⟨S_, .f32⟩
  | .hbm, ⟨30, _⟩ => ⟨S1x2048x2816, .f32⟩
  | .hbm, ⟨31, _⟩ => ⟨S1x2048x2816, .f32⟩
  | .hbm, ⟨32, _⟩ => ⟨S1x2048x2816, .f32⟩
  | .hbm, ⟨33, _⟩ => ⟨S_, .f32⟩
  | .hbm, ⟨34, _⟩ => ⟨S1x2048x2816, .f32⟩
  | .hbm, ⟨35, _⟩ => ⟨S1x2048x2816, .f32⟩
  | .hbm, ⟨36, _⟩ => ⟨S1x2048x2816, .f32⟩
  | .hbm, ⟨37, _⟩ => ⟨S_, .f32⟩
  | .hbm, ⟨38, _⟩ => ⟨S1x2048x2816, .f32⟩
  | .hbm, ⟨39, _⟩ => ⟨S1x2048x2816, .f32⟩
  | .hbm, ⟨40, _⟩ => ⟨S1x2048x2816, .f32⟩
  | .hbm, ⟨41, _⟩ => ⟨S_, .f32⟩
  | .hbm, ⟨42, _⟩ => ⟨S1x2048x2816, .f32⟩
  | .hbm, ⟨43, _⟩ => ⟨S1x2048x2816, .f32⟩
  | .hbm, ⟨44, _⟩ => ⟨S3x2048x2816, .f32⟩
  | .hbm, ⟨45, _⟩ => ⟨S4x2048x2816, .f32⟩
  | .hbm, ⟨46, _⟩ => ⟨S3x2048x2816, .f32⟩
  | .hbm, ⟨47, _⟩ => ⟨S4x2048x2816, .f32⟩
  | .hbm, ⟨48, _⟩ => ⟨S3x2048x2816, .f32⟩
  | .hbm, ⟨49, _⟩ => ⟨S4x2048x2816, .f32⟩
  | .hbm, ⟨50, _⟩ => ⟨S3x2048x2816, .f32⟩
  | .hbm, ⟨51, _⟩ => ⟨S4x2048x2816, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel25.lean ====
abbrev S4x1408x2048 : Shape := ⟨3, ![4, 1408, 2048]⟩
abbrev S1x1408x2048 : Shape := ⟨3, ![1, 1408, 2048]⟩
abbrev S1x176x2048 : Shape := ⟨3, ![1, 176, 2048]⟩
abbrev S176x2048 : Shape := ⟨2, ![176, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S1x1408x2048, .f32⟩
  | .hbm, ⟨2, _⟩ => ⟨S4x1408x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S4x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S4x1408x2048 : Shape := ⟨3, ![4, 1408, 2048]⟩
abbrev S1x1408x2048 : Shape := ⟨3, ![1, 1408, 2048]⟩
abbrev S_ : Shape := ⟨0, ![]⟩
abbrev S3x1408x2048 : Shape := ⟨3, ![3, 1408, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S1x1408x2048, .f32⟩
  | .hbm, ⟨2, _⟩ => ⟨S4x1408x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S1x1408x2048, .f32⟩
  | .hbm, ⟨9, _⟩ => ⟨S1x1408x2048, .f32⟩
  | .hbm, ⟨10, _⟩ => ⟨S1x1408x2048, .f32⟩
  | .hbm, ⟨11, _⟩ => ⟨S_, .f32⟩
  | .hbm, ⟨12, _⟩ => ⟨S1x1408x2048, .f32⟩
  | .hbm, ⟨13, _⟩ => ⟨S1x1408x2048, .f32⟩
  | .hbm, ⟨14, _⟩ => ⟨S_, .f32⟩
  | .hbm, ⟨15, _⟩ => ⟨S1x1408x2048, .f32⟩
  | .hbm, ⟨16, _⟩ => ⟨S1x1408x2048, .f32⟩
  | .hbm, ⟨17, _⟩ => ⟨S1x1408x2048, .f32⟩
  | .hbm, ⟨18, _⟩ => ⟨S_, .f32⟩
  | .hbm, ⟨19, _⟩ => ⟨S1x1408x2048, .f32⟩
  | .hbm, ⟨20, _⟩ => ⟨S1x1408x2048, .f32⟩
  | .hbm, ⟨21, _⟩ => ⟨S1x1408x2048, .f32⟩
  | .hbm, ⟨22, _⟩ => ⟨S_, .f32⟩
  | .hbm, ⟨23, _⟩ => ⟨S1x1408x2048, .f32⟩
  | .hbm, ⟨24, _⟩ => ⟨S1x1408x2048, .f32⟩
  | .hbm, ⟨25, _⟩ => ⟨S1x1408x2048, .f32⟩
  | .hbm, ⟨26, _⟩ => ⟨S_, .f32⟩
  | .hbm, ⟨27, _⟩ => ⟨S1x1408x2048, .f32⟩
  | .hbm, ⟨28, _⟩ => ⟨S1x1408x2048, .f32⟩
  | .hbm, ⟨29, _⟩ => ⟨S_, .f32⟩
  | .hbm, ⟨30, _⟩ => ⟨S1x1408x2048, .f32⟩
  | .hbm, ⟨31, _⟩ => ⟨S1x1408x2048, .f32⟩
  | .hbm, ⟨32, _⟩ => ⟨S1x1408x2048, .f32⟩
  | .hbm, ⟨33, _⟩ => ⟨S_, .f32⟩
  | .hbm, ⟨34, _⟩ => ⟨S1x1408x2048, .f32⟩
  | .hbm, ⟨35, _⟩ => ⟨S1x1408x2048, .f32⟩
  | .hbm, ⟨36, _⟩ => ⟨S1x1408x2048, .f32⟩
  | .hbm, ⟨37, _⟩ => ⟨S_, .f32⟩
  | .hbm, ⟨38, _⟩ => ⟨S1x1408x2048, .f32⟩
  | .hbm, ⟨39, _⟩ => ⟨S1x1408x2048, .f32⟩
  | .hbm, ⟨40, _⟩ => ⟨S1x1408x2048, .f32⟩
  | .hbm, ⟨41, _⟩ => ⟨S_, .f32⟩
  | .hbm, ⟨42, _⟩ => ⟨S1x1408x2048, .f32⟩
  | .hbm, ⟨43, _⟩ => ⟨S1x1408x2048, .f32⟩
  | .hbm, ⟨44, _⟩ => ⟨S3x1408x2048, .f32⟩
  | .hbm, ⟨45, _⟩ => ⟨S4x1408x2048, .f32⟩
  | .hbm, ⟨46, _⟩ => ⟨S3x1408x2048, .f32⟩
  | .hbm, ⟨47, _⟩ => ⟨S4x1408x2048, .f32⟩
  | .hbm, ⟨48, _⟩ => ⟨S3x1408x2048, .f32⟩
  | .hbm, ⟨49, _⟩ => ⟨S4x1408x2048, .f32⟩
  | .hbm, ⟨50, _⟩ => ⟨S3x1408x2048, .f32⟩
  | .hbm, ⟨51, _⟩ => ⟨S4x1408x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Free.lean ====
/- The kernel's frame at any float values: the body runs on whole buffers whatever they hold, so every execution ends, with the
   arguments and the semaphores as they were. -/
module
public import proofs.«01_k».proof.Proof.Gen.KernelIdeal.Frame.Runs
public import Idealize.ShloMosaic.Lib.Claim
public import Idealize.ShloMosaic.Lib.Pipeline.Value
@[expose] public section
set_option maxRecDepth 16384
noncomputable section
namespace Cert.KernelIdeal.Free
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- On whole buffers the body runs, keeps the input blocks and leaves the other buffers at some contents. -/
theorem body_run (c : Dev nD) (i : grid0.Coords)
  (a1 : Memref sig .tc .vmem S2048x2048 .bf16) (h1 : a1.IsWhole)
  (a2 : Memref sig .tc .vmem S1x256x2048 .bf16) (h2 : a2.IsWhole)
  (a3 : Memref sig .tc .vmem S2048x256 .bf16) (h3 : a3.IsWhole)
  (a4 : Memref sig .tc .vmem S2048x256 .bf16) (h4 : a4.IsWhole)
  (a5 : Memref sig .tc .vmem S3x256 .f32) (h5 : a5.IsWhole)
  (a6 : Memref sig .tc .vmem S3x256 .f32) (h6 : a6.IsWhole)
  (a7 : Memref sig .tc .vmem S1x256 .f32) (h7 : a7.IsWhole)
  (a8 : Memref sig .tc .vmem S1x256 .f32) (h8 : a8.IsWhole)
  (a9 : Memref sig .tc .vmem S2048x256 .bf16) (h9 : a9.IsWhole)
  (a10 : Memref sig .tc .vmem S2048x256 .bf16) (h10 : a10.IsWhole)
  (a11 : Memref sig .tc .vmem S3x256 .f32) (h11 : a11.IsWhole)
  (a12 : Memref sig .tc .vmem S3x256 .f32) (h12 : a12.IsWhole)
  (a13 : Memref sig .tc .vmem S1x256 .f32) (h13 : a13.IsWhole)
  (a14 : Memref sig .tc .vmem S1x256 .f32) (h14 : a14.IsWhole)
  (a15 : Memref sig .tc .vmem S2048x256 .f32) (h15 : a15.IsWhole)
  (a16 : Memref sig .tc .vmem S2056x256 .f32) (h16 : a16.IsWhole)
  (a17 : Memref sig .tc .vmem S2056x256 .f32) (h17 : a17.IsWhole)
  (a18 : Memref sig .tc .vmem S2056x256 .f32) (h18 : a18.IsWhole)
  (a19 : Memref sig .tc .vmem S2056x256 .f32) (h19 : a19.IsWhole)
    (x0 : Vec F S2048x2048 .bf16) (x1 : Vec F S1x256x2048 .bf16) (x2 x3 : Vec F S2048x256 .bf16)
    (x4 x5 : Vec F S3x256 .f32) (x6 x7 : Vec F S1x256 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d)) -∗ K ⟨⟩))
      ⊢ wp frame (wpE (defs₀ (F := F)) Variants.none c none) E (cc0_ffn_bwd i a1 h1 a2 h2 a3 h3 a4 h4 a5 h5 a6 h6 a7 h7 a8 h8 a9 h9 a10 h10 a11 h11 a12 h12 a13 h13 a14 h14 a15 h15 a16 h16 a17 h17 a18 h18 a19 h19) K := by
  simp only [cc0_ffn_bwd_eq_skeleton]; unfold cc0_ffn_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7
  sl_exec
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl
variable (m : (ℓ : Loc nD τ sig) → Buf (Elt F) ℓ) (ρ : Dev nD → PrngReg)

/-- The proof data: the arrays as found; after a point each input's buffer at its block, nothing kept of the outputs. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Classical.ofNonempty
    | ⟨9, _⟩ => fun _ => Classical.ofNonempty
    | ⟨10, _⟩ => fun _ => Classical.ofNonempty
    | ⟨11, _⟩ => fun _ => Classical.ofNonempty
    | ⟨12, _⟩ => fun _ => Classical.ofNonempty
    | ⟨13, _⟩ => fun _ => Classical.ofNonempty
  Φ _ := Pipeline.ΦA spec0 c
  q w := Pipeline.shareOf spec0 w
  owed _ := 0

theorem data_A (c : Dev nD) (w : Fin cfg0.W) : (data m 0 c).A w = V m c (Pipeline.arrRef spec0 w) := by dsimp only [data]
theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = iblk m c 6 t := by dsimp only [data]
theorem after7 (c : Dev nD) (t : Fin cfg0.N) : (data m 0 c).after 7 t = iblk m c 7 t := by dsimp only [data]
theorem before0 (c : Dev nD) (t : Fin cfg0.N) (d) : (data m 0 c).before 0 t d = iblk m c 0 t :=
  before0_0_of m (data m 0 c) (data_A m c 0) (after0 m c) t d
theorem before1 (c : Dev nD) (t : Fin cfg0.N) (d) : (data m 0 c).before 1 t d = iblk m c 1 t :=
  before0_1_of m (data m 0 c) (data_A m c 1) (after1 m c) t d
theorem before2 (c : Dev nD) (t : Fin cfg0.N) (d) : (data m 0 c).before 2 t d = iblk m c 2 t :=
  before0_2_of m (data m 0 c) (data_A m c 2) (after2 m c) t d
theorem before3 (c : Dev nD) (t : Fin cfg0.N) (d) : (data m 0 c).before 3 t d = iblk m c 3 t :=
  before0_3_of m (data m 0 c) (data_A m c 3) (after3 m c) t d
theorem before4 (c : Dev nD) (t : Fin cfg0.N) (d) : (data m 0 c).before 4 t d = iblk m c 4 t :=
  before0_4_of m (data m 0 c) (data_A m c 4) (after4 m c) t d
theorem before5 (c : Dev nD) (t : Fin cfg0.N) (d) : (data m 0 c).before 5 t d = iblk m c 5 t :=
  before0_5_of m (data m 0 c) (data_A m c 5) (after5 m c) t d
theorem before6 (c : Dev nD) (t : Fin cfg0.N) (d) : (data m 0 c).before 6 t d = iblk m c 6 t :=
  before0_6_of m (data m 0 c) (data_A m c 6) (after6 m c) t d
theorem before7 (c : Dev nD) (t : Fin cfg0.N) (d) : (data m 0 c).before 7 t d = iblk m c 7 t :=
  before0_7_of m (data m 0 c) (data_A m c 7) (after7 m c) t d

/-- The windows of which nothing is kept: the six outputs. -/
def forgets (w : Fin cfg0.W) : Bool := decide (8 ≤ w.val)

/-- What the body at point `t` is called with. -/
def pre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- What it returns. -/
def post (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1600000 in
/-- The body at any point. -/
theorem at_point (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7]
  rw [show (data m 0 c).Φ t.succ = (data m 0 c).Φ t.castSucc from rfl,
    show (data m 0 c).owesAt () t.succ = (data m 0 c).owesAt () t.castSucc from rfl,
    after0, after1, after2, after3, after4, after5, after6, after7]
  rw [show (data m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem row (t : Fin cfg0.N) : defs₀ (F := F) .tc cfg0.body (cfg0.bodyArgs t (cfg0.slots t)) = bodyAt0 t := by
  unfold defs₀; rw [Defs.onTc_tc]

/-- The obligation at every point. -/
theorem obligation (c : Dev nD) : BodyObligation (data m 0 c) (defs₀ (F := F)) Variants.none () Set.univ forgets := fun t => by
  rw [bigSep_W0, bigSep_W0, row]
  exact triple_restated (at_point m c t) rfl .rfl fun _ => .rfl

set_option backward.isDefEq.respectTransparency.types false in
/-- Every execution terminates without fault, with the arguments unchanged and the semaphores at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget_shared (Q' := _) cfgs (data m) (0 : Fin 1) launch₀0 defs₀ Variants.none forgets m ρ main
    (hbody := fun c => (obligation m c).loose) (hq := fun _ _ _ => rfl)
    (howed := fun _ _ => rfl) (V := V m) (hmain := hmain m Variants.none) (hA := data_A m) (hΦ := fun _ _ => rfl)
    (hQ' := fun r h => ⟨fun c => ⟨(h.1.arr_in c 0 rfl).trans ((data_A m c 0).trans (V_main_arg0 m c)),
      (h.1.arr_in c 1 rfl).trans ((data_A m c 1).trans (V_main_arg1 m c)),
      (h.1.arr_in c 2 rfl).trans ((data_A m c 2).trans (V_main_arg2 m c)),
      (h.1.arr_in c 3 rfl).trans ((data_A m c 3).trans (V_main_arg3 m c)),
      (h.1.arr_in c 5 rfl).trans ((data_A m c 5).trans (V_main_arg4 m c)),
      (h.1.arr_in c 7 rfl).trans ((data_A m c 7).trans (V_main_arg5 m c))⟩, h.2⟩)

end Cert.KernelIdeal.Free
end
-- ==== Proof.Model.lean ====
/- The gated convolution's backward pass, one column at a time, over the extended reals: plain functions of sequences
   indexed by the natural numbers. -/
module
public import Idealize.ShloMosaic.Lib.Pointwise
@[expose] public section
noncomputable section
namespace Cert.Hand
open Idealize.ShloMosaic

/-- The logistic function as the kernel computes it. -/
def sg (x : EReal) : EReal := Ideal.div 1 (1 + Ideal.exp (0 - x))

/-- A causal convolution of three taps: row `r` of the bias plus the taps of the sequence `u`, two zeros in front of it. -/
def tap (w : Fin 3 → EReal) (b : EReal) (u : ℕ → EReal) (r : ℕ) : EReal :=
  b + w 2 * u (r + 2) + w 1 * u (r + 1) + w 0 * u r

/-- The gradient of `silu (gate) * val` in `val`. -/
def dVal (d g : ℕ → EReal) (r : ℕ) : EReal := d r * (g r * sg (g r))

/-- The gradient of `silu (gate) * val` in `gate`. -/
def dGate (d c g : ℕ → EReal) (r : ℕ) : EReal := d r * c r * (sg (g r) * (1 + g r * (1 - sg (g r))))

/-- The transposed convolution: row `r` of the gradient in the sequence. -/
def back (w : Fin 3 → EReal) (e : ℕ → EReal) (r : ℕ) : EReal := w 2 * e r + w 1 * e (r + 1) + w 0 * e (r + 2)

/-- A sequence of `n` rows followed by zeros. -/
def cut (n : ℕ) (e : ℕ → EReal) (r : ℕ) : EReal := if r < n then e r else 0

/-- A sequence of `n` rows with `h` zeros in front, zeros after. -/
def lead (h n : ℕ) (x : Fin n → EReal) (r : ℕ) : EReal := if q : h ≤ r ∧ r - h < n then x ⟨r - h, q.2⟩ else 0

/-- Sums of consecutive tiles join. -/
theorem sum_tile (f : ℕ → EReal) (a n : ℕ) :
    (∑ r ∈ Finset.range a, f r) + ∑ x : Fin n, f (a + x) = ∑ r ∈ Finset.range (a + n), f r := by
  rw [Finset.sum_range_add, Fin.sum_univ_eq_sum_range (fun x => f (a + x)) n]

end Cert.Hand
end
-- ==== Proof.Pay.lean ====
/- What the body's stored and carried vectors are, entry by entry, for a tile of 64 rows. -/
module
public import proofs.«01_k».proof.Proof.Gen.KernelIdeal.Loops
public import proofs.«01_k».proof.Proof.Model
public import Idealize.ShloMosaic.Lib.Pointwise
@[expose] public section
set_option maxRecDepth 16384
noncomputable section
namespace Cert.KernelIdeal.Hand
open Cert.KernelIdeal Cert.KernelIdeal.Gen Idealize.ShloMosaic Idealize.ShloMosaic.TcCoe Idealize.SL.Sem Cert.Hand

/-- Three rows of a tap array at one column. -/
def taps (w : Vec Ideal S3x256 .f32) (j : Fin 256) (t : Fin 3) : EReal := w (ix2 t j)

section
variable (v : Vec Ideal S72x256 .f32) (j : Fin 256) (u : ℕ → EReal) (o : ℕ)
  (hv : ∀ r : Fin 72, v (ix2 r j) = u (o + r))
include hv

theorem pay1_eq (r : Fin 64) : k0_pay1 v (ix2 r j) = u (o + r + 8) := by
  pointwise [k0_pay1]; rw [hv]; exact congrArg u (by dsimp only; omega)
theorem pay2_eq (r : Fin 64) : k0_pay2 v (ix2 r j) = u (o + r + 7) := by
  pointwise [k0_pay2]; rw [hv]; exact congrArg u (by dsimp only; omega)
theorem pay3_eq (r : Fin 64) : k0_pay3 v (ix2 r j) = u (o + r + 6) := by
  pointwise [k0_pay3]; rw [hv]; exact congrArg u (by dsimp only; omega)
theorem pay4_eq (r : Fin 64) : k0_pay4 v (ix2 r j) = u (o + r + 8) := pay1_eq v j u o hv r
theorem pay5_eq (r : Fin 64) : k0_pay5 v (ix2 r j) = u (o + r + 7) := pay2_eq v j u o hv r
theorem pay6_eq (r : Fin 64) : k0_pay6 v (ix2 r j) = u (o + r + 6) := pay3_eq v j u o hv r

/-- The convolution of a tile's rows. -/
theorem pay7_eq (w : Vec Ideal S3x256 .f32) (b : Vec Ideal S1x256 .f32) (r : Fin 64) :
    k0_pay7 w b v (ix2 r j) = tap (taps w j) (b (ix2 0 j)) (fun n => u (n + 6)) (o + r) := by
  pointwise [k0_pay7]
  rw [pay1_eq v j u o hv, pay2_eq v j u o hv, pay3_eq v j u o hv]
  rfl
theorem pay8_eq (w : Vec Ideal S3x256 .f32) (b : Vec Ideal S1x256 .f32) (r : Fin 64) :
    k0_pay8 w b v (ix2 r j) = tap (taps w j) (b (ix2 0 j)) (fun n => u (n + 6)) (o + r) := pay7_eq v j u o hv w b r
theorem pay9_eq (w : Vec Ideal S3x256 .f32) (b : Vec Ideal S1x256 .f32) (r : Fin 64) :
    k0_pay9 w b v (ix2 r j) = sg (tap (taps w j) (b (ix2 0 j)) (fun n => u (n + 6)) (o + r)) := by
  pointwise [k0_pay9]
  rw [pay8_eq v j u o hv]
  rfl

/-- A tile of the transposed convolution. -/
theorem pay32_eq (w : Vec Ideal S3x256 .f32) (r : Fin 64) :
    k0_pay32 w v (ix2 r j) = back (taps w j) u (o + r) := by
  pointwise [k0_pay32]
  simp only [hv]
  unfold back taps
  have e1 : o + (r.val + 72 - 71) % 72 = o + r.val + 1 := by omega
  have e2 : o + (r.val + 72 - 70) % 72 = o + r.val + 2 := by omega
  rw [e1, e2]
theorem pay33_eq (w : Vec Ideal S3x256 .f32) (r : Fin 64) :
    k0_pay33 w v (ix2 r j) = back (taps w j) u (o + r) := pay32_eq v j u o hv w r
end

section
variable (v74 v87 v94 v96 : Vec Ideal S64x256 .f32) (j : Fin 256) (D G C : ℕ → EReal) (o : ℕ)
  (hD : ∀ r : Fin 64, v96 (ix2 r j) = D (o + r)) (hC : ∀ r : Fin 64, v74 (ix2 r j) = C (o + r))
  (hG : ∀ r : Fin 64, v87 (ix2 r j) = G (o + r)) (hS : ∀ r : Fin 64, v94 (ix2 r j) = sg (G (o + r)))
include hD hG hS

theorem pay10_eq (r : Fin 64) : k0_pay10 v87 v94 v96 (ix2 r j) = dVal D G (o + r) := by
  pointwise [k0_pay10]; rw [hD, hG, hS]; rfl
theorem pay12_eq (r : Fin 64) : k0_pay12 v87 v94 v96 (ix2 r j) = dVal D G (o + r) := by
  pointwise [k0_pay12]; exact pay10_eq v87 v94 v96 j D G o hD hG hS r
theorem pay14_eq (a : Vec Ideal S1x256 .f32) (r : Fin 1) :
    k0_pay14 a v87 v94 v96 (ix2 r j) = a (ix2 r j) + ∑ x : Fin 64, dVal D G (o + x) := by
  pointwise [k0_pay14]
  simp only [pay10_eq v87 v94 v96 j D G o hD hG hS]
theorem pay16_eq (a : Vec Ideal S1x256 .f32) (v : Vec Ideal S64x256 .f32) (U : ℕ → EReal)
    (hU : ∀ r : Fin 64, v (ix2 r j) = U (o + r)) (r : Fin 1) :
    k0_pay16 a v v87 v94 v96 (ix2 r j) = a (ix2 r j) + ∑ x : Fin 64, dVal D G (o + x) * U (o + x) := by
  pointwise [k0_pay16]
  simp only [pay10_eq v87 v94 v96 j D G o hD hG hS, hU]
theorem pay17_eq (a : Vec Ideal S1x256 .f32) (v : Vec Ideal S64x256 .f32) (U : ℕ → EReal)
    (hU : ∀ r : Fin 64, v (ix2 r j) = U (o + r)) (r : Fin 1) :
    k0_pay17 a v v87 v94 v96 (ix2 r j) = a (ix2 r j) + ∑ x : Fin 64, dVal D G (o + x) * U (o + x) :=
  pay16_eq v87 v94 v96 j D G o hD hG hS a v U hU r
theorem pay18_eq (a : Vec Ideal S1x256 .f32) (v : Vec Ideal S64x256 .f32) (U : ℕ → EReal)
    (hU : ∀ r : Fin 64, v (ix2 r j) = U (o + r)) (r : Fin 1) :
    k0_pay18 a v v87 v94 v96 (ix2 r j) = a (ix2 r j) + ∑ x : Fin 64, dVal D G (o + x) * U (o + x) :=
  pay16_eq v87 v94 v96 j D G o hD hG hS a v U hU r
include hC
theorem pay11_eq (r : Fin 64) : k0_pay11 v74 v87 v94 v96 (ix2 r j) = dGate D C G (o + r) := by
  pointwise [k0_pay11]; rw [hD, hG, hS, hC]; rfl
theorem pay13_eq (r : Fin 64) : k0_pay13 v74 v87 v94 v96 (ix2 r j) = dGate D C G (o + r) := by
  pointwise [k0_pay13]; exact pay11_eq v74 v87 v94 v96 j D G C o hD hC hG hS r
theorem pay15_eq (a : Vec Ideal S1x256 .f32) (r : Fin 1) :
    k0_pay15 a v74 v87 v94 v96 (ix2 r j) = a (ix2 r j) + ∑ x : Fin 64, dGate D C G (o + x) := by
  pointwise [k0_pay15]
  simp only [pay11_eq v74 v87 v94 v96 j D G C o hD hC hG hS]
theorem pay19_eq (a : Vec Ideal S1x256 .f32) (v : Vec Ideal S64x256 .f32) (U : ℕ → EReal)
    (hU : ∀ r : Fin 64, v (ix2 r j) = U (o + r)) (r : Fin 1) :
    k0_pay19 a v v74 v87 v94 v96 (ix2 r j) = a (ix2 r j) + ∑ x : Fin 64, dGate D C G (o + x) * U (o + x) := by
  pointwise [k0_pay19]
  simp only [pay11_eq v74 v87 v94 v96 j D G C o hD hC hG hS, hU]
theorem pay20_eq (a : Vec Ideal S1x256 .f32) (v : Vec Ideal S64x256 .f32) (U : ℕ → EReal)
    (hU : ∀ r : Fin 64, v (ix2 r j) = U (o + r)) (r : Fin 1) :
    k0_pay20 a v v74 v87 v94 v96 (ix2 r j) = a (ix2 r j) + ∑ x : Fin 64, dGate D C G (o + x) * U (o + x) :=
  pay19_eq v74 v87 v94 v96 j D G C o hD hC hG hS a v U hU r
end

theorem pay31_eq (v106 : Vec Ideal S64x256 .f32) (j : Fin 256) (E U : ℕ → EReal) (o : ℕ)
    (hE : ∀ r : Fin 64, v106 (ix2 r j) = E (o + r)) (a : Vec Ideal S1x256 .f32) (v : Vec Ideal S64x256 .f32)
    (hU : ∀ r : Fin 64, v (ix2 r j) = U (o + r)) (r : Fin 1) :
    (k0_pay31 (F := Ideal) a v v106 : Vec Ideal S1x256 .f32) (ix2 r j) = a (ix2 r j) + ∑ x : Fin 64, E (o + x) * U (o + x) := by
  pointwise [k0_pay31]
  simp only [hE, hU]

end Cert.KernelIdeal.Hand
end
-- ==== Proof.Trip.lean ====
/- One trip of each of the body's two loops, and the loops' whole runs, read entry by entry. -/
module
public import proofs.«01_k».proof.Proof.Pay
public import Idealize.ShloMosaic.Lib.Pipeline.Value
public import Idealize.ShloMosaic.Lib.Tactic
public import Idealize.ShloMosaic.Lib.Pipeline.ValueKit.Tiles
@[expose] public section
set_option maxRecDepth 16384
noncomputable section
namespace Cert.KernelIdeal.Hand
open Cert.KernelIdeal Cert.KernelIdeal.Gen Idealize.ShloMosaic Idealize.ShloMosaic.TcCoe Idealize.SL.Sem Cert.Hand

/-- The pieces `L` of a buffer of `R` rows agree with `G` and cover its first `n` rows. -/
def Filled {R : ℕ} {e : EltTy} (G : Fin 256 → ℕ → Elt Ideal e) (n : ℕ)
    (L : List (View.Piece (Elt Ideal) (⟨2, ![R, 256]⟩ : Shape) e)) : Prop :=
  (∀ p ∈ L, ∀ x : p.1.shape.Idx, p.2 x = G (p.1.emb x 1) (p.1.emb x 0).val) ∧
    ∀ y : (⟨2, ![R, 256]⟩ : Shape).Idx, (y 0).val < n → ∃ p ∈ L, y ∈ p.1.set

theorem Filled.nil {R : ℕ} {e : EltTy} (G : Fin 256 → ℕ → Elt Ideal e) :
    Filled (R := R) G 0 [] :=
  ⟨fun _ h => absurd h List.not_mem_nil, fun _ h => absurd h (Nat.not_lt_zero _)⟩

/-- Another piece of whole rows, the next ones. -/
theorem Filled.cons {R W : ℕ} {e : EltTy} {G : Fin 256 → ℕ → Elt Ideal e} {n : ℕ}
    {L : List (View.Piece (Elt Ideal) (⟨2, ![R, 256]⟩ : Shape) e)} (h : Filled G n L)
    {off : Fin 2 → ℕ} (o : ℕ) (hoff : off = ![o, 0])
    (inb : ∀ a : Fin 2, off a + (![W, 256] : Fin 2 → ℕ) a ≤ (![R, 256] : Fin 2 → ℕ) a)
    (w : (⟨2, ![W, 256]⟩ : Shape).Idx → Elt Ideal e) (hw : ∀ (r : Fin W) (j : Fin 256), w (ix2 r j) = G j (o + r))
    (n' : ℕ) (hn : ∀ y, y < n' → y < n ∨ o ≤ y ∧ y < o + W) :
    Filled G n' ((⟨Rect.unit (s := ⟨2, ![R, 256]⟩) off ![W, 256] inb, w⟩ : View.Piece (Elt Ideal) (⟨2, ![R, 256]⟩ : Shape) e) :: L) := by
  subst hoff
  refine ⟨fun p hp => ?_, fun y hy => ?_⟩
  · rcases List.mem_cons.mp hp with rfl | hp
    · intro x
      have e0 : ((Rect.unit (s := ⟨2, ![R, 256]⟩) ![o, 0] ![W, 256] inb).emb x 0).val = o + (x 0).val := by
        show o + 1 * (x 0).val = _; rw [Nat.one_mul]
      have e1 : ((Rect.unit (s := ⟨2, ![R, 256]⟩) ![o, 0] ![W, 256] inb).emb x 1) = x 1 := by
        refine Fin.ext ?_
        show 0 + 1 * (x 1).val = _; rw [Nat.one_mul, Nat.zero_add]
      dsimp only
      rw [e0, e1]
      have := hw (x 0) (x 1)
      rwa [show ix2 (n0 := W) (n1 := 256) (x 0) (x 1) = x from ix2_eta x] at this
    · exact h.1 p hp
  · rcases hn _ hy with h' | h'
    · obtain ⟨p, hp, hy⟩ := h.2 y h'
      exact ⟨p, List.mem_cons_of_mem _ hp, hy⟩
    · refine ⟨_, List.mem_cons_self, ?_⟩
      rw [Rect.mem_set_unit]
      intro a
      have h1 : (y 1).val < 256 := (y 1).isLt
      match a with
      | ⟨0, _⟩ => exact h'
      | ⟨1, _⟩ => exact ⟨Nat.zero_le _, by show (y 1).val < 0 + 256; omega⟩

/-- A buffer written by pieces that fill all its rows reads the function they agree with. -/
theorem Filled.read {R : ℕ} {e : EltTy} {G : Fin 256 → ℕ → Elt Ideal e} {sig : RefSig} {κ : Kind} {sp : Space}
    {L : List (View.Piece (Elt Ideal) (⟨2, ![R, 256]⟩ : Shape) e)} {n : ℕ} (h : Filled G n L)
    (v : View sig κ sp (⟨2, ![R, 256]⟩ : Shape) e) (f : v.ty.Contents (Elt Ideal)) (r : Fin R) (hr : r.val < n) (j : Fin 256) :
    v.read (Elt Ideal) (v.writes (Elt Ideal) f L) (ix2 r j) = G j r := by
  exact View.read_writes_apply_of_pieces v f (fun y => G (y 1) (y 0).val) L h.1 (ix2 r j) (h.2 _ hr)

/-- The order of the pieces does not matter. -/
theorem Filled.of_mem {R : ℕ} {e : EltTy} {G : Fin 256 → ℕ → Elt Ideal e} {n : ℕ}
    {L M : List (View.Piece (Elt Ideal) (⟨2, ![R, 256]⟩ : Shape) e)} (h : Filled G n L) (hm : ∀ p, p ∈ M ↔ p ∈ L) : Filled G n M :=
  ⟨fun p hp => h.1 p ((hm p).1 hp), fun y hy => let ⟨p, hp, hy⟩ := h.2 y hy; ⟨p, (hm p).2 hp, hy⟩⟩

/-- A load of `W` whole rows at row `o`. -/
theorem load_rows {R W : ℕ} {e : EltTy} {sig : RefSig} {κ : Kind} {sp : Space}
    (v : View sig κ sp (⟨2, ![R, 256]⟩ : Shape) e) (X : v.ty.Contents (Elt Ideal)) (G : Fin 256 → ℕ → Elt Ideal e)
    (hX : ∀ (r : Fin R) (j : Fin 256), v.read (Elt Ideal) X (ix2 r j) = G j r)
    {off : Fin 2 → ℕ} (o : ℕ) (hoff : off = ![o, 0])
    (inb : ∀ a : Fin 2, off a + (![W, 256] : Fin 2 → ℕ) a ≤ (![R, 256] : Fin 2 → ℕ) a) (r : Fin W) (j : Fin 256) :
    v.readAt (Elt Ideal) (Rect.unit (s := ⟨2, ![R, 256]⟩) off ![W, 256] inb).toLoadRect X (ix2 r j) = G j (o + r) := by
  subst hoff
  have hb : o + r.val < R := by have := inb 0; have h2 := r.isLt; change o + W ≤ R at this; omega
  refine Eq.trans ?_ (hX ⟨o + r.val, hb⟩ j)
  exact View.ld_unit_apply_of (v.read (Elt Ideal) X) ![o, 0] ![W, 256] inb (ix2 r j) _ (fun a => by
    match a with
    | ⟨0, _⟩ => rfl
    | ⟨1, _⟩ => exact (Nat.zero_add _).symm)

variable (𝒱 : Variants) (c : Dev nD) (bd : Option 𝒱.V) (i : grid0.Coords)
  (a1 : Memref sig .tc .vmem S2048x2048 .bf16) (h1 : a1.IsWhole)
  (a2 : Memref sig .tc .vmem S1x256x2048 .bf16) (h2 : a2.IsWhole)
  (a3 : Memref sig .tc .vmem S2048x256 .bf16) (h3 : a3.IsWhole)
  (a4 : Memref sig .tc .vmem S2048x256 .bf16) (h4 : a4.IsWhole)
  (a5 : Memref sig .tc .vmem S3x256 .f32) (h5 : a5.IsWhole)
  (a6 : Memref sig .tc .vmem S3x256 .f32) (h6 : a6.IsWhole)
  (a7 : Memref sig .tc .vmem S1x256 .f32) (h7 : a7.IsWhole)
  (a8 : Memref sig .tc .vmem S1x256 .f32) (h8 : a8.IsWhole)
  (a9 : Memref sig .tc .vmem S2048x256 .bf16) (h9 : a9.IsWhole)
  (a10 : Memref sig .tc .vmem S2048x256 .bf16) (h10 : a10.IsWhole)
  (a11 : Memref sig .tc .vmem S3x256 .f32) (h11 : a11.IsWhole)
  (a12 : Memref sig .tc .vmem S3x256 .f32) (h12 : a12.IsWhole)
  (a13 : Memref sig .tc .vmem S1x256 .f32) (h13 : a13.IsWhole)
  (a14 : Memref sig .tc .vmem S1x256 .f32) (h14 : a14.IsWhole)
  (a15 : Memref sig .tc .vmem S2048x256 .f32) (h15 : a15.IsWhole)
  (a16 : Memref sig .tc .vmem S2056x256 .f32) (h16 : a16.IsWhole)
  (a17 : Memref sig .tc .vmem S2056x256 .f32) (h17 : a17.IsWhole)
  (a18 : Memref sig .tc .vmem S2056x256 .f32) (h18 : a18.IsWhole)
  (a19 : Memref sig .tc .vmem S2056x256 .f32) (h19 : a19.IsWhole)
  (v26 : FVec Ideal S2048x256 .f32) (v27 : Vec Ideal S2048x256 .f32) (v30 v31 : Vec Ideal S3x256 .f32) (v32 v33 : Vec Ideal S1x256 .f32)

section second
variable (X18 : BufTy.Contents (Elt Ideal) a18.view.ty) (X19 : BufTy.Contents (Elt Ideal) a19.view.ty)
  (E G : Fin 256 → ℕ → EReal)
  (hE : ∀ (r : Fin 2056) (j : Fin 256), a18.view.read (Elt Ideal) X18 (ix2 r j) = E j r)
  (hG : ∀ (r : Fin 2056) (j : Fin 256), a19.view.read (Elt Ideal) X19 (ix2 r j) = G j r)
include hE hG

/-- The second loop's stores: the transposed convolution of each half. -/
theorem second_loop : ∀ n : ℕ, n ≤ k0_t2_loop.trips →
    Filled (R := 2048) (e := .bf16) (fun j r => back (taps v30 j) (E j) r) (64 * n) (pb_k0_t2 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 X18 X19 n).1 ∧
    Filled (R := 2048) (e := .bf16) (fun j r => back (taps v31 j) (G j) r) (64 * n) (pb_k0_t2 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 X18 X19 n).2
  | 0, _ => ⟨Filled.nil _, Filled.nil _⟩
  | n + 1, hn => by
    obtain ⟨q1, q2⟩ := second_loop n (by omega)
    rw [pb_k0_t2_succ 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 X18 X19 ⟨n, hn⟩]
    unfold tripL_k0_t2 trip_k0_t2
    dsimp only
    refine ⟨q1.cons (W := 64) (64 * n) (k0_off5_eq ⟨n, hn⟩) _ _ (fun r j => ?_) _ (by omega),
      q2.cons (W := 64) (64 * n) (k0_off5_eq ⟨n, hn⟩) _ _ (fun r j => ?_) _ (by omega)⟩
    · exact pay32_eq _ j (E j) (64 * n) (fun r => load_rows a18.view X18 E hE (W := 72) (64 * n) (k0_off4_eq ⟨n, hn⟩) _ r j) v30 r
    · exact pay33_eq _ j (G j) (64 * n) (fun r => load_rows a19.view X19 G hG (W := 72) (64 * n) (k0_off4_eq ⟨n, hn⟩) _ r j) v31 r
end second

section first
variable (X15 : BufTy.Contents (Elt Ideal) a15.view.ty) (X16 : BufTy.Contents (Elt Ideal) a16.view.ty)
  (X17 : BufTy.Contents (Elt Ideal) a17.view.ty) (D U V : Fin 256 → ℕ → EReal)
  (hD : ∀ (r : Fin 2048) (j : Fin 256), a15.view.read (Elt Ideal) X15 (ix2 r j) = D j r)
  (hU : ∀ (r : Fin 2056) (j : Fin 256), a16.view.read (Elt Ideal) X16 (ix2 r j) = U j r)
  (hV : ∀ (r : Fin 2056) (j : Fin 256), a17.view.read (Elt Ideal) X17 (ix2 r j) = V j r)

/-- The value half's convolution of a column. -/
def cVal (v30 : Vec Ideal S3x256 .f32) (v32 : Vec Ideal S1x256 .f32) (U : Fin 256 → ℕ → EReal) (j : Fin 256) : ℕ → EReal :=
  tap (taps v30 j) (v32 (ix2 0 j)) (fun n => U j (n + 6))

/-- The eight running column sums after `n` rows of a column. -/
def sums (e g u v : ℕ → EReal) (n : ℕ) : Fin 8 → EReal := ![
  ∑ r ∈ Finset.range n, e r, ∑ r ∈ Finset.range n, g r,
  ∑ r ∈ Finset.range n, e r * u (r + 6), ∑ r ∈ Finset.range n, e r * u (r + 7), ∑ r ∈ Finset.range n, e r * u (r + 8),
  ∑ r ∈ Finset.range n, g r * v (r + 6), ∑ r ∈ Finset.range n, g r * v (r + 7), ∑ r ∈ Finset.range n, g r * v (r + 8)]

/-- A carried tuple of eight rows read at a column. -/
def carried (a : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32)
    (j : Fin 256) : Fin 8 → EReal := ![a.1 (ix2 0 j), a.2.1 (ix2 0 j), a.2.2.1 (ix2 0 j), a.2.2.2.1 (ix2 0 j), a.2.2.2.2.1 (ix2 0 j),
      a.2.2.2.2.2.1 (ix2 0 j), a.2.2.2.2.2.2.1 (ix2 0 j), a.2.2.2.2.2.2.2 (ix2 0 j)]

include hD hU hV in
/-- The first loop: the gradients of the two halves stored, their column sums carried. -/
theorem first_loop (init) (hinit : ∀ j p, carried init j p = 0) : ∀ n : ℕ, n ≤ k0_t1_loop.trips →
    (∀ j, carried (st_k0_t1 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 init n).1 j
      = sums (dVal (D j) (cVal v31 v33 V j)) (dGate (D j) (cVal v30 v32 U j) (cVal v31 v33 V j)) (U j) (V j) (64 * n)) ∧
    Filled (R := 2056) (e := .f32) (fun j => cut 2048 (dVal (D j) (cVal v31 v33 V j))) (64 * n) (st_k0_t1 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 init n).2.1 ∧
    Filled (R := 2056) (e := .f32) (fun j => cut 2048 (dGate (D j) (cVal v30 v32 U j) (cVal v31 v33 V j))) (64 * n) (st_k0_t1 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 init n).2.2
  | 0, _ => ⟨fun j => by
      funext p
      refine (hinit j p).trans ?_
      fin_cases p <;> simp [sums], Filled.nil _, Filled.nil _⟩
  | n + 1, hn => by
    obtain ⟨q0, q1, q2⟩ := first_loop init hinit n (by omega)
    rw [st_k0_t1_succ 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 init ⟨n, hn⟩]
    generalize st_k0_t1 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 init n = st at q0 q1 q2
    obtain ⟨acc, L18, L19⟩ := st
    have lD := fun r j => load_rows a15.view X15 D hD (W := 64) (64 * n) (k0_off2_eq ⟨n, hn⟩) (k0_off2_inb ⟨n, hn⟩) r j
    have lU := fun r j => load_rows a16.view X16 U hU (W := 72) (64 * n) (k0_off1_eq ⟨n, hn⟩) (k0_off1_inb ⟨n, hn⟩) r j
    have lV := fun r j => load_rows a17.view X17 V hV (W := 72) (64 * n) (k0_off1_eq ⟨n, hn⟩) (k0_off1_inb ⟨n, hn⟩) r j
    unfold tripL_k0_t1 tripR_k0_t1 trip_k0_t1
    dsimp only
    have hlt : ∀ r : Fin 64, 64 * n + r.val < 2048 := fun r => by
      have h3 : n + 1 ≤ 32 := hn
      omega
    have u8 := fun j => pay1_eq _ j (U j) (64 * n) (fun r => lU r j)
    have u7 := fun j => pay2_eq _ j (U j) (64 * n) (fun r => lU r j)
    have u6 := fun j => pay3_eq _ j (U j) (64 * n) (fun r => lU r j)
    have v8 := fun j => pay4_eq _ j (V j) (64 * n) (fun r => lV r j)
    have v7 := fun j => pay5_eq _ j (V j) (64 * n) (fun r => lV r j)
    have v6 := fun j => pay6_eq _ j (V j) (64 * n) (fun r => lV r j)
    have hC := fun j => pay7_eq _ j (U j) (64 * n) (fun r => lU r j) v30 v32
    have hG := fun j => pay8_eq _ j (V j) (64 * n) (fun r => lV r j) v31 v33
    have hS := fun j => pay9_eq _ j (V j) (64 * n) (fun r => lV r j) v31 v33
    refine ⟨fun j => ?_, ?_, ?_⟩
    · refine funext fun p => ?_
      have qp := congrFun (q0 j) p
      match p, qp with
      | ⟨0, _⟩, qp => exact (pay14_eq _ _ _ j (D j) _ (64 * n) (fun r => lD r j) (hG j) (hS j) _ 0).trans ((congrArg (· + _) qp).trans (sum_tile _ _ _))
      | ⟨1, _⟩, qp => exact (pay15_eq _ _ _ _ j (D j) _ _ (64 * n) (fun r => lD r j) (hC j) (hG j) (hS j) _ 0).trans ((congrArg (· + _) qp).trans (sum_tile _ _ _))
      | ⟨2, _⟩, qp => exact (pay16_eq _ _ _ j (D j) _ (64 * n) (fun r => lD r j) (hG j) (hS j) _ _ (fun n => U j (n + 6)) (u6 j) 0).trans ((congrArg (· + _) qp).trans (sum_tile _ _ _))
      | ⟨3, _⟩, qp => exact (pay17_eq _ _ _ j (D j) _ (64 * n) (fun r => lD r j) (hG j) (hS j) _ _ (fun n => U j (n + 7)) (u7 j) 0).trans ((congrArg (· + _) qp).trans (sum_tile _ _ _))
      | ⟨4, _⟩, qp => exact (pay18_eq _ _ _ j (D j) _ (64 * n) (fun r => lD r j) (hG j) (hS j) _ _ (fun n => U j (n + 8)) (u8 j) 0).trans ((congrArg (· + _) qp).trans (sum_tile _ _ _))
      | ⟨5, _⟩, qp => exact (pay19_eq _ _ _ _ j (D j) _ _ (64 * n) (fun r => lD r j) (hC j) (hG j) (hS j) _ _ (fun n => V j (n + 6)) (v6 j) 0).trans ((congrArg (· + _) qp).trans (sum_tile _ _ _))
      | ⟨6, _⟩, qp => exact (pay20_eq _ _ _ _ j (D j) _ _ (64 * n) (fun r => lD r j) (hC j) (hG j) (hS j) _ _ (fun n => V j (n + 7)) (v7 j) 0).trans ((congrArg (· + _) qp).trans (sum_tile _ _ _))
      | ⟨7, _⟩, qp => exact (pay31_eq _ j _ (fun n => V j (n + 8)) (64 * n) (pay11_eq _ _ _ _ j (D j) _ _ (64 * n) (fun r => lD r j) (hC j) (hG j) (hS j)) _ _ (v8 j) 0).trans ((congrArg (· + _) qp).trans (sum_tile _ _ _))
    · exact q1.cons (W := 64) (64 * n) (k0_off3_eq ⟨n, hn⟩) _ _
        (fun r j => (pay12_eq _ _ _ j (D j) _ (64 * n) (fun r => lD r j) (hG j) (hS j) r).trans (if_pos (hlt r)).symm) _ (by omega)
    · exact q2.cons (W := 64) (64 * n) (k0_off3_eq ⟨n, hn⟩) _ _
        (fun r j => (pay13_eq _ _ _ _ j (D j) _ _ (64 * n) (fun r => lD r j) (hC j) (hG j) (hS j) r).trans (if_pos (hlt r)).symm) _ (by omega)
end first

end Cert.KernelIdeal.Hand
end
-- ==== Proof.Block.lean ====
/- What one block's run leaves in each output, as functions of the input blocks. -/
module
public import proofs.«01_k».proof.Proof.Trip
@[expose] public section
set_option maxRecDepth 16384
noncomputable section
namespace Cert.KernelIdeal.Hand
open Cert.KernelIdeal Cert.KernelIdeal.Gen Cert.Hand
open Idealize.ShloMosaic Idealize.ShloMosaic.TcCoe Idealize.SL.Sem

variable (x0 : Vec Ideal S2048x2048 .bf16) (x1 : Vec Ideal S1x256x2048 .bf16) (x2 x3 : Vec Ideal S2048x256 .bf16)
    (x4 x5 : Vec Ideal S3x256 .f32) (x6 x7 : Vec Ideal S1x256 .f32)

/-- The incoming gradient through the product, one column. -/
def dBlk (j : Fin 256) (r : ℕ) : EReal :=
  if q : r < 2048 then ∑ p : Fin 2048, x0 (ix2 ⟨r, q⟩ p) * x1 (ix3 0 j p) else 0

/-- A column of a half of the up-projection, eight zeros in front. -/
def uBlk (x : Vec Ideal S2048x256 .bf16) (j : Fin 256) : ℕ → EReal := lead 8 2048 (fun r => x (ix2 r j))

/-- The gradient in the value half's convolution, one column. -/
def eBlk (j : Fin 256) : ℕ → EReal := dVal (dBlk x0 x1 j) (cVal x5 x7 (uBlk x3) j)

/-- The gradient in the gate half's convolution, one column. -/
def gBlk (j : Fin 256) : ℕ → EReal := dGate (dBlk x0 x1 j) (cVal x4 x6 (uBlk x2) j) (cVal x5 x7 (uBlk x3) j)

/-- The value half's gradient. -/
def out8 (x0 : Vec Ideal S2048x2048 .bf16) (x1 : Vec Ideal S1x256x2048 .bf16) (x2 x3 : Vec Ideal S2048x256 .bf16)
    (x4 x5 : Vec Ideal S3x256 .f32) (x6 x7 : Vec Ideal S1x256 .f32) : Vec Ideal S2048x256 .bf16 := fun y => back (taps x4 (y 1)) (cut 2048 (eBlk x0 x1 x3 x5 x7 (y 1))) (y 0).val
/-- The gate half's gradient. -/
def out9 (x0 : Vec Ideal S2048x2048 .bf16) (x1 : Vec Ideal S1x256x2048 .bf16) (x2 x3 : Vec Ideal S2048x256 .bf16)
    (x4 x5 : Vec Ideal S3x256 .f32) (x6 x7 : Vec Ideal S1x256 .f32) : Vec Ideal S2048x256 .bf16 := fun y => back (taps x5 (y 1)) (cut 2048 (gBlk x0 x1 x2 x3 x4 x5 x6 x7 (y 1))) (y 0).val
/-- The value taps' gradient. -/
def out10 (x0 : Vec Ideal S2048x2048 .bf16) (x1 : Vec Ideal S1x256x2048 .bf16) (x2 x3 : Vec Ideal S2048x256 .bf16)
    (x4 x5 : Vec Ideal S3x256 .f32) (x6 x7 : Vec Ideal S1x256 .f32) : Vec Ideal S3x256 .f32 := fun y =>
  ∑ r ∈ Finset.range 2048, eBlk x0 x1 x3 x5 x7 (y 1) r * uBlk x2 (y 1) (r + 6 + (y 0).val)
/-- The gate taps' gradient. -/
def out11 (x0 : Vec Ideal S2048x2048 .bf16) (x1 : Vec Ideal S1x256x2048 .bf16) (x2 x3 : Vec Ideal S2048x256 .bf16)
    (x4 x5 : Vec Ideal S3x256 .f32) (x6 x7 : Vec Ideal S1x256 .f32) : Vec Ideal S3x256 .f32 := fun y =>
  ∑ r ∈ Finset.range 2048, gBlk x0 x1 x2 x3 x4 x5 x6 x7 (y 1) r * uBlk x3 (y 1) (r + 6 + (y 0).val)
/-- The value bias's gradient. -/
def out12 (x0 : Vec Ideal S2048x2048 .bf16) (x1 : Vec Ideal S1x256x2048 .bf16) (x2 x3 : Vec Ideal S2048x256 .bf16)
    (x4 x5 : Vec Ideal S3x256 .f32) (x6 x7 : Vec Ideal S1x256 .f32) : Vec Ideal S1x256 .f32 := fun y => ∑ r ∈ Finset.range 2048, eBlk x0 x1 x3 x5 x7 (y 1) r
/-- The gate bias's gradient. -/
def out13 (x0 : Vec Ideal S2048x2048 .bf16) (x1 : Vec Ideal S1x256x2048 .bf16) (x2 x3 : Vec Ideal S2048x256 .bf16)
    (x4 x5 : Vec Ideal S3x256 .f32) (x6 x7 : Vec Ideal S1x256 .f32) : Vec Ideal S1x256 .f32 := fun y => ∑ r ∈ Finset.range 2048, gBlk x0 x1 x2 x3 x4 x5 x6 x7 (y 1) r

end Cert.KernelIdeal.Hand
end
-- ==== Proof.Leave.lean ====
/- What the body's buffers hold when both loops are done. -/
module
public import proofs.«01_k».proof.Proof.Block
@[expose] public section
set_option maxRecDepth 16384
noncomputable section
namespace Cert.KernelIdeal.Hand
open Cert.KernelIdeal Cert.KernelIdeal.Gen Cert.Hand
open Idealize.ShloMosaic Idealize.ShloMosaic.TcCoe Idealize.SL.Sem

theorem pay22_eq (y) : k0_pay22 (F := Ideal) y = 0 := by pointwise [k0_pay22, k0_pay21]
theorem pay23_eq (y) : k0_pay23 (F := Ideal) y = 0 := by pointwise [k0_pay23, k0_pay21]
theorem pay24_eq (y) : k0_pay24 (F := Ideal) y = 0 := by pointwise [k0_pay24, k0_pay21]
theorem pay25_eq (y) : k0_pay25 (F := Ideal) y = 0 := by pointwise [k0_pay25, k0_pay21]
theorem pay30_eq (y) : k0_pay30 (F := Ideal) y = 0 := by pointwise [k0_pay30]
theorem pay26_eq (x0 : Vec Ideal S2048x2048 .bf16) (x1 : Vec Ideal S1x256x2048 .bf16) (r : Fin 2048) (j : Fin 256) :
    k0_pay26 x0 x1 (ix2 r j) = dBlk x0 x1 j r := by
  pointwise [k0_pay26]
  unfold dBlk
  rw [dif_pos r.isLt]
theorem pay27_eq (x : Vec Ideal S2048x256 .bf16) (r : Fin 2048) (j : Fin 256) : k0_pay27 x (ix2 r j) = uBlk x j (8 + r) := by
  pointwise [k0_pay27]
  unfold uBlk lead
  rw [dif_pos ⟨Nat.le_add_right _ _, by omega⟩]
  exact congrArg (fun q => x (ix2 q j)) (Fin.ext (by dsimp only; omega))
theorem pay29_eq (x : Vec Ideal S2048x256 .bf16) (r : Fin 2048) (j : Fin 256) : k0_pay29 (k0_pay28 x) (ix2 r j) = uBlk x j (8 + r) := by
  pointwise [k0_pay29, k0_pay28]
  unfold uBlk lead
  rw [dif_pos ⟨Nat.le_add_right _ _, by omega⟩]
  exact congrArg (fun q => x (ix2 q j)) (Fin.ext (by dsimp only; omega))
theorem uBlk_front (x : Vec Ideal S2048x256 .bf16) (j : Fin 256) (r : ℕ) (hr : r < 8) : uBlk x j r = 0 :=
  dif_neg fun h => absurd h.1 (by omega)

/-- A load of a whole buffer. -/
theorem load_whole {s : Shape} {e : EltTy} {sp : Space} {κ : Kind} (a : Memref sig κ sp s e) (h : a.IsWhole) (x : Vec Ideal s e)
    (off : Fin s.rank → ℕ) (hoff : ∀ i, off i = 0) (inb) :
    a.view.readAt (Elt Ideal) (Rect.unit off s.size inb).toLoadRect (h.unread x) = x := by
  funext y
  refine (View.ld_unit_apply_of (a.view.read (Elt Ideal) (h.unread x)) off s.size inb y y fun i => ?_).trans
    (congrFun (h.read_unread x) y)
  rw [hoff, Nat.zero_add]

/-- The padded sequences. -/
theorem stage {sp : Space} (v : View sig .tc sp S2056x256 .f32) (f : v.ty.Contents (Elt Ideal)) (x : Vec Ideal S2048x256 .bf16)
    (p : Vec Ideal S2048x256 .f32) (z : Vec Ideal S8x256 .f32)
    (hp : ∀ r j, p (ix2 r j) = uBlk x j (8 + r.val)) (hz : ∀ y, z y = 0) (i1 i2) (r : Fin 2056) (j : Fin 256) :
    v.read (Elt Ideal) (v.writes (Elt Ideal) f [⟨Rect.unit ![8, 0] S2048x256.size i1, p⟩, ⟨Rect.unit ![0, 0] S8x256.size i2, z⟩]) (ix2 r j)
      = uBlk x j r :=
  (((Filled.nil (R := 2056) (e := .f32) (uBlk x)).cons (W := 8) 0 rfl i2 z (fun r j => by
      rw [hz, Nat.zero_add]; exact (uBlk_front x j r r.isLt).symm) 8 (by omega)).cons (W := 2048) 8 rfl i1 p hp 2056 (by omega)).read v f r r.isLt j

theorem hst2 {x : Vec Ideal S2048x256 .bf16} (y : Vec Ideal S2048x256 .bf16) (q : y = x) (r : Fin 2048) (j : Fin 256) :
    k0_pay27 y (ix2 r j) = uBlk x j (8 + r.val) := q ▸ pay27_eq y r j
theorem hst3 {x : Vec Ideal S2048x256 .bf16} (y : Vec Ideal S2048x256 .bf16) (q : y = x) (r : Fin 2048) (j : Fin 256) :
    k0_pay29 (k0_pay28 y) (ix2 r j) = uBlk x j (8 + r.val) := q ▸ pay29_eq y r j

/-- The product's buffer. -/
theorem stage15 {sp : Space} (v : View sig .tc sp S2048x256 .f32) (f : v.ty.Contents (Elt Ideal)) (x0 : Vec Ideal S2048x2048 .bf16)
    (x1 : Vec Ideal S1x256x2048 .bf16) (y0 : Vec Ideal S2048x2048 .bf16) (y1 : Vec Ideal S1x256x2048 .bf16) (q0 : y0 = x0) (q1 : y1 = x1)
    (i1) (r : Fin 2048) (j : Fin 256) :
    v.read (Elt Ideal) (v.writes (Elt Ideal) f [⟨Rect.unit ![0, 0] S2048x256.size i1, k0_pay26 y0 y1⟩]) (ix2 r j) = dBlk x0 x1 j r :=
  ((Filled.nil (R := 2048) (e := .f32) (dBlk x0 x1)).cons (W := 2048) 0 rfl i1 _ (fun r j => by
      rw [q0, q1, pay26_eq, Nat.zero_add]) 2048 (by omega)).read v f r r.isLt j

/-- The buffer of a half's gradient, its last eight rows zero. -/
theorem tail {sp : Space} (v : View sig .tc sp S2056x256 .f32) (f : v.ty.Contents (Elt Ideal)) (e : Fin 256 → ℕ → EReal)
    (L : List (View.Piece (Elt Ideal) S2056x256 .f32)) (z : Vec Ideal S8x256 .f32) (hz : ∀ y, z y = 0) (i1)
    (h : Filled (R := 2056) (e := .f32) (fun j => cut 2048 (e j)) 2048 L) (r : Fin 2056) (j : Fin 256) :
    v.read (Elt Ideal) (v.writes (Elt Ideal) f (L ++ [⟨Rect.unit ![2048, 0] S8x256.size i1, z⟩])) (ix2 r j) = cut 2048 (e j) r :=
  ((h.cons (W := 8) 2048 rfl i1 z (fun r j => by
    rw [hz]; exact (if_neg (by omega)).symm) 2056 (by omega)).of_mem (fun p => by
      simp only [List.mem_append, List.mem_cons, List.not_mem_nil, or_false]; exact or_comm)).read v f r r.isLt j

section
variable (𝒱 : Variants) (c : Dev nD) (bd : Option 𝒱.V) (i : grid0.Coords)
  (a1 : Memref sig .tc .vmem S2048x2048 .bf16) (h1 : a1.IsWhole)
  (a2 : Memref sig .tc .vmem S1x256x2048 .bf16) (h2 : a2.IsWhole)
  (a3 : Memref sig .tc .vmem S2048x256 .bf16) (h3 : a3.IsWhole)
  (a4 : Memref sig .tc .vmem S2048x256 .bf16) (h4 : a4.IsWhole)
  (a5 : Memref sig .tc .vmem S3x256 .f32) (h5 : a5.IsWhole)
  (a6 : Memref sig .tc .vmem S3x256 .f32) (h6 : a6.IsWhole)
  (a7 : Memref sig .tc .vmem S1x256 .f32) (h7 : a7.IsWhole)
  (a8 : Memref sig .tc .vmem S1x256 .f32) (h8 : a8.IsWhole)
  (a9 : Memref sig .tc .vmem S2048x256 .bf16) (h9 : a9.IsWhole)
  (a10 : Memref sig .tc .vmem S2048x256 .bf16) (h10 : a10.IsWhole)
  (a11 : Memref sig .tc .vmem S3x256 .f32) (h11 : a11.IsWhole)
  (a12 : Memref sig .tc .vmem S3x256 .f32) (h12 : a12.IsWhole)
  (a13 : Memref sig .tc .vmem S1x256 .f32) (h13 : a13.IsWhole)
  (a14 : Memref sig .tc .vmem S1x256 .f32) (h14 : a14.IsWhole)
  (a15 : Memref sig .tc .vmem S2048x256 .f32) (h15 : a15.IsWhole)
  (a16 : Memref sig .tc .vmem S2056x256 .f32) (h16 : a16.IsWhole)
  (a17 : Memref sig .tc .vmem S2056x256 .f32) (h17 : a17.IsWhole)
  (a18 : Memref sig .tc .vmem S2056x256 .f32) (h18 : a18.IsWhole)
  (a19 : Memref sig .tc .vmem S2056x256 .f32) (h19 : a19.IsWhole)
  (v26 : FVec Ideal S2048x256 .f32) (v27 : Vec Ideal S2048x256 .f32) (v30 v31 : Vec Ideal S3x256 .f32) (v32 v33 : Vec Ideal S1x256 .f32)
  (x0 : Vec Ideal S2048x2048 .bf16) (x1 : Vec Ideal S1x256x2048 .bf16) (x2 x3 : Vec Ideal S2048x256 .bf16)
  (x4 x5 : Vec Ideal S3x256 .f32) (x6 x7 : Vec Ideal S1x256 .f32)
  (q4 : v30 = x4) (q5 : v31 = x5) (q6 : v32 = x6) (q7 : v33 = x7)
include q4 q5

section
variable (X15 : BufTy.Contents (Elt Ideal) a15.view.ty) (X16 : BufTy.Contents (Elt Ideal) a16.view.ty)
  (X17 : BufTy.Contents (Elt Ideal) a17.view.ty)
  (hD : ∀ (r : Fin 2048) (j : Fin 256), a15.view.read (Elt Ideal) X15 (ix2 r j) = dBlk x0 x1 j r)
  (hU : ∀ (r : Fin 2056) (j : Fin 256), a16.view.read (Elt Ideal) X16 (ix2 r j) = uBlk x2 j r)
  (hV : ∀ (r : Fin 2056) (j : Fin 256), a17.view.read (Elt Ideal) X17 (ix2 r j) = uBlk x3 j r)
include q6 q7 hD hU hV

/-- The first loop, all its trips, from the buffers the body fills. -/
theorem loop1 :
    (∀ j, carried (st_k0_t1 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 (k0_pay30, k0_pay30, k0_pay30, k0_pay30, k0_pay30, k0_pay30, k0_pay30, k0_pay30) (Scf.trips k0_t1_loop.lb k0_t1_loop.ub k0_t1_loop.st)).1 j
      = sums (eBlk x0 x1 x3 x5 x7 j) (gBlk x0 x1 x2 x3 x4 x5 x6 x7 j) (uBlk x2 j) (uBlk x3 j) 2048) ∧
    Filled (R := 2056) (e := .f32) (fun j => cut 2048 (eBlk x0 x1 x3 x5 x7 j)) 2048 (st_k0_t1 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 (k0_pay30, k0_pay30, k0_pay30, k0_pay30, k0_pay30, k0_pay30, k0_pay30, k0_pay30) (Scf.trips k0_t1_loop.lb k0_t1_loop.ub k0_t1_loop.st)).2.1 ∧
    Filled (R := 2056) (e := .f32) (fun j => cut 2048 (gBlk x0 x1 x2 x3 x4 x5 x6 x7 j)) 2048 (st_k0_t1 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 (k0_pay30, k0_pay30, k0_pay30, k0_pay30, k0_pay30, k0_pay30, k0_pay30, k0_pay30) (Scf.trips k0_t1_loop.lb k0_t1_loop.ub k0_t1_loop.st)).2.2 := by
  subst q4 q5 q6 q7
  exact first_loop 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 v32 v33 X15 X16 X17 (dBlk x0 x1) (uBlk x2) (uBlk x3) hD hU hV _
    (fun j p => by
      match p with
      | ⟨0, _⟩ => exact pay30_eq (ix2 0 j)
      | ⟨1, _⟩ => exact pay30_eq (ix2 0 j)
      | ⟨2, _⟩ => exact pay30_eq (ix2 0 j)
      | ⟨3, _⟩ => exact pay30_eq (ix2 0 j)
      | ⟨4, _⟩ => exact pay30_eq (ix2 0 j)
      | ⟨5, _⟩ => exact pay30_eq (ix2 0 j)
      | ⟨6, _⟩ => exact pay30_eq (ix2 0 j)
      | ⟨7, _⟩ => exact pay30_eq (ix2 0 j)) 32 (le_of_eq rfl)
end

variable (X18 : BufTy.Contents (Elt Ideal) a18.view.ty) (X19 : BufTy.Contents (Elt Ideal) a19.view.ty)
  (hE : ∀ (r : Fin 2056) (j : Fin 256), a18.view.read (Elt Ideal) X18 (ix2 r j) = cut 2048 (eBlk x0 x1 x3 x5 x7 j) r)
  (hG : ∀ (r : Fin 2056) (j : Fin 256), a19.view.read (Elt Ideal) X19 (ix2 r j) = cut 2048 (gBlk x0 x1 x2 x3 x4 x5 x6 x7 j) r)
include hE hG

/-- What the second loop leaves in the first output. -/
theorem left8 (f) : a9.view.read (Elt Ideal) (a9.view.writes (Elt Ideal) f
      (pb_k0_t2 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 X18 X19 (Scf.trips k0_t2_loop.lb k0_t2_loop.ub k0_t2_loop.st)).1) = out8 x0 x1 x2 x3 x4 x5 x6 x7 := by
  subst q4 q5
  funext y
  have := ((second_loop 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 X18 X19 _ _ hE hG 32 (le_of_eq rfl)).1).read a9.view f (y 0) (y 0).isLt (y 1)
  rwa [show ix2 (n0 := 2048) (n1 := 256) (y 0) (y 1) = y from ix2_eta y] at this

/-- What the second loop leaves in the second output. -/
theorem left9 (f) : a10.view.read (Elt Ideal) (a10.view.writes (Elt Ideal) f
      (pb_k0_t2 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 X18 X19 (Scf.trips k0_t2_loop.lb k0_t2_loop.ub k0_t2_loop.st)).2) = out9 x0 x1 x2 x3 x4 x5 x6 x7 := by
  subst q4 q5
  funext y
  have := ((second_loop 𝒱 c bd i a1 h1 a2 h2 a3 h3 a4 h4 a5 h5 a6 h6 a7 h7 a8 h8 a9 h9 a10 h10 a11 h11 a12 h12 a13 h13 a14 h14 a15 h15 a16 h16 a17 h17 a18 h18 a19 h19 v26 v27 v30 v31 X18 X19 _ _ hE hG 32 (le_of_eq rfl)).2).read a10.view f (y 0) (y 0).isLt (y 1)
  rwa [show ix2 (n0 := 2048) (n1 := 256) (y 0) (y 1) = y from ix2_eta y] at this
end

section
variable (x0 : Vec Ideal S2048x2048 .bf16) (x1 : Vec Ideal S1x256x2048 .bf16) (x2 x3 : Vec Ideal S2048x256 .bf16)
  (x4 x5 : Vec Ideal S3x256 .f32) (x6 x7 : Vec Ideal S1x256 .f32)
  (a : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32)
  (ha : ∀ j, carried a j = sums (eBlk x0 x1 x3 x5 x7 j) (gBlk x0 x1 x2 x3 x4 x5 x6 x7 j) (uBlk x2 j) (uBlk x3 j) 2048)

/-- One stored row. -/
theorem row1 {sp : Space} (v : View sig .tc sp S1x256 .f32) (f : v.ty.Contents (Elt Ideal)) (w : Vec Ideal S1x256 .f32) (G : Fin 256 → EReal)
    (hw : ∀ j, w (ix2 0 j) = G j) (i1) : v.read (Elt Ideal) (v.writes (Elt Ideal) f [⟨Rect.unit ![0, 0] S1x256.size i1, w⟩]) = fun y => G (y 1) := by
  funext y
  have := ((Filled.nil (R := 1) (e := .f32) (fun j _ => G j)).cons (W := 1) 0 rfl i1 w (fun r j => by
    rw [Subsingleton.elim r 0]; exact hw j) 1 (by omega)).read v f (y 0) (y 0).isLt (y 1)
  rwa [show ix2 (n0 := 1) (n1 := 256) (y 0) (y 1) = y from ix2_eta y] at this

/-- Three stored rows. -/
theorem row3 {sp : Space} (v : View sig .tc sp S3x256 .f32) (f : v.ty.Contents (Elt Ideal)) (w0 w1 w2 : Vec Ideal S1x256 .f32)
    (G : Fin 256 → ℕ → EReal) (hw0 : ∀ j, w0 (ix2 0 j) = G j 0) (hw1 : ∀ j, w1 (ix2 0 j) = G j 1) (hw2 : ∀ j, w2 (ix2 0 j) = G j 2) (i0 i1 i2) :
    v.read (Elt Ideal) (v.writes (Elt Ideal) f [⟨Rect.unit ![2, 0] S1x256.size i2, w2⟩, ⟨Rect.unit ![1, 0] S1x256.size i1, w1⟩,
      ⟨Rect.unit ![0, 0] S1x256.size i0, w0⟩]) = fun y => G (y 1) (y 0).val := by
  funext y
  have := ((((Filled.nil (R := 3) (e := .f32) G).cons (W := 1) 0 rfl i0 w0 (fun r j => by
    rw [Subsingleton.elim r 0]; exact hw0 j) 1 (by omega)).cons (W := 1) 1 rfl i1 w1 (fun r j => by
    rw [Subsingleton.elim r 0]; exact hw1 j) 2 (by omega)).cons (W := 1) 2 rfl i2 w2 (fun r j => by
    rw [Subsingleton.elim r 0]; exact hw2 j) 3 (by omega)).read v f (y 0) (y 0).isLt (y 1)
  rwa [show ix2 (n0 := 3) (n1 := 256) (y 0) (y 1) = y from ix2_eta y] at this

include ha
theorem left10 {sp : Space} (v : View sig .tc sp S3x256 .f32) (f : v.ty.Contents (Elt Ideal)) (i0 i1 i2) :
    v.read (Elt Ideal) (v.writes (Elt Ideal) f [⟨Rect.unit ![2, 0] S1x256.size i2, a.2.2.2.2.1⟩, ⟨Rect.unit ![1, 0] S1x256.size i1, a.2.2.2.1⟩,
      ⟨Rect.unit ![0, 0] S1x256.size i0, a.2.2.1⟩]) = out10 x0 x1 x2 x3 x4 x5 x6 x7 :=
  row3 v f _ _ _ (fun j k => ∑ r ∈ Finset.range 2048, eBlk x0 x1 x3 x5 x7 j r * uBlk x2 j (r + 6 + k))
    (fun j => congrFun (ha j) 2) (fun j => congrFun (ha j) 3) (fun j => congrFun (ha j) 4) i0 i1 i2
theorem left11 {sp : Space} (v : View sig .tc sp S3x256 .f32) (f : v.ty.Contents (Elt Ideal)) (i0 i1 i2) :
    v.read (Elt Ideal) (v.writes (Elt Ideal) f [⟨Rect.unit ![2, 0] S1x256.size i2, a.2.2.2.2.2.2.2⟩, ⟨Rect.unit ![1, 0] S1x256.size i1, a.2.2.2.2.2.2.1⟩,
      ⟨Rect.unit ![0, 0] S1x256.size i0, a.2.2.2.2.2.1⟩]) = out11 x0 x1 x2 x3 x4 x5 x6 x7 :=
  row3 v f _ _ _ (fun j k => ∑ r ∈ Finset.range 2048, gBlk x0 x1 x2 x3 x4 x5 x6 x7 j r * uBlk x3 j (r + 6 + k))
    (fun j => congrFun (ha j) 5) (fun j => congrFun (ha j) 6) (fun j => congrFun (ha j) 7) i0 i1 i2
theorem left12 {sp : Space} (v : View sig .tc sp S1x256 .f32) (f : v.ty.Contents (Elt Ideal)) (i0) :
    v.read (Elt Ideal) (v.writes (Elt Ideal) f [⟨Rect.unit ![0, 0] S1x256.size i0, a.1⟩]) = out12 x0 x1 x2 x3 x4 x5 x6 x7 :=
  row1 v f _ (fun j => ∑ r ∈ Finset.range 2048, eBlk x0 x1 x3 x5 x7 j r) (fun j => congrFun (ha j) 0) i0
theorem left13 {sp : Space} (v : View sig .tc sp S1x256 .f32) (f : v.ty.Contents (Elt Ideal)) (i0) :
    v.read (Elt Ideal) (v.writes (Elt Ideal) f [⟨Rect.unit ![0, 0] S1x256.size i0, a.2.1⟩]) = out13 x0 x1 x2 x3 x4 x5 x6 x7 :=
  row1 v f _ (fun j => ∑ r ∈ Finset.range 2048, gBlk x0 x1 x2 x3 x4 x5 x6 x7 j r) (fun j => congrFun (ha j) 1) i0
end

end Cert.KernelIdeal.Hand
end
-- ==== Proof.Body.lean ====
/- The body's run on whole buffers, with what each output's buffer ends up holding. -/
module
public import proofs.«01_k».proof.Proof.Gen.KernelIdeal.Frame.Runs
public import proofs.«01_k».proof.Proof.Leave
@[expose] public section
set_option maxRecDepth 16384
noncomputable section
namespace Cert.KernelIdeal.Hand
open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Ideal) ℕ (UR sig nD τ) ℕ

set_option maxHeartbeats 4000000 in
/-- On whole buffers holding the input blocks the body runs and leaves the six output buffers at the functions of
    `Block.lean`. -/
theorem body_run (c : Dev nD) (i : grid0.Coords)
  (a1 : Memref sig .tc .vmem S2048x2048 .bf16) (h1 : a1.IsWhole)
  (a2 : Memref sig .tc .vmem S1x256x2048 .bf16) (h2 : a2.IsWhole)
  (a3 : Memref sig .tc .vmem S2048x256 .bf16) (h3 : a3.IsWhole)
  (a4 : Memref sig .tc .vmem S2048x256 .bf16) (h4 : a4.IsWhole)
  (a5 : Memref sig .tc .vmem S3x256 .f32) (h5 : a5.IsWhole)
  (a6 : Memref sig .tc .vmem S3x256 .f32) (h6 : a6.IsWhole)
  (a7 : Memref sig .tc .vmem S1x256 .f32) (h7 : a7.IsWhole)
  (a8 : Memref sig .tc .vmem S1x256 .f32) (h8 : a8.IsWhole)
  (a9 : Memref sig .tc .vmem S2048x256 .bf16) (h9 : a9.IsWhole)
  (a10 : Memref sig .tc .vmem S2048x256 .bf16) (h10 : a10.IsWhole)
  (a11 : Memref sig .tc .vmem S3x256 .f32) (h11 : a11.IsWhole)
  (a12 : Memref sig .tc .vmem S3x256 .f32) (h12 : a12.IsWhole)
  (a13 : Memref sig .tc .vmem S1x256 .f32) (h13 : a13.IsWhole)
  (a14 : Memref sig .tc .vmem S1x256 .f32) (h14 : a14.IsWhole)
  (a15 : Memref sig .tc .vmem S2048x256 .f32) (h15 : a15.IsWhole)
  (a16 : Memref sig .tc .vmem S2056x256 .f32) (h16 : a16.IsWhole)
  (a17 : Memref sig .tc .vmem S2056x256 .f32) (h17 : a17.IsWhole)
  (a18 : Memref sig .tc .vmem S2056x256 .f32) (h18 : a18.IsWhole)
  (a19 : Memref sig .tc .vmem S2056x256 .f32) (h19 : a19.IsWhole)
    (x0 : Vec Ideal S2048x2048 .bf16) (x1 : Vec Ideal S1x256x2048 .bf16) (x2 x3 : Vec Ideal S2048x256 .bf16)
    (x4 x5 : Vec Ideal S3x256 .f32) (x6 x7 : Vec Ideal S1x256 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare (out8 x0 x1 x2 x3 x4 x5 x6 x7) ∗ owns (c : Thread nD τ) a10 fullShare (out9 x0 x1 x2 x3 x4 x5 x6 x7) ∗ owns (c : Thread nD τ) a11 fullShare (out10 x0 x1 x2 x3 x4 x5 x6 x7) ∗ owns (c : Thread nD τ) a12 fullShare (out11 x0 x1 x2 x3 x4 x5 x6 x7) ∗ owns (c : Thread nD τ) a13 fullShare (out12 x0 x1 x2 x3 x4 x5 x6 x7) ∗ owns (c : Thread nD τ) a14 fullShare (out13 x0 x1 x2 x3 x4 x5 x6 x7) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d)) -∗ K ⟨⟩))
      ⊢ wp frame (wpE (defs₀ (F := Ideal)) Variants.none c none) E (cc0_ffn_bwd i a1 h1 a2 h2 a3 h3 a4 h4 a5 h5 a6 h6 a7 h7 a8 h8 a9 h9 a10 h10 a11 h11 a12 h12 a13 h13 a14 h14 a15 h15 a16 h16 a17 h17 a18 h18 a19 h19) K := by
  simp only [cc0_ffn_bwd_eq_skeleton]; unfold cc0_ffn_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7
  sl_exec
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _; isplitr; swap; · iexact H8
    ipureintro
    exact left8 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ x0 x1 x2 x3 x4 x5 x6 x7 (load_whole a5 h5 x4 _ (fun q => by revert q; decide) _) (load_whole a6 h6 x5 _ (fun q => by revert q; decide) _) _ _
      (tail a18.view _ _ _ _ pay24_eq _ (loop1 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ _ _ x0 x1 x2 x3 x4 x5 x6 x7 (load_whole a5 h5 x4 _ (fun q => by revert q; decide) _) (load_whole a6 h6 x5 _ (fun q => by revert q; decide) _) (load_whole a7 h7 x6 _ (fun q => by revert q; decide) _) (load_whole a8 h8 x7 _ (fun q => by revert q; decide) _) _ _ _ (stage15 a15.view _ x0 x1 _ _ (load_whole a1 h1 x0 _ (fun q => by revert q; decide) _) (load_whole a2 h2 x1 _ (fun q => by revert q; decide) _) _) (stage a16.view _ x2 _ _ (hst2 _ (load_whole a3 h3 x2 _ (fun q => by revert q; decide) _)) pay22_eq _ _) (stage a17.view _ x3 _ _ (hst3 _ (load_whole a4 h4 x3 _ (fun q => by revert q; decide) _)) pay23_eq _ _)).2.1) (tail a19.view _ _ _ _ pay25_eq _ (loop1 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ _ _ x0 x1 x2 x3 x4 x5 x6 x7 (load_whole a5 h5 x4 _ (fun q => by revert q; decide) _) (load_whole a6 h6 x5 _ (fun q => by revert q; decide) _) (load_whole a7 h7 x6 _ (fun q => by revert q; decide) _) (load_whole a8 h8 x7 _ (fun q => by revert q; decide) _) _ _ _ (stage15 a15.view _ x0 x1 _ _ (load_whole a1 h1 x0 _ (fun q => by revert q; decide) _) (load_whole a2 h2 x1 _ (fun q => by revert q; decide) _) _) (stage a16.view _ x2 _ _ (hst2 _ (load_whole a3 h3 x2 _ (fun q => by revert q; decide) _)) pay22_eq _ _) (stage a17.view _ x3 _ _ (hst3 _ (load_whole a4 h4 x3 _ (fun q => by revert q; decide) _)) pay23_eq _ _)).2.2) _
  isplitl [H9]
  · iexists _; isplitr; swap; · iexact H9
    ipureintro
    exact left9 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ x0 x1 x2 x3 x4 x5 x6 x7 (load_whole a5 h5 x4 _ (fun q => by revert q; decide) _) (load_whole a6 h6 x5 _ (fun q => by revert q; decide) _) _ _
      (tail a18.view _ _ _ _ pay24_eq _ (loop1 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ _ _ x0 x1 x2 x3 x4 x5 x6 x7 (load_whole a5 h5 x4 _ (fun q => by revert q; decide) _) (load_whole a6 h6 x5 _ (fun q => by revert q; decide) _) (load_whole a7 h7 x6 _ (fun q => by revert q; decide) _) (load_whole a8 h8 x7 _ (fun q => by revert q; decide) _) _ _ _ (stage15 a15.view _ x0 x1 _ _ (load_whole a1 h1 x0 _ (fun q => by revert q; decide) _) (load_whole a2 h2 x1 _ (fun q => by revert q; decide) _) _) (stage a16.view _ x2 _ _ (hst2 _ (load_whole a3 h3 x2 _ (fun q => by revert q; decide) _)) pay22_eq _ _) (stage a17.view _ x3 _ _ (hst3 _ (load_whole a4 h4 x3 _ (fun q => by revert q; decide) _)) pay23_eq _ _)).2.1) (tail a19.view _ _ _ _ pay25_eq _ (loop1 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ _ _ x0 x1 x2 x3 x4 x5 x6 x7 (load_whole a5 h5 x4 _ (fun q => by revert q; decide) _) (load_whole a6 h6 x5 _ (fun q => by revert q; decide) _) (load_whole a7 h7 x6 _ (fun q => by revert q; decide) _) (load_whole a8 h8 x7 _ (fun q => by revert q; decide) _) _ _ _ (stage15 a15.view _ x0 x1 _ _ (load_whole a1 h1 x0 _ (fun q => by revert q; decide) _) (load_whole a2 h2 x1 _ (fun q => by revert q; decide) _) _) (stage a16.view _ x2 _ _ (hst2 _ (load_whole a3 h3 x2 _ (fun q => by revert q; decide) _)) pay22_eq _ _) (stage a17.view _ x3 _ _ (hst3 _ (load_whole a4 h4 x3 _ (fun q => by revert q; decide) _)) pay23_eq _ _)).2.2) _
  isplitl [H10]
  · iexists _; isplitr; swap; · iexact H10
    ipureintro
    exact left10 x0 x1 x2 x3 x4 x5 x6 x7 _ (loop1 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ _ _ x0 x1 x2 x3 x4 x5 x6 x7 (load_whole a5 h5 x4 _ (fun q => by revert q; decide) _) (load_whole a6 h6 x5 _ (fun q => by revert q; decide) _) (load_whole a7 h7 x6 _ (fun q => by revert q; decide) _) (load_whole a8 h8 x7 _ (fun q => by revert q; decide) _) _ _ _ (stage15 a15.view _ x0 x1 _ _ (load_whole a1 h1 x0 _ (fun q => by revert q; decide) _) (load_whole a2 h2 x1 _ (fun q => by revert q; decide) _) _) (stage a16.view _ x2 _ _ (hst2 _ (load_whole a3 h3 x2 _ (fun q => by revert q; decide) _)) pay22_eq _ _) (stage a17.view _ x3 _ _ (hst3 _ (load_whole a4 h4 x3 _ (fun q => by revert q; decide) _)) pay23_eq _ _)).1 a11.view _ _ _ _
  isplitl [H11]
  · iexists _; isplitr; swap; · iexact H11
    ipureintro
    exact left11 x0 x1 x2 x3 x4 x5 x6 x7 _ (loop1 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ _ _ x0 x1 x2 x3 x4 x5 x6 x7 (load_whole a5 h5 x4 _ (fun q => by revert q; decide) _) (load_whole a6 h6 x5 _ (fun q => by revert q; decide) _) (load_whole a7 h7 x6 _ (fun q => by revert q; decide) _) (load_whole a8 h8 x7 _ (fun q => by revert q; decide) _) _ _ _ (stage15 a15.view _ x0 x1 _ _ (load_whole a1 h1 x0 _ (fun q => by revert q; decide) _) (load_whole a2 h2 x1 _ (fun q => by revert q; decide) _) _) (stage a16.view _ x2 _ _ (hst2 _ (load_whole a3 h3 x2 _ (fun q => by revert q; decide) _)) pay22_eq _ _) (stage a17.view _ x3 _ _ (hst3 _ (load_whole a4 h4 x3 _ (fun q => by revert q; decide) _)) pay23_eq _ _)).1 a12.view _ _ _ _
  isplitl [H12]
  · iexists _; isplitr; swap; · iexact H12
    ipureintro
    exact left12 x0 x1 x2 x3 x4 x5 x6 x7 _ (loop1 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ _ _ x0 x1 x2 x3 x4 x5 x6 x7 (load_whole a5 h5 x4 _ (fun q => by revert q; decide) _) (load_whole a6 h6 x5 _ (fun q => by revert q; decide) _) (load_whole a7 h7 x6 _ (fun q => by revert q; decide) _) (load_whole a8 h8 x7 _ (fun q => by revert q; decide) _) _ _ _ (stage15 a15.view _ x0 x1 _ _ (load_whole a1 h1 x0 _ (fun q => by revert q; decide) _) (load_whole a2 h2 x1 _ (fun q => by revert q; decide) _) _) (stage a16.view _ x2 _ _ (hst2 _ (load_whole a3 h3 x2 _ (fun q => by revert q; decide) _)) pay22_eq _ _) (stage a17.view _ x3 _ _ (hst3 _ (load_whole a4 h4 x3 _ (fun q => by revert q; decide) _)) pay23_eq _ _)).1 a13.view _ _
  isplitl [H13]
  · iexists _; isplitr; swap; · iexact H13
    ipureintro
    exact left13 x0 x1 x2 x3 x4 x5 x6 x7 _ (loop1 Variants.none c none i a1 h1 a2 h2 a3 h3 a4 h4 a5 h5 a6 h6 a7 h7 a8 h8 a9 h9 a10 h10 a11 h11 a12 h12 a13 h13 a14 h14 a15 h15 a16 h16 a17 h17 a18 h18 a19 h19 _ _ _ _ _ _ x0 x1 x2 x3 x4 x5 x6 x7 (load_whole a5 h5 x4 _ (fun q => by revert q; decide) _) (load_whole a6 h6 x5 _ (fun q => by revert q; decide) _) (load_whole a7 h7 x6 _ (fun q => by revert q; decide) _) (load_whole a8 h8 x7 _ (fun q => by revert q; decide) _) _ _ _ (stage15 a15.view _ x0 x1 _ _ (load_whole a1 h1 x0 _ (fun q => by revert q; decide) _) (load_whole a2 h2 x1 _ (fun q => by revert q; decide) _) _) (stage a16.view _ x2 _ _ (hst2 _ (load_whole a3 h3 x2 _ (fun q => by revert q; decide) _)) pay22_eq _ _) (stage a17.view _ x3 _ _ (hst3 _ (load_whole a4 h4 x3 _ (fun q => by revert q; decide) _)) pay23_eq _ _)).1 a14.view _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl
end Cert.KernelIdeal.Hand
end
-- ==== Proof.Region.lean ====
/- The call's region: its proof data, the body at every grid point, and the run with every output array named. -/
module
public import proofs.«01_k».proof.Proof.Body
public import Idealize.ShloMosaic.Lib.Claim
public import Idealize.ShloMosaic.Lib.Pipeline.Value
@[expose] public section
set_option maxRecDepth 16384
noncomputable section
namespace Cert.KernelIdeal.Hand
open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ

variable (m : (ℓ : Loc nD τ sig) → Buf (Elt Ideal) ℓ) (ρ : Dev nD → PrngReg)

/-- The proof data: the arrays as found; after a point each input's buffer at its block, each output's at its function of
    the blocks. -/
def data (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
    | ⟨10, _⟩ => out10 (iblk m c 0 t) (iblk m c 1 t) (iblk m c 2 t) (iblk m c 3 t) (iblk m c 4 t) (iblk m c 5 t) (iblk m c 6 t) (iblk m c 7 t)
    | ⟨11, _⟩ => out11 (iblk m c 0 t) (iblk m c 1 t) (iblk m c 2 t) (iblk m c 3 t) (iblk m c 4 t) (iblk m c 5 t) (iblk m c 6 t) (iblk m c 7 t)
    | ⟨12, _⟩ => out12 (iblk m c 0 t) (iblk m c 1 t) (iblk m c 2 t) (iblk m c 3 t) (iblk m c 4 t) (iblk m c 5 t) (iblk m c 6 t) (iblk m c 7 t)
    | ⟨13, _⟩ => out13 (iblk m c 0 t) (iblk m c 1 t) (iblk m c 2 t) (iblk m c 3 t) (iblk m c 4 t) (iblk m c 5 t) (iblk m c 6 t) (iblk m c 7 t)
  Φ _ := Pipeline.ΦA spec0 c
  q w := Pipeline.shareOf spec0 w
  owed _ := 0

theorem data_A (c : Dev nD) (w : Fin cfg0.W) : (data m 0 c).A w = V m c (Pipeline.arrRef spec0 w) := by dsimp only [data]
theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = iblk m c 6 t := by dsimp only [data]
theorem after7 (c : Dev nD) (t : Fin cfg0.N) : (data m 0 c).after 7 t = iblk m c 7 t := by dsimp only [data]
theorem after8 (c : Dev nD) (t : Fin cfg0.N) : (data m 0 c).after 8 t = out8 (iblk m c 0 t) (iblk m c 1 t) (iblk m c 2 t) (iblk m c 3 t) (iblk m c 4 t) (iblk m c 5 t) (iblk m c 6 t) (iblk m c 7 t) := by dsimp only [data]
theorem after9 (c : Dev nD) (t : Fin cfg0.N) : (data m 0 c).after 9 t = out9 (iblk m c 0 t) (iblk m c 1 t) (iblk m c 2 t) (iblk m c 3 t) (iblk m c 4 t) (iblk m c 5 t) (iblk m c 6 t) (iblk m c 7 t) := by dsimp only [data]
theorem after10 (c : Dev nD) (t : Fin cfg0.N) : (data m 0 c).after 10 t = out10 (iblk m c 0 t) (iblk m c 1 t) (iblk m c 2 t) (iblk m c 3 t) (iblk m c 4 t) (iblk m c 5 t) (iblk m c 6 t) (iblk m c 7 t) := by dsimp only [data]
theorem after11 (c : Dev nD) (t : Fin cfg0.N) : (data m 0 c).after 11 t = out11 (iblk m c 0 t) (iblk m c 1 t) (iblk m c 2 t) (iblk m c 3 t) (iblk m c 4 t) (iblk m c 5 t) (iblk m c 6 t) (iblk m c 7 t) := by dsimp only [data]
theorem after12 (c : Dev nD) (t : Fin cfg0.N) : (data m 0 c).after 12 t = out12 (iblk m c 0 t) (iblk m c 1 t) (iblk m c 2 t) (iblk m c 3 t) (iblk m c 4 t) (iblk m c 5 t) (iblk m c 6 t) (iblk m c 7 t) := by dsimp only [data]
theorem after13 (c : Dev nD) (t : Fin cfg0.N) : (data m 0 c).after 13 t = out13 (iblk m c 0 t) (iblk m c 1 t) (iblk m c 2 t) (iblk m c 3 t) (iblk m c 4 t) (iblk m c 5 t) (iblk m c 6 t) (iblk m c 7 t) := by dsimp only [data]
theorem before0 (c : Dev nD) (t : Fin cfg0.N) (d) : (data m 0 c).before 0 t d = iblk m c 0 t :=
  before0_0_of m (data m 0 c) (data_A m c 0) (after0 m c) t d
theorem before1 (c : Dev nD) (t : Fin cfg0.N) (d) : (data m 0 c).before 1 t d = iblk m c 1 t :=
  before0_1_of m (data m 0 c) (data_A m c 1) (after1 m c) t d
theorem before2 (c : Dev nD) (t : Fin cfg0.N) (d) : (data m 0 c).before 2 t d = iblk m c 2 t :=
  before0_2_of m (data m 0 c) (data_A m c 2) (after2 m c) t d
theorem before3 (c : Dev nD) (t : Fin cfg0.N) (d) : (data m 0 c).before 3 t d = iblk m c 3 t :=
  before0_3_of m (data m 0 c) (data_A m c 3) (after3 m c) t d
theorem before4 (c : Dev nD) (t : Fin cfg0.N) (d) : (data m 0 c).before 4 t d = iblk m c 4 t :=
  before0_4_of m (data m 0 c) (data_A m c 4) (after4 m c) t d
theorem before5 (c : Dev nD) (t : Fin cfg0.N) (d) : (data m 0 c).before 5 t d = iblk m c 5 t :=
  before0_5_of m (data m 0 c) (data_A m c 5) (after5 m c) t d
theorem before6 (c : Dev nD) (t : Fin cfg0.N) (d) : (data m 0 c).before 6 t d = iblk m c 6 t :=
  before0_6_of m (data m 0 c) (data_A m c 6) (after6 m c) t d
theorem before7 (c : Dev nD) (t : Fin cfg0.N) (d) : (data m 0 c).before 7 t d = iblk m c 7 t :=
  before0_7_of m (data m 0 c) (data_A m c 7) (after7 m c) t d

/-- What the body at point `t` is called with. -/
def pre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d)))

/-- What it returns. -/
def post (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ owns (c : Thread nD τ) (ms0_8 t) fullShare ((data m 0 c).after 8 t)
    ∗ owns (c : Thread nD τ) (ms0_9 t) fullShare ((data m 0 c).after 9 t)
    ∗ owns (c : Thread nD τ) (ms0_10 t) fullShare ((data m 0 c).after 10 t)
    ∗ owns (c : Thread nD τ) (ms0_11 t) fullShare ((data m 0 c).after 11 t)
    ∗ owns (c : Thread nD τ) (ms0_12 t) fullShare ((data m 0 c).after 12 t)
    ∗ owns (c : Thread nD τ) (ms0_13 t) fullShare ((data m 0 c).after 13 t))

set_option maxHeartbeats 1600000 in
/-- The body at any point. -/
theorem at_point (c : Dev nD) (t : Fin cfg0.N) :
    pre m c t ⊢ wp frame (wpE (defs₀ (F := Ideal)) Variants.none c none) Set.univ (bodyAt0 t) (fun _ => post m c t) := by
  unfold pre post bodyAt0
  simp only [before0, before1, before2, before3, before4, before5, before6, before7]
  rw [show (data m 0 c).Φ t.succ = (data m 0 c).Φ t.castSucc from rfl,
    show (data m 0 c).owesAt () t.succ = (data m 0 c).owesAt () t.castSucc from rfl,
    after0, after1, after2, after3, after4, after5, after6, after7, after8, after9, after10, after11, after12, after13]
  rw [show (data m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem row (t : Fin cfg0.N) : defs₀ (F := Ideal) .tc cfg0.body (cfg0.bodyArgs t (cfg0.slots t)) = bodyAt0 t := by
  unfold defs₀; rw [Defs.onTc_tc]

/-- The obligation at every point. -/
theorem obligation (c : Dev nD) : BodyObligation (data m 0 c) (defs₀ (F := Ideal)) Variants.none () Set.univ := fun t => by
  rw [bigSep_W0, bigSep_W0, row]
  exact triple_restated (at_point m c t) rfl .rfl fun _ => .rfl

set_option backward.isDefEq.respectTransparency.types false in
/-- The launch: every execution terminates, the arrays at what the proof data give. -/
theorem launch : θ_run defs (onTc (τ := τ) (main (F := Ideal))) (s₀ m ρ) (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hΦ := fun _ _ => rfl)

/-- The run with every output array and every argument named. -/
theorem run_named : θ_run defs (onTc (τ := τ) (main (F := Ideal))) ⟨m, fun _ => 0, ρ⟩ fun r => ∀ c : Dev nD,
      r.2.mem ((c : Thread nD τ).loc main_v0_0) = (data m 0 c).arrAt 8 cfg0.N
      ∧ r.2.mem ((c : Thread nD τ).loc main_v0_1) = (data m 0 c).arrAt 9 cfg0.N
      ∧ r.2.mem ((c : Thread nD τ).loc main_v0_2) = (data m 0 c).arrAt 10 cfg0.N
      ∧ r.2.mem ((c : Thread nD τ).loc main_v0_3) = (data m 0 c).arrAt 11 cfg0.N
      ∧ r.2.mem ((c : Thread nD τ).loc main_v0_4) = (data m 0 c).arrAt 12 cfg0.N
      ∧ r.2.mem ((c : Thread nD τ).loc main_v0_5) = (data m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 8, (h.1 c).1 9, (h.1 c).1 10, (h.1 c).1 11, (h.1 c).1 12, (h.1 c).1 13, ((h.1 c).1 0).trans (((data m 0 c).arrAt_in 0 rfl _).trans (data_A m c 0)), ((h.1 c).1 1).trans (((data m 0 c).arrAt_in 1 rfl _).trans (data_A m c 1)), ((h.1 c).1 2).trans (((data m 0 c).arrAt_in 2 rfl _).trans (data_A m c 2)), ((h.1 c).1 3).trans (((data m 0 c).arrAt_in 3 rfl _).trans (data_A m c 3)), ((h.1 c).1 4).trans (((data m 0 c).arrAt_in 4 rfl _).trans (data_A m c 4)), ((h.1 c).1 6).trans (((data m 0 c).arrAt_in 6 rfl _).trans (data_A m c 6))⟩) (launch m ρ)

end Cert.KernelIdeal.Hand
end
-- ==== Proof.Columns.lean ====
/- The call's six results as plain formulas over the argument arrays, one column of the hidden width at a time. -/
module
public import proofs.«01_k».proof.Proof.Model
@[expose] public section
noncomputable section
namespace Cert.Hand
open Idealize.ShloMosaic

/-- A value column among the joined columns. -/
def vcol (J : Fin 5632) : Fin 11264 := ⟨J.val, by omega⟩
/-- A gate column among the joined columns. -/
def gcol (J : Fin 5632) : Fin 11264 := ⟨J.val + 5632, by omega⟩

/-- The incoming gradient through the down product. -/
def dAll (x0 : (⟨2, ![2048, 2048]⟩ : Shape).Idx → EReal) (x1 : (⟨3, ![1, 5632, 2048]⟩ : Shape).Idx → EReal) (J : Fin 5632) (r : ℕ) : EReal :=
  if q : r < 2048 then ∑ p : Fin 2048, x0 (ix2 ⟨r, q⟩ p) * x1 (ix3 0 J p) else 0

/-- A column of a half, eight zeros in front. -/
def uAll (x : (⟨2, ![2048, 5632]⟩ : Shape).Idx → EReal) (J : Fin 5632) : ℕ → EReal := lead 8 2048 (fun r => x (ix2 r J))

/-- A joined column's three taps. -/
def tapAll (x4 : (⟨2, ![3, 11264]⟩ : Shape).Idx → EReal) (k : Fin 11264) (t : Fin 3) : EReal := x4 (ix2 t k)

/-- The convolution of a joined column. -/
def cAll (x4 : (⟨2, ![3, 11264]⟩ : Shape).Idx → EReal) (x5 : (⟨2, ![1, 11264]⟩ : Shape).Idx → EReal) (U : ℕ → EReal) (k : Fin 11264) : ℕ → EReal :=
  tap (tapAll x4 k) (x5 (ix2 0 k)) (fun n => U (n + 6))

variable (x0 : (⟨2, ![2048, 2048]⟩ : Shape).Idx → EReal) (x1 : (⟨3, ![1, 5632, 2048]⟩ : Shape).Idx → EReal)
  (x2 x3 : (⟨2, ![2048, 5632]⟩ : Shape).Idx → EReal) (x4 : (⟨2, ![3, 11264]⟩ : Shape).Idx → EReal)
  (x5 : (⟨2, ![1, 11264]⟩ : Shape).Idx → EReal)

/-- The gradient in the value half's convolution. -/
def eAll (J : Fin 5632) : ℕ → EReal := dVal (dAll x0 x1 J) (cAll x4 x5 (uAll x3 J) (gcol J))
/-- The gradient in the gate half's convolution. -/
def gAll (J : Fin 5632) : ℕ → EReal :=
  dGate (dAll x0 x1 J) (cAll x4 x5 (uAll x2 J) (vcol J)) (cAll x4 x5 (uAll x3 J) (gcol J))

/-- The value half's gradient. -/
def all8 : (⟨2, ![2048, 5632]⟩ : Shape).Idx → EReal := fun y => back (tapAll x4 (vcol (y 1))) (cut 2048 (eAll x0 x1 x3 x4 x5 (y 1))) (y 0).val
/-- The gate half's gradient. -/
def all9 : (⟨2, ![2048, 5632]⟩ : Shape).Idx → EReal := fun y => back (tapAll x4 (gcol (y 1))) (cut 2048 (gAll x0 x1 x2 x3 x4 x5 (y 1))) (y 0).val
/-- The value taps' gradient. -/
def all10 : (⟨2, ![3, 5632]⟩ : Shape).Idx → EReal := fun y =>
  ∑ r ∈ Finset.range 2048, eAll x0 x1 x3 x4 x5 (y 1) r * uAll x2 (y 1) (r + 6 + (y 0).val)
/-- The gate taps' gradient. -/
def all11 : (⟨2, ![3, 5632]⟩ : Shape).Idx → EReal := fun y =>
  ∑ r ∈ Finset.range 2048, gAll x0 x1 x2 x3 x4 x5 (y 1) r * uAll x3 (y 1) (r + 6 + (y 0).val)
/-- The value bias's gradient. -/
def all12 : (⟨2, ![1, 5632]⟩ : Shape).Idx → EReal := fun y => ∑ r ∈ Finset.range 2048, eAll x0 x1 x3 x4 x5 (y 1) r
/-- The gate bias's gradient. -/
def all13 : (⟨2, ![1, 5632]⟩ : Shape).Idx → EReal := fun y => ∑ r ∈ Finset.range 2048, gAll x0 x1 x2 x3 x4 x5 (y 1) r

end Cert.Hand
end
-- ==== Proof.Whole.lean ====
/- Every output array after the call, as a function of the argument arrays. -/
module
public import proofs.«01_k».proof.Proof.Region
public import proofs.«01_k».proof.Proof.Columns
public import Idealize.ShloMosaic.Lib.Pipeline.ValueKit
@[expose] public section
set_option maxRecDepth 16384
noncomputable section
namespace Cert.KernelIdeal.Hand
open Cert.KernelIdeal Cert.KernelIdeal.Gen Cert.Hand
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ)

/-- Which block every window shows at every point. -/
theorem idx : ∀ t : Fin cfg0.N, win0_0.index t = ![0, 0] ∧ win0_1.index t = ![0, t.val, 0] ∧ win0_2.index t = ![0, t.val] ∧ win0_3.index t = ![0, t.val] ∧ win0_4.index t = ![0, t.val] ∧ win0_5.index t = ![0, t.val + 22] ∧ win0_6.index t = ![0, t.val] ∧ win0_7.index t = ![0, t.val + 22] ∧ win0_8.index t = ![0, t.val] ∧ win0_9.index t = ![0, t.val] ∧ win0_10.index t = ![0, t.val] ∧ win0_11.index t = ![0, t.val] ∧ win0_12.index t = ![0, t.val] ∧ win0_13.index t = ![0, t.val] ∧ t.val < 22 :=
  (by decide +kernel : ∀ t : Fin grid0.N, _)

section

variable (c : Dev nD) (t : Fin cfg0.N) (j : Fin 256) (J : Fin 5632) (hJ : J.val = 256 * t.val + j.val)
include hJ

/-- The incoming gradient's column, block against array. -/
theorem d_eq : dBlk (iblk m c 0 t) (iblk m c 1 t) j = dAll (m ((c : Thread nD τ).loc main_arg0)) (m ((c : Thread nD τ).loc main_arg1)) J := by
  funext r
  unfold dBlk dAll
  by_cases q : r < 2048
  · rw [dif_pos q, dif_pos q]
    refine Finset.sum_congr rfl fun p _ => ?_
    congr 1 <;> blk_ext [iblk, V, idx t]
  · rw [dif_neg q, dif_neg q]

/-- A column of the value half. -/
theorem uv_eq : uBlk (iblk m c 2 t) j = uAll (m ((c : Thread nD τ).loc main_arg2)) J := by
  have e : (fun r : Fin 2048 => iblk m c 2 t (ix2 r j)) = fun r => (m ((c : Thread nD τ).loc main_arg2)) (ix2 r J) := by
    funext r; blk_ext [iblk, V, idx t]
  exact congrArg (lead 8 2048) e

/-- A column of the gate half. -/
theorem ug_eq : uBlk (iblk m c 3 t) j = uAll (m ((c : Thread nD τ).loc main_arg3)) J := by
  have e : (fun r : Fin 2048 => iblk m c 3 t (ix2 r j)) = fun r => (m ((c : Thread nD τ).loc main_arg3)) (ix2 r J) := by
    funext r; blk_ext [iblk, V, idx t]
  exact congrArg (lead 8 2048) e

/-- The value half's taps. -/
theorem wv_eq : taps (iblk m c 4 t) j = tapAll (m ((c : Thread nD τ).loc main_arg4)) (vcol J) := by
  have e : ∀ k : Fin 3, iblk m c 4 t (ix2 k j) = (m ((c : Thread nD τ).loc main_arg4)) (ix2 k (vcol J)) := by
    intro k; unfold vcol; blk_ext [iblk, V, idx t]
  funext k; exact e k

/-- The gate half's taps. -/
theorem wg_eq : taps (iblk m c 5 t) j = tapAll (m ((c : Thread nD τ).loc main_arg4)) (gcol J) := by
  have e : ∀ k : Fin 3, iblk m c 5 t (ix2 k j) = (m ((c : Thread nD τ).loc main_arg4)) (ix2 k (gcol J)) := by
    intro k; unfold gcol; blk_ext [iblk, V, idx t]
  funext k; exact e k

/-- The value half's bias. -/
theorem bv_eq : (iblk m c 6 t (ix2 0 j) : EReal) = (m ((c : Thread nD τ).loc main_arg5)) (ix2 0 (vcol J)) := by
  unfold vcol; blk_ext [iblk, V, idx t]

/-- The gate half's bias. -/
theorem bg_eq : (iblk m c 7 t (ix2 0 j) : EReal) = (m ((c : Thread nD τ).loc main_arg5)) (ix2 0 (gcol J)) := by
  unfold gcol; blk_ext [iblk, V, idx t]

/-- The value half's inner gradient. -/
theorem e_eq : eBlk (iblk m c 0 t) (iblk m c 1 t) (iblk m c 3 t) (iblk m c 5 t) (iblk m c 7 t) j = eAll (m ((c : Thread nD τ).loc main_arg0)) (m ((c : Thread nD τ).loc main_arg1)) (m ((c : Thread nD τ).loc main_arg3)) (m ((c : Thread nD τ).loc main_arg4)) (m ((c : Thread nD τ).loc main_arg5)) J := by
  unfold eBlk eAll cVal cAll
  rw [d_eq m c t j J hJ, ug_eq m c t j J hJ, wg_eq m c t j J hJ]
  exact congrArg (fun b => dVal _ (tap _ b _)) (bg_eq m c t j J hJ)

/-- The gate half's inner gradient. -/
theorem g_eq : gBlk (iblk m c 0 t) (iblk m c 1 t) (iblk m c 2 t) (iblk m c 3 t) (iblk m c 4 t) (iblk m c 5 t) (iblk m c 6 t) (iblk m c 7 t) j = gAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) J := by
  unfold gBlk gAll cVal cAll
  rw [d_eq m c t j J hJ, uv_eq m c t j J hJ, ug_eq m c t j J hJ, wv_eq m c t j J hJ, wg_eq m c t j J hJ]
  exact congrArg₂ (fun a b => dGate _ (tap _ a _) (tap _ b _)) (bv_eq m c t j J hJ) (bg_eq m c t j J hJ)

end

/-- The value half's gradient, one element of a block. -/
theorem elem8 (c : Dev nD) (t : Fin cfg0.N) (y : S2048x256.Idx) (i : S2048x5632.Idx) (h0 : (i 0).val = (y 0).val)
    (h1 : (i 1).val = 256 * t.val + (y 1).val) : out8 (iblk m c 0 t) (iblk m c 1 t) (iblk m c 2 t) (iblk m c 3 t) (iblk m c 4 t) (iblk m c 5 t) (iblk m c 6 t) (iblk m c 7 t) y = all8 (m ((c : Thread nD τ).loc main_arg0)) (m ((c : Thread nD τ).loc main_arg1)) (m ((c : Thread nD τ).loc main_arg3)) (m ((c : Thread nD τ).loc main_arg4)) (m ((c : Thread nD τ).loc main_arg5)) i := by
  unfold out8 all8
  rw [wv_eq m c t (y 1) (i 1) h1, e_eq m c t (y 1) (i 1) h1, h0]

/-- The value half's gradient, the whole array. -/
theorem whole8 (c : Dev nD) : (data m 0 c).arrAt 8 cfg0.N = all8 (m ((c : Thread nD τ).loc main_arg0)) (m ((c : Thread nD τ).loc main_arg1)) (m ((c : Thread nD τ).loc main_arg3)) (m ((c : Thread nD τ).loc main_arg4)) (m ((c : Thread nD τ).loc main_arg5)) := by
  refine (data m 0 c).arrAt_eq_of_covers 8 _ (by decide +kernel) fun t hf y => ?_
  blk_simp
  rw [after8]
  refine elem8 m c t y _ ?_ ?_
  all_goals (blk_simp [idx t] <;> try omega)

/-- The gate half's gradient, one element of a block. -/
theorem elem9 (c : Dev nD) (t : Fin cfg0.N) (y : S2048x256.Idx) (i : S2048x5632.Idx) (h0 : (i 0).val = (y 0).val)
    (h1 : (i 1).val = 256 * t.val + (y 1).val) : out9 (iblk m c 0 t) (iblk m c 1 t) (iblk m c 2 t) (iblk m c 3 t) (iblk m c 4 t) (iblk m c 5 t) (iblk m c 6 t) (iblk m c 7 t) y = all9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold out9 all9
  rw [wg_eq m c t (y 1) (i 1) h1, g_eq m c t (y 1) (i 1) h1, h0]

/-- The gate half's gradient, the whole array. -/
theorem whole9 (c : Dev nD) : (data m 0 c).arrAt 9 cfg0.N = all9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (data m 0 c).arrAt_eq_of_covers 9 _ (by decide +kernel) fun t hf y => ?_
  blk_simp
  rw [after9]
  refine elem9 m c t y _ ?_ ?_
  all_goals (blk_simp [idx t] <;> try omega)

/-- The value taps' gradient, one element of a block. -/
theorem elem10 (c : Dev nD) (t : Fin cfg0.N) (y : S3x256.Idx) (i : S3x5632.Idx) (h0 : (i 0).val = (y 0).val)
    (h1 : (i 1).val = 256 * t.val + (y 1).val) : out10 (iblk m c 0 t) (iblk m c 1 t) (iblk m c 2 t) (iblk m c 3 t) (iblk m c 4 t) (iblk m c 5 t) (iblk m c 6 t) (iblk m c 7 t) y = all10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold out10 all10
  rw [e_eq m c t (y 1) (i 1) h1, uv_eq m c t (y 1) (i 1) h1, h0]

/-- The value taps' gradient, the whole array. -/
theorem whole10 (c : Dev nD) : (data m 0 c).arrAt 10 cfg0.N = all10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (data m 0 c).arrAt_eq_of_covers 10 _ (by decide +kernel) fun t hf y => ?_
  blk_simp
  rw [after10]
  refine elem10 m c t y _ ?_ ?_
  all_goals (blk_simp [idx t] <;> try omega)

/-- The gate taps' gradient, one element of a block. -/
theorem elem11 (c : Dev nD) (t : Fin cfg0.N) (y : S3x256.Idx) (i : S3x5632.Idx) (h0 : (i 0).val = (y 0).val)
    (h1 : (i 1).val = 256 * t.val + (y 1).val) : out11 (iblk m c 0 t) (iblk m c 1 t) (iblk m c 2 t) (iblk m c 3 t) (iblk m c 4 t) (iblk m c 5 t) (iblk m c 6 t) (iblk m c 7 t) y = all11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold out11 all11
  rw [g_eq m c t (y 1) (i 1) h1, ug_eq m c t (y 1) (i 1) h1, h0]

/-- The gate taps' gradient, the whole array. -/
theorem whole11 (c : Dev nD) : (data m 0 c).arrAt 11 cfg0.N = all11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (data m 0 c).arrAt_eq_of_covers 11 _ (by decide +kernel) fun t hf y => ?_
  blk_simp
  rw [after11]
  refine elem11 m c t y _ ?_ ?_
  all_goals (blk_simp [idx t] <;> try omega)

/-- The value bias's gradient, one element of a block. -/
theorem elem12 (c : Dev nD) (t : Fin cfg0.N) (y : S1x256.Idx) (i : S1x5632.Idx) (h0 : (i 0).val = (y 0).val)
    (h1 : (i 1).val = 256 * t.val + (y 1).val) : out12 (iblk m c 0 t) (iblk m c 1 t) (iblk m c 2 t) (iblk m c 3 t) (iblk m c 4 t) (iblk m c 5 t) (iblk m c 6 t) (iblk m c 7 t) y = all12 (m ((c : Thread nD τ).loc main_arg0)) (m ((c : Thread nD τ).loc main_arg1)) (m ((c : Thread nD τ).loc main_arg3)) (m ((c : Thread nD τ).loc main_arg4)) (m ((c : Thread nD τ).loc main_arg5)) i := by
  unfold out12 all12
  rw [e_eq m c t (y 1) (i 1) h1]

/-- The value bias's gradient, the whole array. -/
theorem whole12 (c : Dev nD) : (data m 0 c).arrAt 12 cfg0.N = all12 (m ((c : Thread nD τ).loc main_arg0)) (m ((c : Thread nD τ).loc main_arg1)) (m ((c : Thread nD τ).loc main_arg3)) (m ((c : Thread nD τ).loc main_arg4)) (m ((c : Thread nD τ).loc main_arg5)) := by
  refine (data m 0 c).arrAt_eq_of_covers 12 _ (by decide +kernel) fun t hf y => ?_
  blk_simp
  rw [after12]
  refine elem12 m c t y _ ?_ ?_
  all_goals (blk_simp [idx t] <;> try omega)

/-- The gate bias's gradient, one element of a block. -/
theorem elem13 (c : Dev nD) (t : Fin cfg0.N) (y : S1x256.Idx) (i : S1x5632.Idx) (h0 : (i 0).val = (y 0).val)
    (h1 : (i 1).val = 256 * t.val + (y 1).val) : out13 (iblk m c 0 t) (iblk m c 1 t) (iblk m c 2 t) (iblk m c 3 t) (iblk m c 4 t) (iblk m c 5 t) (iblk m c 6 t) (iblk m c 7 t) y = all13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold out13 all13
  rw [g_eq m c t (y 1) (i 1) h1]

/-- The gate bias's gradient, the whole array. -/
theorem whole13 (c : Dev nD) : (data m 0 c).arrAt 13 cfg0.N = all13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (data m 0 c).arrAt_eq_of_covers 13 _ (by decide +kernel) fun t hf y => ?_
  blk_simp
  rw [after13]
  refine elem13 m c t y _ ?_ ?_
  all_goals (blk_simp [idx t] <;> try omega)

end Cert.KernelIdeal.Hand
end
-- ==== Proof.Scalar.lean ====
/- Finite extended reals, and the two spellings of the gate's derivative. -/
module
public import proofs.«01_k».proof.Proof.Columns
@[expose] public section
noncomputable section
namespace Cert.Hand
open Idealize.ShloMosaic

/-- Neither of the two infinities. -/
def Fin' (x : EReal) : Prop := ∃ a : ℝ, x = (a : EReal)

theorem Fin'.zero : Fin' 0 := ⟨0, rfl⟩
theorem Fin'.add {x y : EReal} : Fin' x → Fin' y → Fin' (x + y) := by
  rintro ⟨a, rfl⟩ ⟨b, rfl⟩; exact ⟨a + b, (EReal.coe_add a b).symm⟩
theorem Fin'.mul {x y : EReal} : Fin' x → Fin' y → Fin' (x * y) := by
  rintro ⟨a, rfl⟩ ⟨b, rfl⟩; exact ⟨a * b, (EReal.coe_mul a b).symm⟩
theorem Fin'.sum {ι : Type} (s : Finset ι) (f : ι → EReal) (h : ∀ i, Fin' (f i)) : Fin' (∑ i ∈ s, f i) := by
  classical
  induction s using Finset.induction_on with
  | empty => simpa using Fin'.zero
  | insert a s ha ih => rw [Finset.sum_insert ha]; exact (h a).add ih

/-- An extended real whose absolute value is below infinity is finite. -/
theorem Fin'.of_abs {x : EReal} (h : max x (-x) < ⊤) : Fin' x := by
  induction x with
  | bot => simp at h
  | top => simp at h
  | coe a => exact ⟨a, rfl⟩

/-- The logistic function, the operand's sign changed. -/
theorem sg_neg (x : EReal) : Ideal.div 1 (1 + Ideal.exp (-x)) = sg x := by unfold sg; rw [zero_sub]

theorem sg_coe (a : ℝ) : sg (a : EReal) = (((1 + Real.exp (-a))⁻¹ : ℝ) : EReal) := by
  have e : (1 : EReal) + ((Real.exp (-a) : ℝ) : EReal) = ((1 + Real.exp (-a) : ℝ) : EReal) := by
    rw [EReal.coe_add, EReal.coe_one]
  have p : (1 + Real.exp (-a) : ℝ) ≠ 0 := by positivity
  rw [← sg_neg, ← EReal.coe_neg]
  show Ideal.div 1 (1 + ((Real.exp (-a) : ℝ) : EReal)) = _
  rw [e]
  unfold Ideal.div
  rw [if_neg (by exact_mod_cast p), one_mul, ← EReal.coe_inv]

theorem sg_top : sg ⊤ = 1 := by
  rw [← sg_neg]
  show Ideal.div 1 (1 + (0 : EReal)) = 1
  unfold Ideal.div
  rw [add_zero, if_neg one_ne_zero, one_mul]
  exact_mod_cast (EReal.coe_inv 1).symm.trans (by norm_num)

theorem sg_bot : sg ⊥ = 0 := by
  rw [← sg_neg]
  show Ideal.div 1 (1 + (⊤ : EReal)) = 0
  have e : (1 : EReal) + ⊤ = ⊤ := rfl
  unfold Ideal.div
  rw [e, if_neg (by simp), EReal.inv_top, mul_zero]

/-- For a finite factor the two spellings of the gate's derivative agree, whatever the gate. -/
theorem gate_eq {x : EReal} (hx : Fin' x) (g : EReal) :
    x * sg g + g * x * (sg g * (1 - sg g)) = x * (sg g * (1 + g * (1 - sg g))) := by
  obtain ⟨a, rfl⟩ := hx
  induction g with
  | bot =>
    rw [sg_bot]; simp
  | top =>
    have e : (1 : EReal) - 1 = 0 := by
      have h := EReal.coe_sub 1 1
      rw [sub_self] at h
      exact h.symm
    rw [sg_top, e]; simp
  | coe b =>
    rw [sg_coe]
    generalize (1 + Real.exp (-b))⁻¹ = s
    have h1 : (1 : EReal) = ((1 : ℝ) : EReal) := rfl
    rw [h1]
    simp only [← EReal.coe_sub, ← EReal.coe_mul, ← EReal.coe_add]
    congr 1; ring

end Cert.Hand
end
-- ==== Proof.Ref.lean ====
/- The reference's six results as the same formulas over the argument arrays. -/
module
public import proofs.«01_k».proof.Proof.Scalar
public import proofs.«01_k».proof.Proof.Gen.ReferenceIdeal.Read
public import Idealize.ShloMosaic.Lib.Pipeline.ValueKit
@[expose] public section
noncomputable section
namespace Cert.ReferenceIdeal.Hand
open Cert.ReferenceIdeal Cert.ReferenceIdeal.Gen Cert.ReferenceIdeal.Read Cert.Hand
open Idealize.ShloMosaic Idealize.ShloMosaic.TcCoe Idealize.SL.Sem Idealize.ShloMosaic.StableHlo Idealize.ShloMosaic.Tactic

variable (x0 : (⟨S2048x2048, .bf16⟩ : BufTy).Contents (Elt Ideal)) (x1 : (⟨S1x5632x2048, .bf16⟩ : BufTy).Contents (Elt Ideal)) (x2 x3 : (⟨S2048x5632, .bf16⟩ : BufTy).Contents (Elt Ideal)) (x4 : (⟨S3x11264, .f32⟩ : BufTy).Contents (Elt Ideal)) (x5 : (⟨S1x11264, .f32⟩ : BufTy).Contents (Elt Ideal))

/-- A column of the padded sequence, value half. -/
theorem seq_val (r : Fin 2050) (J : Fin 5632) : val_main_v6 (F := Ideal) x2 x3 (ix2 r (vcol J)) = uAll x2 J (r.val + 6) := by
  unfold val_main_v6 val_main_v4 val_main_v5 val_main_v1 val_main_v2 val_main_cst vcol
  pointwise
  unfold uAll lead
  by_cases q : (r : ℕ) < 2
  · rw [dif_pos q, dif_neg (by omega)]
  · rw [dif_neg q, dif_pos (by omega)]; blk_ext

/-- A column of the padded sequence, gate half. -/
theorem seq_gate (r : Fin 2050) (J : Fin 5632) : val_main_v6 (F := Ideal) x2 x3 (ix2 r (gcol J)) = uAll x3 J (r.val + 6) := by
  unfold val_main_v6 val_main_v4 val_main_v5 val_main_v1 val_main_v2 val_main_cst gcol
  pointwise
  unfold uAll lead
  by_cases q : (r : ℕ) < 2
  · rw [dif_pos q, dif_neg (by omega)]
  · rw [dif_neg q, dif_neg (by omega), dif_pos (by omega)]; blk_ext

/-- The convolution, over any column of the padded sequence. -/
theorem conv (k : Fin 11264) (U : ℕ → EReal) (hU : ∀ r : Fin 2050, val_main_v6 (F := Ideal) x2 x3 (ix2 r k) = U (r.val + 6)) (r : Fin 2048) :
    val_main_v31 (F := Ideal) x2 x3 x4 x5 (ix2 r k) = cAll x4 x5 U k r.val := by
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_cst_1 val_main_v13 val_main_v12 val_main_v11 val_main_v10 val_main_v9 val_main_v8
  revert hU
  generalize val_main_v6 (F := Ideal) x2 x3 = P
  intro hU
  pointwise
  rw [hU, hU, hU]
  show x5 (ix2 0 k) + (x4 (ix2 0 k) * U (r.val + 6) + x4 (ix2 1 k) * U (1 + r.val + 6) + x4 (ix2 2 k) * U (2 + r.val + 6))
    = x5 (ix2 0 k) + x4 (ix2 2 k) * U (r.val + 2 + 6) + x4 (ix2 1 k) * U (r.val + 1 + 6) + x4 (ix2 0 k) * U (r.val + 6)
  rw [show 1 + r.val = r.val + 1 by omega, show 2 + r.val = r.val + 2 by omega]
  abel

/-- The incoming gradient through the product. -/
theorem down (r : Fin 2048) (J : Fin 5632) : val_main_v40 (F := Ideal) x0 x1 (ix2 r J) = dAll x0 x1 J r.val := by
  unfold val_main_v40 val_main_v37 val_main_v3 val_main_v0 dAll
  rw [dif_pos r.isLt]
  pointwise

/-- The gradient in the value half. -/
theorem grad_val (r : Fin 2048) (J : Fin 5632) :
    val_main_v44 (F := Ideal) x0 x1 x2 x3 x4 x5 (ix2 r (vcol J)) = eAll x0 x1 x3 x4 x5 J r.val := by
  have e : val_main_v44 (F := Ideal) x0 x1 x2 x3 x4 x5 (ix2 r (vcol J)) = val_main_v41 (F := Ideal) x0 x1 x2 x3 x4 x5 (ix2 r J) := by
    unfold val_main_v44 vcol
    generalize val_main_v41 (F := Ideal) x0 x1 x2 x3 x4 x5 = P
    generalize val_main_v43 (F := Ideal) x0 x1 x2 x3 x4 x5 = Q
    pointwise
  rw [e]
  have hg := conv x2 x3 x4 x5 (gcol J) _ (fun r => seq_gate x2 x3 r J) r
  have hd := down x0 x1 r J
  unfold val_main_v41 val_main_v34_0 val_main_v34_2 val_main_call0_v4 val_main_call0_v3 val_main_call0_v2 val_main_call0_v1 val_main_call0_v0 val_main_call0_cst_0 val_main_call0_cst val_main_v33
  revert hg hd
  generalize val_main_v31 (F := Ideal) x2 x3 x4 x5 = P
  generalize val_main_v40 (F := Ideal) x0 x1 = Q
  intro hg hd
  pointwise
  have i1 : (⟨5632 + J.val, by omega⟩ : Fin 11264) = gcol J := Fin.ext (Nat.add_comm _ _)
  rw [i1, hg, hd, sg_neg]
  unfold eAll dVal
  rw [mul_comm]

/-- The gradient in the gate half, for finite inputs. -/
theorem grad_gate (f0 : ∀ i, Fin' (x0 i)) (f1 : ∀ i, Fin' (x1 i)) (f2 : ∀ i, Fin' (x2 i)) (f4 : ∀ i, Fin' (x4 i)) (f5 : ∀ i, Fin' (x5 i))
    (r : Fin 2048) (J : Fin 5632) :
    val_main_v44 (F := Ideal) x0 x1 x2 x3 x4 x5 (ix2 r (gcol J)) = gAll x0 x1 x2 x3 x4 x5 J r.val := by
  have e : val_main_v44 (F := Ideal) x0 x1 x2 x3 x4 x5 (ix2 r (gcol J)) = val_main_v43 (F := Ideal) x0 x1 x2 x3 x4 x5 (ix2 r J) := by
    unfold val_main_v44 gcol
    generalize val_main_v41 (F := Ideal) x0 x1 x2 x3 x4 x5 = P
    generalize val_main_v43 (F := Ideal) x0 x1 x2 x3 x4 x5 = Q
    pointwise
    rw [dif_neg (by omega)]; blk_ext
  rw [e]
  have hg := conv x2 x3 x4 x5 (gcol J) _ (fun r => seq_gate x2 x3 r J) r
  have hv := conv x2 x3 x4 x5 (vcol J) _ (fun r => seq_val x2 x3 r J) r
  have hd := down x0 x1 r J
  have fd : Fin' (dAll x0 x1 J r.val) := by
    unfold dAll; rw [dif_pos r.isLt]; exact Fin'.sum _ _ fun p => (f0 _).mul (f1 _)
  have fu : ∀ n, Fin' (uAll x2 J n) := by
    intro n; unfold uAll lead; split
    · exact f2 _
    · exact Fin'.zero
  have fc : Fin' (cAll x4 x5 (uAll x2 J) (vcol J) r.val) :=
    (((f5 _).add ((f4 _).mul (fu _))).add ((f4 _).mul (fu _))).add ((f4 _).mul (fu _))
  unfold val_main_v43 val_main_call1_v2 val_main_call1_v1 val_main_call1_v0 val_main_v42 val_main_v34_1 val_main_v34_2 val_main_call0_v7 val_main_call0_v6 val_main_v34_2 val_main_call0_v4 val_main_call0_v3 val_main_call0_v2 val_main_call0_v1 val_main_call0_v0 val_main_call0_cst_1 val_main_call0_cst_0 val_main_call0_cst val_main_v33 val_main_v32
  revert hg hv hd
  generalize val_main_v31 (F := Ideal) x2 x3 x4 x5 = P
  generalize val_main_v40 (F := Ideal) x0 x1 = Q
  intro hg hv hd
  pointwise
  have i1 : (⟨5632 + J.val, by omega⟩ : Fin 11264) = gcol J := Fin.ext (Nat.add_comm _ _)
  have i2 : (⟨J.val, by omega⟩ : Fin 11264) = vcol J := rfl
  rw [i1, i2, hg, hv, hd, sg_neg]
  exact gate_eq (fd.mul fc) _

/-- The transposed convolution, over any column. -/
theorem back_col (k : Fin 11264) (E : ℕ → EReal) (hE : ∀ r : Fin 2048, val_main_v44 (F := Ideal) x0 x1 x2 x3 x4 x5 (ix2 r k) = E r.val) (r : Fin 2048) :
    val_main_v79 (F := Ideal) x0 x1 x2 x3 x4 x5 (ix2 r k) = back (tapAll x4 k) (cut 2048 E) r.val := by
  unfold val_main_v79 val_main_v74 val_main_v73 val_main_cst_13 val_main_v68 val_main_v67 val_main_v63 val_main_v62 val_main_cst_9 val_main_v57 val_main_v56 val_main_v53 val_main_cst_5 val_main_v48 val_main_v47 val_main_v26 val_main_v24 val_main_v23 val_main_v19 val_main_v17 val_main_v16 val_main_v11 val_main_v9 val_main_v8
  revert hE
  generalize val_main_v44 (F := Ideal) x0 x1 x2 x3 x4 x5 = P
  intro hE
  pointwise
  unfold back cut tapAll
  rw [if_pos r.isLt, hE]
  congr 1
  · congr 1
    by_cases q : r.val + 1 < 2048
    · rw [dif_pos (by omega), if_pos q, hE]
      show _ * E (2 + r.val - 1) = _
      rw [show 2 + r.val - 1 = r.val + 1 by omega]
    · rw [dif_neg (by omega), if_neg q, mul_zero]
  · by_cases q : r.val + 2 < 2048
    · rw [dif_pos (by omega), if_pos q, hE]
      show _ * E (2 + r.val) = _
      rw [show 2 + r.val = r.val + 2 by omega]
    · rw [dif_neg (by omega), if_neg q, mul_zero]

/-- The taps' gradient, over any column. -/
theorem tap_col (k : Fin 11264) (E U : ℕ → EReal) (hE : ∀ r : Fin 2048, val_main_v44 (F := Ideal) x0 x1 x2 x3 x4 x5 (ix2 r k) = E r.val)
    (hU : ∀ r : Fin 2050, val_main_v6 (F := Ideal) x2 x3 (ix2 r k) = U (r.val + 6)) (a : Fin 3) :
    val_main_v77 (F := Ideal) x0 x1 x2 x3 x4 x5 (ix2 a k) = ∑ r ∈ Finset.range 2048, E r * U (r + 6 + a.val) := by
  unfold val_main_v77 val_main_v76 val_main_cst_14 val_main_v75 val_main_v72 val_main_cst_12 val_main_v71 val_main_v70 val_main_cst_11 val_main_v69 val_main_v10 val_main_v66 val_main_v65 val_main_cst_10 val_main_v64 val_main_v61 val_main_cst_8 val_main_v60 val_main_v59 val_main_cst_7 val_main_v58 val_main_v18 val_main_v55 val_main_cst_6 val_main_v54 val_main_v52 val_main_cst_4 val_main_v51 val_main_v50 val_main_cst_3 val_main_v49 val_main_v25
  revert hE hU
  generalize val_main_v44 (F := Ideal) x0 x1 x2 x3 x4 x5 = P
  generalize val_main_v6 (F := Ideal) x2 x3 = Q
  intro hE hU
  pointwise
  rw [← Fin.sum_univ_eq_sum_range (fun r => E r * U (r + 6 + a.val)) 2048]
  simp only [hE, hU]
  obtain ⟨a, ha⟩ := a
  have h : a = 0 ∨ a = 1 ∨ a = 2 := by omega
  rcases h with rfl | rfl | rfl <;> simp [Nat.add_comm, Nat.add_left_comm, Nat.add_assoc]

/-- The bias's gradient, over any column. -/
theorem bias_col (k : Fin 11264) (E : ℕ → EReal) (hE : ∀ r : Fin 2048, val_main_v44 (F := Ideal) x0 x1 x2 x3 x4 x5 (ix2 r k) = E r.val) :
    val_main_v46 (F := Ideal) x0 x1 x2 x3 x4 x5 (ix2 0 k) = ∑ r ∈ Finset.range 2048, E r := by
  unfold val_main_v46 val_main_v45 val_main_cst_2
  revert hE
  generalize val_main_v44 (F := Ideal) x0 x1 x2 x3 x4 x5 = P
  intro hE
  pointwise
  rw [← Fin.sum_univ_eq_sum_range E 2048]
  exact Finset.sum_congr rfl fun r _ => hE r

section results
variable (f0 : ∀ i, Fin' (x0 i)) (f1 : ∀ i, Fin' (x1 i)) (f2 : ∀ i, Fin' (x2 i)) (f4 : ∀ i, Fin' (x4 i)) (f5 : ∀ i, Fin' (x5 i))

/-- The value half's gradient. -/
theorem res8 : val_main_v82 (F := Ideal) x0 x1 x2 x3 x4 x5 = all8 x0 x1 x3 x4 x5 := by
  funext y
  have h := back_col x0 x1 x2 x3 x4 x5 (vcol (y 1)) _ (fun r => grad_val x0 x1 x2 x3 x4 x5 r (y 1)) (y 0)
  refine Eq.trans ?_ h
  unfold val_main_v82 val_main_v80
  generalize val_main_v79 (F := Ideal) x0 x1 x2 x3 x4 x5 = P
  pointwise
  unfold vcol; blk_ext

include f0 f1 f2 f4 f5 in
/-- The gate half's gradient. -/
theorem res9 : val_main_v83 (F := Ideal) x0 x1 x2 x3 x4 x5 = all9 x0 x1 x2 x3 x4 x5 := by
  funext y
  have h := back_col x0 x1 x2 x3 x4 x5 (gcol (y 1)) _ (fun r => grad_gate x0 x1 x2 x3 x4 x5 f0 f1 f2 f4 f5 r (y 1)) (y 0)
  refine Eq.trans ?_ h
  unfold val_main_v83 val_main_v81
  generalize val_main_v79 (F := Ideal) x0 x1 x2 x3 x4 x5 = P
  pointwise
  unfold gcol; blk_ext

/-- The value taps' gradient. -/
theorem res10 : val_main_v84 (F := Ideal) x0 x1 x2 x3 x4 x5 = all10 x0 x1 x2 x3 x4 x5 := by
  funext y
  have h := tap_col x0 x1 x2 x3 x4 x5 (vcol (y 1)) _ _ (fun r => grad_val x0 x1 x2 x3 x4 x5 r (y 1)) (fun r => seq_val x2 x3 r (y 1)) (y 0)
  refine Eq.trans ?_ h
  unfold val_main_v84
  generalize val_main_v77 (F := Ideal) x0 x1 x2 x3 x4 x5 = P
  pointwise
  unfold vcol; blk_ext

include f0 f1 f2 f4 f5 in
/-- The gate taps' gradient. -/
theorem res11 : val_main_v85 (F := Ideal) x0 x1 x2 x3 x4 x5 = all11 x0 x1 x2 x3 x4 x5 := by
  funext y
  have h := tap_col x0 x1 x2 x3 x4 x5 (gcol (y 1)) _ _ (fun r => grad_gate x0 x1 x2 x3 x4 x5 f0 f1 f2 f4 f5 r (y 1)) (fun r => seq_gate x2 x3 r (y 1)) (y 0)
  refine Eq.trans ?_ h
  unfold val_main_v85
  generalize val_main_v77 (F := Ideal) x0 x1 x2 x3 x4 x5 = P
  pointwise
  unfold gcol; blk_ext

/-- The value bias's gradient. -/
theorem res12 : val_main_v86 (F := Ideal) x0 x1 x2 x3 x4 x5 = all12 x0 x1 x3 x4 x5 := by
  funext y
  have h := bias_col x0 x1 x2 x3 x4 x5 (vcol (y 1)) _ (fun r => grad_val x0 x1 x2 x3 x4 x5 r (y 1))
  refine Eq.trans ?_ h
  unfold val_main_v86
  generalize val_main_v46 (F := Ideal) x0 x1 x2 x3 x4 x5 = P
  pointwise
  unfold vcol; blk_ext

include f0 f1 f2 f4 f5 in
/-- The gate bias's gradient. -/
theorem res13 : val_main_v87 (F := Ideal) x0 x1 x2 x3 x4 x5 = all13 x0 x1 x2 x3 x4 x5 := by
  funext y
  have h := bias_col x0 x1 x2 x3 x4 x5 (gcol (y 1)) _ (fun r => grad_gate x0 x1 x2 x3 x4 x5 f0 f1 f2 f4 f5 r (y 1))
  refine Eq.trans ?_ h
  unfold val_main_v87
  generalize val_main_v46 (F := Ideal) x0 x1 x2 x3 x4 x5 = P
  pointwise
  unfold gcol; blk_ext

end results
end Cert.ReferenceIdeal.Hand
end
-- ==== Proof.Pre.lean ====
/- What the precondition says: five of the six inputs are finite everywhere. -/
module
public import proofs.«01_k».proof.Defs
public import proofs.«01_k».proof.Proof.Scalar
public import Idealize.ShloMosaic.Lib.ReduceAll
public import Idealize.ShloMosaic.Lib.Pipeline.ValueKit
@[expose] public section
noncomputable section
namespace Cert.Pre_finite_inputs
open Idealize.ShloMosaic Idealize.SL.Sem Cert.Hand

/-- The shape facts the predicate states. -/
instance factsHold : Facts where
  bitsLt_bf16_f32 := by decide
  bcast_S_S2048x2048 := by decide
  reducesTo_S2048x2048_S_d0_1 := by decide
  h_S_ := by decide
  bcast_S_S1x5632x2048 := by decide
  reducesTo_S1x5632x2048_S_d0_1_2 := by decide
  bcast_S_S2048x5632 := by decide
  reducesTo_S2048x5632_S_d0_1 := by decide
  bcast_S_S3x11264 := by decide
  reducesTo_S3x11264_S_d0_1 := by decide
  bcast_S_S1x11264 := by decide
  reducesTo_S1x11264_S_d0_1 := by decide

theorem one_idx (i j : S_.Idx) : i = j := funext fun a => a.elim0
instance : Subsingleton S_.Idx := ⟨one_idx⟩

/-- The comparison against infinity, read back. -/
theorem of_cmp {x : EReal} (h : FloatOps.cmpf (F := Ideal) (φ := .f32) .olt (FloatOps.hostAbsf (F := Ideal) (φ := .f32) x)
    (FloatOps.ofBits (F := Ideal) .f32 0x7F800000#32) = 1#1) : Fin' x := by
  have e : FloatOps.ofBits (F := Ideal) .f32 0x7F800000#32 = (⊤ : EReal) := by
    show Ideal.ofBits .f32 0x7F800000#32 = ⊤
    simp [Ideal.ofBits, Ideal.ieee]
  rw [e] at h
  refine Fin'.of_abs ?_
  by_contra q
  have h' : BitVec.ofBool (decide (max x (-x) < ⊤)) = 1#1 := h
  rw [decide_eq_false q] at h'
  exact absurd h' (by decide)

variable (x0 : FVec Ideal S2048x2048 .bf16) (x1 : FVec Ideal S1x5632x2048 .bf16) (x2 x3 : FVec Ideal S2048x5632 .bf16)
  (x4 : FVec Ideal S3x11264 .f32) (x5 : FVec Ideal S1x11264 .f32)

/-- All five finiteness facts. -/
theorem finite (j : S_.Idx) (h0 : (fn (F := Ideal) x0 x1 x2 x3 x4 x5).1 j = 1#1) (h1 : (fn (F := Ideal) x0 x1 x2 x3 x4 x5).2.1 j = 1#1)
    (h2 : (fn (F := Ideal) x0 x1 x2 x3 x4 x5).2.2.1 j = 1#1) (h3 : (fn (F := Ideal) x0 x1 x2 x3 x4 x5).2.2.2.1 j = 1#1)
    (h4 : (fn (F := Ideal) x0 x1 x2 x3 x4 x5).2.2.2.2 j = 1#1) :
    (∀ i, Fin' (x0 i)) ∧ (∀ i, Fin' (x1 i)) ∧ (∀ i, Fin' (x2 i)) ∧ (∀ i, Fin' (x4 i)) ∧ (∀ i, Fin' (x5 i)) := by
  dsimp only [fn, fn_part1] at h0 h1 h2 h3 h4
  exact ⟨fun i => of_cmp (Host.reduce_andi_all _ _ _ _ j h0 i), fun i => of_cmp (Host.reduce_andi_all _ _ _ _ j h1 i),
    fun i => of_cmp (Host.reduce_andi_all _ _ _ _ j h2 i), fun i => of_cmp (Host.reduce_andi_all _ _ _ _ j h3 i),
    fun i => of_cmp (Host.reduce_andi_all _ _ _ _ j h4 i)⟩

end Cert.Pre_finite_inputs
end
-- ==== Proof.DownWeight.lean ====
/- The gradient of the down-projection: what the call leaves in its result array. -/
module
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
@[expose] public section
set_option maxRecDepth 16384
noncomputable section
namespace Cert.Kernel2Ideal.Hand
open Cert.Kernel2Ideal Cert.Kernel2Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Which block every window shows at every point. -/
theorem idx : ∀ t : Fin cfg0.N, win0_0.index t = ![0, t.val] ∧ win0_1.index t = ![0, 0] ∧ win0_2.index t = ![t.val, 0] :=
  (by decide +kernel : ∀ t : Fin grid0.N, _)

/-- One element of the reference: the sum over the rows of the products of the two columns. -/
theorem ref_apply (x : (⟨S2048x5632, .bf16⟩ : BufTy).Contents (Elt Ideal)) (y : (⟨S2048x2048, .bf16⟩ : BufTy).Contents (Elt Ideal)) (i : S5632x2048.Idx) :
    Cert.Reference2Ideal.Read.val_main_v6 (F := Ideal) x y i
      = ∑ k : Fin 2048, x (ix2 k (i 0)) * y (ix2 k (i 1)) := by
  have h : Cert.Reference2Ideal.Read.val_main_v6 (F := Ideal) x y i
      = ∑ k : Fin 2048, y (ix2 k (i 1)) * x (ix2 k (i 0)) := by
    pointwise [Cert.Reference2Ideal.Read.val_main_v6, Cert.Reference2Ideal.Read.val_main_v5, Cert.Reference2Ideal.Read.val_main_v4, Cert.Reference2Ideal.Read.val_main_v3, Cert.Reference2Ideal.Read.val_main_v1]
  rw [h]
  exact Finset.sum_congr rfl fun k _ => mul_comm _ _

/-- One element of a block is the reference's element at the block's place. -/
theorem point (c : Dev nD) (t : Fin cfg0.N) (y) : k0_pay1 (F := Ideal) (iblk m c 0 t) (iblk m c 1 t) y
    = Cert.Reference2Ideal.Read.val_main_v6 (F := Ideal) (m ((c : Thread nD τ).loc main_arg0)) (m ((c : Thread nD τ).loc main_arg1)) (((cfg0.win 2).blk t).view.emb y) := by
  rw [ref_apply]
  pointwise [k0_pay1]
  all_goals blk_point [iblk, V, idx t]

/-- The result array after the call is the reference's. -/
theorem final (c : Dev nD) : (dats m 0 c).arrAt 2 cfg0.N
    = Cert.Reference2Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.Hand

end
-- ==== Proof.UpWeight.lean ====
/- The gradient of the up-projection: what the call leaves in its result array. -/
module
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
@[expose] public section
set_option maxRecDepth 16384
noncomputable section
namespace Cert.Kernel3Ideal.Hand
open Cert.Kernel3Ideal Cert.Kernel3Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Which block every window shows at every point. -/
theorem idx : ∀ t : Fin cfg0.N, win0_0.index t = ![0, 0] ∧ win0_1.index t = ![0, t.val] ∧ win0_2.index t = ![0, t.val] :=
  (by decide +kernel : ∀ t : Fin grid0.N, _)

/-- One element of the reference: the sum over the rows of the products of the two columns. -/
theorem ref_apply (x : (⟨S2048x2048, .bf16⟩ : BufTy).Contents (Elt Ideal)) (y : (⟨S2048x5632, .bf16⟩ : BufTy).Contents (Elt Ideal)) (i : S2048x5632.Idx) :
    Cert.Reference3Ideal.Read.val_main_v6 (F := Ideal) x y i
      = ∑ k : Fin 2048, x (ix2 k (i 0)) * y (ix2 k (i 1)) := by
  have h : Cert.Reference3Ideal.Read.val_main_v6 (F := Ideal) x y i
      = ∑ k : Fin 2048, y (ix2 k (i 1)) * x (ix2 k (i 0)) := by
    pointwise [Cert.Reference3Ideal.Read.val_main_v6, Cert.Reference3Ideal.Read.val_main_v5, Cert.Reference3Ideal.Read.val_main_v4, Cert.Reference3Ideal.Read.val_main_v3, Cert.Reference3Ideal.Read.val_main_v1]
  rw [h]
  exact Finset.sum_congr rfl fun k _ => mul_comm _ _

/-- One element of a block is the reference's element at the block's place. -/
theorem point (c : Dev nD) (t : Fin cfg0.N) (y) : k0_pay1 (F := Ideal) (iblk m c 0 t) (iblk m c 1 t) y
    = Cert.Reference3Ideal.Read.val_main_v6 (F := Ideal) (m ((c : Thread nD τ).loc main_arg0)) (m ((c : Thread nD τ).loc main_arg1)) (((cfg0.win 2).blk t).view.emb y) := by
  rw [ref_apply]
  pointwise [k0_pay1]
  all_goals blk_point [iblk, V, idx t]

/-- The result array after the call is the reference's. -/
theorem final (c : Dev nD) : (dats m 0 c).arrAt 2 cfg0.N
    = Cert.Reference3Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.Hand

end
-- ==== Proof.InGrad.lean ====
/- The gradient of the layer input through the up-projection: a sum accumulated over 22 blocks of columns. -/
module
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
@[expose] public section
set_option maxRecDepth 16384
noncomputable section
namespace Cert.Kernel4Ideal.Hand
open Cert.Kernel4Ideal Cert.Kernel4Ideal.Gen
open Idealize.ShloMosaic Idealize.ShloMosaic.TcCoe Idealize.ShloMosaic.Tactic Idealize.SL.Sem
open Idealize.ShloMosaic.Pipeline (Dat)
open Cert.Reference4Ideal.Read (val_main_v1 val_main_v2 val_main_v3 val_main_v4 val_main_v6)

variable (m : (ℓ : Loc nD τ sig) → Buf (Elt Ideal) ℓ)

/-- Which block of the first factor's first half is shown while that half runs. -/
theorem idx_val : ∀ t : Fin cfg0.N, t.val % 22 ≤ 10 → win0_0.index t = ![0, t.val % 22] :=
  (by decide +kernel : ∀ t : Fin grid0.N, _)

/-- Which block of its second half is shown while that half runs. -/
theorem idx_gate : ∀ t : Fin cfg0.N, 11 ≤ t.val % 22 → win0_1.index t = ![0, t.val % 22 - 11] :=
  (by decide +kernel : ∀ t : Fin grid0.N, _)

/-- Which blocks of the weights and of the result are shown. -/
theorem idx : ∀ t : Fin cfg0.N, win0_2.index t = ![0, t.val / 22, t.val % 22] ∧ win0_3.index t = ![0, t.val / 22] :=
  (by decide +kernel : ∀ t : Fin grid0.N, _)

/-- The two halves of a row laid side by side. -/
def cat (x0 x1 : (⟨S2048x5632, .bf16⟩ : BufTy).Contents (Elt Ideal)) (r : Fin 2048) (k : Fin 11264) : EReal :=
  if h : k.val < 5632 then x0 (ix2 r ⟨k.val, h⟩) else x1 (ix2 r ⟨k.val - 5632, by omega⟩)

/-- One element of the reference: the sum over both halves of a row of the products with the weights. -/
theorem ref_apply (x0 x1 : (⟨S2048x5632, .bf16⟩ : BufTy).Contents (Elt Ideal))
    (x2 : (⟨S1x2048x11264, .bf16⟩ : BufTy).Contents (Elt Ideal)) (i : S2048x2048.Idx) :
    val_main_v6 (F := Ideal) x0 x1 x2 i = ∑ k : Fin 11264, cat x0 x1 (i 0) k * x2 (ix3 0 (i 1) k) := by
  rw [Cert.Reference4Ideal.Read.val_main_v6_apply]
  refine Finset.sum_congr rfl fun k _ => ?_
  congr 1
  · unfold cat val_main_v2 val_main_v1
    pointwise
  · pointwise [val_main_v4, val_main_v3]
    exact congrArg x2 (by idx_ext)

/-- One element of the product of a block of rows with a block of the weights. -/
def part (x : Vec Ideal S2048x512 .bf16) (w : Vec Ideal S1x1024x512 .bf16) (j : S2048x1024.Idx) : EReal :=
  ∑ k : Fin 512, x (ix2 (j 0) k) * w (ix3 0 (j 1) k)

/-- One element of the accumulator after a step: what it held plus the products of the step's block. -/
theorem pay2_apply (acc : Vec Ideal S2048x1024 .f32) (x : Vec Ideal S2048x512 .bf16) (w : Vec Ideal S1x1024x512 .bf16) (j : S2048x1024.Idx) :
    k0_pay2 (F := Ideal) acc x w j = acc j + part x w j := by
  pointwise [k0_pay2, part]

theorem pay3_apply (acc : Vec Ideal S2048x1024 .f32) (x : Vec Ideal S2048x512 .bf16) (w : Vec Ideal S1x1024x512 .bf16) (j : S2048x1024.Idx) :
    k0_pay3 (F := Ideal) acc x w j = acc j + part x w j :=
  pay2_apply acc x w j

/-- The block starts at zero. -/
theorem pay1_apply (j : S2048x1024.Idx) : k0_pay1 (F := Ideal) j = 0 := by
  pointwise [k0_pay1]

/-- What one step adds to an element. -/
def term (c : Dev nD) (t : Fin cfg0.N) (j : S2048x1024.Idx) : EReal :=
  if t.val % 22 ≤ 10 then part (iblk m c 0 t) (iblk m c 2 t) j else part (iblk m c 1 t) (iblk m c 2 t) j

/-- The first factor of a step in the first half, read in the two halves laid side by side. -/
theorem val_at (c : Dev nD) (t : Fin cfg0.N) (h : t.val % 22 ≤ 10) (r : Fin 2048) (k : Fin 512) (l : Fin 11264) (hl : l.val = t.val % 22 * 512 + k.val) :
    iblk m c 0 t (ix2 r k : S2048x512.Idx)
      = cat (m ((c : Thread nD τ).loc main_arg0)) (m ((c : Thread nD τ).loc main_arg1)) r l := by
  unfold cat
  rw [dif_pos (by omega)]
  blk_point [iblk, V, idx_val t h]

/-- The first factor of a step in the second half. -/
theorem gate_at (c : Dev nD) (t : Fin cfg0.N) (h : ¬t.val % 22 ≤ 10) (r : Fin 2048) (k : Fin 512) (l : Fin 11264) (hl : l.val = t.val % 22 * 512 + k.val) :
    iblk m c 1 t (ix2 r k : S2048x512.Idx)
      = cat (m ((c : Thread nD τ).loc main_arg0)) (m ((c : Thread nD τ).loc main_arg1)) r l := by
  unfold cat
  rw [dif_neg (by omega)]
  blk_point [iblk, V, idx_gate t (by omega)]

/-- The weights of a step, read in the whole array. -/
theorem right_at (c : Dev nD) (t : Fin cfg0.N) (a : Fin 1024) (k : Fin 512) (b : Fin 2048) (l : Fin 11264)
    (hb : b.val = t.val / 22 * 1024 + a.val) (hl : l.val = t.val % 22 * 512 + k.val) :
    iblk m c 2 t (ix3 0 a k : S1x1024x512.Idx) = m ((c : Thread nD τ).loc main_arg2) (ix3 0 b l) := by
  blk_point [iblk, V, idx t]

/-- What a step adds, as a sum of products of the whole arrays. -/
theorem term_at (c : Dev nD) (t : Fin cfg0.N) (j : S2048x1024.Idx) (s : Fin 22) (hs : s.val = t.val % 22) (b : Fin 2048)
    (hb : b.val = t.val / 22 * 1024 + (j 1).val) :
    term m c t j = ∑ k : Fin 512, cat (m ((c : Thread nD τ).loc main_arg0)) (m ((c : Thread nD τ).loc main_arg1)) (j 0) ⟨s.val * 512 + k.val, by omega⟩
      * m ((c : Thread nD τ).loc main_arg2) (ix3 0 b ⟨s.val * 512 + k.val, by omega⟩) := by
  unfold term part
  by_cases h : t.val % 22 ≤ 10
  · rw [if_pos h]
    refine Finset.sum_congr rfl fun k _ => ?_
    rw [val_at m c t h (j 0) k ⟨s.val * 512 + k.val, by omega⟩ (by simp only [hs]),
      right_at m c t (j 1) k b ⟨s.val * 512 + k.val, by omega⟩ hb (by simp only [hs])]
  · rw [if_neg h]
    refine Finset.sum_congr rfl fun k _ => ?_
    rw [gate_at m c t h (j 0) k ⟨s.val * 512 + k.val, by omega⟩ (by simp only [hs]),
      right_at m c t (j 1) k b ⟨s.val * 512 + k.val, by omega⟩ hb (by simp only [hs])]

/-- After the last of 22 steps the block holds the sum of what they add. -/
theorem run_sum (c : Dev nD) (t : Fin cfg0.N) (ht : t.val % 22 = 22 - 1) (j : S2048x1024.Idx) :
    outsAt0 m c t.val t.isLt j = (0 : EReal) + ∑ s : Fin 22, term m c ⟨22 * (t.val / 22) + s.val, Pipeline.run_point_lt_of_flush t ht s⟩ j :=
  Pipeline.eq_sum_fin_of_reset_step_apply_of_flush (ι := S2048x1024.Idx) (M := EReal) (fun n h => outsAt0 m c n h) 22 (fun _ => 0) (term m c)
    (fun t h j => by
      rw [outsAt0_A m c t h (by omega) (by omega)]
      frame_out
      rw [pay2_apply, pay1_apply]
      unfold term
      rw [if_pos (show t.val % 22 ≤ 10 by omega)])
    (fun t h j => by
      by_cases h1 : t.val % 22 ≤ 10
      · rw [outsAt0_B m c t h h1 (by omega)]
        frame_out
        rw [pay2_apply]
        unfold term
        rw [if_pos h1]
      · rw [outsAt0_C m c t h h1 (by omega)]
        frame_out
        rw [pay3_apply]
        unfold term
        rw [if_neg h1]) t ht j

/-- After the last step the block's element is the reference's element at the block's place. -/
theorem block_at (c : Dev nD) (t : Fin cfg0.N) (ht : t.val % 22 = 22 - 1) (j : S2048x1024.Idx) (i : S2048x2048.Idx)
    (h0 : (i 0).val = (j 0).val) (h1 : (i 1).val = t.val / 22 * 1024 + (j 1).val) :
    outsAt0 m c t.val t.isLt j
      = val_main_v6 (F := Ideal) (m ((c : Thread nD τ).loc main_arg0)) (m ((c : Thread nD τ).loc main_arg1)) (m ((c : Thread nD τ).loc main_arg2)) i := by
  have e0 : j 0 = i 0 := Fin.ext h0.symm
  rw [run_sum m c t ht j, zero_add, ref_apply]
  rw [Finset.sum_congr rfl fun s _ => term_at m c ⟨22 * (t.val / 22) + s.val, Pipeline.run_point_lt_of_flush t ht s⟩ j s
    (by have := s.isLt; show s.val = (22 * (t.val / 22) + s.val) % 22; omega) (i 1)
    (by have := s.isLt; show (i 1).val = (22 * (t.val / 22) + s.val) / 22 * 1024 + (j 1).val; omega)]
  rw [e0]
  exact Fin.sum_mul_add_congr (S := 22) (n := 512)
    (f := fun k : Fin 11264 => cat (m ((c : Thread nD τ).loc main_arg0)) (m ((c : Thread nD τ).loc main_arg1)) (i 0) k
      * m ((c : Thread nD τ).loc main_arg2) (ix3 0 (i 1) k)) fun s k hl => rfl

/-- The result array after the call is the reference's. -/
theorem final (c : Dev nD) : (dats m 0 c).arrAt 3 cfg0.N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf j => ?_
  have ht : t.val % 22 = 22 - 1 := (flush0_3 t).mp hf
  blk_simp
  rw [after0_3]
  refine block_at m c t ht j _ ?_ ?_
  · blk_simp [idx t]
  · blk_simp [idx t]

end Cert.Kernel4Ideal.Hand

end
-- ==== Proof.Down.lean ====
/- The down-projection with the residual: a sum accumulated over 11 blocks of columns. -/
module
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
@[expose] public section
set_option maxRecDepth 16384
noncomputable section
namespace Cert.Kernel5Ideal.Hand
open Cert.Kernel5Ideal Cert.Kernel5Ideal.Gen
open Idealize.ShloMosaic Idealize.ShloMosaic.TcCoe Idealize.ShloMosaic.Tactic Idealize.SL.Sem
open Idealize.ShloMosaic.Pipeline (Dat)
open Cert.Reference5Ideal.Read (val_main_v0 val_main_v1 val_main_v2 val_main_v3 val_main_v4)

variable (m : (ℓ : Loc nD τ sig) → Buf (Elt Ideal) ℓ)

/-- Which block every window shows at every point. -/
theorem idx : ∀ t : Fin cfg0.N, win0_0.index t = ![0, t.val % 11] ∧ win0_1.index t = ![0, t.val % 11, t.val / 11]
    ∧ win0_2.index t = ![0, t.val / 11] ∧ win0_3.index t = ![0, t.val / 11] :=
  (by decide +kernel : ∀ t : Fin grid0.N, _)

/-- One element of the reference: the residual plus the sum of the products with the weights. -/
theorem ref_apply (x0 : (⟨S2048x5632, .bf16⟩ : BufTy).Contents (Elt Ideal))
    (x1 : (⟨S1x5632x2048, .bf16⟩ : BufTy).Contents (Elt Ideal)) (x2 : (⟨S2048x2048, .f32⟩ : BufTy).Contents (Elt Ideal)) (i : S2048x2048.Idx) :
    val_main_v4 (F := Ideal) x0 x1 x2 i = x2 i + ∑ k : Fin 5632, x0 (ix2 (i 0) k) * x1 (ix3 0 k (i 1)) := by
  pointwise [val_main_v4, val_main_v3, val_main_v2, val_main_v1, val_main_v0]

/-- One element of the product of a block of rows with a block of the weights. -/
def part (x : Vec Ideal S2048x512 .bf16) (w : Vec Ideal S1x512x1024 .bf16) (j : S2048x1024.Idx) : EReal :=
  ∑ k : Fin 512, x (ix2 (j 0) k) * w (ix3 0 k (j 1))

/-- One element of the accumulator after a step: what it held plus the products of the step's block. -/
theorem pay1_apply (acc : Vec Ideal S2048x1024 .f32) (x : Vec Ideal S2048x512 .bf16) (w : Vec Ideal S1x512x1024 .bf16) (j : S2048x1024.Idx) :
    k0_pay1 (F := Ideal) acc x w j = acc j + part x w j := by
  pointwise [k0_pay1, part]

/-- What one step adds to an element: the first step of a run also brings in the residual. -/
def term (c : Dev nD) (t : Fin cfg0.N) (j : S2048x1024.Idx) : EReal :=
  (if t.val % 11 = 0 then (show EReal from iblk m c 2 t j) else 0) + part (iblk m c 0 t) (iblk m c 1 t) j

/-- The first factor of a step, read in the whole array. -/
theorem left_at (c : Dev nD) (t : Fin cfg0.N) (r : Fin 2048) (k : Fin 512) (l : Fin 5632) (hl : l.val = t.val % 11 * 512 + k.val) :
    iblk m c 0 t (ix2 r k : S2048x512.Idx) = m ((c : Thread nD τ).loc main_arg0) (ix2 r l) := by
  blk_point [iblk, V, idx t]

/-- The weights of a step, read in the whole array. -/
theorem right_at (c : Dev nD) (t : Fin cfg0.N) (a : Fin 1024) (k : Fin 512) (b : Fin 2048) (l : Fin 5632)
    (hb : b.val = t.val / 11 * 1024 + a.val) (hl : l.val = t.val % 11 * 512 + k.val) :
    iblk m c 1 t (ix3 0 k a : S1x512x1024.Idx) = m ((c : Thread nD τ).loc main_arg1) (ix3 0 l b) := by
  blk_point [iblk, V, idx t]

/-- The residual of a run, read in the whole array. -/
theorem resid_at (c : Dev nD) (t : Fin cfg0.N) (j : S2048x1024.Idx) (i : S2048x2048.Idx)
    (h0 : (i 0).val = (j 0).val) (h1 : (i 1).val = t.val / 11 * 1024 + (j 1).val) :
    iblk m c 2 t j = m ((c : Thread nD τ).loc main_arg2) i := by
  blk_point [iblk, V, idx t]

/-- The product of one entry of a row with one entry of a column of the weights. -/
def prod (x0 : (⟨S2048x5632, .bf16⟩ : BufTy).Contents (Elt Ideal)) (x1 : (⟨S1x5632x2048, .bf16⟩ : BufTy).Contents (Elt Ideal))
    (i : S2048x2048.Idx) (l : Fin 5632) : EReal :=
  x0 (ix2 (i 0) l) * x1 (ix3 0 l (i 1))

/-- What a step adds, as a sum of products of the whole arrays. -/
theorem term_at (c : Dev nD) (t : Fin cfg0.N) (j : S2048x1024.Idx) (s : Fin 11) (hs : s.val = t.val % 11) (i : S2048x2048.Idx)
    (h0 : (i 0).val = (j 0).val) (h1 : (i 1).val = t.val / 11 * 1024 + (j 1).val) :
    term m c t j = (if s = 0 then (show EReal from m ((c : Thread nD τ).loc main_arg2) i) else 0)
      + ∑ k : Fin 512, prod (m ((c : Thread nD τ).loc main_arg0)) (m ((c : Thread nD τ).loc main_arg1)) i ⟨s.val * 512 + k.val, by omega⟩ := by
  have e0 : j 0 = i 0 := Fin.ext h0.symm
  unfold term part prod
  congr 1
  · by_cases h : t.val % 11 = 0
    · rw [if_pos h, if_pos (Fin.ext (hs.trans h))]
      exact resid_at m c t j i h0 h1
    · rw [if_neg h, if_neg (fun e => h (hs.symm.trans (congrArg Fin.val e)))]
  · refine Finset.sum_congr rfl fun k _ => ?_
    rw [left_at m c t (j 0) k ⟨s.val * 512 + k.val, by omega⟩ (by simp only [hs]),
      right_at m c t (j 1) k (i 1) ⟨s.val * 512 + k.val, by omega⟩ h1 (by simp only [hs]), e0]

/-- After the last of 11 steps the block holds the sum of what they add. -/
theorem run_sum (c : Dev nD) (t : Fin cfg0.N) (ht : t.val % 11 = 11 - 1) (j : S2048x1024.Idx) :
    outsAt0 m c t.val t.isLt j = (0 : EReal) + ∑ s : Fin 11, term m c ⟨11 * (t.val / 11) + s.val, Pipeline.run_point_lt_of_flush t ht s⟩ j :=
  Pipeline.eq_sum_fin_of_reset_step_apply_of_flush (ι := S2048x1024.Idx) (M := EReal) (fun n h => outsAt0 m c n h) 11 (fun _ => 0) (term m c)
    (fun t h j => by
      rw [outsAt0_A m c t h]
      frame_out
      rw [pay1_apply]
      unfold term
      rw [if_pos h, zero_add])
    (fun t h j => by
      rw [outsAt0_B m c t h]
      frame_out
      rw [pay1_apply]
      unfold term
      rw [if_neg h, zero_add]) t ht j

/-- After the last step the block's element is the reference's element at the block's place. -/
theorem block_at (c : Dev nD) (t : Fin cfg0.N) (ht : t.val % 11 = 11 - 1) (j : S2048x1024.Idx) (i : S2048x2048.Idx)
    (h0 : (i 0).val = (j 0).val) (h1 : (i 1).val = t.val / 11 * 1024 + (j 1).val) :
    outsAt0 m c t.val t.isLt j
      = val_main_v4 (F := Ideal) (m ((c : Thread nD τ).loc main_arg0)) (m ((c : Thread nD τ).loc main_arg1)) (m ((c : Thread nD τ).loc main_arg2)) i := by
  rw [run_sum m c t ht j, zero_add, ref_apply]
  rw [Finset.sum_congr rfl fun s _ => term_at m c ⟨11 * (t.val / 11) + s.val, Pipeline.run_point_lt_of_flush t ht s⟩ j s
    (by have := s.isLt; show s.val = (11 * (t.val / 11) + s.val) % 11; omega) i h0
    (by have := s.isLt; show (i 1).val = (11 * (t.val / 11) + s.val) / 11 * 1024 + (j 1).val; omega)]
  rw [Finset.sum_add_distrib, Finset.sum_ite_eq' Finset.univ (0 : Fin 11), if_pos (Finset.mem_univ _)]
  congr 1
  exact Fin.sum_mul_add_congr (S := 11) (n := 512)
    (f := prod (m ((c : Thread nD τ).loc main_arg0)) (m ((c : Thread nD τ).loc main_arg1)) i) fun s k hl => rfl

/-- The result array after the call is the reference's. -/
theorem final (c : Dev nD) : (dats m 0 c).arrAt 3 cfg0.N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf j => ?_
  have ht : t.val % 11 = 11 - 1 := (flush0_3 t).mp hf
  blk_simp
  rw [after0_3]
  refine block_at m c t ht j _ ?_ ?_
  · blk_simp [idx t]
  · blk_simp [idx t]

end Cert.Kernel5Ideal.Hand

end
-- ==== Proof.UpBlock.lean ====
/- The up-projection with the gated convolution behind it: what the body leaves in its three output buffers. -/
module
public import proofs.«01_k».proof.Proof.Gen.Kernel6Ideal.Value
public import proofs.«01_k».proof.Proof.Trip
public import Idealize.ShloMosaic.Lib.Pointwise
@[expose] public section
set_option maxRecDepth 16384
noncomputable section
namespace Cert.Kernel6Ideal.Hand
open Cert.Kernel6Ideal Cert.Kernel6Ideal.Gen Cert.Hand
open Idealize.ShloMosaic Idealize.ShloMosaic.TcCoe Idealize.SL.Sem
open Cert.KernelIdeal.Hand (Filled load_rows)

/-- Three rows of a tap array at one column. -/
def taps (w : Vec Ideal S3x256 .f32) (j : Fin 256) (t : Fin 3) : EReal := w (ix2 t j)

/-- A column of the product, eight zeros in front. -/
def uBlk (x : Vec Ideal S2048x2048 .bf16) (w : Vec Ideal S1x2048x256 .bf16) (j : Fin 256) : ℕ → EReal :=
  lead 8 2048 fun r => ∑ k : Fin 2048, x (ix2 r k) * w (ix3 0 k j)

/-- A column's convolution, from the column with eight zeros in front. -/
def cBlk (w : Vec Ideal S3x256 .f32) (b : Vec Ideal S1x256 .f32) (U : Fin 256 → ℕ → EReal) (j : Fin 256) : ℕ → EReal :=
  tap (taps w j) (b (ix2 0 j)) (fun n => U j (n + 6))

/-- The gate's activation times the value. -/
def silu (g v : EReal) : EReal := g * sg g * v

section
variable (v : Vec Ideal S72x256 .f32) (j : Fin 256) (u : ℕ → EReal) (o : ℕ)
  (hv : ∀ r : Fin 72, v (ix2 r j) = u (o + r))
include hv

theorem pay2_eq (r : Fin 64) : k0_pay2 v (ix2 r j) = u (o + r + 8) := by
  pointwise [k0_pay2]; rw [hv]; exact congrArg u (by dsimp only; omega)
theorem pay3_eq (r : Fin 64) : k0_pay3 v (ix2 r j) = u (o + r + 8) := pay2_eq v j u o hv r
theorem pay6_eq (r : Fin 64) : k0_pay6 v (ix2 r j) = u (o + r + 8) := by
  pointwise [k0_pay6]; exact pay2_eq v j u o hv r
theorem pay7_eq (r : Fin 64) : k0_pay7 v (ix2 r j) = u (o + r + 8) := pay6_eq v j u o hv r

/-- The convolution of a tile's rows. -/
theorem pay4_eq (w : Vec Ideal S3x256 .f32) (b : Vec Ideal S1x256 .f32) (r : Fin 64) :
    k0_pay4 w b v (ix2 r j) = tap (taps w j) (b (ix2 0 j)) (fun n => u (n + 6)) (o + r) := by
  pointwise [k0_pay4]
  rw [pay2_eq v j u o hv]
  simp only [hv]
  unfold tap taps
  have e1 : o + ((8 + r.val + 72 - 1) % 72) = o + r.val + 1 + 6 := by omega
  have e2 : o + ((8 + r.val + 72 - 2) % 72) = o + r.val + 6 := by omega
  rw [e1, e2]
theorem pay5_eq (w : Vec Ideal S3x256 .f32) (b : Vec Ideal S1x256 .f32) (r : Fin 64) :
    k0_pay5 w b v (ix2 r j) = tap (taps w j) (b (ix2 0 j)) (fun n => u (n + 6)) (o + r) := pay4_eq v j u o hv w b r
end

/-- The gated activation, entry by entry. -/
theorem pay1_eq (a g : Vec Ideal S64x256 .f32) (y : S64x256.Idx) : k0_pay1 (F := Ideal) a g y = silu (g y) (a y) := by
  pointwise [k0_pay1, silu, sg]

theorem pay9_eq (y) : k0_pay9 (F := Ideal) y = 0 := by pointwise [k0_pay9, k0_pay8]
theorem pay10_eq (y) : k0_pay10 (F := Ideal) y = 0 := by pointwise [k0_pay10, k0_pay8]
theorem uBlk_row (x : Vec Ideal S2048x2048 .bf16) (w : Vec Ideal S1x2048x256 .bf16) (j : Fin 256) (r : Fin 2048) :
    uBlk x w j (8 + r) = ∑ k : Fin 2048, x (ix2 r k) * w (ix3 0 k j) := by
  unfold uBlk lead
  rw [dif_pos ⟨Nat.le_add_right _ _, by omega⟩]
  have e : (⟨8 + r.val - 8, by omega⟩ : Fin 2048) = r := Fin.ext (by dsimp only; omega)
  rw [e]
theorem pay11_eq (x : Vec Ideal S2048x2048 .bf16) (w : Vec Ideal S1x2048x256 .bf16) (r : Fin 2048) (j : Fin 256) :
    k0_pay11 x w (ix2 r j) = uBlk x w j (8 + r) := by
  rw [uBlk_row]
  pointwise [k0_pay11]
theorem pay12_eq (x : Vec Ideal S2048x2048 .bf16) (w : Vec Ideal S1x2048x256 .bf16) (r : Fin 2048) (j : Fin 256) :
    k0_pay12 x w (ix2 r j) = uBlk x w j (8 + r) := pay11_eq x w r j
theorem uBlk_front (x : Vec Ideal S2048x2048 .bf16) (w : Vec Ideal S1x2048x256 .bf16) (j : Fin 256) (r : ℕ) (hr : r < 8) : uBlk x w j r = 0 :=
  dif_neg fun h => absurd h.1 (by omega)

/-- A load of a whole buffer. -/
theorem load_whole {s : Shape} {e : EltTy} {sp : Space} {κ : Kind} (a : Memref sig κ sp s e) (h : a.IsWhole) (x : Vec Ideal s e)
    (off : Fin s.rank → ℕ) (hoff : ∀ i, off i = 0) (inb) :
    a.view.readAt (Elt Ideal) (Rect.unit off s.size inb).toLoadRect (h.unread x) = x := by
  funext y
  refine (View.ld_unit_apply_of (a.view.read (Elt Ideal) (h.unread x)) off s.size inb y y fun i => ?_).trans
    (congrFun (h.read_unread x) y)
  rw [hoff, Nat.zero_add]

/-- A half's product in its buffer, eight rows of zeros in front. -/
theorem stage {sp : Space} (v : View sig .tc sp S2056x256 .f32) (f : v.ty.Contents (Elt Ideal)) (x : Vec Ideal S2048x2048 .bf16) (w : Vec Ideal S1x2048x256 .bf16)
    (p : Vec Ideal S2048x256 .f32) (z : Vec Ideal S8x256 .f32)
    (hp : ∀ r j, p (ix2 r j) = uBlk x w j (8 + r.val)) (hz : ∀ y, z y = 0) (i1 i2) (r : Fin 2056) (j : Fin 256) :
    v.read (Elt Ideal) (v.writes (Elt Ideal) f [⟨Rect.unit ![8, 0] S2048x256.size i1, p⟩, ⟨Rect.unit ![0, 0] S8x256.size i2, z⟩]) (ix2 r j)
      = uBlk x w j r :=
  (((Filled.nil (R := 2056) (e := .f32) (uBlk x w)).cons (W := 8) 0 rfl i2 z (fun r j => by
      rw [hz, Nat.zero_add]; exact (uBlk_front x w j r r.isLt).symm) 8 (by omega)).cons (W := 2048) 8 rfl i1 p hp 2056 (by omega)).read v f r r.isLt j

section
variable (𝒱 : Variants) (c : Dev nD) (bd : Option 𝒱.V) (i : grid0.Coords)
  (a1 : Memref sig .tc .vmem S2048x2048 .bf16) (h1 : a1.IsWhole)
  (a2 : Memref sig .tc .vmem S1x2048x256 .bf16) (h2 : a2.IsWhole)
  (a3 : Memref sig .tc .vmem S1x2048x256 .bf16) (h3 : a3.IsWhole)
  (a4 : Memref sig .tc .vmem S3x256 .f32) (h4 : a4.IsWhole)
  (a5 : Memref sig .tc .vmem S3x256 .f32) (h5 : a5.IsWhole)
  (a6 : Memref sig .tc .vmem S1x256 .f32) (h6 : a6.IsWhole)
  (a7 : Memref sig .tc .vmem S1x256 .f32) (h7 : a7.IsWhole)
  (a8 : Memref sig .tc .vmem S2048x256 .bf16) (h8 : a8.IsWhole)
  (a9 : Memref sig .tc .vmem S2048x256 .bf16) (h9 : a9.IsWhole)
  (a10 : Memref sig .tc .vmem S2048x256 .bf16) (h10 : a10.IsWhole)
  (a11 : Memref sig .tc .vmem S2056x256 .f32) (h11 : a11.IsWhole)
  (a12 : Memref sig .tc .vmem S2056x256 .f32) (h12 : a12.IsWhole)
  (w w' : Vec Ideal S3x256 .f32) (b b' : Vec Ideal S1x256 .f32)
  (X11 : BufTy.Contents (Elt Ideal) a11.view.ty) (X12 : BufTy.Contents (Elt Ideal) a12.view.ty) (U V : Fin 256 → ℕ → EReal)
  (hU : ∀ (r : Fin 2056) (j : Fin 256), a11.view.read (Elt Ideal) X11 (ix2 r j) = U j r)
  (hV : ∀ (r : Fin 2056) (j : Fin 256), a12.view.read (Elt Ideal) X12 (ix2 r j) = V j r)
include hU hV

/-- The loop's stores: each half's rows as they are, and the gated activation of the two convolutions. -/
theorem loop : ∀ n : ℕ, n ≤ k0_t1_loop.trips →
    Filled (R := 2048) (e := .bf16) (fun j r => U j (r + 8)) (64 * n) (pb_k0_t1 𝒱 c bd i a1 h1 a2 h2 a3 h3 a4 h4 a5 h5 a6 h6 a7 h7 a8 h8 a9 h9 a10 h10 a11 h11 a12 h12 w w' b b' X11 X12 n).1 ∧
    Filled (R := 2048) (e := .bf16) (fun j r => V j (r + 8)) (64 * n) (pb_k0_t1 𝒱 c bd i a1 h1 a2 h2 a3 h3 a4 h4 a5 h5 a6 h6 a7 h7 a8 h8 a9 h9 a10 h10 a11 h11 a12 h12 w w' b b' X11 X12 n).2.1 ∧
    Filled (R := 2048) (e := .bf16) (fun j r => silu (cBlk w' b' V j r) (cBlk w b U j r)) (64 * n) (pb_k0_t1 𝒱 c bd i a1 h1 a2 h2 a3 h3 a4 h4 a5 h5 a6 h6 a7 h7 a8 h8 a9 h9 a10 h10 a11 h11 a12 h12 w w' b b' X11 X12 n).2.2
  | 0, _ => ⟨Filled.nil _, Filled.nil _, Filled.nil _⟩
  | n + 1, hn => by
    obtain ⟨q1, q2, q3⟩ := loop n (by omega)
    rw [pb_k0_t1_succ 𝒱 c bd i a1 h1 a2 h2 a3 h3 a4 h4 a5 h5 a6 h6 a7 h7 a8 h8 a9 h9 a10 h10 a11 h11 a12 h12 w w' b b' X11 X12 ⟨n, hn⟩]
    unfold tripL_k0_t1 trip_k0_t1
    dsimp only
    have u := fun j r => load_rows a11.view X11 U hU (W := 72) (64 * n) (k0_off1_eq ⟨n, hn⟩) (k0_off1_inb ⟨n, hn⟩) r j
    have v := fun j r => load_rows a12.view X12 V hV (W := 72) (64 * n) (k0_off1_eq ⟨n, hn⟩) (k0_off1_inb ⟨n, hn⟩) r j
    refine ⟨q1.cons (W := 64) (64 * n) (k0_off2_eq ⟨n, hn⟩) _ _ (fun r j => ?_) _ (by omega),
      q2.cons (W := 64) (64 * n) (k0_off2_eq ⟨n, hn⟩) _ _ (fun r j => ?_) _ (by omega),
      q3.cons (W := 64) (64 * n) (k0_off2_eq ⟨n, hn⟩) _ _ (fun r j => ?_) _ (by omega)⟩
    · exact pay6_eq _ j (U j) (64 * n) (u j) r
    · exact pay7_eq _ j (V j) (64 * n) (v j) r
    · rw [pay1_eq]
      exact congrArg₂ silu (pay5_eq _ j (V j) (64 * n) (v j) w' b' r) (pay4_eq _ j (U j) (64 * n) (u j) w b r)
end

theorem row11 {x : Vec Ideal S2048x2048 .bf16} {w : Vec Ideal S1x2048x256 .bf16} (y : Vec Ideal S2048x2048 .bf16) (u : Vec Ideal S1x2048x256 .bf16)
    (q : y = x) (p : u = w) (r : Fin 2048) (j : Fin 256) : k0_pay11 y u (ix2 r j) = uBlk x w j (8 + r.val) := q ▸ p ▸ pay11_eq y u r j
theorem row12 {x : Vec Ideal S2048x2048 .bf16} {w : Vec Ideal S1x2048x256 .bf16} (y : Vec Ideal S2048x2048 .bf16) (u : Vec Ideal S1x2048x256 .bf16)
    (q : y = x) (p : u = w) (r : Fin 2048) (j : Fin 256) : k0_pay12 y u (ix2 r j) = uBlk x w j (8 + r.val) := row11 y u q p r j

section
variable (𝒱 : Variants) (c : Dev nD) (bd : Option 𝒱.V) (i : grid0.Coords)
  (a1 : Memref sig .tc .vmem S2048x2048 .bf16) (h1 : a1.IsWhole)
  (a2 : Memref sig .tc .vmem S1x2048x256 .bf16) (h2 : a2.IsWhole)
  (a3 : Memref sig .tc .vmem S1x2048x256 .bf16) (h3 : a3.IsWhole)
  (a4 : Memref sig .tc .vmem S3x256 .f32) (h4 : a4.IsWhole)
  (a5 : Memref sig .tc .vmem S3x256 .f32) (h5 : a5.IsWhole)
  (a6 : Memref sig .tc .vmem S1x256 .f32) (h6 : a6.IsWhole)
  (a7 : Memref sig .tc .vmem S1x256 .f32) (h7 : a7.IsWhole)
  (a8 : Memref sig .tc .vmem S2048x256 .bf16) (h8 : a8.IsWhole)
  (a9 : Memref sig .tc .vmem S2048x256 .bf16) (h9 : a9.IsWhole)
  (a10 : Memref sig .tc .vmem S2048x256 .bf16) (h10 : a10.IsWhole)
  (a11 : Memref sig .tc .vmem S2056x256 .f32) (h11 : a11.IsWhole)
  (a12 : Memref sig .tc .vmem S2056x256 .f32) (h12 : a12.IsWhole)
  (w w' : Vec Ideal S3x256 .f32) (b b' : Vec Ideal S1x256 .f32)
  (x0 : Vec Ideal S2048x2048 .bf16) (x1 x2 : Vec Ideal S1x2048x256 .bf16) (x3 x4 : Vec Ideal S3x256 .f32) (x5 x6 : Vec Ideal S1x256 .f32)
  (q3 : w = x3) (q4 : w' = x4) (q5 : b = x5) (q6 : b' = x6)
  (X11 : BufTy.Contents (Elt Ideal) a11.view.ty) (X12 : BufTy.Contents (Elt Ideal) a12.view.ty)
  (hU : ∀ (r : Fin 2056) (j : Fin 256), a11.view.read (Elt Ideal) X11 (ix2 r j) = uBlk x0 x1 j r)
  (hV : ∀ (r : Fin 2056) (j : Fin 256), a12.view.read (Elt Ideal) X12 (ix2 r j) = uBlk x0 x2 j r)
include q3 q4 q5 q6 hU hV

/-- The loop, all its trips, from the two halves' products. -/
theorem loop_all :
    Filled (R := 2048) (e := .bf16) (fun j r => uBlk x0 x1 j (r + 8)) 2048 (pb_k0_t1 𝒱 c bd i a1 h1 a2 h2 a3 h3 a4 h4 a5 h5 a6 h6 a7 h7 a8 h8 a9 h9 a10 h10 a11 h11 a12 h12 w w' b b' X11 X12 (Scf.trips k0_t1_loop.lb k0_t1_loop.ub k0_t1_loop.st)).1 ∧
    Filled (R := 2048) (e := .bf16) (fun j r => uBlk x0 x2 j (r + 8)) 2048 (pb_k0_t1 𝒱 c bd i a1 h1 a2 h2 a3 h3 a4 h4 a5 h5 a6 h6 a7 h7 a8 h8 a9 h9 a10 h10 a11 h11 a12 h12 w w' b b' X11 X12 (Scf.trips k0_t1_loop.lb k0_t1_loop.ub k0_t1_loop.st)).2.1 ∧
    Filled (R := 2048) (e := .bf16) (fun j r => silu (cBlk x4 x6 (uBlk x0 x2) j r) (cBlk x3 x5 (uBlk x0 x1) j r)) 2048 (pb_k0_t1 𝒱 c bd i a1 h1 a2 h2 a3 h3 a4 h4 a5 h5 a6 h6 a7 h7 a8 h8 a9 h9 a10 h10 a11 h11 a12 h12 w w' b b' X11 X12 (Scf.trips k0_t1_loop.lb k0_t1_loop.ub k0_t1_loop.st)).2.2 := by
  subst q3 q4 q5 q6
  exact loop 𝒱 c bd i a1 h1 a2 h2 a3 h3 a4 h4 a5 h5 a6 h6 a7 h7 a8 h8 a9 h9 a10 h10 a11 h11 a12 h12 w w' b b' X11 X12 (uBlk x0 x1) (uBlk x0 x2) hU hV 32 (le_of_eq rfl)
end

section
variable (c : Dev nD) (i : grid0.Coords)
  (a1 : Memref sig .tc .vmem S2048x2048 .bf16) (h1 : a1.IsWhole)
  (a2 : Memref sig .tc .vmem S1x2048x256 .bf16) (h2 : a2.IsWhole)
  (a3 : Memref sig .tc .vmem S1x2048x256 .bf16) (h3 : a3.IsWhole)
  (a4 : Memref sig .tc .vmem S3x256 .f32) (h4 : a4.IsWhole)
  (a5 : Memref sig .tc .vmem S3x256 .f32) (h5 : a5.IsWhole)
  (a6 : Memref sig .tc .vmem S1x256 .f32) (h6 : a6.IsWhole)
  (a7 : Memref sig .tc .vmem S1x256 .f32) (h7 : a7.IsWhole)
  (a8 : Memref sig .tc .vmem S2048x256 .bf16) (h8 : a8.IsWhole)
  (a9 : Memref sig .tc .vmem S2048x256 .bf16) (h9 : a9.IsWhole)
  (a10 : Memref sig .tc .vmem S2048x256 .bf16) (h10 : a10.IsWhole)
  (a11 : Memref sig .tc .vmem S2056x256 .f32) (h11 : a11.IsWhole)
  (a12 : Memref sig .tc .vmem S2056x256 .f32) (h12 : a12.IsWhole)
  (x0 : Vec Ideal S2048x2048 .bf16) (x1 x2 : Vec Ideal S1x2048x256 .bf16) (x3 x4 : Vec Ideal S3x256 .f32) (x5 x6 : Vec Ideal S1x256 .f32)

/-- What the body stores through its three output buffers. -/
theorem left :
    Filled (R := 2048) (e := .bf16) (fun j r => uBlk x0 x1 j (r + 8)) 2048 (kernelRun0_A (F := Ideal) c i a1 h1 a2 h2 a3 h3 a4 h4 a5 h5 a6 h6 a7 h7 a8 h8 a9 h9 a10 h10 a11 h11 a12 h12 x0 x1 x2 x3 x4 x5 x6).1 ∧
    Filled (R := 2048) (e := .bf16) (fun j r => uBlk x0 x2 j (r + 8)) 2048 (kernelRun0_A (F := Ideal) c i a1 h1 a2 h2 a3 h3 a4 h4 a5 h5 a6 h6 a7 h7 a8 h8 a9 h9 a10 h10 a11 h11 a12 h12 x0 x1 x2 x3 x4 x5 x6).2.1 ∧
    Filled (R := 2048) (e := .bf16) (fun j r => silu (cBlk x4 x6 (uBlk x0 x2) j r) (cBlk x3 x5 (uBlk x0 x1) j r)) 2048 (kernelRun0_A (F := Ideal) c i a1 h1 a2 h2 a3 h3 a4 h4 a5 h5 a6 h6 a7 h7 a8 h8 a9 h9 a10 h10 a11 h11 a12 h12 x0 x1 x2 x3 x4 x5 x6).2.2.1 := by
  unfold kernelRun0_A
  dsimp only
  exact loop_all Variants.none c none i a1 h1 a2 h2 a3 h3 a4 h4 a5 h5 a6 h6 a7 h7 a8 h8 a9 h9 a10 h10 a11 h11 a12 h12 _ _ _ _ x0 x1 x2 x3 x4 x5 x6
    (load_whole a4 h4 x3 _ (by decide) _) (load_whole a5 h5 x4 _ (by decide) _) (load_whole a6 h6 x5 _ (by decide) _) (load_whole a7 h7 x6 _ (by decide) _)
    _ _
    (fun r j => stage a11.view _ x0 x1 _ _ (row11 _ _ (load_whole a1 h1 x0 _ (by decide) _) (load_whole a2 h2 x1 _ (by decide) _)) pay9_eq _ _ r j)
    (fun r j => stage a12.view _ x0 x2 _ _ (row12 _ _ (load_whole a1 h1 x0 _ (by decide) _) (load_whole a3 h3 x2 _ (by decide) _)) pay10_eq _ _ r j)

/-- The value half's rows. -/
theorem out7 (y : S2048x256.Idx) : out0_A_7 (F := Ideal) c i a1 h1 a2 h2 a3 h3 a4 h4 a5 h5 a6 h6 a7 h7 a8 h8 a9 h9 a10 h10 a11 h11 a12 h12 x0 x1 x2 x3 x4 x5 x6 y = uBlk x0 x1 (y 1) ((y 0).val + 8) := by
  unfold out0_A_7
  have := (left c i a1 h1 a2 h2 a3 h3 a4 h4 a5 h5 a6 h6 a7 h7 a8 h8 a9 h9 a10 h10 a11 h11 a12 h12 x0 x1 x2 x3 x4 x5 x6).1.read VO0_7 VO0_7.junk (y 0) (y 0).isLt (y 1)
  rwa [ix2_eta] at this

/-- The gate half's rows. -/
theorem out8 (y : S2048x256.Idx) : out0_A_8 (F := Ideal) c i a1 h1 a2 h2 a3 h3 a4 h4 a5 h5 a6 h6 a7 h7 a8 h8 a9 h9 a10 h10 a11 h11 a12 h12 x0 x1 x2 x3 x4 x5 x6 y = uBlk x0 x2 (y 1) ((y 0).val + 8) := by
  unfold out0_A_8
  have := (left c i a1 h1 a2 h2 a3 h3 a4 h4 a5 h5 a6 h6 a7 h7 a8 h8 a9 h9 a10 h10 a11 h11 a12 h12 x0 x1 x2 x3 x4 x5 x6).2.1.read VO0_8 VO0_8.junk (y 0) (y 0).isLt (y 1)
  rwa [ix2_eta] at this

/-- The gated activation's rows. -/
theorem out9 (y : S2048x256.Idx) : out0_A_9 (F := Ideal) c i a1 h1 a2 h2 a3 h3 a4 h4 a5 h5 a6 h6 a7 h7 a8 h8 a9 h9 a10 h10 a11 h11 a12 h12 x0 x1 x2 x3 x4 x5 x6 y
    = silu (cBlk x4 x6 (uBlk x0 x2) (y 1) (y 0).val) (cBlk x3 x5 (uBlk x0 x1) (y 1) (y 0).val) := by
  unfold out0_A_9
  have := (left c i a1 h1 a2 h2 a3 h3 a4 h4 a5 h5 a6 h6 a7 h7 a8 h8 a9 h9 a10 h10 a11 h11 a12 h12 x0 x1 x2 x3 x4 x5 x6).2.2.read VO0_9 VO0_9.junk (y 0) (y 0).isLt (y 1)
  rwa [ix2_eta] at this
end

end Cert.Kernel6Ideal.Hand
end
-- ==== Proof.UpRef.lean ====
/- The up-projection with the gated convolution behind it: the reference's three results as formulas over its arguments, one
   column of the hidden width at a time. -/
module
public import proofs.«01_k».proof.Proof.Scalar
public import proofs.«01_k».proof.Proof.Gen.Reference6Ideal.Read
public import Idealize.ShloMosaic.Lib.Pipeline.ValueKit
@[expose] public section
set_option maxRecDepth 16384
noncomputable section
namespace Cert.Reference6Ideal.Hand
open Cert.Reference6Ideal Cert.Reference6Ideal.Gen Cert.Reference6Ideal.Read Cert.Hand
open Idealize.ShloMosaic Idealize.ShloMosaic.TcCoe Idealize.SL.Sem Idealize.ShloMosaic.StableHlo Idealize.ShloMosaic.Tactic

variable (x0 : (⟨S2048x2048, .bf16⟩ : BufTy).Contents (Elt Ideal)) (x1 : (⟨S1x2048x11264, .bf16⟩ : BufTy).Contents (Elt Ideal)) (x2 : (⟨S3x11264, .f32⟩ : BufTy).Contents (Elt Ideal)) (x3 : (⟨S1x11264, .f32⟩ : BufTy).Contents (Elt Ideal))

/-- One element of the product. -/
def entry (r : Fin 2048) (k : Fin 11264) : EReal := ∑ p : Fin 2048, x0 (ix2 r p) * x1 (ix3 0 p k)

/-- A column of the product, eight zeros in front. -/
def pAll (k : Fin 11264) : ℕ → EReal := lead 8 2048 fun r => entry x0 x1 r k

theorem v3_apply (i : S2048x11264.Idx) : val_main_v3 (F := Ideal) x0 x1 i = entry x0 x1 (i 0) (i 1) := by
  pointwise [val_main_v3, val_main_v2, val_main_v1, val_main_v0, entry]

/-- A column of the padded sequence. -/
theorem seq (r : Fin 2050) (k : Fin 11264) : val_main_v5 (F := Ideal) x0 x1 (ix2 r k) = pAll x0 x1 k (r.val + 6) := by
  unfold val_main_v5 val_main_v4 val_main_cst
  have h := v3_apply x0 x1
  revert h
  generalize val_main_v3 (F := Ideal) x0 x1 = P
  intro h
  pointwise
  unfold pAll lead
  by_cases q : (r : ℕ) < 2
  · rw [dif_pos q, dif_neg (by omega)]
  · rw [dif_neg q, dif_pos (by omega), h]
    exact congrArg (fun q => entry x0 x1 q k) (Fin.ext (by show r.val - 2 = r.val + 6 - 8; omega))

/-- The convolution of a column. -/
theorem conv (k : Fin 11264) (r : Fin 2048) :
    val_main_v29 (F := Ideal) x0 x1 x2 x3 (ix2 r k) = cAll x2 x3 (pAll x0 x1 k) k r.val := by
  have hU := fun r => seq x0 x1 r k
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_cst_0
  revert hU
  generalize val_main_v5 (F := Ideal) x0 x1 = P
  intro hU
  pointwise
  rw [hU, hU, hU]
  show x3 (ix2 0 k) + (x2 (ix2 0 k) * pAll x0 x1 k (r.val + 6) + x2 (ix2 1 k) * pAll x0 x1 k (1 + r.val + 6) + x2 (ix2 2 k) * pAll x0 x1 k (2 + r.val + 6))
    = x3 (ix2 0 k) + x2 (ix2 2 k) * pAll x0 x1 k (r.val + 2 + 6) + x2 (ix2 1 k) * pAll x0 x1 k (r.val + 1 + 6) + x2 (ix2 0 k) * pAll x0 x1 k (r.val + 6)
  rw [show 1 + r.val = r.val + 1 by omega, show 2 + r.val = r.val + 2 by omega]
  abel

/-- The value half of the product. -/
theorem res0 (r : Fin 2048) (J : Fin 5632) : val_main_v36 (F := Ideal) x0 x1 (ix2 r J) = entry x0 x1 r (vcol J) := by
  unfold val_main_v36 val_main_v32
  have h := v3_apply x0 x1
  revert h
  generalize val_main_v3 (F := Ideal) x0 x1 = P
  intro h
  pointwise
  rw [h]; rfl

/-- The gate half of the product. -/
theorem res1 (r : Fin 2048) (J : Fin 5632) : val_main_v37 (F := Ideal) x0 x1 (ix2 r J) = entry x0 x1 r (gcol J) := by
  unfold val_main_v37 val_main_v33
  have h := v3_apply x0 x1
  revert h
  generalize val_main_v3 (F := Ideal) x0 x1 = P
  intro h
  pointwise
  rw [h]
  exact congrArg (entry x0 x1 r) (Fin.ext (Nat.add_comm _ _))

/-- The gated activation. -/
theorem res2 (r : Fin 2048) (J : Fin 5632) : val_main_v38 (F := Ideal) x0 x1 x2 x3 (ix2 r J)
    = cAll x2 x3 (pAll x0 x1 (gcol J)) (gcol J) r.val * sg (cAll x2 x3 (pAll x0 x1 (gcol J)) (gcol J) r.val)
      * cAll x2 x3 (pAll x0 x1 (vcol J)) (vcol J) r.val := by
  have hg := conv x0 x1 x2 x3 (gcol J) r
  have hv := conv x0 x1 x2 x3 (vcol J) r
  unfold val_main_v38 val_main_v35 val_main_v34 val_main_call0_v5 val_main_call0_v4 val_main_call0_v3 val_main_call0_v2 val_main_call0_v1 val_main_call0_v0 val_main_call0_cst_0 val_main_call0_cst val_main_v31 val_main_v30
  revert hg hv
  generalize val_main_v29 (F := Ideal) x0 x1 x2 x3 = P
  intro hg hv
  pointwise
  have i1 : (⟨5632 + J.val, by omega⟩ : Fin 11264) = gcol J := Fin.ext (Nat.add_comm _ _)
  have i2 : (⟨J.val, by omega⟩ : Fin 11264) = vcol J := rfl
  rw [i1, i2, hg, hv, sg_neg]

end Cert.Reference6Ideal.Hand
end
-- ==== Proof.Up.lean ====
/- The up-projection with the gated convolution behind it: what the call leaves in its three result arrays. -/
module
public import proofs.«01_k».proof.Proof.UpBlock
public import proofs.«01_k».proof.Proof.UpRef
public import Idealize.ShloMosaic.Lib.Pipeline.ValueKit
@[expose] public section
set_option maxRecDepth 16384
noncomputable section
namespace Cert.Kernel6Ideal.Hand
open Cert.Kernel6Ideal Cert.Kernel6Ideal.Gen Cert.Hand
open Idealize.ShloMosaic Idealize.ShloMosaic.TcCoe Idealize.ShloMosaic.Tactic Idealize.SL.Sem
open Idealize.ShloMosaic.Pipeline (Dat)
open Cert.Reference6Ideal.Read (val_main_v36 val_main_v37 val_main_v38)
open Cert.Reference6Ideal.Hand (entry pAll res0 res1 res2)

variable (m : (ℓ : Loc nD τ sig) → Buf (Elt Ideal) ℓ)

/-- Which block every window shows at every point. -/
theorem idx : ∀ t : Fin cfg0.N, win0_0.index t = ![0, 0] ∧ win0_1.index t = ![0, 0, t.val] ∧ win0_2.index t = ![0, 0, t.val + 22]
    ∧ win0_3.index t = ![0, t.val] ∧ win0_4.index t = ![0, t.val + 22] ∧ win0_5.index t = ![0, t.val] ∧ win0_6.index t = ![0, t.val + 22]
    ∧ win0_7.index t = ![0, t.val] ∧ win0_8.index t = ![0, t.val] ∧ win0_9.index t = ![0, t.val] :=
  (by decide +kernel : ∀ t : Fin grid0.N, _)

section
variable (c : Dev nD) (t : Fin cfg0.N) (j : Fin 256) (J : Fin 5632) (hJ : J.val = t.val * 256 + j.val)
include hJ

/-- A block's column of the value half's product is the whole product's. -/
theorem val_col (r : ℕ) : uBlk (iblk m c 0 t) (iblk m c 1 t) j r = pAll (m ((c : Thread nD τ).loc main_arg0)) (m ((c : Thread nD τ).loc main_arg1)) (vcol J) r := by
  refine congrArg (fun f => lead 8 2048 f r) (funext fun q => Finset.sum_congr rfl fun k _ => ?_)
  have e0 : (iblk m c 0 t) (ix2 q k) = (m ((c : Thread nD τ).loc main_arg0)) (ix2 q k) := by blk_point [iblk, V, idx t]
  have e1 : (iblk m c 1 t) (ix3 0 k j) = (m ((c : Thread nD τ).loc main_arg1)) (ix3 0 k (vcol J)) := by blk_point [iblk, V, idx t, vcol]
  rw [e0, e1]

/-- A block's column of the gate half's product is the whole product's. -/
theorem gate_col (r : ℕ) : uBlk (iblk m c 0 t) (iblk m c 2 t) j r = pAll (m ((c : Thread nD τ).loc main_arg0)) (m ((c : Thread nD τ).loc main_arg1)) (gcol J) r := by
  refine congrArg (fun f => lead 8 2048 f r) (funext fun q => Finset.sum_congr rfl fun k _ => ?_)
  have e0 : (iblk m c 0 t) (ix2 q k) = (m ((c : Thread nD τ).loc main_arg0)) (ix2 q k) := by blk_point [iblk, V, idx t]
  have e1 : (iblk m c 2 t) (ix3 0 k j) = (m ((c : Thread nD τ).loc main_arg1)) (ix3 0 k (gcol J)) := by blk_point [iblk, V, idx t, gcol]
  rw [e0, e1]

/-- A block's convolution of a value column is the whole array's. -/
theorem val_conv (r : ℕ) : cBlk (iblk m c 3 t) (iblk m c 5 t) (uBlk (iblk m c 0 t) (iblk m c 1 t)) j r = cAll (m ((c : Thread nD τ).loc main_arg2)) (m ((c : Thread nD τ).loc main_arg3)) (pAll (m ((c : Thread nD τ).loc main_arg0)) (m ((c : Thread nD τ).loc main_arg1)) (vcol J)) (vcol J) r := by
  have e3 : taps (iblk m c 3 t) j = tapAll (m ((c : Thread nD τ).loc main_arg2)) (vcol J) := by
    funext q
    show (iblk m c 3 t) (ix2 q j) = (m ((c : Thread nD τ).loc main_arg2)) (ix2 q (vcol J))
    blk_point [iblk, V, idx t, vcol]
  have e5 : (iblk m c 5 t) (ix2 0 j) = (m ((c : Thread nD τ).loc main_arg3)) (ix2 0 (vcol J)) := by blk_point [iblk, V, idx t, vcol]
  unfold cBlk cAll
  simp only [e3, e5, val_col m c t j J hJ]

/-- A block's convolution of a gate column is the whole array's. -/
theorem gate_conv (r : ℕ) : cBlk (iblk m c 4 t) (iblk m c 6 t) (uBlk (iblk m c 0 t) (iblk m c 2 t)) j r = cAll (m ((c : Thread nD τ).loc main_arg2)) (m ((c : Thread nD τ).loc main_arg3)) (pAll (m ((c : Thread nD τ).loc main_arg0)) (m ((c : Thread nD τ).loc main_arg1)) (gcol J)) (gcol J) r := by
  have e3 : taps (iblk m c 4 t) j = tapAll (m ((c : Thread nD τ).loc main_arg2)) (gcol J) := by
    funext q
    show (iblk m c 4 t) (ix2 q j) = (m ((c : Thread nD τ).loc main_arg2)) (ix2 q (gcol J))
    blk_point [iblk, V, idx t, gcol]
  have e5 : (iblk m c 6 t) (ix2 0 j) = (m ((c : Thread nD τ).loc main_arg3)) (ix2 0 (gcol J)) := by blk_point [iblk, V, idx t, gcol]
  unfold cBlk cAll
  simp only [e3, e5, gate_col m c t j J hJ]
end

/-- A row of the product's column behind its eight zeros. -/
theorem pAll_row (x0 : (⟨S2048x2048, .bf16⟩ : BufTy).Contents (Elt Ideal)) (x1 : (⟨S1x2048x11264, .bf16⟩ : BufTy).Contents (Elt Ideal)) (k : Fin 11264) (r : Fin 2048) : pAll x0 x1 k (r.val + 8) = entry x0 x1 r k := by
  unfold pAll lead
  rw [dif_pos ⟨Nat.le_add_left _ _, by omega⟩]
  exact congrArg (fun q => entry x0 x1 q k) (Fin.ext (Nat.add_sub_cancel _ _))

/-- One element of a block of the value half's product. -/
theorem point7 (c : Dev nD) (t : Fin cfg0.N) (j : S2048x256.Idx) (i : S2048x5632.Idx)
    (h0 : (i 0).val = (j 0).val) (h1 : (i 1).val = t.val * 256 + (j 1).val) :
    uBlk (iblk m c 0 t) (iblk m c 1 t) (j 1) ((j 0).val + 8) = val_main_v36 (F := Ideal) (m ((c : Thread nD τ).loc main_arg0)) (m ((c : Thread nD τ).loc main_arg1)) i := by
  have e := res0 (m ((c : Thread nD τ).loc main_arg0)) (m ((c : Thread nD τ).loc main_arg1)) (i 0) (i 1)
  rw [ix2_eta] at e
  rw [e, val_col m c t (j 1) (i 1) h1, ← h0]
  exact pAll_row _ _ _ (i 0)

/-- One element of a block of the gate half's product. -/
theorem point8 (c : Dev nD) (t : Fin cfg0.N) (j : S2048x256.Idx) (i : S2048x5632.Idx)
    (h0 : (i 0).val = (j 0).val) (h1 : (i 1).val = t.val * 256 + (j 1).val) :
    uBlk (iblk m c 0 t) (iblk m c 2 t) (j 1) ((j 0).val + 8) = val_main_v37 (F := Ideal) (m ((c : Thread nD τ).loc main_arg0)) (m ((c : Thread nD τ).loc main_arg1)) i := by
  have e := res1 (m ((c : Thread nD τ).loc main_arg0)) (m ((c : Thread nD τ).loc main_arg1)) (i 0) (i 1)
  rw [ix2_eta] at e
  rw [e, gate_col m c t (j 1) (i 1) h1, ← h0]
  exact pAll_row _ _ _ (i 0)

/-- One element of a block of the gated activation. -/
theorem point9 (c : Dev nD) (t : Fin cfg0.N) (j : S2048x256.Idx) (i : S2048x5632.Idx)
    (h0 : (i 0).val = (j 0).val) (h1 : (i 1).val = t.val * 256 + (j 1).val) :
    silu (cBlk (iblk m c 4 t) (iblk m c 6 t) (uBlk (iblk m c 0 t) (iblk m c 2 t)) (j 1) (j 0).val)
      (cBlk (iblk m c 3 t) (iblk m c 5 t) (uBlk (iblk m c 0 t) (iblk m c 1 t)) (j 1) (j 0).val) = val_main_v38 (F := Ideal) (m ((c : Thread nD τ).loc main_arg0)) (m ((c : Thread nD τ).loc main_arg1)) (m ((c : Thread nD τ).loc main_arg2)) (m ((c : Thread nD τ).loc main_arg3)) i := by
  have e := res2 (m ((c : Thread nD τ).loc main_arg0)) (m ((c : Thread nD τ).loc main_arg1)) (m ((c : Thread nD τ).loc main_arg2)) (m ((c : Thread nD τ).loc main_arg3)) (i 0) (i 1)
  rw [ix2_eta] at e
  rw [e, val_conv m c t (j 1) (i 1) h1, gate_conv m c t (j 1) (i 1) h1, ← h0]
  rfl

/-- The value half's array after the call is the reference's. -/
theorem final7 (c : Dev nD) : (dats m 0 c).arrAt 7 cfg0.N = val_main_v36 (F := Ideal) (m ((c : Thread nD τ).loc main_arg0)) (m ((c : Thread nD τ).loc main_arg1)) := by
  refine (dats m 0 c).arrAt_eq_of_covers 7 _ (by decide +kernel) fun t _ j => ?_
  have h0 : ((((cfg0.win 7).blk t).view.emb j) 0).val = (j 0).val := by blk_simp [idx t]
  have h1 : ((((cfg0.win 7).blk t).view.emb j) 1).val = t.val * 256 + (j 1).val := by blk_simp [idx t]
  blk_simp
  rw [after0_7]
  refine (out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) j).trans ?_
  exact point7 m c t j _ h0 h1

/-- The gate half's array after the call is the reference's. -/
theorem final8 (c : Dev nD) : (dats m 0 c).arrAt 8 cfg0.N = val_main_v37 (F := Ideal) (m ((c : Thread nD τ).loc main_arg0)) (m ((c : Thread nD τ).loc main_arg1)) := by
  refine (dats m 0 c).arrAt_eq_of_covers 8 _ (by decide +kernel) fun t _ j => ?_
  have h0 : ((((cfg0.win 8).blk t).view.emb j) 0).val = (j 0).val := by blk_simp [idx t]
  have h1 : ((((cfg0.win 8).blk t).view.emb j) 1).val = t.val * 256 + (j 1).val := by blk_simp [idx t]
  blk_simp
  rw [after0_8]
  refine (out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) j).trans ?_
  exact point8 m c t j _ h0 h1

/-- The gated activation's array after the call is the reference's. -/
theorem final9 (c : Dev nD) : (dats m 0 c).arrAt 9 cfg0.N = val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ j => ?_
  have h0 : ((((cfg0.win 9).blk t).view.emb j) 0).val = (j 0).val := by blk_simp [idx t]
  have h1 : ((((cfg0.win 9).blk t).view.emb j) 1).val = t.val * 256 + (j 1).val := by blk_simp [idx t]
  blk_simp
  rw [after0_9]
  refine (out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) j).trans ?_
  exact point9 m c t j _ h0 h1

end Cert.Kernel6Ideal.Hand
end
-- ==== Proof.NormScalar.lean ====
/- The two spellings of the norm's derivative at one element of a row, over the extended reals. -/
module
public import Idealize.ShloMosaic.Lib.Pointwise
@[expose] public section
noncomputable section
namespace Cert.Hand
open Idealize.ShloMosaic

/-- The length of a row. -/
def len : EReal := Ideal.ofBits .f32 0x45000000#32
/-- What is added to the mean of the squares. -/
def eps : EReal := Ideal.ofBits .f32 0x358637BD#32
/-- The power rule's factor of the root's derivative. -/
def half : EReal := Ideal.ofBits .f32 0xBF000000#32

theorem len_eq : len = ((2048 : ℝ) : EReal) := by
  unfold len
  simp [Ideal.ofBits, Ideal.ieee, -EReal.coe_mul]; norm_num
theorem half_eq : half = ((-(1 / 2) : ℝ) : EReal) := by
  unfold half
  simp [Ideal.ofBits, Ideal.ieee, -EReal.coe_mul]; norm_num
theorem eps_pos : 0 < eps := by
  unfold eps
  simp [Ideal.ofBits, Ideal.ieee, -EReal.coe_mul]

/-- A division by the row's length is a product. -/
theorem div_len (y : EReal) : Ideal.div y len = y * ((2048⁻¹ : ℝ) : EReal) := by
  rw [len_eq]
  unfold Ideal.div
  rw [if_neg (by exact_mod_cast (by norm_num : (2048 : ℝ) ≠ 0)), ← EReal.coe_inv]

/-- The square of an extended real is not negative. -/
theorem sq_nonneg' (x : EReal) : 0 ≤ x * x := by
  rcases le_total 0 x with h | h
  · exact mul_nonneg h h
  · have h' : 0 ≤ -x := EReal.neg_nonneg.mpr h
    have := mul_nonneg h' h'
    rwa [neg_mul_neg] at this

/-- The mean of the squares with what is added to it is positive. -/
theorem mean_pos {N : ℕ} (f : Fin N → EReal) : 0 < Ideal.div (∑ k, f k * f k) len + eps := by
  rw [div_len]
  have h : (0 : EReal) ≤ (∑ k, f k * f k) * ((2048⁻¹ : ℝ) : EReal) :=
    mul_nonneg (Finset.sum_nonneg fun k _ => sq_nonneg' (f k)) (by exact_mod_cast (by norm_num : (0 : ℝ) ≤ 2048⁻¹))
  exact lt_of_lt_of_le eps_pos (le_add_of_nonneg_left h)

/-- The root's reciprocal of a positive extended real is a real, not negative. -/
theorem rsqrt_real {s : EReal} (hs : 0 < s) : ∃ q : ℝ, 0 ≤ q ∧ Ideal.rsqrt s = (q : EReal) := by
  induction s with
  | bot => simp at hs
  | top => exact ⟨0, le_refl _, rfl⟩
  | coe a =>
    have ha : 0 < a := by exact_mod_cast hs
    refine ⟨(Real.sqrt a)⁻¹, inv_nonneg.mpr (Real.sqrt_nonneg a), ?_⟩
    rw [Ideal.rsqrt_coe, if_neg (not_lt.mpr ha.le), if_neg ha.ne']

/-- A factor that is a real and not negative goes into a sum. -/
theorem mul_sum' {N : ℕ} {q : ℝ} (hq : 0 ≤ q) (f : Fin N → EReal) : (q : EReal) * ∑ k, f k = ∑ k, (q : EReal) * f k := by
  classical
  have h : ∀ s : Finset (Fin N), (q : EReal) * ∑ k ∈ s, f k = ∑ k ∈ s, (q : EReal) * f k := fun s => by
    induction s using Finset.induction_on with
    | empty => simp
    | insert a s ha ih =>
      rw [Finset.sum_insert ha, Finset.sum_insert ha, EReal.left_distrib_of_nonneg_of_ne_top (by exact_mod_cast hq) (EReal.coe_ne_top q), ih]
  exact h Finset.univ

/-- An extended real twice. -/
theorem add_self' (w : EReal) : w + w = w * ((2 : ℝ) : EReal) := by
  induction w with
  | bot => rw [EReal.bot_mul_coe_of_pos (by norm_num)]; rfl
  | top => rw [EReal.top_mul_coe_of_pos (by norm_num)]; rfl
  | coe a => rw [← EReal.coe_add, ← EReal.coe_mul]; congr 1; ring

/-- The two spellings at one element: `D` the scaled cotangent, `x` the element, `T` the sum of their products over the row. -/
theorem back_eq {s : EReal} (hs : 0 < s) (x D T : EReal) :
    Ideal.rsqrt s * (D - x * Ideal.rsqrt s * Ideal.div (Ideal.rsqrt s * T) len)
      = D * Ideal.rsqrt s + x * Ideal.div (T * (half * Ideal.div (Ideal.rsqrt s) s)) len
        + Ideal.div (T * (half * Ideal.div (Ideal.rsqrt s) s)) len * x := by
  simp only [div_len, half_eq]
  induction s with
  | bot => simp at hs
  | top =>
    have e : Ideal.div 0 ⊤ = 0 := by unfold Ideal.div; rw [if_neg (by simp), zero_mul]
    rw [Ideal.rsqrt_top, e]
    simp
  | coe a =>
    have ha : 0 < a := by exact_mod_cast hs
    rw [Ideal.rsqrt_coe, if_neg (not_lt.mpr ha.le), if_neg ha.ne']
    have hq : 0 ≤ (Real.sqrt a)⁻¹ := inv_nonneg.mpr (Real.sqrt_nonneg a)
    have hqq : (Real.sqrt a)⁻¹ * (Real.sqrt a)⁻¹ = a⁻¹ := by
      rw [← mul_inv, Real.mul_self_sqrt ha.le]
    generalize (Real.sqrt a)⁻¹ = q at hq hqq
    have e : Ideal.div (q : EReal) (a : EReal) = ((q * (q * q) : ℝ) : EReal) := by
      unfold Ideal.div
      rw [if_neg (by exact_mod_cast ha.ne'), ← EReal.coe_inv, ← EReal.coe_mul, hqq]
    rw [e]
    have l : (q : EReal) * (x * q * (q * T * ((2048⁻¹ : ℝ) : EReal))) = x * T * ((q * (q * q) * 2048⁻¹ : ℝ) : EReal) := by
      simp only [EReal.coe_mul]; ac_rfl
    have r : T * (((-(1 / 2) : ℝ) : EReal) * ((q * (q * q) : ℝ) : EReal)) * ((2048⁻¹ : ℝ) : EReal) = -(T * ((1 / 2 * (q * (q * q) * 2048⁻¹) : ℝ) : EReal)) := by
      rw [← EReal.coe_mul, mul_assoc, ← EReal.coe_mul, ← mul_neg, ← EReal.coe_neg]
      congr 2; ring
    have t : x * T * ((1 / 2 * (q * (q * q) * 2048⁻¹) : ℝ) : EReal) * ((2 : ℝ) : EReal) = x * T * ((q * (q * q) * 2048⁻¹ : ℝ) : EReal) := by
      rw [mul_assoc, ← EReal.coe_mul]
      congr 2; ring
    rw [sub_eq_add_neg, EReal.left_distrib_of_nonneg_of_ne_top (by exact_mod_cast hq) (EReal.coe_ne_top q), mul_neg, l, r, add_assoc,
      mul_comm (-_ : EReal) x, add_self', mul_neg, neg_mul, ← mul_assoc x, t, mul_comm (q : EReal) D]

end Cert.Hand
end
-- ==== Proof.NormBack.lean ====
/- The norm's backward pass: by rows, the gain's gradient accumulated over 8 blocks of rows. -/
module
public import proofs.«01_k».proof.Proof.NormScalar
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
@[expose] public section
set_option maxRecDepth 16384
noncomputable section
namespace Cert.Kernel7Ideal.Hand
open Cert.Kernel7Ideal Cert.Kernel7Ideal.Gen Cert.Hand
open Idealize.ShloMosaic Idealize.ShloMosaic.TcCoe Idealize.ShloMosaic.Tactic Idealize.SL.Sem
open Idealize.ShloMosaic.Pipeline (Dat)
open Cert.Reference7Ideal.Read

variable (m : (ℓ : Loc nD τ sig) → Buf (Elt Ideal) ℓ)

/-- Which block every window shows at every point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The mean of a row's squares, with what is added to it. -/
def mean (f : Fin 2048 → EReal) : EReal := Ideal.div (∑ k, f k * f k) len + eps

/-- The row's part of the kernel's gradient at one element: `f` the row, `d` the scaled cotangent's row, `x` and `D` their elements. -/
def rowBack (f d : Fin 2048 → EReal) (x D : EReal) : EReal :=
  Ideal.rsqrt (mean f) * (D - x * Ideal.rsqrt (mean f) * Ideal.div (∑ k, d k * (f k * Ideal.rsqrt (mean f))) len)

/-- One element of a block of the gradient. -/
theorem pay4_apply (x dh : Vec Ideal S256x2048 .f32) (g : Vec Ideal S1x2048 .f32) (res : Vec Ideal S256x2048 .f32) (j : S256x2048.Idx) :
    k0_pay4 (F := Ideal) x dh g res j = res j + rowBack (fun k => x (ix2 (j 0) k)) (fun k => dh (ix2 (j 0) k) * g (ix2 0 k)) (x j) (dh j * g (ix2 0 (j 1))) := by
  pointwise [k0_pay4, k0_pay3, k0_pay2, rowBack, mean, len, eps]

/-- One element of a block of the rounded gradient. -/
theorem pay5_apply (x dh : Vec Ideal S256x2048 .f32) (g : Vec Ideal S1x2048 .f32) (res : Vec Ideal S256x2048 .f32) (j : S256x2048.Idx) :
    k0_pay5 (F := Ideal) x dh g res j = k0_pay4 (F := Ideal) x dh g res j := by
  pointwise [k0_pay5]

/-- The row's part of the reference's gradient at one element. -/
def rowRef (f d : Fin 2048 → EReal) (x D : EReal) : EReal :=
  D * Ideal.rsqrt (mean f) + x * Ideal.div ((∑ k, f k * d k) * (half * Ideal.div (Ideal.rsqrt (mean f)) (mean f))) len
    + Ideal.div ((∑ k, f k * d k) * (half * Ideal.div (Ideal.rsqrt (mean f)) (mean f))) len * x

/-- The two are one. -/
theorem row_eq (f d : Fin 2048 → EReal) (x D : EReal) : rowBack f d x D = rowRef f d x D := by
  have hs : 0 < mean f := mean_pos f
  obtain ⟨q, hq, e⟩ := rsqrt_real hs
  have h : (∑ k, d k * (f k * Ideal.rsqrt (mean f))) = Ideal.rsqrt (mean f) * ∑ k, f k * d k := by
    rw [e, mul_sum' hq]
    exact Finset.sum_congr rfl fun k _ => by ac_rfl
  unfold rowBack rowRef
  rw [h]
  exact back_eq hs x D _

/-- One element of the reference's gradient. -/
theorem ref_apply (X : (⟨S2048x2048, .f32⟩ : BufTy).Contents (Elt Ideal)) (G : (⟨S1x2048, .f32⟩ : BufTy).Contents (Elt Ideal)) (H R : (⟨S2048x2048, .f32⟩ : BufTy).Contents (Elt Ideal)) (i : S2048x2048.Idx) :
    val_main_v34 (F := Ideal) X G H R i = R i + rowRef (fun k => X (ix2 (i 0) k)) (fun k => H (ix2 (i 0) k) * G (ix2 0 k)) (X i) (H i * G (ix2 0 (i 1))) := by
  pointwise [val_main_v34, val_main_v33, val_main_v32, val_main_v31, val_main_v30, val_main_v29, val_main_v28, val_main_v27, val_main_v26, val_main_v25, val_main_v24, val_main_v23, val_main_v22,
    val_main_v21, val_main_v20, val_main_v19, val_main_v18, val_main_v10, val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6, rowRef, mean, len, eps, half]
  simp only [Fin.sum_univ_one]

/-- One element of the reference's rounded gradient. -/
theorem ref_round (X : (⟨S2048x2048, .f32⟩ : BufTy).Contents (Elt Ideal)) (G : (⟨S1x2048, .f32⟩ : BufTy).Contents (Elt Ideal)) (H R : (⟨S2048x2048, .f32⟩ : BufTy).Contents (Elt Ideal)) (i : S2048x2048.Idx) :
    val_main_v36 (F := Ideal) X G H R i = val_main_v34 (F := Ideal) X G H R i := by
  pointwise [val_main_v36, val_main_v35, val_main_v34]

/-- One element of a block of the gradient is the reference's, where the block's rows are the arrays'. -/
theorem grad_apply (x dh : Vec Ideal S256x2048 .f32) (g : Vec Ideal S1x2048 .f32) (res : Vec Ideal S256x2048 .f32)
    (X : (⟨S2048x2048, .f32⟩ : BufTy).Contents (Elt Ideal)) (G : (⟨S1x2048, .f32⟩ : BufTy).Contents (Elt Ideal)) (H R : (⟨S2048x2048, .f32⟩ : BufTy).Contents (Elt Ideal))
    (j : S256x2048.Idx) (i : S2048x2048.Idx) (hx : ∀ k : Fin 2048, x (ix2 (j 0) k) = X (ix2 (i 0) k)) (hd : ∀ k : Fin 2048, dh (ix2 (j 0) k) = H (ix2 (i 0) k))
    (hg : ∀ k : Fin 2048, g (ix2 0 k) = G (ix2 0 k)) (hxj : x j = X i) (hdj : dh j = H i) (hr : res j = R i) (hgj : g (ix2 0 (j 1)) = G (ix2 0 (i 1))) :
    k0_pay4 (F := Ideal) x dh g res j = val_main_v34 (F := Ideal) X G H R i := by
  rw [pay4_apply, ref_apply, row_eq, hr, hxj, hdj, hgj]
  simp only [hx, hd, hg]

/-- A block of rows, read in the whole array. -/
theorem row_point (c : Dev nD) (t : Fin cfg0.N) (j : S256x2048.Idx) (i : S2048x2048.Idx) (h0 : (i 0).val = t.val * 256 + (j 0).val) (h1 : (i 1).val = (j 1).val) :
    iblk m c 0 t j = m ((c : Thread nD τ).loc main_arg0) i := by
  blk_point [iblk, V, idx t]

/-- The gain's block is the gain. -/
theorem gain_point (c : Dev nD) (t : Fin cfg0.N) (j i : S1x2048.Idx) (h1 : (i 1).val = (j 1).val) :
    iblk m c 1 t j = m ((c : Thread nD τ).loc main_arg1) i := by
  blk_point [iblk, V, idx t]

/-- A block of the cotangent, read in the whole array. -/
theorem cot_point (c : Dev nD) (t : Fin cfg0.N) (j : S256x2048.Idx) (i : S2048x2048.Idx) (h0 : (i 0).val = t.val * 256 + (j 0).val) (h1 : (i 1).val = (j 1).val) :
    iblk m c 2 t j = m ((c : Thread nD τ).loc main_arg2) i := by
  blk_point [iblk, V, idx t]

/-- A block of the residual's gradient, read in the whole array. -/
theorem res_point (c : Dev nD) (t : Fin cfg0.N) (j : S256x2048.Idx) (i : S2048x2048.Idx) (h0 : (i 0).val = t.val * 256 + (j 0).val) (h1 : (i 1).val = (j 1).val) :
    iblk m c 3 t j = m ((c : Thread nD τ).loc main_arg3) i := by
  blk_point [iblk, V, idx t]

/-- A block's element of the gradient, at its place in the whole array. -/
theorem grad_at (c : Dev nD) (t : Fin cfg0.N) (j : S256x2048.Idx) (i : S2048x2048.Idx) (h0 : (i 0).val = t.val * 256 + (j 0).val) (h1 : (i 1).val = (j 1).val) :
    k0_pay4 (F := Ideal) (iblk m c 0 t) (iblk m c 2 t) (iblk m c 1 t) (iblk m c 3 t) j = val_main_v34 (F := Ideal) (m ((c : Thread nD τ).loc main_arg0)) (m ((c : Thread nD τ).loc main_arg1)) (m ((c : Thread nD τ).loc main_arg2)) (m ((c : Thread nD τ).loc main_arg3)) i :=
  grad_apply _ _ _ _ _ _ _ _ j i (fun k => row_point m c t (ix2 (j 0) k) (ix2 (i 0) k) h0 rfl) (fun k => cot_point m c t (ix2 (j 0) k) (ix2 (i 0) k) h0 rfl)
    (fun k => gain_point m c t (ix2 0 k) (ix2 0 k) rfl) (row_point m c t j i h0 h1) (cot_point m c t j i h0 h1) (res_point m c t j i h0 h1) (gain_point m c t _ _ h1)

/-- The array of the gradient after the call is the reference's. -/
theorem final4 (c : Dev nD) : (dats m 0 c).arrAt 4 cfg0.N = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ j => ?_
  have h0 : ((((cfg0.win 4).blk t).view.emb j) 0).val = t.val * 256 + (j 0).val := by blk_simp [idx t]
  have h1 : ((((cfg0.win 4).blk t).view.emb j) 1).val = (j 1).val := by blk_simp [idx t]
  blk_simp
  rw [after0_4]
  by_cases h : t.val % 8 = 0
  · have h' : ¬1 ≤ t.val := by have : t.val < 8 := t.isLt; omega
    rw [outsAt0_A m c t h h']
    frame_out
    exact grad_at m c t j _ h0 h1
  · have h' : 1 ≤ t.val := by omega
    rw [outsAt0_B m c t h h']
    frame_out
    exact grad_at m c t j _ h0 h1

/-- The array of the rounded gradient after the call is the reference's. -/
theorem final5 (c : Dev nD) : (dats m 0 c).arrAt 5 cfg0.N = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ j => ?_
  have h0 : ((((cfg0.win 5).blk t).view.emb j) 0).val = t.val * 256 + (j 0).val := by blk_simp [idx t]
  have h1 : ((((cfg0.win 5).blk t).view.emb j) 1).val = (j 1).val := by blk_simp [idx t]
  blk_simp
  rw [after0_5]
  by_cases h : t.val % 8 = 0
  · have h' : ¬1 ≤ t.val := by have : t.val < 8 := t.isLt; omega
    rw [outsAt0_A m c t h h']
    frame_out
    exact (pay5_apply _ _ _ _ j).trans ((grad_at m c t j _ h0 h1).trans (ref_round _ _ _ _ _).symm)
  · have h' : 1 ≤ t.val := by omega
    rw [outsAt0_B m c t h h']
    frame_out
    exact (pay5_apply _ _ _ _ j).trans ((grad_at m c t j _ h0 h1).trans (ref_round _ _ _ _ _).symm)

/-- What one row adds to the gain's gradient. -/
def gainTerm (X H : (⟨S2048x2048, .f32⟩ : BufTy).Contents (Elt Ideal)) (b : Fin 2048) (r : Fin 2048) : EReal :=
  H (ix2 r b) * (X (ix2 r b) * Ideal.rsqrt (mean fun k => X (ix2 r k)))

/-- One element of the reference's gradient of the gain: the sum over the rows. -/
theorem gain_ref (X H : (⟨S2048x2048, .f32⟩ : BufTy).Contents (Elt Ideal)) (i : S1x2048.Idx) :
    val_main_v17 (F := Ideal) X H i = ∑ r : Fin 2048, gainTerm X H (i 1) r := by
  have e : val_main_v17 (F := Ideal) X H i = ∑ r : Fin 2048, X (ix2 r (i 1)) * Ideal.rsqrt (mean fun k => X (ix2 r k)) * H (ix2 r (i 1)) := by
    pointwise [val_main_v17, val_main_v16, val_main_v15, val_main_v12, val_main_v11, val_main_v7, val_main_v6, val_main_v5, val_main_v4, val_main_v3, val_main_v2, val_main_v1, val_main_v0,
      val_main_cst, val_main_cst_0, val_main_cst_1, val_main_cst_3, mean, len, eps]
  rw [e]
  exact Finset.sum_congr rfl fun r _ => mul_comm _ _

/-- What one block of rows adds to an element of the gain's gradient. -/
def part (x dh : Vec Ideal S256x2048 .f32) (j : S1x2048.Idx) : EReal :=
  ∑ r : Fin 256, dh (ix2 r (j 1)) * (x (ix2 r (j 1)) * Ideal.rsqrt (mean fun k => x (ix2 r k)))

theorem pay6_apply (x dh : Vec Ideal S256x2048 .f32) (j : S1x2048.Idx) : k0_pay6 (F := Ideal) x dh j = part x dh j := by
  pointwise [k0_pay6, k0_pay3, k0_pay2, part, mean, len, eps]

/-- One element of the accumulator after a step: what it held plus what the step adds. -/
theorem pay1_apply (p acc : Vec Ideal S1x2048 .f32) (j : S1x2048.Idx) : k0_pay1 (F := Ideal) p acc j = acc j + p j := by
  pointwise [k0_pay1]

/-- What one step adds to an element. -/
def term (c : Dev nD) (t : Fin cfg0.N) (j : S1x2048.Idx) : EReal := part (iblk m c 0 t) (iblk m c 2 t) j

/-- What a step adds, as a sum over rows of the whole arrays. -/
theorem term_at (c : Dev nD) (t : Fin cfg0.N) (j : S1x2048.Idx) (s : Fin 8) (hs : s.val = t.val) (i : S1x2048.Idx) (h1 : (i 1).val = (j 1).val) :
    term m c t j = ∑ r : Fin 256, gainTerm (m ((c : Thread nD τ).loc main_arg0)) (m ((c : Thread nD τ).loc main_arg2)) (i 1) ⟨s.val * 256 + r.val, by omega⟩ := by
  unfold term part gainTerm
  refine Finset.sum_congr rfl fun r _ => ?_
  have hr : (⟨s.val * 256 + r.val, by omega⟩ : Fin 2048).val = t.val * 256 + r.val := by simp only [hs]
  rw [cot_point m c t (ix2 r (j 1)) (ix2 ⟨s.val * 256 + r.val, by omega⟩ (i 1)) hr h1,
    row_point m c t (ix2 r (j 1)) (ix2 ⟨s.val * 256 + r.val, by omega⟩ (i 1)) hr h1]
  refine congrArg (fun z => _ * (_ * Ideal.rsqrt (mean z))) (funext fun k => ?_)
  exact row_point m c t (ix2 r k) (ix2 ⟨s.val * 256 + r.val, by omega⟩ k) hr rfl

/-- After the last of 8 steps the block holds the sum of what they add. -/
theorem run_sum (c : Dev nD) (t : Fin cfg0.N) (ht : t.val % 8 = 8 - 1) (j : S1x2048.Idx) :
    (outsAt0 m c t.val t.isLt).2.2 j = (0 : EReal) + ∑ s : Fin 8, term m c ⟨8 * (t.val / 8) + s.val, Pipeline.run_point_lt_of_flush t ht s⟩ j :=
  Pipeline.eq_sum_fin_of_reset_step_apply_of_flush (ι := S1x2048.Idx) (M := EReal) (fun n h => (outsAt0 m c n h).2.2) 8 (fun _ => 0) (term m c)
    (fun t h j => by
      have h' : ¬1 ≤ t.val := by have : t.val < 8 := t.isLt; omega
      show (outsAt0 m c t.val t.isLt).2.2 j = _
      rw [outsAt0_A m c t h h']
      frame_out
      rw [zero_add]
      exact pay6_apply _ _ j)
    (fun t h j => by
      have h' : 1 ≤ t.val := by omega
      show (outsAt0 m c t.val t.isLt).2.2 j = _
      rw [outsAt0_B m c t h h']
      frame_out
      exact (pay1_apply _ _ j).trans (congrArg (_ + ·) (pay6_apply _ _ j))) t ht j

/-- The gain's gradient after the call is the reference's. -/
theorem final6 (c : Dev nD) : (dats m 0 c).arrAt 6 cfg0.N = val_main_v17 (F := Ideal) (m ((c : Thread nD τ).loc main_arg0)) (m ((c : Thread nD τ).loc main_arg2)) := by
  refine (dats m 0 c).arrAt_eq_of_covers 6 _ (by decide +kernel) fun t hf j => ?_
  have ht : t.val % 8 = 8 - 1 := (flush0_6 t).mp hf
  have h1 : ((((cfg0.win 6).blk t).view.emb j) 1).val = (j 1).val := by blk_simp [idx t]
  have hlt : t.val < 8 := t.isLt
  blk_simp
  rw [after0_6, run_sum m c t ht j, zero_add, gain_ref]
  rw [Finset.sum_congr rfl fun s _ => term_at m c ⟨8 * (t.val / 8) + s.val, Pipeline.run_point_lt_of_flush t ht s⟩ j s
    (by show s.val = 8 * (t.val / 8) + s.val; omega) _ h1]
  exact Fin.sum_mul_add_congr (S := 8) (n := 256) (f := gainTerm (m ((c : Thread nD τ).loc main_arg0)) (m ((c : Thread nD τ).loc main_arg2)) _) fun s k hl => rfl

end Cert.Kernel7Ideal.Hand

end
-- ==== Proof.GluBack.lean ====
/- The gated linear unit behind the state-space layer, backward: what the call leaves in its result arrays. -/
module
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
@[expose] public section
set_option maxRecDepth 16384
noncomputable section
namespace Cert.Kernel8Ideal.Hand
open Cert.Kernel8Ideal Cert.Kernel8Ideal.Gen
open Idealize.ShloMosaic Idealize.ShloMosaic.TcCoe Idealize.ShloMosaic.Tactic Idealize.SL.Sem
open Idealize.ShloMosaic.Pipeline (Dat)
open Cert.Reference8Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_cst val_main_cst_0 val_main_cst_1 val_main_cst_2 val_main_cst_3 val_main_cst_4)

variable (m : (ℓ : Loc nD τ sig) → Buf (Elt Ideal) ℓ)

/-- Every window shows the same columns at every point. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val] :=
  (by decide +kernel : ∀ t : Fin grid0.N, _)

/-- The logistic function at the gate. -/
def gate (g : EReal) : EReal := Ideal.div 1 (1 + Ideal.exp (-g))

/-- The gradient of the value half, from the output's gradient and the gate. -/
def dval (d g : EReal) : EReal := d * gate g

/-- The gradient of the gate half. -/
def dgate (d v g : EReal) : EReal := d * v * gate g * (1 - gate g)

/-- One element of the reference's logistic function. -/
theorem v12_apply (x2 : (⟨S2048x2048, .bf16⟩ : BufTy).Contents (Elt Ideal)) (i : S2048x2048.Idx) : val_main_v12 (F := Ideal) x2 i = gate (x2 i) := by
  pointwise [val_main_v12, val_main_v11, val_main_v10, val_main_v9, val_main_v8, val_main_v7, val_main_v6, val_main_v5, val_main_v2, val_main_v0, val_main_cst, val_main_cst_0, val_main_cst_1, gate, add_zero]

/-- One element of the reference's gradient of the value half. -/
theorem v18_apply (x0 : (⟨S2048x2048, .f32⟩ : BufTy).Contents (Elt Ideal)) (x2 : (⟨S2048x2048, .bf16⟩ : BufTy).Contents (Elt Ideal)) (i : S2048x2048.Idx) : val_main_v18 (F := Ideal) x0 x2 i = dval (x0 i) (x2 i) := by
  unfold dval
  rw [← v12_apply x2 i]
  pointwise [val_main_v18]

/-- One element of the reference's gradient of the gate half. -/
theorem v19_apply (x0 : (⟨S2048x2048, .f32⟩ : BufTy).Contents (Elt Ideal)) (x1 x2 : (⟨S2048x2048, .bf16⟩ : BufTy).Contents (Elt Ideal)) (i : S2048x2048.Idx) : val_main_v19 (F := Ideal) x0 x1 x2 i = dgate (x0 i) (x1 i) (x2 i) := by
  unfold dgate
  rw [← v12_apply x2 i, mul_assoc (x0 i * x1 i), mul_comm (x0 i)]
  pointwise [val_main_v19, val_main_v17, val_main_v15, val_main_v14, val_main_v13, val_main_v4, val_main_v3, val_main_v1, val_main_v0, val_main_cst, val_main_cst_2, add_zero]

/-- One element of the reference's sums of the value half's gradient. -/
theorem v23_apply (x0 : (⟨S2048x2048, .f32⟩ : BufTy).Contents (Elt Ideal)) (x2 : (⟨S2048x2048, .bf16⟩ : BufTy).Contents (Elt Ideal)) (i : S1x2048.Idx) :
    val_main_v23 (F := Ideal) x0 x2 i = ∑ r : Fin 2048, dval (x0 (ix2 r (i 1))) (x2 (ix2 r (i 1))) := by
  pointwise [val_main_v23, val_main_v22, val_main_cst_4, v18_apply]

/-- One element of the reference's sums of the gate half's gradient. -/
theorem v21_apply (x0 : (⟨S2048x2048, .f32⟩ : BufTy).Contents (Elt Ideal)) (x1 x2 : (⟨S2048x2048, .bf16⟩ : BufTy).Contents (Elt Ideal)) (i : S1x2048.Idx) :
    val_main_v21 (F := Ideal) x0 x1 x2 i = ∑ r : Fin 2048, dgate (x0 (ix2 r (i 1))) (x1 (ix2 r (i 1))) (x2 (ix2 r (i 1))) := by
  pointwise [val_main_v21, val_main_v20, val_main_cst_3, v19_apply]

/-- One element of a block of the value half's gradient. -/
theorem pay2_apply (d : Vec Ideal S2048x256 .f32) (g : Vec Ideal S2048x256 .bf16) (j : S2048x256.Idx) : k0_pay2 (F := Ideal) d g j = dval (d j) (g j) := by
  pointwise [k0_pay2, k0_pay1, dval, gate, zero_sub]

/-- One element of a block of the gate half's gradient. -/
theorem pay3_apply (d : Vec Ideal S2048x256 .f32) (g v : Vec Ideal S2048x256 .bf16) (j : S2048x256.Idx) : k0_pay3 (F := Ideal) d g v j = dgate (d j) (v j) (g j) := by
  pointwise [k0_pay3, k0_pay1, dgate, gate, zero_sub]

/-- One element of a block's sums of the value half's gradient. -/
theorem pay6_apply (d : Vec Ideal S2048x256 .f32) (g : Vec Ideal S2048x256 .bf16) (j : S1x256.Idx) :
    k0_pay6 (F := Ideal) d g j = ∑ r : Fin 2048, dval (d (ix2 r (j 1))) (g (ix2 r (j 1))) := by
  pointwise [k0_pay6, pay2_apply]

/-- One element of a block's sums of the gate half's gradient. -/
theorem pay7_apply (d : Vec Ideal S2048x256 .f32) (g v : Vec Ideal S2048x256 .bf16) (j : S1x256.Idx) :
    k0_pay7 (F := Ideal) d g v j = ∑ r : Fin 2048, dgate (d (ix2 r (j 1))) (v (ix2 r (j 1))) (g (ix2 r (j 1))) := by
  pointwise [k0_pay7, pay3_apply]

/-- A block of the output's gradient, read in the whole array. -/
theorem out_point (c : Dev nD) (t : Fin cfg0.N) (j : S2048x256.Idx) (i : S2048x2048.Idx) (h0 : (i 0).val = (j 0).val) (h1 : (i 1).val = t.val * 256 + (j 1).val) :
    iblk m c 0 t j = m ((c : Thread nD τ).loc main_arg0) i := by
  blk_point [iblk, V, idx t]

/-- A block of the value half, read in the whole array. -/
theorem val_point (c : Dev nD) (t : Fin cfg0.N) (j : S2048x256.Idx) (i : S2048x2048.Idx) (h0 : (i 0).val = (j 0).val) (h1 : (i 1).val = t.val * 256 + (j 1).val) :
    iblk m c 1 t j = m ((c : Thread nD τ).loc main_arg1) i := by
  blk_point [iblk, V, idx t]

/-- A block of the gate half, read in the whole array. -/
theorem gate_point (c : Dev nD) (t : Fin cfg0.N) (j : S2048x256.Idx) (i : S2048x2048.Idx) (h0 : (i 0).val = (j 0).val) (h1 : (i 1).val = t.val * 256 + (j 1).val) :
    iblk m c 2 t j = m ((c : Thread nD τ).loc main_arg2) i := by
  blk_point [iblk, V, idx t]

/-- The value half's gradient after the call is the reference's. -/
theorem final3 (c : Dev nD) : (dats m 0 c).arrAt 3 cfg0.N = val_main_v24 (F := Ideal) (m ((c : Thread nD τ).loc main_arg0)) (m ((c : Thread nD τ).loc main_arg2)) := by
  refine (dats m 0 c).arrAt_eq_of_covers 3 _ (by decide +kernel) fun t _ j => ?_
  have h0 : ((((cfg0.win 3).blk t).view.emb j) 0).val = (j 0).val := by blk_simp [idx t]
  have h1 : ((((cfg0.win 3).blk t).view.emb j) 1).val = t.val * 256 + (j 1).val := by blk_simp [idx t]
  blk_simp
  rw [after0_3]; frame_out
  refine ((pay2_apply _ _ j).trans ?_).trans (v18_apply _ _ _).symm
  rw [out_point m c t j _ h0 h1, gate_point m c t j _ h0 h1]

/-- The gate half's gradient after the call is the reference's. -/
theorem final4 (c : Dev nD) : (dats m 0 c).arrAt 4 cfg0.N = val_main_v25 (F := Ideal) (m ((c : Thread nD τ).loc main_arg0)) (m ((c : Thread nD τ).loc main_arg1)) (m ((c : Thread nD τ).loc main_arg2)) := by
  refine (dats m 0 c).arrAt_eq_of_covers 4 _ (by decide +kernel) fun t _ j => ?_
  have h0 : ((((cfg0.win 4).blk t).view.emb j) 0).val = (j 0).val := by blk_simp [idx t]
  have h1 : ((((cfg0.win 4).blk t).view.emb j) 1).val = t.val * 256 + (j 1).val := by blk_simp [idx t]
  blk_simp
  rw [after0_4]; frame_out
  refine ((pay3_apply _ _ _ j).trans ?_).trans (v19_apply _ _ _ _).symm
  rw [out_point m c t j _ h0 h1, val_point m c t j _ h0 h1, gate_point m c t j _ h0 h1]

/-- The value half's bias gradient after the call is the reference's. -/
theorem final5 (c : Dev nD) : (dats m 0 c).arrAt 5 cfg0.N = val_main_v23 (F := Ideal) (m ((c : Thread nD τ).loc main_arg0)) (m ((c : Thread nD τ).loc main_arg2)) := by
  refine (dats m 0 c).arrAt_eq_of_covers 5 _ (by decide +kernel) fun t _ j => ?_
  have h1 : ((((cfg0.win 5).blk t).view.emb j) 1).val = t.val * 256 + (j 1).val := by blk_simp [idx t]
  blk_simp
  rw [after0_5]; frame_out
  refine ((pay6_apply _ _ j).trans ?_).trans (v23_apply _ _ _).symm
  refine Finset.sum_congr rfl fun r _ => ?_
  rw [out_point m c t (ix2 r (j 1)) (ix2 r _) rfl h1, gate_point m c t (ix2 r (j 1)) (ix2 r _) rfl h1]

/-- The gate half's bias gradient after the call is the reference's. -/
theorem final6 (c : Dev nD) : (dats m 0 c).arrAt 6 cfg0.N = val_main_v21 (F := Ideal) (m ((c : Thread nD τ).loc main_arg0)) (m ((c : Thread nD τ).loc main_arg1)) (m ((c : Thread nD τ).loc main_arg2)) := by
  refine (dats m 0 c).arrAt_eq_of_covers 6 _ (by decide +kernel) fun t _ j => ?_
  have h1 : ((((cfg0.win 6).blk t).view.emb j) 1).val = t.val * 256 + (j 1).val := by blk_simp [idx t]
  blk_simp
  rw [after0_6]; frame_out
  refine ((pay7_apply _ _ _ j).trans ?_).trans (v21_apply _ _ _ _).symm
  refine Finset.sum_congr rfl fun r _ => ?_
  rw [out_point m c t (ix2 r (j 1)) (ix2 r _) rfl h1, val_point m c t (ix2 r (j 1)) (ix2 r _) rfl h1, gate_point m c t (ix2 r (j 1)) (ix2 r _) rfl h1]

end Cert.Kernel8Ideal.Hand

end
-- ==== Proof.QkvWeight.lean ====
/- The gradient of the weights of the product to queries, keys and values: what the call leaves in its result array. -/
module
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
@[expose] public section
set_option maxRecDepth 16384
noncomputable section
namespace Cert.Kernel9Ideal.Hand
open Cert.Kernel9Ideal Cert.Kernel9Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Which block every window shows at every point. -/
theorem idx : ∀ t : Fin cfg0.N, win0_0.index t = ![0, 0] ∧ win0_1.index t = ![0, t.val] ∧ win0_2.index t = ![0, t.val] :=
  (by decide +kernel : ∀ t : Fin grid0.N, _)

/-- One element of the reference: the sum over the rows of the products of the two columns. -/
theorem ref_apply (x : (⟨S2048x2048, .bf16⟩ : BufTy).Contents (Elt Ideal)) (y : (⟨S2048x6144, .bf16⟩ : BufTy).Contents (Elt Ideal)) (i : S2048x6144.Idx) :
    Cert.Reference9Ideal.Read.val_main_v6 (F := Ideal) x y i
      = ∑ k : Fin 2048, x (ix2 k (i 0)) * y (ix2 k (i 1)) := by
  have h : Cert.Reference9Ideal.Read.val_main_v6 (F := Ideal) x y i
      = ∑ k : Fin 2048, y (ix2 k (i 1)) * x (ix2 k (i 0)) := by
    pointwise [Cert.Reference9Ideal.Read.val_main_v6, Cert.Reference9Ideal.Read.val_main_v5, Cert.Reference9Ideal.Read.val_main_v4, Cert.Reference9Ideal.Read.val_main_v3, Cert.Reference9Ideal.Read.val_main_v1]
  rw [h]
  exact Finset.sum_congr rfl fun k _ => mul_comm _ _

/-- One element of a block is the reference's element at the block's place. -/
theorem point (c : Dev nD) (t : Fin cfg0.N) (y) : k0_pay1 (F := Ideal) (iblk m c 0 t) (iblk m c 1 t) y
    = Cert.Reference9Ideal.Read.val_main_v6 (F := Ideal) (m ((c : Thread nD τ).loc main_arg0)) (m ((c : Thread nD τ).loc main_arg1)) (((cfg0.win 2).blk t).view.emb y) := by
  rw [ref_apply]
  pointwise [k0_pay1]
  all_goals blk_point [iblk, V, idx t]

/-- The result array after the call is the reference's. -/
theorem final (c : Dev nD) : (dats m 0 c).arrAt 2 cfg0.N
    = Cert.Reference9Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.Hand

end
-- ==== Proof.OutWeight.lean ====
/- The gradient of the weights of the attention's output product: what the call leaves in its result array. -/
module
public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
@[expose] public section
set_option maxRecDepth 16384
noncomputable section
namespace Cert.Kernel10Ideal.Hand
open Cert.Kernel10Ideal Cert.Kernel10Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Which block every window shows at every point. -/
theorem idx : ∀ t : Fin cfg0.N, win0_0.index t = ![0, 0] ∧ win0_1.index t = ![0, t.val] ∧ win0_2.index t = ![0, t.val] :=
  (by decide +kernel : ∀ t : Fin grid0.N, _)

/-- One element of the reference: the sum over the rows of the products of the two columns. -/
theorem ref_apply (x : (⟨S2048x2048, .bf16⟩ : BufTy).Contents (Elt Ideal)) (y : (⟨S2048x2048, .bf16⟩ : BufTy).Contents (Elt Ideal)) (i : S2048x2048.Idx) :
    Cert.Reference10Ideal.Read.val_main_v6 (F := Ideal) x y i
      = ∑ k : Fin 2048, x (ix2 k (i 0)) * y (ix2 k (i 1)) := by
  have h : Cert.Reference10Ideal.Read.val_main_v6 (F := Ideal) x y i
      = ∑ k : Fin 2048, y (ix2 k (i 1)) * x (ix2 k (i 0)) := by
    pointwise [Cert.Reference10Ideal.Read.val_main_v6, Cert.Reference10Ideal.Read.val_main_v5, Cert.Reference10Ideal.Read.val_main_v4, Cert.Reference10Ideal.Read.val_main_v3, Cert.Reference10Ideal.Read.val_main_v1]
  rw [h]
  exact Finset.sum_congr rfl fun k _ => mul_comm _ _

/-- One element of a block is the reference's element at the block's place. -/
theorem point (c : Dev nD) (t : Fin cfg0.N) (y) : k0_pay1 (F := Ideal) (iblk m c 0 t) (iblk m c 1 t) y
    = Cert.Reference10Ideal.Read.val_main_v6 (F := Ideal) (m ((c : Thread nD τ).loc main_arg0)) (m ((c : Thread nD τ).loc main_arg1)) (((cfg0.win 2).blk t).view.emb y) := by
  rw [ref_apply]
  pointwise [k0_pay1]
  all_goals blk_point [iblk, V, idx t]

/-- The result array after the call is the reference's. -/
theorem final (c : Dev nD) : (dats m 0 c).arrAt 2 cfg0.N
    = Cert.Reference10Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Hand

end
-- ==== Proof.OutGrad.lean ====
/- The gradient of the attention's output through its last product: what the call leaves in its result array. -/
module
public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
@[expose] public section
set_option maxRecDepth 16384
noncomputable section
namespace Cert.Kernel11Ideal.Hand
open Cert.Kernel11Ideal Cert.Kernel11Ideal.Gen
open Idealize.ShloMosaic Idealize.ShloMosaic.TcCoe Idealize.ShloMosaic.Tactic Idealize.SL.Sem
open Idealize.ShloMosaic.Pipeline (Dat)
open Cert.Reference11Ideal.Read (val_main_v6 val_main_v5 val_main_v4 val_main_v2 val_main_v1)

variable (m : (ℓ : Loc nD τ sig) → Buf (Elt Ideal) ℓ)

/-- Which block every window shows at every point. -/
theorem idx : ∀ t : Fin cfg0.N, win0_0.index t = ![0, 0] ∧ win0_1.index t = ![0, t.val, 0] ∧ win0_2.index t = ![0, t.val] :=
  (by decide +kernel : ∀ t : Fin grid0.N, _)

/-- One element of the reference: the sum of the products of a row with a row of the weights. -/
theorem ref_apply (x : (⟨S2048x2048, .bf16⟩ : BufTy).Contents (Elt Ideal)) (y : (⟨S1x2048x2048, .bf16⟩ : BufTy).Contents (Elt Ideal)) (i : S2048x2048.Idx) :
    val_main_v6 (F := Ideal) x y i = ∑ k : Fin 2048, x (ix2 (i 0) k) * y (ix3 0 (i 1) k) := by
  pointwise [val_main_v6, val_main_v5, val_main_v4, val_main_v2, val_main_v1]

/-- One element of a block is the reference's element at the block's place. -/
theorem point (c : Dev nD) (t : Fin cfg0.N) (y) : k0_pay1 (F := Ideal) (iblk m c 0 t) (iblk m c 1 t) y
    = val_main_v6 (F := Ideal) (m ((c : Thread nD τ).loc main_arg0)) (m ((c : Thread nD τ).loc main_arg1)) (((cfg0.win 2).blk t).view.emb y) := by
  rw [ref_apply]
  pointwise [k0_pay1]
  all_goals blk_point [iblk, V, idx t]

/-- The result array after the call is the reference's. -/
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel11Ideal.Hand

end
-- ==== Proof.QkvGrad.lean ====
/- The gradient of the input of the product to queries, keys and values: a sum accumulated over 12 blocks of columns. -/
module
public import proofs.«01_k».proof.Proof.Gen.Kernel12Ideal.Value
public import proofs.«01_k».proof.Proof.Gen.Reference12Ideal.Read
public import Idealize.ShloMosaic.Lib.Pipeline.ValueKit
public import Idealize.ShloMosaic.Lib.Pointwise
@[expose] public section
set_option maxRecDepth 16384
noncomputable section
namespace Cert.Kernel12Ideal.Hand
open Cert.Kernel12Ideal Cert.Kernel12Ideal.Gen
open Idealize.ShloMosaic Idealize.ShloMosaic.TcCoe Idealize.ShloMosaic.Tactic Idealize.SL.Sem
open Idealize.ShloMosaic.Pipeline (Dat)
open Cert.Reference12Ideal.Read (val_main_v5 val_main_v4 val_main_v2 val_main_v1)

variable (m : (ℓ : Loc nD τ sig) → Buf (Elt Ideal) ℓ)

/-- Which block every window shows at every point. -/
theorem idx : ∀ t : Fin cfg0.N, win0_0.index t = ![0, t.val % 12] ∧ win0_1.index t = ![0, t.val / 12, t.val % 12] ∧ win0_2.index t = ![0, t.val / 12] :=
  (by decide +kernel : ∀ t : Fin grid0.N, _)

/-- The product of one entry of a row with one entry of a row of the weights. -/
def prod (x0 : (⟨S2048x6144, .bf16⟩ : BufTy).Contents (Elt Ideal)) (x1 : (⟨S1x2048x6144, .bf16⟩ : BufTy).Contents (Elt Ideal)) (i : S2048x2048.Idx) (l : Fin 6144) : EReal :=
  x0 (ix2 (i 0) l) * x1 (ix3 0 (i 1) l)

/-- One element of the reference: the sum of the products with the weights. -/
theorem ref_apply (x0 : (⟨S2048x6144, .bf16⟩ : BufTy).Contents (Elt Ideal)) (x1 : (⟨S1x2048x6144, .bf16⟩ : BufTy).Contents (Elt Ideal)) (i : S2048x2048.Idx) :
    val_main_v5 (F := Ideal) x0 x1 i = ∑ k : Fin 6144, prod x0 x1 i k := by
  pointwise [val_main_v5, val_main_v4, val_main_v2, val_main_v1, prod]

/-- One element of the product of a block of rows with a block of the weights. -/
def part (x : Vec Ideal S2048x512 .bf16) (w : Vec Ideal S1x1024x512 .bf16) (j : S2048x1024.Idx) : EReal :=
  ∑ k : Fin 512, x (ix2 (j 0) k) * w (ix3 0 (j 1) k)

/-- One element of the accumulator after a step: what it held plus the products of the step's block. -/
theorem pay2_apply (acc : Vec Ideal S2048x1024 .f32) (x : Vec Ideal S2048x512 .bf16) (w : Vec Ideal S1x1024x512 .bf16) (j : S2048x1024.Idx) :
    k0_pay2 (F := Ideal) acc x w j = acc j + part x w j := by
  pointwise [k0_pay2, part]

/-- The block starts at zero. -/
theorem pay1_apply (j : S2048x1024.Idx) : k0_pay1 (F := Ideal) j = 0 := by
  pointwise [k0_pay1]

/-- What one step adds to an element. -/
def term (c : Dev nD) (t : Fin cfg0.N) (j : S2048x1024.Idx) : EReal := part (iblk m c 0 t) (iblk m c 1 t) j

/-- The first factor of a step, read in the whole array. -/
theorem left_at (c : Dev nD) (t : Fin cfg0.N) (r : Fin 2048) (k : Fin 512) (l : Fin 6144) (hl : l.val = t.val % 12 * 512 + k.val) :
    iblk m c 0 t (ix2 r k : S2048x512.Idx) = m ((c : Thread nD τ).loc main_arg0) (ix2 r l) := by
  blk_point [iblk, V, idx t]

/-- The weights of a step, read in the whole array. -/
theorem right_at (c : Dev nD) (t : Fin cfg0.N) (a : Fin 1024) (k : Fin 512) (b : Fin 2048) (l : Fin 6144)
    (hb : b.val = t.val / 12 * 1024 + a.val) (hl : l.val = t.val % 12 * 512 + k.val) :
    iblk m c 1 t (ix3 0 a k : S1x1024x512.Idx) = m ((c : Thread nD τ).loc main_arg1) (ix3 0 b l) := by
  blk_point [iblk, V, idx t]

/-- What a step adds, as a sum of products of the whole arrays. -/
theorem term_at (c : Dev nD) (t : Fin cfg0.N) (j : S2048x1024.Idx) (s : Fin 12) (hs : s.val = t.val % 12) (i : S2048x2048.Idx)
    (h0 : (i 0).val = (j 0).val) (h1 : (i 1).val = t.val / 12 * 1024 + (j 1).val) :
    term m c t j = ∑ k : Fin 512, prod (m ((c : Thread nD τ).loc main_arg0)) (m ((c : Thread nD τ).loc main_arg1)) i ⟨s.val * 512 + k.val, by omega⟩ := by
  have e0 : j 0 = i 0 := Fin.ext h0.symm
  unfold term part prod
  refine Finset.sum_congr rfl fun k _ => ?_
  rw [left_at m c t (j 0) k ⟨s.val * 512 + k.val, by omega⟩ (by simp only [hs]),
    right_at m c t (j 1) k (i 1) ⟨s.val * 512 + k.val, by omega⟩ h1 (by simp only [hs]), e0]

/-- After the last of 12 steps the block holds the sum of what they add. -/
theorem run_sum (c : Dev nD) (t : Fin cfg0.N) (ht : t.val % 12 = 12 - 1) (j : S2048x1024.Idx) :
    outsAt0 m c t.val t.isLt j = (0 : EReal) + ∑ s : Fin 12, term m c ⟨12 * (t.val / 12) + s.val, Pipeline.run_point_lt_of_flush t ht s⟩ j :=
  Pipeline.eq_sum_fin_of_reset_step_apply_of_flush (ι := S2048x1024.Idx) (M := EReal) (fun n h => outsAt0 m c n h) 12 (fun _ => 0) (term m c)
    (fun t h j => by
      rw [outsAt0_A m c t h]
      frame_out
      rw [pay2_apply, pay1_apply]
      rfl)
    (fun t h j => by
      rw [outsAt0_B m c t h]
      frame_out
      rw [pay2_apply]
      rfl) t ht j

/-- After the last step the block's element is the reference's element at the block's place. -/
theorem block_at (c : Dev nD) (t : Fin cfg0.N) (ht : t.val % 12 = 12 - 1) (j : S2048x1024.Idx) (i : S2048x2048.Idx)
    (h0 : (i 0).val = (j 0).val) (h1 : (i 1).val = t.val / 12 * 1024 + (j 1).val) :
    outsAt0 m c t.val t.isLt j = val_main_v5 (F := Ideal) (m ((c : Thread nD τ).loc main_arg0)) (m ((c : Thread nD τ).loc main_arg1)) i := by
  rw [run_sum m c t ht j, zero_add, ref_apply]
  rw [Finset.sum_congr rfl fun s _ => term_at m c ⟨12 * (t.val / 12) + s.val, Pipeline.run_point_lt_of_flush t ht s⟩ j s
    (by have := s.isLt; show s.val = (12 * (t.val / 12) + s.val) % 12; omega) i h0
    (by have := s.isLt; show (i 1).val = (12 * (t.val / 12) + s.val) / 12 * 1024 + (j 1).val; omega)]
  exact Fin.sum_mul_add_congr (S := 12) (n := 512) (f := prod (m ((c : Thread nD τ).loc main_arg0)) (m ((c : Thread nD τ).loc main_arg1)) i) fun s k hl => rfl

/-- The result array after the call is the reference's. -/
theorem final (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf j => ?_
  have ht : t.val % 12 = 12 - 1 := (flush0_2 t).mp hf
  blk_simp
  rw [after0_2]
  refine block_at m c t ht j _ ?_ ?_
  · blk_simp [idx t]
  · blk_simp [idx t]

end Cert.Kernel12Ideal.Hand

end
-- ==== Proof.GluGrad.lean ====
/- The gradient of the input of the gated linear unit's product: a sum accumulated over 8 blocks of columns. -/
module
public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
@[expose] public section
set_option maxRecDepth 16384
noncomputable section
namespace Cert.Kernel13Ideal.Hand
open Cert.Kernel13Ideal Cert.Kernel13Ideal.Gen
open Idealize.ShloMosaic Idealize.ShloMosaic.TcCoe Idealize.ShloMosaic.Tactic Idealize.SL.Sem
open Idealize.ShloMosaic.Pipeline (Dat)
open Cert.Reference13Ideal.Read (val_main_v1 val_main_v2 val_main_v3 val_main_v4 val_main_v6)

variable (m : (ℓ : Loc nD τ sig) → Buf (Elt Ideal) ℓ)

/-- Which block of the first factor's first half is shown while that half runs. -/
theorem idx_val : ∀ t : Fin cfg0.N, t.val % 8 ≤ 3 → win0_0.index t = ![0, t.val % 8] :=
  (by decide +kernel : ∀ t : Fin grid0.N, _)

/-- Which block of its second half is shown while that half runs. -/
theorem idx_gate : ∀ t : Fin cfg0.N, 4 ≤ t.val % 8 → win0_1.index t = ![0, t.val % 8 - 4] :=
  (by decide +kernel : ∀ t : Fin grid0.N, _)

/-- Which blocks of the weights and of the result are shown. -/
theorem idx : ∀ t : Fin cfg0.N, win0_2.index t = ![0, t.val / 8, t.val % 8] ∧ win0_3.index t = ![0, t.val / 8] :=
  (by decide +kernel : ∀ t : Fin grid0.N, _)

/-- The two halves of a row laid side by side. -/
def cat (x0 x1 : (⟨S2048x2048, .bf16⟩ : BufTy).Contents (Elt Ideal)) (r : Fin 2048) (k : Fin 4096) : EReal :=
  if h : k.val < 2048 then x0 (ix2 r ⟨k.val, h⟩) else x1 (ix2 r ⟨k.val - 2048, by omega⟩)

/-- One element of the reference: the sum over both halves of a row of the products with the weights. -/
theorem ref_apply (x0 x1 : (⟨S2048x2048, .bf16⟩ : BufTy).Contents (Elt Ideal))
    (x2 : (⟨S1x2048x4096, .bf16⟩ : BufTy).Contents (Elt Ideal)) (i : S2048x2048.Idx) :
    val_main_v6 (F := Ideal) x0 x1 x2 i = ∑ k : Fin 4096, cat x0 x1 (i 0) k * x2 (ix3 0 (i 1) k) := by
  rw [Cert.Reference13Ideal.Read.val_main_v6_apply]
  refine Finset.sum_congr rfl fun k _ => ?_
  congr 1
  · unfold cat val_main_v2 val_main_v1
    pointwise
  · pointwise [val_main_v4, val_main_v3]
    exact congrArg x2 (by idx_ext)

/-- One element of the product of a block of rows with a block of the weights. -/
def part (x : Vec Ideal S2048x512 .bf16) (w : Vec Ideal S1x1024x512 .bf16) (j : S2048x1024.Idx) : EReal :=
  ∑ k : Fin 512, x (ix2 (j 0) k) * w (ix3 0 (j 1) k)

/-- One element of the accumulator after a step: what it held plus the products of the step's block. -/
theorem pay2_apply (acc : Vec Ideal S2048x1024 .f32) (x : Vec Ideal S2048x512 .bf16) (w : Vec Ideal S1x1024x512 .bf16) (j : S2048x1024.Idx) :
    k0_pay2 (F := Ideal) acc x w j = acc j + part x w j := by
  pointwise [k0_pay2, part]

theorem pay3_apply (acc : Vec Ideal S2048x1024 .f32) (x : Vec Ideal S2048x512 .bf16) (w : Vec Ideal S1x1024x512 .bf16) (j : S2048x1024.Idx) :
    k0_pay3 (F := Ideal) acc x w j = acc j + part x w j :=
  pay2_apply acc x w j

/-- The block starts at zero. -/
theorem pay1_apply (j : S2048x1024.Idx) : k0_pay1 (F := Ideal) j = 0 := by
  pointwise [k0_pay1]

/-- What one step adds to an element. -/
def term (c : Dev nD) (t : Fin cfg0.N) (j : S2048x1024.Idx) : EReal :=
  if t.val % 8 ≤ 3 then part (iblk m c 0 t) (iblk m c 2 t) j else part (iblk m c 1 t) (iblk m c 2 t) j

/-- The first factor of a step in the first half, read in the two halves laid side by side. -/
theorem val_at (c : Dev nD) (t : Fin cfg0.N) (h : t.val % 8 ≤ 3) (r : Fin 2048) (k : Fin 512) (l : Fin 4096) (hl : l.val = t.val % 8 * 512 + k.val) :
    iblk m c 0 t (ix2 r k : S2048x512.Idx)
      = cat (m ((c : Thread nD τ).loc main_arg0)) (m ((c : Thread nD τ).loc main_arg1)) r l := by
  unfold cat
  rw [dif_pos (by omega)]
  blk_point [iblk, V, idx_val t h]

/-- The first factor of a step in the second half. -/
theorem gate_at (c : Dev nD) (t : Fin cfg0.N) (h : ¬t.val % 8 ≤ 3) (r : Fin 2048) (k : Fin 512) (l : Fin 4096) (hl : l.val = t.val % 8 * 512 + k.val) :
    iblk m c 1 t (ix2 r k : S2048x512.Idx)
      = cat (m ((c : Thread nD τ).loc main_arg0)) (m ((c : Thread nD τ).loc main_arg1)) r l := by
  unfold cat
  rw [dif_neg (by omega)]
  blk_point [iblk, V, idx_gate t (by omega)]

/-- The weights of a step, read in the whole array. -/
theorem right_at (c : Dev nD) (t : Fin cfg0.N) (a : Fin 1024) (k : Fin 512) (b : Fin 2048) (l : Fin 4096)
    (hb : b.val = t.val / 8 * 1024 + a.val) (hl : l.val = t.val % 8 * 512 + k.val) :
    iblk m c 2 t (ix3 0 a k : S1x1024x512.Idx) = m ((c : Thread nD τ).loc main_arg2) (ix3 0 b l) := by
  blk_point [iblk, V, idx t]

/-- What a step adds, as a sum of products of the whole arrays. -/
theorem term_at (c : Dev nD) (t : Fin cfg0.N) (j : S2048x1024.Idx) (s : Fin 8) (hs : s.val = t.val % 8) (b : Fin 2048)
    (hb : b.val = t.val / 8 * 1024 + (j 1).val) :
    term m c t j = ∑ k : Fin 512, cat (m ((c : Thread nD τ).loc main_arg0)) (m ((c : Thread nD τ).loc main_arg1)) (j 0) ⟨s.val * 512 + k.val, by omega⟩
      * m ((c : Thread nD τ).loc main_arg2) (ix3 0 b ⟨s.val * 512 + k.val, by omega⟩) := by
  unfold term part
  by_cases h : t.val % 8 ≤ 3
  · rw [if_pos h]
    refine Finset.sum_congr rfl fun k _ => ?_
    rw [val_at m c t h (j 0) k ⟨s.val * 512 + k.val, by omega⟩ (by simp only [hs]),
      right_at m c t (j 1) k b ⟨s.val * 512 + k.val, by omega⟩ hb (by simp only [hs])]
  · rw [if_neg h]
    refine Finset.sum_congr rfl fun k _ => ?_
    rw [gate_at m c t h (j 0) k ⟨s.val * 512 + k.val, by omega⟩ (by simp only [hs]),
      right_at m c t (j 1) k b ⟨s.val * 512 + k.val, by omega⟩ hb (by simp only [hs])]

/-- After the last of 8 steps the block holds the sum of what they add. -/
theorem run_sum (c : Dev nD) (t : Fin cfg0.N) (ht : t.val % 8 = 8 - 1) (j : S2048x1024.Idx) :
    outsAt0 m c t.val t.isLt j = (0 : EReal) + ∑ s : Fin 8, term m c ⟨8 * (t.val / 8) + s.val, Pipeline.run_point_lt_of_flush t ht s⟩ j :=
  Pipeline.eq_sum_fin_of_reset_step_apply_of_flush (ι := S2048x1024.Idx) (M := EReal) (fun n h => outsAt0 m c n h) 8 (fun _ => 0) (term m c)
    (fun t h j => by
      rw [outsAt0_A m c t h (by omega) (by omega)]
      frame_out
      rw [pay2_apply, pay1_apply]
      unfold term
      rw [if_pos (show t.val % 8 ≤ 3 by omega)])
    (fun t h j => by
      by_cases h1 : t.val % 8 ≤ 3
      · rw [outsAt0_B m c t h h1 (by omega)]
        frame_out
        rw [pay2_apply]
        unfold term
        rw [if_pos h1]
      · rw [outsAt0_C m c t h h1 (by omega)]
        frame_out
        rw [pay3_apply]
        unfold term
        rw [if_neg h1]) t ht j

/-- After the last step the block's element is the reference's element at the block's place. -/
theorem block_at (c : Dev nD) (t : Fin cfg0.N) (ht : t.val % 8 = 8 - 1) (j : S2048x1024.Idx) (i : S2048x2048.Idx)
    (h0 : (i 0).val = (j 0).val) (h1 : (i 1).val = t.val / 8 * 1024 + (j 1).val) :
    outsAt0 m c t.val t.isLt j
      = val_main_v6 (F := Ideal) (m ((c : Thread nD τ).loc main_arg0)) (m ((c : Thread nD τ).loc main_arg1)) (m ((c : Thread nD τ).loc main_arg2)) i := by
  have e0 : j 0 = i 0 := Fin.ext h0.symm
  rw [run_sum m c t ht j, zero_add, ref_apply]
  rw [Finset.sum_congr rfl fun s _ => term_at m c ⟨8 * (t.val / 8) + s.val, Pipeline.run_point_lt_of_flush t ht s⟩ j s
    (by have := s.isLt; show s.val = (8 * (t.val / 8) + s.val) % 8; omega) (i 1)
    (by have := s.isLt; show (i 1).val = (8 * (t.val / 8) + s.val) / 8 * 1024 + (j 1).val; omega)]
  rw [e0]
  exact Fin.sum_mul_add_congr (S := 8) (n := 512)
    (f := fun k : Fin 4096 => cat (m ((c : Thread nD τ).loc main_arg0)) (m ((c : Thread nD τ).loc main_arg1)) (i 0) k
      * m ((c : Thread nD τ).loc main_arg2) (ix3 0 (i 1) k)) fun s k hl => rfl

/-- The result array after the call is the reference's. -/
theorem final (c : Dev nD) : (dats m 0 c).arrAt 3 cfg0.N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf j => ?_
  have ht : t.val % 8 = 8 - 1 := (flush0_3 t).mp hf
  blk_simp
  rw [after0_3]
  refine block_at m c t ht j _ ?_ ?_
  · blk_simp [idx t]
  · blk_simp [idx t]

end Cert.Kernel13Ideal.Hand

end
-- ==== Proof.Qkv.lean ====
/- The product to queries, keys and values: what the call leaves in its result array. -/
module
public import proofs.«01_k».proof.Proof.Gen.Kernel14Ideal.Value
public import proofs.«01_k».proof.Proof.Gen.Reference14Ideal.Read
public import Idealize.ShloMosaic.Lib.Pipeline.ValueKit
public import Idealize.ShloMosaic.Lib.Pointwise
@[expose] public section
set_option maxRecDepth 16384
noncomputable section
namespace Cert.Kernel14Ideal.Hand
open Cert.Kernel14Ideal Cert.Kernel14Ideal.Gen
open Idealize.ShloMosaic Idealize.ShloMosaic.TcCoe Idealize.ShloMosaic.Tactic Idealize.SL.Sem
open Idealize.ShloMosaic.Pipeline (Dat)
open Cert.Reference14Ideal.Read (val_main_v4 val_main_v3 val_main_v2 val_main_v1 val_main_v0)

variable (m : (ℓ : Loc nD τ sig) → Buf (Elt Ideal) ℓ)

/-- Which block every window shows at every point. -/
theorem idx : ∀ t : Fin cfg0.N, win0_0.index t = ![0, 0] ∧ win0_1.index t = ![0, 0, t.val] ∧ win0_2.index t = ![0, t.val] :=
  (by decide +kernel : ∀ t : Fin grid0.N, _)

/-- One element of the reference: the sum of the products of a row with a column of the weights. -/
theorem ref_apply (x : (⟨S2048x2048, .bf16⟩ : BufTy).Contents (Elt Ideal)) (y : (⟨S1x2048x6144, .bf16⟩ : BufTy).Contents (Elt Ideal)) (i : S2048x6144.Idx) :
    val_main_v4 (F := Ideal) x y i = ∑ k : Fin 2048, x (ix2 (i 0) k) * y (ix3 0 k (i 1)) := by
  pointwise [val_main_v4, val_main_v3, val_main_v2, val_main_v1, val_main_v0]

/-- One element of a block is the reference's element at the block's place. -/
theorem point (c : Dev nD) (t : Fin cfg0.N) (y) : k0_pay1 (F := Ideal) (iblk m c 0 t) (iblk m c 1 t) y
    = val_main_v4 (F := Ideal) (m ((c : Thread nD τ).loc main_arg0)) (m ((c : Thread nD τ).loc main_arg1)) (((cfg0.win 2).blk t).view.emb y) := by
  rw [ref_apply]
  pointwise [k0_pay1]
  all_goals blk_point [iblk, V, idx t]

/-- The result array after the call is the reference's. -/
theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel14Ideal.Hand

end
-- ==== Proof.Out.lean ====
/- The attention's output product with the residual: what the call leaves in its result array. -/
module
public import proofs.«01_k».proof.Proof.Gen.Kernel15Ideal.Value
public import proofs.«01_k».proof.Proof.Gen.Reference15Ideal.Read
public import Idealize.ShloMosaic.Lib.Pipeline.ValueKit
public import Idealize.ShloMosaic.Lib.Pointwise
@[expose] public section
set_option maxRecDepth 16384
noncomputable section
namespace Cert.Kernel15Ideal.Hand
open Cert.Kernel15Ideal Cert.Kernel15Ideal.Gen
open Idealize.ShloMosaic Idealize.ShloMosaic.TcCoe Idealize.ShloMosaic.Tactic Idealize.SL.Sem
open Idealize.ShloMosaic.Pipeline (Dat)
open Cert.Reference15Ideal.Read (val_main_v4 val_main_v3 val_main_v2 val_main_v1 val_main_v0)

variable (m : (ℓ : Loc nD τ sig) → Buf (Elt Ideal) ℓ)

/-- Which block every window shows at every point. -/
theorem idx : ∀ t : Fin cfg0.N, win0_0.index t = ![0, 0] ∧ win0_1.index t = ![0, 0, t.val] ∧ win0_2.index t = ![0, t.val] ∧ win0_3.index t = ![0, t.val] :=
  (by decide +kernel : ∀ t : Fin grid0.N, _)

/-- One element of the reference: the residual plus the sum of the products of a row with a column of the weights. -/
theorem ref_apply (x : (⟨S2048x2048, .bf16⟩ : BufTy).Contents (Elt Ideal)) (y : (⟨S1x2048x2048, .bf16⟩ : BufTy).Contents (Elt Ideal)) (z : (⟨S2048x2048, .f32⟩ : BufTy).Contents (Elt Ideal)) (i : S2048x2048.Idx) :
    val_main_v4 (F := Ideal) x y z i = z i + ∑ k : Fin 2048, x (ix2 (i 0) k) * y (ix3 0 k (i 1)) := by
  pointwise [val_main_v4, val_main_v3, val_main_v2, val_main_v1, val_main_v0]

/-- One element of a block is the reference's element at the block's place. -/
theorem point (c : Dev nD) (t : Fin cfg0.N) (y) : k0_pay1 (F := Ideal) (iblk m c 0 t) (iblk m c 1 t) (iblk m c 2 t) y
    = val_main_v4 (F := Ideal) (m ((c : Thread nD τ).loc main_arg0)) (m ((c : Thread nD τ).loc main_arg1)) (m ((c : Thread nD τ).loc main_arg2)) (((cfg0.win 3).blk t).view.emb y) := by
  rw [ref_apply, add_comm]
  pointwise [k0_pay1]
  all_goals blk_point [iblk, V, idx t]

/-- The result array after the call is the reference's. -/
theorem final (c : Dev nD) : (dats m 0 c).arrAt 3 cfg0.N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel15Ideal.Hand

end
-- ==== Proof.Glu.lean ====
/- The gated linear unit behind the state-space layer: what the call leaves in its result arrays. -/
module
public import proofs.«01_k».proof.Proof.Gen.Kernel16Ideal.Value
public import proofs.«01_k».proof.Proof.Gen.Reference16Ideal.Read
public import Idealize.ShloMosaic.Lib.Pipeline.ValueKit
public import Idealize.ShloMosaic.Lib.Pointwise
@[expose] public section
set_option maxRecDepth 16384
noncomputable section
namespace Cert.Kernel16Ideal.Hand
open Cert.Kernel16Ideal Cert.Kernel16Ideal.Gen
open Idealize.ShloMosaic Idealize.ShloMosaic.TcCoe Idealize.ShloMosaic.Tactic Idealize.SL.Sem
open Idealize.ShloMosaic.Pipeline (Dat)
open Cert.Reference16Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_cst val_main_cst_0)

variable (m : (ℓ : Loc nD τ sig) → Buf (Elt Ideal) ℓ)

/-- Which block every window shows at every point. -/
theorem idx : ∀ t : Fin cfg0.N, win0_0.index t = ![0, 0] ∧ win0_1.index t = ![0, 0, t.val] ∧ win0_2.index t = ![0, 0, t.val + 8]
    ∧ win0_3.index t = ![0, t.val] ∧ win0_4.index t = ![0, t.val + 8] ∧ win0_5.index t = ![0, t.val]
    ∧ win0_6.index t = ![0, t.val] ∧ win0_7.index t = ![0, t.val] ∧ win0_8.index t = ![0, t.val] :=
  (by decide +kernel : ∀ t : Fin grid0.N, _)

/-- One element of the product plus the bias. -/
def entry (x : (⟨S2048x2048, .bf16⟩ : BufTy).Contents (Elt Ideal)) (w : (⟨S1x2048x4096, .bf16⟩ : BufTy).Contents (Elt Ideal)) (b : (⟨S1x4096, .f32⟩ : BufTy).Contents (Elt Ideal)) (r : Fin 2048) (l : Fin 4096) : EReal :=
  (∑ k : Fin 2048, x (ix2 r k) * w (ix3 0 k l)) + b (ix2 0 l)

/-- A value passed through the gate. -/
def gated (v g : EReal) : EReal := v * Ideal.div 1 (1 + Ideal.exp (-g))

/-- One element of the reference's product plus the bias. -/
theorem v5_apply (x : (⟨S2048x2048, .bf16⟩ : BufTy).Contents (Elt Ideal)) (w : (⟨S1x2048x4096, .bf16⟩ : BufTy).Contents (Elt Ideal)) (b : (⟨S1x4096, .f32⟩ : BufTy).Contents (Elt Ideal)) (i : Cert.Reference16Ideal.S2048x4096.Idx) : val_main_v5 (F := Ideal) x w b i = entry x w b (i 0) (i 1) := by
  pointwise [val_main_v5, val_main_v4, val_main_v3, val_main_v2, val_main_v1, val_main_v0, entry]

/-- One element of the reference's value half. -/
theorem v6_apply (x : (⟨S2048x2048, .bf16⟩ : BufTy).Contents (Elt Ideal)) (w : (⟨S1x2048x4096, .bf16⟩ : BufTy).Contents (Elt Ideal)) (b : (⟨S1x4096, .f32⟩ : BufTy).Contents (Elt Ideal)) (i : S2048x2048.Idx) :
    val_main_v6 (F := Ideal) x w b i = entry x w b (i 0) ⟨(i 1).val, Nat.lt_of_lt_of_le (i 1).isLt (by decide)⟩ := by
  pointwise [val_main_v6]
  exact v5_apply x w b _

/-- One element of the reference's gate half. -/
theorem v7_apply (x : (⟨S2048x2048, .bf16⟩ : BufTy).Contents (Elt Ideal)) (w : (⟨S1x2048x4096, .bf16⟩ : BufTy).Contents (Elt Ideal)) (b : (⟨S1x4096, .f32⟩ : BufTy).Contents (Elt Ideal)) (i : S2048x2048.Idx) :
    val_main_v7 (F := Ideal) x w b i = entry x w b (i 0) ⟨2048 + (i 1).val, by have : (i 1).val < 2048 := (i 1).isLt; omega⟩ := by
  pointwise [val_main_v7]
  exact v5_apply x w b _

/-- One element of the reference's output. -/
theorem v17_apply (x : (⟨S2048x2048, .bf16⟩ : BufTy).Contents (Elt Ideal)) (w : (⟨S1x2048x4096, .bf16⟩ : BufTy).Contents (Elt Ideal)) (b : (⟨S1x4096, .f32⟩ : BufTy).Contents (Elt Ideal)) (y : (⟨S2048x2048, .f32⟩ : BufTy).Contents (Elt Ideal)) (i : S2048x2048.Idx) :
    val_main_v17 (F := Ideal) x w b y i = y i + gated (val_main_v6 (F := Ideal) x w b i) (val_main_v7 (F := Ideal) x w b i) := by
  pointwise [val_main_v17, val_main_v16, val_main_v15, val_main_v14, val_main_v13, val_main_v12, val_main_v11, val_main_v10, val_main_cst, val_main_cst_0, gated]

/-- One element of a block of the value half. -/
theorem val_point (c : Dev nD) (t : Fin cfg0.N) (j : S2048x256.Idx) (i : S2048x2048.Idx)
    (h0 : (i 0).val = (j 0).val) (h1 : (i 1).val = t.val * 256 + (j 1).val) :
    k0_pay1 (F := Ideal) (iblk m c 0 t) (iblk m c 1 t) (iblk m c 3 t) j = val_main_v6 (F := Ideal) (m ((c : Thread nD τ).loc main_arg0)) (m ((c : Thread nD τ).loc main_arg1)) (m ((c : Thread nD τ).loc main_arg2)) i := by
  rw [v6_apply]
  unfold entry
  pointwise [k0_pay1]
  all_goals blk_point [iblk, V, idx t]

/-- One element of a block of the gate half. -/
theorem gate_point (c : Dev nD) (t : Fin cfg0.N) (j : S2048x256.Idx) (i : S2048x2048.Idx)
    (h0 : (i 0).val = (j 0).val) (h1 : (i 1).val = t.val * 256 + (j 1).val) :
    k0_pay2 (F := Ideal) (iblk m c 0 t) (iblk m c 2 t) (iblk m c 4 t) j = val_main_v7 (F := Ideal) (m ((c : Thread nD τ).loc main_arg0)) (m ((c : Thread nD τ).loc main_arg1)) (m ((c : Thread nD τ).loc main_arg2)) i := by
  rw [v7_apply]
  unfold entry
  pointwise [k0_pay2]
  all_goals blk_point [iblk, V, idx t]

/-- One element of a block of the output, from the two halves' elements. -/
theorem pay3_apply (x0 : Vec Ideal S2048x2048 .bf16) (x1 x2 : Vec Ideal S1x2048x256 .bf16) (x3 x4 : Vec Ideal S1x256 .f32) (x5 : Vec Ideal S2048x256 .f32)
    (j : S2048x256.Idx) : k0_pay3 (F := Ideal) x0 x1 x3 x2 x4 x5 j
      = x5 j + gated (k0_pay1 (F := Ideal) x0 x1 x3 j) (k0_pay2 (F := Ideal) x0 x2 x4 j) := by
  pointwise [k0_pay3, gated, zero_sub]

/-- The residual's block, read in the whole array. -/
theorem resid_point (c : Dev nD) (t : Fin cfg0.N) (j : S2048x256.Idx) (i : S2048x2048.Idx)
    (h0 : (i 0).val = (j 0).val) (h1 : (i 1).val = t.val * 256 + (j 1).val) :
    iblk m c 5 t j = m ((c : Thread nD τ).loc main_arg3) i := by
  blk_point [iblk, V, idx t]

/-- The value half's array after the call is the reference's. -/
theorem final6 (c : Dev nD) : (dats m 0 c).arrAt 6 cfg0.N = val_main_v8 (F := Ideal) (m ((c : Thread nD τ).loc main_arg0)) (m ((c : Thread nD τ).loc main_arg1)) (m ((c : Thread nD τ).loc main_arg2)) := by
  refine (dats m 0 c).arrAt_eq_of_covers 6 _ (by decide +kernel) fun t _ j => ?_
  blk_simp
  rw [after0_6]; frame_out
  refine val_point m c t j _ ?_ ?_
  · blk_simp [idx t]
  · blk_simp [idx t]

/-- The gate half's array after the call is the reference's. -/
theorem final7 (c : Dev nD) : (dats m 0 c).arrAt 7 cfg0.N = val_main_v9 (F := Ideal) (m ((c : Thread nD τ).loc main_arg0)) (m ((c : Thread nD τ).loc main_arg1)) (m ((c : Thread nD τ).loc main_arg2)) := by
  refine (dats m 0 c).arrAt_eq_of_covers 7 _ (by decide +kernel) fun t _ j => ?_
  blk_simp
  rw [after0_7]; frame_out
  refine gate_point m c t j _ ?_ ?_
  · blk_simp [idx t]
  · blk_simp [idx t]

/-- The output array after the call is the reference's. -/
theorem final8 (c : Dev nD) : (dats m 0 c).arrAt 8 cfg0.N = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ j => ?_
  have h0 : ((((cfg0.win 8).blk t).view.emb j) 0).val = (j 0).val := by blk_simp [idx t]
  have h1 : ((((cfg0.win 8).blk t).view.emb j) 1).val = t.val * 256 + (j 1).val := by blk_simp [idx t]
  blk_simp
  rw [after0_8]; frame_out
  rw [pay3_apply, v17_apply, val_point m c t j _ h0 h1, gate_point m c t j _ h0 h1, resid_point m c t j _ h0 h1]

end Cert.Kernel16Ideal.Hand

end
-- ==== Proof.AdamQkv.lean ====
/- AdamW for the weights of the product to queries, keys and values: what the call leaves in its result arrays. -/
module
public import proofs.«01_k».proof.Proof.Gen.Kernel17Ideal.Value
public import proofs.«01_k».proof.Proof.Gen.Reference17Ideal.Read
public import Idealize.ShloMosaic.Lib.Pipeline.ValueKit
public import Idealize.ShloMosaic.Lib.Pointwise
@[expose] public section
set_option maxRecDepth 16384
noncomputable section
namespace Cert.Kernel17Ideal.Hand
open Cert.Kernel17Ideal Cert.Kernel17Ideal.Gen
open Idealize.ShloMosaic Idealize.ShloMosaic.TcCoe Idealize.ShloMosaic.Tactic Idealize.SL.Sem
open Idealize.ShloMosaic.Pipeline (Dat)
open Cert.Reference17Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_cst val_main_cst_0 val_main_cst_1 val_main_cst_2 val_main_cst_3 val_main_cst_4 val_main_cst_5 val_main_cst_6 val_main_cst_7)

variable (m : (ℓ : Loc nD τ sig) → Buf (Elt Ideal) ℓ)

/-- Every window shows the same rows at every point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- A block of the weights, read in the whole array. -/
theorem weight_point (c : Dev nD) (t : Fin cfg0.N) (j : S1x256x1536.Idx) (i : S1x2048x1536.Idx)
    (h1 : (i 1).val = t.val * 256 + (j 1).val) (h2 : (i 2).val = (j 2).val) :
    iblk m c 0 t j = m ((c : Thread nD τ).loc main_arg0) i := by
  blk_point [iblk, V, idx t]

/-- A block of the gradient, read in the whole array. -/
theorem grad_point (c : Dev nD) (t : Fin cfg0.N) (j : S1x256x1536.Idx) (i : S1x2048x1536.Idx)
    (h1 : (i 1).val = t.val * 256 + (j 1).val) (h2 : (i 2).val = (j 2).val) :
    iblk m c 1 t j = m ((c : Thread nD τ).loc main_arg1) i := by
  blk_point [iblk, V, idx t]

/-- A block of the first moment, read in the whole array. -/
theorem first_point (c : Dev nD) (t : Fin cfg0.N) (j : S1x256x1536.Idx) (i : S1x2048x1536.Idx)
    (h1 : (i 1).val = t.val * 256 + (j 1).val) (h2 : (i 2).val = (j 2).val) :
    iblk m c 2 t j = m ((c : Thread nD τ).loc main_arg2) i := by
  blk_point [iblk, V, idx t]

/-- A block of the second moment, read in the whole array. -/
theorem second_point (c : Dev nD) (t : Fin cfg0.N) (j : S1x256x1536.Idx) (i : S1x2048x1536.Idx)
    (h1 : (i 1).val = t.val * 256 + (j 1).val) (h2 : (i 2).val = (j 2).val) :
    iblk m c 3 t j = m ((c : Thread nD τ).loc main_arg3) i := by
  blk_point [iblk, V, idx t]

/-- One element of a block of the new first moment, where the block's elements are the arrays'. -/
theorem pay1_apply (g n : Vec Ideal S1x256x1536 .f32) (G N : (⟨S1x2048x1536, .f32⟩ : BufTy).Contents (Elt Ideal)) (j : S1x256x1536.Idx) (i : S1x2048x1536.Idx) (hg : g j = G i) (hn : n j = N i) :
    k0_pay1 (F := Ideal) (k0_pay5 (F := Ideal) g n) j = val_main_v4 (F := Ideal) G N i := by
  pointwise [k0_pay1, k0_pay5, k0_pay4, val_main_v4, val_main_v3, val_main_v2, val_main_v1, val_main_v0, val_main_cst, val_main_cst_0, hg, hn]

/-- One element of a block of the new second moment. -/
theorem pay2_apply (g v : Vec Ideal S1x256x1536 .f32) (G W : (⟨S1x2048x1536, .f32⟩ : BufTy).Contents (Elt Ideal)) (j : S1x256x1536.Idx) (i : S1x2048x1536.Idx) (hg : g j = G i) (hv : v j = W i) :
    k0_pay2 (F := Ideal) (k0_pay6 (F := Ideal) g v) j = val_main_v10 (F := Ideal) G W i := by
  pointwise [k0_pay2, k0_pay6, k0_pay4, val_main_v10, val_main_v9, val_main_v8, val_main_v7, val_main_v6, val_main_v5, val_main_cst_1, val_main_cst_2, hg, hv]

/-- One element of a block of the step. -/
theorem pay7_apply (g w n v : Vec Ideal S1x256x1536 .f32) (X G N W : (⟨S1x2048x1536, .f32⟩ : BufTy).Contents (Elt Ideal)) (j : S1x256x1536.Idx) (i : S1x2048x1536.Idx)
    (hg : g j = G i) (hw : w j = X i) (hn : n j = N i) (hv : v j = W i) :
    k0_pay7 (F := Ideal) g w n v j = val_main_v23 (F := Ideal) X G N W i := by
  pointwise [k0_pay7, k0_pay6, k0_pay5, k0_pay4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3, val_main_cst_4, val_main_cst_5, val_main_cst_6, val_main_cst_7, hg, hw, hn, hv]

/-- One element of a block of the gradient's copy. -/
theorem pay3_apply (g : Vec Ideal S1x256x1536 .f32) (j : S1x256x1536.Idx) : k0_pay3 (F := Ideal) (k0_pay4 (F := Ideal) g) j = g j := by
  pointwise [k0_pay3, k0_pay4]

/-- The gradient's copy after the call is the gradient. -/
theorem final4 (c : Dev nD) : (dats m 0 c).arrAt 4 cfg0.N = (m ((c : Thread nD τ).loc main_arg1)) := by
  refine (dats m 0 c).arrAt_eq_of_covers 4 _ (by decide +kernel) fun t _ j => ?_
  have h1 : ((((cfg0.win 4).blk t).view.emb j) 1).val = t.val * 256 + (j 1).val := by blk_simp [idx t]
  have h2 : ((((cfg0.win 4).blk t).view.emb j) 2).val = (j 2).val := by blk_simp [idx t]
  blk_simp
  rw [after0_4]; frame_out
  exact (pay3_apply _ j).trans (grad_point m c t j _ h1 h2)

/-- The step's array after the call is the reference's. -/
theorem final5 (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ j => ?_
  have h1 : ((((cfg0.win 5).blk t).view.emb j) 1).val = t.val * 256 + (j 1).val := by blk_simp [idx t]
  have h2 : ((((cfg0.win 5).blk t).view.emb j) 2).val = (j 2).val := by blk_simp [idx t]
  blk_simp
  rw [after0_5]; frame_out
  exact pay7_apply _ _ _ _ _ _ _ _ j _ (grad_point m c t j _ h1 h2) (weight_point m c t j _ h1 h2) (first_point m c t j _ h1 h2) (second_point m c t j _ h1 h2)

/-- The first moment's array after the call is the reference's. -/
theorem final6 (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ j => ?_
  have h1 : ((((cfg0.win 6).blk t).view.emb j) 1).val = t.val * 256 + (j 1).val := by blk_simp [idx t]
  have h2 : ((((cfg0.win 6).blk t).view.emb j) 2).val = (j 2).val := by blk_simp [idx t]
  blk_simp
  rw [after0_6]; frame_out
  exact pay1_apply _ _ _ _ j _ (grad_point m c t j _ h1 h2) (first_point m c t j _ h1 h2)

/-- The second moment's array after the call is the reference's. -/
theorem final7 (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ j => ?_
  have h1 : ((((cfg0.win 7).blk t).view.emb j) 1).val = t.val * 256 + (j 1).val := by blk_simp [idx t]
  have h2 : ((((cfg0.win 7).blk t).view.emb j) 2).val = (j 2).val := by blk_simp [idx t]
  blk_simp
  rw [after0_7]; frame_out
  exact pay2_apply _ _ _ _ j _ (grad_point m c t j _ h1 h2) (second_point m c t j _ h1 h2)

end Cert.Kernel17Ideal.Hand

end
-- ==== Proof.AdamOut.lean ====
/- AdamW for the weights of the attention's output product: what the call leaves in its result arrays. -/
module
public import proofs.«01_k».proof.Proof.Gen.Kernel18Ideal.Value
public import proofs.«01_k».proof.Proof.Gen.Reference18Ideal.Read
public import Idealize.ShloMosaic.Lib.Pipeline.ValueKit
public import Idealize.ShloMosaic.Lib.Pointwise
@[expose] public section
set_option maxRecDepth 16384
noncomputable section
namespace Cert.Kernel18Ideal.Hand
open Cert.Kernel18Ideal Cert.Kernel18Ideal.Gen
open Idealize.ShloMosaic Idealize.ShloMosaic.TcCoe Idealize.ShloMosaic.Tactic Idealize.SL.Sem
open Idealize.ShloMosaic.Pipeline (Dat)
open Cert.Reference18Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_cst val_main_cst_0 val_main_cst_1 val_main_cst_2 val_main_cst_3 val_main_cst_4 val_main_cst_5 val_main_cst_6 val_main_cst_7)

variable (m : (ℓ : Loc nD τ sig) → Buf (Elt Ideal) ℓ)

/-- Every window shows the same rows at every point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- A block of the weights, read in the whole array. -/
theorem weight_point (c : Dev nD) (t : Fin cfg0.N) (j : S1x256x2048.Idx) (i : S1x512x2048.Idx)
    (h1 : (i 1).val = t.val * 256 + (j 1).val) (h2 : (i 2).val = (j 2).val) :
    iblk m c 0 t j = m ((c : Thread nD τ).loc main_arg0) i := by
  blk_point [iblk, V, idx t]

/-- A block of the gradient, read in the whole array. -/
theorem grad_point (c : Dev nD) (t : Fin cfg0.N) (j : S1x256x2048.Idx) (i : S1x512x2048.Idx)
    (h1 : (i 1).val = t.val * 256 + (j 1).val) (h2 : (i 2).val = (j 2).val) :
    iblk m c 1 t j = m ((c : Thread nD τ).loc main_arg1) i := by
  blk_point [iblk, V, idx t]

/-- A block of the first moment, read in the whole array. -/
theorem first_point (c : Dev nD) (t : Fin cfg0.N) (j : S1x256x2048.Idx) (i : S1x512x2048.Idx)
    (h1 : (i 1).val = t.val * 256 + (j 1).val) (h2 : (i 2).val = (j 2).val) :
    iblk m c 2 t j = m ((c : Thread nD τ).loc main_arg2) i := by
  blk_point [iblk, V, idx t]

/-- A block of the second moment, read in the whole array. -/
theorem second_point (c : Dev nD) (t : Fin cfg0.N) (j : S1x256x2048.Idx) (i : S1x512x2048.Idx)
    (h1 : (i 1).val = t.val * 256 + (j 1).val) (h2 : (i 2).val = (j 2).val) :
    iblk m c 3 t j = m ((c : Thread nD τ).loc main_arg3) i := by
  blk_point [iblk, V, idx t]

/-- One element of a block of the new first moment, where the block's elements are the arrays'. -/
theorem pay1_apply (g n : Vec Ideal S1x256x2048 .f32) (G N : (⟨S1x512x2048, .f32⟩ : BufTy).Contents (Elt Ideal)) (j : S1x256x2048.Idx) (i : S1x512x2048.Idx) (hg : g j = G i) (hn : n j = N i) :
    k0_pay1 (F := Ideal) (k0_pay5 (F := Ideal) g n) j = val_main_v4 (F := Ideal) G N i := by
  pointwise [k0_pay1, k0_pay5, k0_pay4, val_main_v4, val_main_v3, val_main_v2, val_main_v1, val_main_v0, val_main_cst, val_main_cst_0, hg, hn]

/-- One element of a block of the new second moment. -/
theorem pay2_apply (g v : Vec Ideal S1x256x2048 .f32) (G W : (⟨S1x512x2048, .f32⟩ : BufTy).Contents (Elt Ideal)) (j : S1x256x2048.Idx) (i : S1x512x2048.Idx) (hg : g j = G i) (hv : v j = W i) :
    k0_pay2 (F := Ideal) (k0_pay6 (F := Ideal) g v) j = val_main_v10 (F := Ideal) G W i := by
  pointwise [k0_pay2, k0_pay6, k0_pay4, val_main_v10, val_main_v9, val_main_v8, val_main_v7, val_main_v6, val_main_v5, val_main_cst_1, val_main_cst_2, hg, hv]

/-- One element of a block of the step. -/
theorem pay7_apply (g w n v : Vec Ideal S1x256x2048 .f32) (X G N W : (⟨S1x512x2048, .f32⟩ : BufTy).Contents (Elt Ideal)) (j : S1x256x2048.Idx) (i : S1x512x2048.Idx)
    (hg : g j = G i) (hw : w j = X i) (hn : n j = N i) (hv : v j = W i) :
    k0_pay7 (F := Ideal) g w n v j = val_main_v23 (F := Ideal) X G N W i := by
  pointwise [k0_pay7, k0_pay6, k0_pay5, k0_pay4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3, val_main_cst_4, val_main_cst_5, val_main_cst_6, val_main_cst_7, hg, hw, hn, hv]

/-- One element of a block of the gradient's copy. -/
theorem pay3_apply (g : Vec Ideal S1x256x2048 .f32) (j : S1x256x2048.Idx) : k0_pay3 (F := Ideal) (k0_pay4 (F := Ideal) g) j = g j := by
  pointwise [k0_pay3, k0_pay4]

/-- The gradient's copy after the call is the gradient. -/
theorem final4 (c : Dev nD) : (dats m 0 c).arrAt 4 cfg0.N = (m ((c : Thread nD τ).loc main_arg1)) := by
  refine (dats m 0 c).arrAt_eq_of_covers 4 _ (by decide +kernel) fun t _ j => ?_
  have h1 : ((((cfg0.win 4).blk t).view.emb j) 1).val = t.val * 256 + (j 1).val := by blk_simp [idx t]
  have h2 : ((((cfg0.win 4).blk t).view.emb j) 2).val = (j 2).val := by blk_simp [idx t]
  blk_simp
  rw [after0_4]; frame_out
  exact (pay3_apply _ j).trans (grad_point m c t j _ h1 h2)

/-- The step's array after the call is the reference's. -/
theorem final5 (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ j => ?_
  have h1 : ((((cfg0.win 5).blk t).view.emb j) 1).val = t.val * 256 + (j 1).val := by blk_simp [idx t]
  have h2 : ((((cfg0.win 5).blk t).view.emb j) 2).val = (j 2).val := by blk_simp [idx t]
  blk_simp
  rw [after0_5]; frame_out
  exact pay7_apply _ _ _ _ _ _ _ _ j _ (grad_point m c t j _ h1 h2) (weight_point m c t j _ h1 h2) (first_point m c t j _ h1 h2) (second_point m c t j _ h1 h2)

/-- The first moment's array after the call is the reference's. -/
theorem final6 (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ j => ?_
  have h1 : ((((cfg0.win 6).blk t).view.emb j) 1).val = t.val * 256 + (j 1).val := by blk_simp [idx t]
  have h2 : ((((cfg0.win 6).blk t).view.emb j) 2).val = (j 2).val := by blk_simp [idx t]
  blk_simp
  rw [after0_6]; frame_out
  exact pay1_apply _ _ _ _ j _ (grad_point m c t j _ h1 h2) (first_point m c t j _ h1 h2)

/-- The second moment's array after the call is the reference's. -/
theorem final7 (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ j => ?_
  have h1 : ((((cfg0.win 7).blk t).view.emb j) 1).val = t.val * 256 + (j 1).val := by blk_simp [idx t]
  have h2 : ((((cfg0.win 7).blk t).view.emb j) 2).val = (j 2).val := by blk_simp [idx t]
  blk_simp
  rw [after0_7]; frame_out
  exact pay2_apply _ _ _ _ j _ (grad_point m c t j _ h1 h2) (second_point m c t j _ h1 h2)

end Cert.Kernel18Ideal.Hand

end
-- ==== Proof.AdamGlu.lean ====
/- AdamW for the gated linear unit's weights: what the call leaves in its result arrays. -/
module
public import proofs.«01_k».proof.Proof.Gen.Kernel19Ideal.Value
public import proofs.«01_k».proof.Proof.Gen.Reference19Ideal.Read
public import Idealize.ShloMosaic.Lib.Pipeline.ValueKit
public import Idealize.ShloMosaic.Lib.Pointwise
@[expose] public section
set_option maxRecDepth 16384
noncomputable section
namespace Cert.Kernel19Ideal.Hand
open Cert.Kernel19Ideal Cert.Kernel19Ideal.Gen
open Idealize.ShloMosaic Idealize.ShloMosaic.TcCoe Idealize.ShloMosaic.Tactic Idealize.SL.Sem
open Idealize.ShloMosaic.Pipeline (Dat)
open Cert.Reference19Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_cst val_main_cst_0 val_main_cst_1 val_main_cst_2 val_main_cst_3 val_main_cst_4 val_main_cst_5 val_main_cst_6 val_main_cst_7)

variable (m : (ℓ : Loc nD τ sig) → Buf (Elt Ideal) ℓ)

/-- Every window shows the same rows at every point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- A block of the weights, read in the whole array. -/
theorem weight_point (c : Dev nD) (t : Fin cfg0.N) (j : S1x512x1024.Idx) (i : S1x2048x1024.Idx)
    (h1 : (i 1).val = t.val * 512 + (j 1).val) (h2 : (i 2).val = (j 2).val) :
    iblk m c 0 t j = m ((c : Thread nD τ).loc main_arg0) i := by
  blk_point [iblk, V, idx t]

/-- A block of the gradient, read in the whole array. -/
theorem grad_point (c : Dev nD) (t : Fin cfg0.N) (j : S1x512x1024.Idx) (i : S1x2048x1024.Idx)
    (h1 : (i 1).val = t.val * 512 + (j 1).val) (h2 : (i 2).val = (j 2).val) :
    iblk m c 1 t j = m ((c : Thread nD τ).loc main_arg1) i := by
  blk_point [iblk, V, idx t]

/-- A block of the first moment, read in the whole array. -/
theorem first_point (c : Dev nD) (t : Fin cfg0.N) (j : S1x512x1024.Idx) (i : S1x2048x1024.Idx)
    (h1 : (i 1).val = t.val * 512 + (j 1).val) (h2 : (i 2).val = (j 2).val) :
    iblk m c 2 t j = m ((c : Thread nD τ).loc main_arg2) i := by
  blk_point [iblk, V, idx t]

/-- A block of the second moment, read in the whole array. -/
theorem second_point (c : Dev nD) (t : Fin cfg0.N) (j : S1x512x1024.Idx) (i : S1x2048x1024.Idx)
    (h1 : (i 1).val = t.val * 512 + (j 1).val) (h2 : (i 2).val = (j 2).val) :
    iblk m c 3 t j = m ((c : Thread nD τ).loc main_arg3) i := by
  blk_point [iblk, V, idx t]

/-- One element of a block of the new first moment, where the block's elements are the arrays'. -/
theorem pay1_apply (g n : Vec Ideal S1x512x1024 .f32) (G N : (⟨S1x2048x1024, .f32⟩ : BufTy).Contents (Elt Ideal)) (j : S1x512x1024.Idx) (i : S1x2048x1024.Idx) (hg : g j = G i) (hn : n j = N i) :
    k0_pay1 (F := Ideal) (k0_pay5 (F := Ideal) g n) j = val_main_v4 (F := Ideal) G N i := by
  pointwise [k0_pay1, k0_pay5, k0_pay4, val_main_v4, val_main_v3, val_main_v2, val_main_v1, val_main_v0, val_main_cst, val_main_cst_0, hg, hn]

/-- One element of a block of the new second moment. -/
theorem pay2_apply (g v : Vec Ideal S1x512x1024 .f32) (G W : (⟨S1x2048x1024, .f32⟩ : BufTy).Contents (Elt Ideal)) (j : S1x512x1024.Idx) (i : S1x2048x1024.Idx) (hg : g j = G i) (hv : v j = W i) :
    k0_pay2 (F := Ideal) (k0_pay6 (F := Ideal) g v) j = val_main_v10 (F := Ideal) G W i := by
  pointwise [k0_pay2, k0_pay6, k0_pay4, val_main_v10, val_main_v9, val_main_v8, val_main_v7, val_main_v6, val_main_v5, val_main_cst_1, val_main_cst_2, hg, hv]

/-- One element of a block of the step. -/
theorem pay7_apply (g w n v : Vec Ideal S1x512x1024 .f32) (X G N W : (⟨S1x2048x1024, .f32⟩ : BufTy).Contents (Elt Ideal)) (j : S1x512x1024.Idx) (i : S1x2048x1024.Idx)
    (hg : g j = G i) (hw : w j = X i) (hn : n j = N i) (hv : v j = W i) :
    k0_pay7 (F := Ideal) g w n v j = val_main_v23 (F := Ideal) X G N W i := by
  pointwise [k0_pay7, k0_pay6, k0_pay5, k0_pay4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3, val_main_cst_4, val_main_cst_5, val_main_cst_6, val_main_cst_7, hg, hw, hn, hv]

/-- One element of a block of the gradient's copy. -/
theorem pay3_apply (g : Vec Ideal S1x512x1024 .f32) (j : S1x512x1024.Idx) : k0_pay3 (F := Ideal) (k0_pay4 (F := Ideal) g) j = g j := by
  pointwise [k0_pay3, k0_pay4]

/-- The gradient's copy after the call is the gradient. -/
theorem final4 (c : Dev nD) : (dats m 0 c).arrAt 4 cfg0.N = (m ((c : Thread nD τ).loc main_arg1)) := by
  refine (dats m 0 c).arrAt_eq_of_covers 4 _ (by decide +kernel) fun t _ j => ?_
  have h1 : ((((cfg0.win 4).blk t).view.emb j) 1).val = t.val * 512 + (j 1).val := by blk_simp [idx t]
  have h2 : ((((cfg0.win 4).blk t).view.emb j) 2).val = (j 2).val := by blk_simp [idx t]
  blk_simp
  rw [after0_4]; frame_out
  exact (pay3_apply _ j).trans (grad_point m c t j _ h1 h2)

/-- The step's array after the call is the reference's. -/
theorem final5 (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ j => ?_
  have h1 : ((((cfg0.win 5).blk t).view.emb j) 1).val = t.val * 512 + (j 1).val := by blk_simp [idx t]
  have h2 : ((((cfg0.win 5).blk t).view.emb j) 2).val = (j 2).val := by blk_simp [idx t]
  blk_simp
  rw [after0_5]; frame_out
  exact pay7_apply _ _ _ _ _ _ _ _ j _ (grad_point m c t j _ h1 h2) (weight_point m c t j _ h1 h2) (first_point m c t j _ h1 h2) (second_point m c t j _ h1 h2)

/-- The first moment's array after the call is the reference's. -/
theorem final6 (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ j => ?_
  have h1 : ((((cfg0.win 6).blk t).view.emb j) 1).val = t.val * 512 + (j 1).val := by blk_simp [idx t]
  have h2 : ((((cfg0.win 6).blk t).view.emb j) 2).val = (j 2).val := by blk_simp [idx t]
  blk_simp
  rw [after0_6]; frame_out
  exact pay1_apply _ _ _ _ j _ (grad_point m c t j _ h1 h2) (first_point m c t j _ h1 h2)

/-- The second moment's array after the call is the reference's. -/
theorem final7 (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ j => ?_
  have h1 : ((((cfg0.win 7).blk t).view.emb j) 1).val = t.val * 512 + (j 1).val := by blk_simp [idx t]
  have h2 : ((((cfg0.win 7).blk t).view.emb j) 2).val = (j 2).val := by blk_simp [idx t]
  blk_simp
  rw [after0_7]; frame_out
  exact pay2_apply _ _ _ _ j _ (grad_point m c t j _ h1 h2) (second_point m c t j _ h1 h2)

end Cert.Kernel19Ideal.Hand

end
-- ==== Proof.NormRound.lean ====
/- The norm of the forward pass, rounded for a product: what the call leaves in its result array. -/
module
public import proofs.«01_k».proof.Proof.Gen.Kernel20Ideal.Value
public import proofs.«01_k».proof.Proof.Gen.Reference20Ideal.Read
public import Idealize.ShloMosaic.Lib.Pipeline.ValueKit
public import Idealize.ShloMosaic.Lib.Pointwise
@[expose] public section
set_option maxRecDepth 16384
noncomputable section
namespace Cert.Kernel20Ideal.Hand
open Cert.Kernel20Ideal Cert.Kernel20Ideal.Gen
open Idealize.ShloMosaic Idealize.ShloMosaic.TcCoe Idealize.ShloMosaic.Tactic Idealize.SL.Sem
open Idealize.ShloMosaic.Pipeline (Dat)
open Cert.Reference20Ideal.Read (val_main_v0 val_main_v1 val_main_v2 val_main_v3 val_main_v4 val_main_v5 val_main_v6 val_main_v7 val_main_v8 val_main_v9 val_main_v10 val_main_v11 val_main_v12 val_main_cst val_main_cst_0 val_main_cst_1)

variable (m : (ℓ : Loc nD τ sig) → Buf (Elt Ideal) ℓ)

/-- The rows' windows show the same rows at every point, the gain's the whole gain. -/
theorem idx : ∀ t : Fin cfg0.N, win0_0.index t = ![t.val, 0] ∧ win0_1.index t = ![0, 0] ∧ win0_2.index t = ![t.val, 0] :=
  (by decide +kernel : ∀ t : Fin grid0.N, _)

/-- One element of a block of normed rows, where the block's row is the array's. -/
theorem pay1_apply (x : Vec Ideal S256x2048 .f32) (g : Vec Ideal S1x2048 .f32) (X : (⟨S2048x2048, .f32⟩ : BufTy).Contents (Elt Ideal)) (G : (⟨S1x2048, .f32⟩ : BufTy).Contents (Elt Ideal))
    (j : S256x2048.Idx) (i : S2048x2048.Idx) (hx : ∀ k : Fin 2048, x (ix2 (j 0) k) = X (ix2 (i 0) k)) (hj : x j = X i) (hg : g (ix2 0 (j 1)) = G (ix2 0 (i 1))) :
    k0_pay1 (F := Ideal) x g j = val_main_v12 (F := Ideal) X G i := by
  pointwise [k0_pay1, val_main_v12, val_main_v11, val_main_v10, val_main_v9, val_main_v8, val_main_v7, val_main_v6, val_main_v5, val_main_v4, val_main_v3, val_main_v2, val_main_v1, val_main_v0, val_main_cst, val_main_cst_0, val_main_cst_1, hx, hj, hg]

/-- A block of rows, read in the whole array. -/
theorem row_point (c : Dev nD) (t : Fin cfg0.N) (j : S256x2048.Idx) (i : S2048x2048.Idx) (h0 : (i 0).val = t.val * 256 + (j 0).val) (h1 : (i 1).val = (j 1).val) :
    iblk m c 0 t j = m ((c : Thread nD τ).loc main_arg0) i := by
  blk_point [iblk, V, idx t]

/-- The gain's block is the gain. -/
theorem gain_point (c : Dev nD) (t : Fin cfg0.N) (j i : S1x2048.Idx) (h1 : (i 1).val = (j 1).val) :
    iblk m c 1 t j = m ((c : Thread nD τ).loc main_arg1) i := by
  blk_point [iblk, V, idx t]

/-- The array after the call is the reference's. -/
theorem final (c : Dev nD) : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t _ j => ?_
  have h0 : ((((cfg0.win 2).blk t).view.emb j) 0).val = t.val * 256 + (j 0).val := by blk_simp [idx t]
  have h1 : ((((cfg0.win 2).blk t).view.emb j) 1).val = (j 1).val := by blk_simp [idx t]
  blk_simp
  rw [after0_2]; frame_out
  exact pay1_apply _ _ _ _ j _ (fun k => row_point m c t (ix2 (j 0) k) (ix2 _ k) h0 rfl) (row_point m c t j _ h0 h1) (gain_point m c t _ _ h1)

end Cert.Kernel20Ideal.Hand

end
-- ==== Proof.NormFull.lean ====
/- The norm of the forward pass, not rounded: what the call leaves in its result array. -/
module
public import proofs.«01_k».proof.Proof.Gen.Kernel21Ideal.Value
public import proofs.«01_k».proof.Proof.Gen.Reference21Ideal.Read
public import Idealize.ShloMosaic.Lib.Pipeline.ValueKit
public import Idealize.ShloMosaic.Lib.Pointwise
@[expose] public section
set_option maxRecDepth 16384
noncomputable section
namespace Cert.Kernel21Ideal.Hand
open Cert.Kernel21Ideal Cert.Kernel21Ideal.Gen
open Idealize.ShloMosaic Idealize.ShloMosaic.TcCoe Idealize.ShloMosaic.Tactic Idealize.SL.Sem
open Idealize.ShloMosaic.Pipeline (Dat)
open Cert.Reference21Ideal.Read (val_main_v0 val_main_v1 val_main_v2 val_main_v3 val_main_v4 val_main_v5 val_main_v6 val_main_v7 val_main_v8 val_main_v9 val_main_v10 val_main_v11 val_main_cst val_main_cst_0 val_main_cst_1)

variable (m : (ℓ : Loc nD τ sig) → Buf (Elt Ideal) ℓ)

/-- The rows' windows show the same rows at every point, the gain's the whole gain. -/
theorem idx : ∀ t : Fin cfg0.N, win0_0.index t = ![t.val, 0] ∧ win0_1.index t = ![0, 0] ∧ win0_2.index t = ![t.val, 0] :=
  (by decide +kernel : ∀ t : Fin grid0.N, _)

/-- One element of a block of normed rows, where the block's row is the array's. -/
theorem pay1_apply (x : Vec Ideal S256x2048 .f32) (g : Vec Ideal S1x2048 .f32) (X : (⟨S2048x2048, .f32⟩ : BufTy).Contents (Elt Ideal)) (G : (⟨S1x2048, .f32⟩ : BufTy).Contents (Elt Ideal))
    (j : S256x2048.Idx) (i : S2048x2048.Idx) (hx : ∀ k : Fin 2048, x (ix2 (j 0) k) = X (ix2 (i 0) k)) (hj : x j = X i) (hg : g (ix2 0 (j 1)) = G (ix2 0 (i 1))) :
    k0_pay1 (F := Ideal) x g j = val_main_v11 (F := Ideal) X G i := by
  pointwise [k0_pay1, val_main_v11, val_main_v10, val_main_v9, val_main_v8, val_main_v7, val_main_v6, val_main_v5, val_main_v4, val_main_v3, val_main_v2, val_main_v1, val_main_v0, val_main_cst, val_main_cst_0, val_main_cst_1, hx, hj, hg]

/-- A block of rows, read in the whole array. -/
theorem row_point (c : Dev nD) (t : Fin cfg0.N) (j : S256x2048.Idx) (i : S2048x2048.Idx) (h0 : (i 0).val = t.val * 256 + (j 0).val) (h1 : (i 1).val = (j 1).val) :
    iblk m c 0 t j = m ((c : Thread nD τ).loc main_arg0) i := by
  blk_point [iblk, V, idx t]

/-- The gain's block is the gain. -/
theorem gain_point (c : Dev nD) (t : Fin cfg0.N) (j i : S1x2048.Idx) (h1 : (i 1).val = (j 1).val) :
    iblk m c 1 t j = m ((c : Thread nD τ).loc main_arg1) i := by
  blk_point [iblk, V, idx t]

/-- The array after the call is the reference's. -/
theorem final (c : Dev nD) : (dats m 0 c).arrAt 2 cfg0.N = val_main_v11 (F := Ideal) (m ((c : Thread nD τ).loc main_arg0)) (m ((c : Thread nD τ).loc main_arg1)) := by
  refine (dats m 0 c).arrAt_eq_of_covers 2 _ (by decide +kernel) fun t _ j => ?_
  have h0 : ((((cfg0.win 2).blk t).view.emb j) 0).val = t.val * 256 + (j 0).val := by blk_simp [idx t]
  have h1 : ((((cfg0.win 2).blk t).view.emb j) 1).val = (j 1).val := by blk_simp [idx t]
  blk_simp
  rw [after0_2]; frame_out
  exact pay1_apply _ _ _ _ j _ (fun k => row_point m c t (ix2 (j 0) k) (ix2 _ k) h0 rfl) (row_point m c t j _ h0 h1) (gain_point m c t _ _ h1)

end Cert.Kernel21Ideal.Hand

end
-- ==== Proof.Packed.lean ====
/- Arrays laid one behind the other: a function of the elements passes through the joining, and zeros behind are zeros joined. -/
module
public import Idealize.ShloMosaic.Lib.Pointwise
@[expose] public section
noncomputable section
namespace Cert.Packed
open Idealize.ShloMosaic

variable {α β : Type}

/-- A piece with a function of its elements. -/
abbrev on (f : α → β) (p : (s : Shape) × (s.Idx → α)) : (s : Shape) × (s.Idx → β) := ⟨p.1, fun i => f (p.2 i)⟩

theorem at_map (f : α → β) (t : Shape) (a : Fin t.rank) (j : t.Idx) : ∀ (xs : List ((s : Shape) × (s.Idx → α)))
    (hs : ∀ s ∈ xs.map (·.1), s.FitsOff t a) (hs' : ∀ s ∈ (xs.map (on f)).map (·.1), s.FitsOff t a) (c : Nat)
    (hc : c < (axisSizes t a xs).sum) (hc' : c < (axisSizes t a (xs.map (on f))).sum),
    concatenateAt t a j (xs.map (on f)) hs' c hc' = f (concatenateAt t a j xs hs c hc)
  | [], _, _, _, hc, _ => absurd hc (Nat.not_lt_zero _)
  | [p], hs, hs', c, hc, hc' => by
    simp only [List.map_cons, List.map_nil, concatenateAt]
  | p :: q :: xs, hs, hs', c, hc, hc' => by
    have ih := at_map f t a j (q :: xs)
    simp only [List.map_cons] at ih ⊢
    rw [concatenateAt, concatenateAt]
    split
    · rfl
    · rename_i hlt
      have e := axisSizes_cons t a p (q :: xs) (hs p.1 List.mem_cons_self)
      have e' := axisSizes_cons t a (on f p) ((q :: xs).map (on f)) (hs p.1 List.mem_cons_self)
      exact ih (fun s h => hs s (List.mem_cons_of_mem _ h)) (fun s h => hs' s (List.mem_cons_of_mem _ h)) _
        (by rw [e, List.sum_cons] at hc; exact Nat.sub_lt_left_of_lt_add (Nat.le_of_not_lt hlt) hc)
        (by
          have hc'' : c < (axisSizes t a (on f p :: (q :: xs).map (on f))).sum := hc'
          rw [e', List.sum_cons] at hc''; exact Nat.sub_lt_left_of_lt_add (Nat.le_of_not_lt hlt) hc'')

/-- A function of the elements passes through the joining of arrays. -/
theorem map (f : α → β) (t : Shape) (a : Fin t.rank) (xs : List ((s : Shape) × (s.Idx → α)))
    (h : Shape.Concatenates (xs.map (·.1)) t a) (h' : Shape.Concatenates ((xs.map (on f)).map (·.1)) t a) (j : t.Idx) :
    concatenate t a (xs.map (on f)) h' j = f (concatenate t a xs h j) := by
  rw [concatenate_apply, concatenate_apply]
  exact at_map f t a j xs _ _ _ _ _

/-- The same of an array joined to two joined ones. -/
theorem map_tail (f : α → β) {s₁ s₂ s₃ t₂ t : Shape} (a : Fin t.rank) (a₂ : Fin t₂.rank) (x : s₁.Idx → α) (y : s₂.Idx → α) (z : s₃.Idx → α)
    (h₂ : Shape.Concatenates [s₂, s₃] t₂ a₂) (h : Shape.Concatenates [s₁, t₂] t a) (j : t.Idx) :
    concatenate t a [⟨s₁, fun i => f (x i)⟩, ⟨t₂, concatenate t₂ a₂ [⟨s₂, fun i => f (y i)⟩, ⟨s₃, fun i => f (z i)⟩] h₂⟩] h j
      = f (concatenate t a [⟨s₁, x⟩, ⟨t₂, concatenate t₂ a₂ [⟨s₂, y⟩, ⟨s₃, z⟩] h₂⟩] h j) := by
  have e : concatenate t₂ a₂ [⟨s₂, fun i => f (y i)⟩, ⟨s₃, fun i => f (z i)⟩] h₂
      = fun i => f (concatenate t₂ a₂ [⟨s₂, y⟩, ⟨s₃, z⟩] h₂ i) :=
    funext fun i => map f t₂ a₂ [⟨s₂, y⟩, ⟨s₃, z⟩] h₂ h₂ i
  rw [e]
  exact map f t a [⟨s₁, x⟩, ⟨t₂, concatenate t₂ a₂ [⟨s₂, y⟩, ⟨s₃, z⟩] h₂⟩] h h j

end Cert.Packed

end
-- ==== Proof.AdamPieces.lean ====
/- The small weights' AdamW step in the reference: each array's step, and the arrays laid one behind the other. -/
module
public import proofs.«01_k».proof.Proof.Packed
public import proofs.«01_k».proof.Proof.Gen.Reference22Ideal.Read
public import Idealize.ShloMosaic.Lib.IdealHost
@[expose] public section
set_option maxRecDepth 16384
noncomputable section
namespace Cert.AdamPieces
open Cert.Reference22Ideal Cert.Reference22Ideal.Gen Cert.Reference22Ideal.Read
open Idealize.ShloMosaic Idealize.ShloMosaic.TcCoe

/-- One element's new first moment, from the gradient and the first moment. -/
def newFirst (g n : Elt Ideal .f32) : Elt Ideal .f32 :=
  FloatOps.addf (F := Ideal) (φ := .f32) (FloatOps.mulf (FloatOps.ofBits .f32 0x3F666666#32) n) (FloatOps.mulf (FloatOps.ofBits .f32 0x3DCCCCCD#32) g)

/-- One element's new second moment, from the gradient and the second moment. -/
def newSecond (g v : Elt Ideal .f32) : Elt Ideal .f32 :=
  FloatOps.addf (F := Ideal) (φ := .f32) (FloatOps.mulf (FloatOps.ofBits .f32 0x3F7FBE77#32) v) (FloatOps.mulf (FloatOps.ofBits .f32 0x3A83126F#32) (FloatOps.mulf g g))

/-- One element's step, from the weight, the gradient and the two moments. -/
def change (w g n v : Elt Ideal .f32) : Elt Ideal .f32 :=
  FloatOps.mulf (F := Ideal) (φ := .f32) (FloatOps.ofBits .f32 0xBA83126F#32)
    (FloatOps.addf
      (FloatOps.hostDivf (FloatOps.hostDivf (newFirst g n) (FloatOps.ofBits .f32 0x3F26BD02#32))
        (FloatOps.addf (FloatOps.hostUnary .sqrt (FloatOps.hostDivf (newSecond g v) (FloatOps.ofBits .f32 0x3C231ACC#32))) (FloatOps.ofBits .f32 0x322BCC77#32)))
      (FloatOps.mulf (FloatOps.ofBits .f32 0x3C23D70A#32) w))

/-- The element of four arrays at an index. -/
abbrev quad {s : Shape} (w g n v : s.Idx → Elt Ideal .f32) : s.Idx → Elt Ideal .f32 × Elt Ideal .f32 × Elt Ideal .f32 × Elt Ideal .f32 := fun i => (w i, g i, n i, v i)

/-- The functions of four elements. -/
abbrev changes (p : Elt Ideal .f32 × Elt Ideal .f32 × Elt Ideal .f32 × Elt Ideal .f32) : Elt Ideal .f32 := change p.1 p.2.1 p.2.2.1 p.2.2.2
abbrev firsts (p : Elt Ideal .f32 × Elt Ideal .f32 × Elt Ideal .f32 × Elt Ideal .f32) : Elt Ideal .f32 := newFirst p.2.1 p.2.2.1
abbrev seconds (p : Elt Ideal .f32 × Elt Ideal .f32 × Elt Ideal .f32 × Elt Ideal .f32) : Elt Ideal .f32 := newSecond p.2.1 p.2.2.2

/-- The first sixteen arrays, one behind the other, four elements at a time. -/
def quads16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) : S594816.Idx → Elt Ideal .f32 × Elt Ideal .f32 × Elt Ideal .f32 × Elt Ideal .f32 :=
  concatenate S594816 0 [⟨S8192, quad (shapeCast S8192 x0 shapeCasts_S4x2048_S8192) (shapeCast S8192 x17 shapeCasts_S4x2048_S8192) (shapeCast S8192 x34 shapeCasts_S4x2048_S8192) (shapeCast S8192 x51 shapeCasts_S4x2048_S8192)⟩, ⟨S8192, quad (shapeCast S8192 x1 shapeCasts_S4x2048_S8192) (shapeCast S8192 x18 shapeCasts_S4x2048_S8192) (shapeCast S8192 x35 shapeCasts_S4x2048_S8192) (shapeCast S8192 x52 shapeCasts_S4x2048_S8192)⟩, ⟨S1024, quad (shapeCast S1024 x2 shapeCasts_S2x512_S1024) (shapeCast S1024 x19 shapeCasts_S2x512_S1024) (shapeCast S1024 x36 shapeCasts_S2x512_S1024) (shapeCast S1024 x53 shapeCasts_S2x512_S1024)⟩, ⟨S1024, quad (shapeCast S1024 x3 shapeCasts_S2x512_S1024) (shapeCast S1024 x20 shapeCasts_S2x512_S1024) (shapeCast S1024 x37 shapeCasts_S2x512_S1024) (shapeCast S1024 x54 shapeCasts_S2x512_S1024)⟩, ⟨S128, quad (shapeCast S128 x4 shapeCasts_S1x128_S128) (shapeCast S128 x21 shapeCasts_S1x128_S128) (shapeCast S128 x38 shapeCasts_S1x128_S128) (shapeCast S128 x55 shapeCasts_S1x128_S128)⟩, ⟨S128, quad (shapeCast S128 x5 shapeCasts_S1x128_S128) (shapeCast S128 x22 shapeCasts_S1x128_S128) (shapeCast S128 x39 shapeCasts_S1x128_S128) (shapeCast S128 x56 shapeCasts_S1x128_S128)⟩, ⟨S8192, quad (shapeCast S8192 x6 shapeCasts_S1x128x64_S8192) (shapeCast S8192 x23 shapeCasts_S1x128x64_S8192) (shapeCast S8192 x40 shapeCasts_S1x128x64_S8192) (shapeCast S8192 x57 shapeCasts_S1x128x64_S8192)⟩, ⟨S8192, quad (shapeCast S8192 x7 shapeCasts_S1x128x64_S8192) (shapeCast S8192 x24 shapeCasts_S1x128x64_S8192) (shapeCast S8192 x41 shapeCasts_S1x128x64_S8192) (shapeCast S8192 x58 shapeCasts_S1x128x64_S8192)⟩, ⟨S128, quad (shapeCast S128 x8 shapeCasts_S1x128_S128) (shapeCast S128 x25 shapeCasts_S1x128_S128) (shapeCast S128 x42 shapeCasts_S1x128_S128) (shapeCast S128 x59 shapeCasts_S1x128_S128)⟩, ⟨S131072, quad (shapeCast S131072 x9 shapeCasts_S1x128x64x16_S131072) (shapeCast S131072 x26 shapeCasts_S1x128x64x16_S131072) (shapeCast S131072 x43 shapeCasts_S1x128x64x16_S131072) (shapeCast S131072 x60 shapeCasts_S1x128x64x16_S131072)⟩, ⟨S131072, quad (shapeCast S131072 x10 shapeCasts_S1x128x64x16_S131072) (shapeCast S131072 x27 shapeCasts_S1x128x64x16_S131072) (shapeCast S131072 x44 shapeCasts_S1x128x64x16_S131072) (shapeCast S131072 x61 shapeCasts_S1x128x64x16_S131072)⟩, ⟨S131072, quad (shapeCast S131072 x11 shapeCasts_S1x128x16x64_S131072) (shapeCast S131072 x28 shapeCasts_S1x128x16x64_S131072) (shapeCast S131072 x45 shapeCasts_S1x128x16x64_S131072) (shapeCast S131072 x62 shapeCasts_S1x128x16x64_S131072)⟩, ⟨S131072, quad (shapeCast S131072 x12 shapeCasts_S1x128x16x64_S131072) (shapeCast S131072 x29 shapeCasts_S1x128x16x64_S131072) (shapeCast S131072 x46 shapeCasts_S1x128x16x64_S131072) (shapeCast S131072 x63 shapeCasts_S1x128x16x64_S131072)⟩, ⟨S512, quad (shapeCast S512 x13 shapeCasts_S1x512_S512) (shapeCast S512 x30 shapeCasts_S1x512_S512) (shapeCast S512 x47 shapeCasts_S1x512_S512) (shapeCast S512 x64 shapeCasts_S1x512_S512)⟩, ⟨S1024, quad (shapeCast S1024 x14 shapeCasts_S1x1024_S1024) (shapeCast S1024 x31 shapeCasts_S1x1024_S1024) (shapeCast S1024 x48 shapeCasts_S1x1024_S1024) (shapeCast S1024 x65 shapeCasts_S1x1024_S1024)⟩, ⟨S33792, quad (shapeCast S33792 x15 shapeCasts_S4x3x2816_S33792) (shapeCast S33792 x32 shapeCasts_S4x3x2816_S33792) (shapeCast S33792 x49 shapeCasts_S4x3x2816_S33792) (shapeCast S33792 x66 shapeCasts_S4x3x2816_S33792)⟩] concatenates_S8192_S8192_S1024_S1024_S128_S128_S8192_S8192_S128_S131072_S131072_S131072_S131072_S512_S1024_S33792_S594816_d0

/-- The seventeen arrays, one behind the other with zeros behind, four elements at a time. -/
def quads (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x33 : (⟨S4x11264, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x50 : (⟨S4x11264, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (x67 : (⟨S4x11264, .f32⟩ : BufTy).Contents (Elt Ideal)) : S647168.Idx → Elt Ideal .f32 × Elt Ideal .f32 × Elt Ideal .f32 × Elt Ideal .f32 :=
  concatenate S647168 0 [⟨S594816, quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66⟩,
    ⟨S52352, concatenate S52352 0 [⟨S45056, quad (shapeCast S45056 x16 shapeCasts_S4x11264_S45056) (shapeCast S45056 x33 shapeCasts_S4x11264_S45056) (shapeCast S45056 x50 shapeCasts_S4x11264_S45056) (shapeCast S45056 x67 shapeCasts_S4x11264_S45056)⟩, ⟨S7296, fun _ => (0, 0, 0, 0)⟩] concatenates_S45056_S7296_S52352_d0⟩]
    concatenates_S594816_S52352_S647168_d0

/-- Seventeen arrays, one behind the other with zeros behind. -/
def lay16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) : S594816.Idx → Elt Ideal .f32 :=
  concatenate S594816 0 [⟨S8192, shapeCast S8192 x0 shapeCasts_S4x2048_S8192⟩, ⟨S8192, shapeCast S8192 x1 shapeCasts_S4x2048_S8192⟩, ⟨S1024, shapeCast S1024 x2 shapeCasts_S2x512_S1024⟩, ⟨S1024, shapeCast S1024 x3 shapeCasts_S2x512_S1024⟩, ⟨S128, shapeCast S128 x4 shapeCasts_S1x128_S128⟩, ⟨S128, shapeCast S128 x5 shapeCasts_S1x128_S128⟩, ⟨S8192, shapeCast S8192 x6 shapeCasts_S1x128x64_S8192⟩, ⟨S8192, shapeCast S8192 x7 shapeCasts_S1x128x64_S8192⟩, ⟨S128, shapeCast S128 x8 shapeCasts_S1x128_S128⟩, ⟨S131072, shapeCast S131072 x9 shapeCasts_S1x128x64x16_S131072⟩, ⟨S131072, shapeCast S131072 x10 shapeCasts_S1x128x64x16_S131072⟩, ⟨S131072, shapeCast S131072 x11 shapeCasts_S1x128x16x64_S131072⟩, ⟨S131072, shapeCast S131072 x12 shapeCasts_S1x128x16x64_S131072⟩, ⟨S512, shapeCast S512 x13 shapeCasts_S1x512_S512⟩, ⟨S1024, shapeCast S1024 x14 shapeCasts_S1x1024_S1024⟩, ⟨S33792, shapeCast S33792 x15 shapeCasts_S4x3x2816_S33792⟩] concatenates_S8192_S8192_S1024_S1024_S128_S128_S8192_S8192_S128_S131072_S131072_S131072_S131072_S512_S1024_S33792_S594816_d0
def lay (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) : S647168.Idx → Elt Ideal .f32 :=
  concatenate S647168 0 [⟨S594816, lay16 x0 x1 x2 x3 x4 x5 x6 x7 x8 x9 x10 x11 x12 x13 x14 x15⟩,
    ⟨S52352, concatenate S52352 0 [⟨S45056, shapeCast S45056 x16 shapeCasts_S4x11264_S45056⟩, ⟨S7296, fun _ => 0⟩] concatenates_S45056_S7296_S52352_d0⟩]
    concatenates_S594816_S52352_S647168_d0

theorem weights16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (j : S594816.Idx) : lay16 x0 x1 x2 x3 x4 x5 x6 x7 x8 x9 x10 x11 x12 x13 x14 x15 j = (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j).1 :=
  Packed.map (fun p : Elt Ideal .f32 × Elt Ideal .f32 × Elt Ideal .f32 × Elt Ideal .f32 => p.1) S594816 0 [⟨S8192, quad (shapeCast S8192 x0 shapeCasts_S4x2048_S8192) (shapeCast S8192 x17 shapeCasts_S4x2048_S8192) (shapeCast S8192 x34 shapeCasts_S4x2048_S8192) (shapeCast S8192 x51 shapeCasts_S4x2048_S8192)⟩, ⟨S8192, quad (shapeCast S8192 x1 shapeCasts_S4x2048_S8192) (shapeCast S8192 x18 shapeCasts_S4x2048_S8192) (shapeCast S8192 x35 shapeCasts_S4x2048_S8192) (shapeCast S8192 x52 shapeCasts_S4x2048_S8192)⟩, ⟨S1024, quad (shapeCast S1024 x2 shapeCasts_S2x512_S1024) (shapeCast S1024 x19 shapeCasts_S2x512_S1024) (shapeCast S1024 x36 shapeCasts_S2x512_S1024) (shapeCast S1024 x53 shapeCasts_S2x512_S1024)⟩, ⟨S1024, quad (shapeCast S1024 x3 shapeCasts_S2x512_S1024) (shapeCast S1024 x20 shapeCasts_S2x512_S1024) (shapeCast S1024 x37 shapeCasts_S2x512_S1024) (shapeCast S1024 x54 shapeCasts_S2x512_S1024)⟩, ⟨S128, quad (shapeCast S128 x4 shapeCasts_S1x128_S128) (shapeCast S128 x21 shapeCasts_S1x128_S128) (shapeCast S128 x38 shapeCasts_S1x128_S128) (shapeCast S128 x55 shapeCasts_S1x128_S128)⟩, ⟨S128, quad (shapeCast S128 x5 shapeCasts_S1x128_S128) (shapeCast S128 x22 shapeCasts_S1x128_S128) (shapeCast S128 x39 shapeCasts_S1x128_S128) (shapeCast S128 x56 shapeCasts_S1x128_S128)⟩, ⟨S8192, quad (shapeCast S8192 x6 shapeCasts_S1x128x64_S8192) (shapeCast S8192 x23 shapeCasts_S1x128x64_S8192) (shapeCast S8192 x40 shapeCasts_S1x128x64_S8192) (shapeCast S8192 x57 shapeCasts_S1x128x64_S8192)⟩, ⟨S8192, quad (shapeCast S8192 x7 shapeCasts_S1x128x64_S8192) (shapeCast S8192 x24 shapeCasts_S1x128x64_S8192) (shapeCast S8192 x41 shapeCasts_S1x128x64_S8192) (shapeCast S8192 x58 shapeCasts_S1x128x64_S8192)⟩, ⟨S128, quad (shapeCast S128 x8 shapeCasts_S1x128_S128) (shapeCast S128 x25 shapeCasts_S1x128_S128) (shapeCast S128 x42 shapeCasts_S1x128_S128) (shapeCast S128 x59 shapeCasts_S1x128_S128)⟩, ⟨S131072, quad (shapeCast S131072 x9 shapeCasts_S1x128x64x16_S131072) (shapeCast S131072 x26 shapeCasts_S1x128x64x16_S131072) (shapeCast S131072 x43 shapeCasts_S1x128x64x16_S131072) (shapeCast S131072 x60 shapeCasts_S1x128x64x16_S131072)⟩, ⟨S131072, quad (shapeCast S131072 x10 shapeCasts_S1x128x64x16_S131072) (shapeCast S131072 x27 shapeCasts_S1x128x64x16_S131072) (shapeCast S131072 x44 shapeCasts_S1x128x64x16_S131072) (shapeCast S131072 x61 shapeCasts_S1x128x64x16_S131072)⟩, ⟨S131072, quad (shapeCast S131072 x11 shapeCasts_S1x128x16x64_S131072) (shapeCast S131072 x28 shapeCasts_S1x128x16x64_S131072) (shapeCast S131072 x45 shapeCasts_S1x128x16x64_S131072) (shapeCast S131072 x62 shapeCasts_S1x128x16x64_S131072)⟩, ⟨S131072, quad (shapeCast S131072 x12 shapeCasts_S1x128x16x64_S131072) (shapeCast S131072 x29 shapeCasts_S1x128x16x64_S131072) (shapeCast S131072 x46 shapeCasts_S1x128x16x64_S131072) (shapeCast S131072 x63 shapeCasts_S1x128x16x64_S131072)⟩, ⟨S512, quad (shapeCast S512 x13 shapeCasts_S1x512_S512) (shapeCast S512 x30 shapeCasts_S1x512_S512) (shapeCast S512 x47 shapeCasts_S1x512_S512) (shapeCast S512 x64 shapeCasts_S1x512_S512)⟩, ⟨S1024, quad (shapeCast S1024 x14 shapeCasts_S1x1024_S1024) (shapeCast S1024 x31 shapeCasts_S1x1024_S1024) (shapeCast S1024 x48 shapeCasts_S1x1024_S1024) (shapeCast S1024 x65 shapeCasts_S1x1024_S1024)⟩, ⟨S33792, quad (shapeCast S33792 x15 shapeCasts_S4x3x2816_S33792) (shapeCast S33792 x32 shapeCasts_S4x3x2816_S33792) (shapeCast S33792 x49 shapeCasts_S4x3x2816_S33792) (shapeCast S33792 x66 shapeCasts_S4x3x2816_S33792)⟩] concatenates_S8192_S8192_S1024_S1024_S128_S128_S8192_S8192_S128_S131072_S131072_S131072_S131072_S512_S1024_S33792_S594816_d0 concatenates_S8192_S8192_S1024_S1024_S128_S128_S8192_S8192_S128_S131072_S131072_S131072_S131072_S512_S1024_S33792_S594816_d0 j

theorem weights (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x33 : (⟨S4x11264, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x50 : (⟨S4x11264, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (x67 : (⟨S4x11264, .f32⟩ : BufTy).Contents (Elt Ideal)) (j : S647168.Idx) : lay x0 x1 x2 x3 x4 x5 x6 x7 x8 x9 x10 x11 x12 x13 x14 x15 x16 j = (quads x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j).1 := by
  have h : lay16 x0 x1 x2 x3 x4 x5 x6 x7 x8 x9 x10 x11 x12 x13 x14 x15 = fun j => (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j).1 := funext (weights16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66)
  unfold lay quads
  rw [h]
  exact Packed.map_tail (t₂ := S52352) (t := S647168) (fun p : Elt Ideal .f32 × Elt Ideal .f32 × Elt Ideal .f32 × Elt Ideal .f32 => p.1) 0 0 (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66) (quad (shapeCast S45056 x16 shapeCasts_S4x11264_S45056) (shapeCast S45056 x33 shapeCasts_S4x11264_S45056) (shapeCast S45056 x50 shapeCasts_S4x11264_S45056) (shapeCast S45056 x67 shapeCasts_S4x11264_S45056)) (fun _ => (0, 0, 0, 0)) _ _ j

theorem grads16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (j : S594816.Idx) : lay16 x17 x18 x19 x20 x21 x22 x23 x24 x25 x26 x27 x28 x29 x30 x31 x32 j = (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j).2.1 :=
  Packed.map (fun p : Elt Ideal .f32 × Elt Ideal .f32 × Elt Ideal .f32 × Elt Ideal .f32 => p.2.1) S594816 0 [⟨S8192, quad (shapeCast S8192 x0 shapeCasts_S4x2048_S8192) (shapeCast S8192 x17 shapeCasts_S4x2048_S8192) (shapeCast S8192 x34 shapeCasts_S4x2048_S8192) (shapeCast S8192 x51 shapeCasts_S4x2048_S8192)⟩, ⟨S8192, quad (shapeCast S8192 x1 shapeCasts_S4x2048_S8192) (shapeCast S8192 x18 shapeCasts_S4x2048_S8192) (shapeCast S8192 x35 shapeCasts_S4x2048_S8192) (shapeCast S8192 x52 shapeCasts_S4x2048_S8192)⟩, ⟨S1024, quad (shapeCast S1024 x2 shapeCasts_S2x512_S1024) (shapeCast S1024 x19 shapeCasts_S2x512_S1024) (shapeCast S1024 x36 shapeCasts_S2x512_S1024) (shapeCast S1024 x53 shapeCasts_S2x512_S1024)⟩, ⟨S1024, quad (shapeCast S1024 x3 shapeCasts_S2x512_S1024) (shapeCast S1024 x20 shapeCasts_S2x512_S1024) (shapeCast S1024 x37 shapeCasts_S2x512_S1024) (shapeCast S1024 x54 shapeCasts_S2x512_S1024)⟩, ⟨S128, quad (shapeCast S128 x4 shapeCasts_S1x128_S128) (shapeCast S128 x21 shapeCasts_S1x128_S128) (shapeCast S128 x38 shapeCasts_S1x128_S128) (shapeCast S128 x55 shapeCasts_S1x128_S128)⟩, ⟨S128, quad (shapeCast S128 x5 shapeCasts_S1x128_S128) (shapeCast S128 x22 shapeCasts_S1x128_S128) (shapeCast S128 x39 shapeCasts_S1x128_S128) (shapeCast S128 x56 shapeCasts_S1x128_S128)⟩, ⟨S8192, quad (shapeCast S8192 x6 shapeCasts_S1x128x64_S8192) (shapeCast S8192 x23 shapeCasts_S1x128x64_S8192) (shapeCast S8192 x40 shapeCasts_S1x128x64_S8192) (shapeCast S8192 x57 shapeCasts_S1x128x64_S8192)⟩, ⟨S8192, quad (shapeCast S8192 x7 shapeCasts_S1x128x64_S8192) (shapeCast S8192 x24 shapeCasts_S1x128x64_S8192) (shapeCast S8192 x41 shapeCasts_S1x128x64_S8192) (shapeCast S8192 x58 shapeCasts_S1x128x64_S8192)⟩, ⟨S128, quad (shapeCast S128 x8 shapeCasts_S1x128_S128) (shapeCast S128 x25 shapeCasts_S1x128_S128) (shapeCast S128 x42 shapeCasts_S1x128_S128) (shapeCast S128 x59 shapeCasts_S1x128_S128)⟩, ⟨S131072, quad (shapeCast S131072 x9 shapeCasts_S1x128x64x16_S131072) (shapeCast S131072 x26 shapeCasts_S1x128x64x16_S131072) (shapeCast S131072 x43 shapeCasts_S1x128x64x16_S131072) (shapeCast S131072 x60 shapeCasts_S1x128x64x16_S131072)⟩, ⟨S131072, quad (shapeCast S131072 x10 shapeCasts_S1x128x64x16_S131072) (shapeCast S131072 x27 shapeCasts_S1x128x64x16_S131072) (shapeCast S131072 x44 shapeCasts_S1x128x64x16_S131072) (shapeCast S131072 x61 shapeCasts_S1x128x64x16_S131072)⟩, ⟨S131072, quad (shapeCast S131072 x11 shapeCasts_S1x128x16x64_S131072) (shapeCast S131072 x28 shapeCasts_S1x128x16x64_S131072) (shapeCast S131072 x45 shapeCasts_S1x128x16x64_S131072) (shapeCast S131072 x62 shapeCasts_S1x128x16x64_S131072)⟩, ⟨S131072, quad (shapeCast S131072 x12 shapeCasts_S1x128x16x64_S131072) (shapeCast S131072 x29 shapeCasts_S1x128x16x64_S131072) (shapeCast S131072 x46 shapeCasts_S1x128x16x64_S131072) (shapeCast S131072 x63 shapeCasts_S1x128x16x64_S131072)⟩, ⟨S512, quad (shapeCast S512 x13 shapeCasts_S1x512_S512) (shapeCast S512 x30 shapeCasts_S1x512_S512) (shapeCast S512 x47 shapeCasts_S1x512_S512) (shapeCast S512 x64 shapeCasts_S1x512_S512)⟩, ⟨S1024, quad (shapeCast S1024 x14 shapeCasts_S1x1024_S1024) (shapeCast S1024 x31 shapeCasts_S1x1024_S1024) (shapeCast S1024 x48 shapeCasts_S1x1024_S1024) (shapeCast S1024 x65 shapeCasts_S1x1024_S1024)⟩, ⟨S33792, quad (shapeCast S33792 x15 shapeCasts_S4x3x2816_S33792) (shapeCast S33792 x32 shapeCasts_S4x3x2816_S33792) (shapeCast S33792 x49 shapeCasts_S4x3x2816_S33792) (shapeCast S33792 x66 shapeCasts_S4x3x2816_S33792)⟩] concatenates_S8192_S8192_S1024_S1024_S128_S128_S8192_S8192_S128_S131072_S131072_S131072_S131072_S512_S1024_S33792_S594816_d0 concatenates_S8192_S8192_S1024_S1024_S128_S128_S8192_S8192_S128_S131072_S131072_S131072_S131072_S512_S1024_S33792_S594816_d0 j

theorem grads (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x33 : (⟨S4x11264, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x50 : (⟨S4x11264, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (x67 : (⟨S4x11264, .f32⟩ : BufTy).Contents (Elt Ideal)) (j : S647168.Idx) : lay x17 x18 x19 x20 x21 x22 x23 x24 x25 x26 x27 x28 x29 x30 x31 x32 x33 j = (quads x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j).2.1 := by
  have h : lay16 x17 x18 x19 x20 x21 x22 x23 x24 x25 x26 x27 x28 x29 x30 x31 x32 = fun j => (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j).2.1 := funext (grads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66)
  unfold lay quads
  rw [h]
  exact Packed.map_tail (t₂ := S52352) (t := S647168) (fun p : Elt Ideal .f32 × Elt Ideal .f32 × Elt Ideal .f32 × Elt Ideal .f32 => p.2.1) 0 0 (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66) (quad (shapeCast S45056 x16 shapeCasts_S4x11264_S45056) (shapeCast S45056 x33 shapeCasts_S4x11264_S45056) (shapeCast S45056 x50 shapeCasts_S4x11264_S45056) (shapeCast S45056 x67 shapeCasts_S4x11264_S45056)) (fun _ => (0, 0, 0, 0)) _ _ j

theorem firstMoments16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (j : S594816.Idx) : lay16 x34 x35 x36 x37 x38 x39 x40 x41 x42 x43 x44 x45 x46 x47 x48 x49 j = (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j).2.2.1 :=
  Packed.map (fun p : Elt Ideal .f32 × Elt Ideal .f32 × Elt Ideal .f32 × Elt Ideal .f32 => p.2.2.1) S594816 0 [⟨S8192, quad (shapeCast S8192 x0 shapeCasts_S4x2048_S8192) (shapeCast S8192 x17 shapeCasts_S4x2048_S8192) (shapeCast S8192 x34 shapeCasts_S4x2048_S8192) (shapeCast S8192 x51 shapeCasts_S4x2048_S8192)⟩, ⟨S8192, quad (shapeCast S8192 x1 shapeCasts_S4x2048_S8192) (shapeCast S8192 x18 shapeCasts_S4x2048_S8192) (shapeCast S8192 x35 shapeCasts_S4x2048_S8192) (shapeCast S8192 x52 shapeCasts_S4x2048_S8192)⟩, ⟨S1024, quad (shapeCast S1024 x2 shapeCasts_S2x512_S1024) (shapeCast S1024 x19 shapeCasts_S2x512_S1024) (shapeCast S1024 x36 shapeCasts_S2x512_S1024) (shapeCast S1024 x53 shapeCasts_S2x512_S1024)⟩, ⟨S1024, quad (shapeCast S1024 x3 shapeCasts_S2x512_S1024) (shapeCast S1024 x20 shapeCasts_S2x512_S1024) (shapeCast S1024 x37 shapeCasts_S2x512_S1024) (shapeCast S1024 x54 shapeCasts_S2x512_S1024)⟩, ⟨S128, quad (shapeCast S128 x4 shapeCasts_S1x128_S128) (shapeCast S128 x21 shapeCasts_S1x128_S128) (shapeCast S128 x38 shapeCasts_S1x128_S128) (shapeCast S128 x55 shapeCasts_S1x128_S128)⟩, ⟨S128, quad (shapeCast S128 x5 shapeCasts_S1x128_S128) (shapeCast S128 x22 shapeCasts_S1x128_S128) (shapeCast S128 x39 shapeCasts_S1x128_S128) (shapeCast S128 x56 shapeCasts_S1x128_S128)⟩, ⟨S8192, quad (shapeCast S8192 x6 shapeCasts_S1x128x64_S8192) (shapeCast S8192 x23 shapeCasts_S1x128x64_S8192) (shapeCast S8192 x40 shapeCasts_S1x128x64_S8192) (shapeCast S8192 x57 shapeCasts_S1x128x64_S8192)⟩, ⟨S8192, quad (shapeCast S8192 x7 shapeCasts_S1x128x64_S8192) (shapeCast S8192 x24 shapeCasts_S1x128x64_S8192) (shapeCast S8192 x41 shapeCasts_S1x128x64_S8192) (shapeCast S8192 x58 shapeCasts_S1x128x64_S8192)⟩, ⟨S128, quad (shapeCast S128 x8 shapeCasts_S1x128_S128) (shapeCast S128 x25 shapeCasts_S1x128_S128) (shapeCast S128 x42 shapeCasts_S1x128_S128) (shapeCast S128 x59 shapeCasts_S1x128_S128)⟩, ⟨S131072, quad (shapeCast S131072 x9 shapeCasts_S1x128x64x16_S131072) (shapeCast S131072 x26 shapeCasts_S1x128x64x16_S131072) (shapeCast S131072 x43 shapeCasts_S1x128x64x16_S131072) (shapeCast S131072 x60 shapeCasts_S1x128x64x16_S131072)⟩, ⟨S131072, quad (shapeCast S131072 x10 shapeCasts_S1x128x64x16_S131072) (shapeCast S131072 x27 shapeCasts_S1x128x64x16_S131072) (shapeCast S131072 x44 shapeCasts_S1x128x64x16_S131072) (shapeCast S131072 x61 shapeCasts_S1x128x64x16_S131072)⟩, ⟨S131072, quad (shapeCast S131072 x11 shapeCasts_S1x128x16x64_S131072) (shapeCast S131072 x28 shapeCasts_S1x128x16x64_S131072) (shapeCast S131072 x45 shapeCasts_S1x128x16x64_S131072) (shapeCast S131072 x62 shapeCasts_S1x128x16x64_S131072)⟩, ⟨S131072, quad (shapeCast S131072 x12 shapeCasts_S1x128x16x64_S131072) (shapeCast S131072 x29 shapeCasts_S1x128x16x64_S131072) (shapeCast S131072 x46 shapeCasts_S1x128x16x64_S131072) (shapeCast S131072 x63 shapeCasts_S1x128x16x64_S131072)⟩, ⟨S512, quad (shapeCast S512 x13 shapeCasts_S1x512_S512) (shapeCast S512 x30 shapeCasts_S1x512_S512) (shapeCast S512 x47 shapeCasts_S1x512_S512) (shapeCast S512 x64 shapeCasts_S1x512_S512)⟩, ⟨S1024, quad (shapeCast S1024 x14 shapeCasts_S1x1024_S1024) (shapeCast S1024 x31 shapeCasts_S1x1024_S1024) (shapeCast S1024 x48 shapeCasts_S1x1024_S1024) (shapeCast S1024 x65 shapeCasts_S1x1024_S1024)⟩, ⟨S33792, quad (shapeCast S33792 x15 shapeCasts_S4x3x2816_S33792) (shapeCast S33792 x32 shapeCasts_S4x3x2816_S33792) (shapeCast S33792 x49 shapeCasts_S4x3x2816_S33792) (shapeCast S33792 x66 shapeCasts_S4x3x2816_S33792)⟩] concatenates_S8192_S8192_S1024_S1024_S128_S128_S8192_S8192_S128_S131072_S131072_S131072_S131072_S512_S1024_S33792_S594816_d0 concatenates_S8192_S8192_S1024_S1024_S128_S128_S8192_S8192_S128_S131072_S131072_S131072_S131072_S512_S1024_S33792_S594816_d0 j

theorem firstMoments (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x33 : (⟨S4x11264, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x50 : (⟨S4x11264, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (x67 : (⟨S4x11264, .f32⟩ : BufTy).Contents (Elt Ideal)) (j : S647168.Idx) : lay x34 x35 x36 x37 x38 x39 x40 x41 x42 x43 x44 x45 x46 x47 x48 x49 x50 j = (quads x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j).2.2.1 := by
  have h : lay16 x34 x35 x36 x37 x38 x39 x40 x41 x42 x43 x44 x45 x46 x47 x48 x49 = fun j => (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j).2.2.1 := funext (firstMoments16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66)
  unfold lay quads
  rw [h]
  exact Packed.map_tail (t₂ := S52352) (t := S647168) (fun p : Elt Ideal .f32 × Elt Ideal .f32 × Elt Ideal .f32 × Elt Ideal .f32 => p.2.2.1) 0 0 (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66) (quad (shapeCast S45056 x16 shapeCasts_S4x11264_S45056) (shapeCast S45056 x33 shapeCasts_S4x11264_S45056) (shapeCast S45056 x50 shapeCasts_S4x11264_S45056) (shapeCast S45056 x67 shapeCasts_S4x11264_S45056)) (fun _ => (0, 0, 0, 0)) _ _ j

theorem secondMoments16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (j : S594816.Idx) : lay16 x51 x52 x53 x54 x55 x56 x57 x58 x59 x60 x61 x62 x63 x64 x65 x66 j = (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j).2.2.2 :=
  Packed.map (fun p : Elt Ideal .f32 × Elt Ideal .f32 × Elt Ideal .f32 × Elt Ideal .f32 => p.2.2.2) S594816 0 [⟨S8192, quad (shapeCast S8192 x0 shapeCasts_S4x2048_S8192) (shapeCast S8192 x17 shapeCasts_S4x2048_S8192) (shapeCast S8192 x34 shapeCasts_S4x2048_S8192) (shapeCast S8192 x51 shapeCasts_S4x2048_S8192)⟩, ⟨S8192, quad (shapeCast S8192 x1 shapeCasts_S4x2048_S8192) (shapeCast S8192 x18 shapeCasts_S4x2048_S8192) (shapeCast S8192 x35 shapeCasts_S4x2048_S8192) (shapeCast S8192 x52 shapeCasts_S4x2048_S8192)⟩, ⟨S1024, quad (shapeCast S1024 x2 shapeCasts_S2x512_S1024) (shapeCast S1024 x19 shapeCasts_S2x512_S1024) (shapeCast S1024 x36 shapeCasts_S2x512_S1024) (shapeCast S1024 x53 shapeCasts_S2x512_S1024)⟩, ⟨S1024, quad (shapeCast S1024 x3 shapeCasts_S2x512_S1024) (shapeCast S1024 x20 shapeCasts_S2x512_S1024) (shapeCast S1024 x37 shapeCasts_S2x512_S1024) (shapeCast S1024 x54 shapeCasts_S2x512_S1024)⟩, ⟨S128, quad (shapeCast S128 x4 shapeCasts_S1x128_S128) (shapeCast S128 x21 shapeCasts_S1x128_S128) (shapeCast S128 x38 shapeCasts_S1x128_S128) (shapeCast S128 x55 shapeCasts_S1x128_S128)⟩, ⟨S128, quad (shapeCast S128 x5 shapeCasts_S1x128_S128) (shapeCast S128 x22 shapeCasts_S1x128_S128) (shapeCast S128 x39 shapeCasts_S1x128_S128) (shapeCast S128 x56 shapeCasts_S1x128_S128)⟩, ⟨S8192, quad (shapeCast S8192 x6 shapeCasts_S1x128x64_S8192) (shapeCast S8192 x23 shapeCasts_S1x128x64_S8192) (shapeCast S8192 x40 shapeCasts_S1x128x64_S8192) (shapeCast S8192 x57 shapeCasts_S1x128x64_S8192)⟩, ⟨S8192, quad (shapeCast S8192 x7 shapeCasts_S1x128x64_S8192) (shapeCast S8192 x24 shapeCasts_S1x128x64_S8192) (shapeCast S8192 x41 shapeCasts_S1x128x64_S8192) (shapeCast S8192 x58 shapeCasts_S1x128x64_S8192)⟩, ⟨S128, quad (shapeCast S128 x8 shapeCasts_S1x128_S128) (shapeCast S128 x25 shapeCasts_S1x128_S128) (shapeCast S128 x42 shapeCasts_S1x128_S128) (shapeCast S128 x59 shapeCasts_S1x128_S128)⟩, ⟨S131072, quad (shapeCast S131072 x9 shapeCasts_S1x128x64x16_S131072) (shapeCast S131072 x26 shapeCasts_S1x128x64x16_S131072) (shapeCast S131072 x43 shapeCasts_S1x128x64x16_S131072) (shapeCast S131072 x60 shapeCasts_S1x128x64x16_S131072)⟩, ⟨S131072, quad (shapeCast S131072 x10 shapeCasts_S1x128x64x16_S131072) (shapeCast S131072 x27 shapeCasts_S1x128x64x16_S131072) (shapeCast S131072 x44 shapeCasts_S1x128x64x16_S131072) (shapeCast S131072 x61 shapeCasts_S1x128x64x16_S131072)⟩, ⟨S131072, quad (shapeCast S131072 x11 shapeCasts_S1x128x16x64_S131072) (shapeCast S131072 x28 shapeCasts_S1x128x16x64_S131072) (shapeCast S131072 x45 shapeCasts_S1x128x16x64_S131072) (shapeCast S131072 x62 shapeCasts_S1x128x16x64_S131072)⟩, ⟨S131072, quad (shapeCast S131072 x12 shapeCasts_S1x128x16x64_S131072) (shapeCast S131072 x29 shapeCasts_S1x128x16x64_S131072) (shapeCast S131072 x46 shapeCasts_S1x128x16x64_S131072) (shapeCast S131072 x63 shapeCasts_S1x128x16x64_S131072)⟩, ⟨S512, quad (shapeCast S512 x13 shapeCasts_S1x512_S512) (shapeCast S512 x30 shapeCasts_S1x512_S512) (shapeCast S512 x47 shapeCasts_S1x512_S512) (shapeCast S512 x64 shapeCasts_S1x512_S512)⟩, ⟨S1024, quad (shapeCast S1024 x14 shapeCasts_S1x1024_S1024) (shapeCast S1024 x31 shapeCasts_S1x1024_S1024) (shapeCast S1024 x48 shapeCasts_S1x1024_S1024) (shapeCast S1024 x65 shapeCasts_S1x1024_S1024)⟩, ⟨S33792, quad (shapeCast S33792 x15 shapeCasts_S4x3x2816_S33792) (shapeCast S33792 x32 shapeCasts_S4x3x2816_S33792) (shapeCast S33792 x49 shapeCasts_S4x3x2816_S33792) (shapeCast S33792 x66 shapeCasts_S4x3x2816_S33792)⟩] concatenates_S8192_S8192_S1024_S1024_S128_S128_S8192_S8192_S128_S131072_S131072_S131072_S131072_S512_S1024_S33792_S594816_d0 concatenates_S8192_S8192_S1024_S1024_S128_S128_S8192_S8192_S128_S131072_S131072_S131072_S131072_S512_S1024_S33792_S594816_d0 j

theorem secondMoments (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x33 : (⟨S4x11264, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x50 : (⟨S4x11264, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (x67 : (⟨S4x11264, .f32⟩ : BufTy).Contents (Elt Ideal)) (j : S647168.Idx) : lay x51 x52 x53 x54 x55 x56 x57 x58 x59 x60 x61 x62 x63 x64 x65 x66 x67 j = (quads x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j).2.2.2 := by
  have h : lay16 x51 x52 x53 x54 x55 x56 x57 x58 x59 x60 x61 x62 x63 x64 x65 x66 = fun j => (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j).2.2.2 := funext (secondMoments16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66)
  unfold lay quads
  rw [h]
  exact Packed.map_tail (t₂ := S52352) (t := S647168) (fun p : Elt Ideal .f32 × Elt Ideal .f32 × Elt Ideal .f32 × Elt Ideal .f32 => p.2.2.2) 0 0 (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66) (quad (shapeCast S45056 x16 shapeCasts_S4x11264_S45056) (shapeCast S45056 x33 shapeCasts_S4x11264_S45056) (shapeCast S45056 x50 shapeCasts_S4x11264_S45056) (shapeCast S45056 x67 shapeCasts_S4x11264_S45056)) (fun _ => (0, 0, 0, 0)) _ _ j

/-- The step of zeros is zero. -/
theorem first_zero : newFirst 0 0 = 0 := by simp [newFirst]
theorem second_zero : newSecond 0 0 = 0 := by simp [newSecond]

/-- The constants of the step's divisors are not zero. -/
theorem shrunk_first : Ideal.ofBits .f32 0x3F26BD02#32 ≠ 0 := by simp [Ideal.ofBits, Ideal.ieee]
theorem shrunk_second : Ideal.ofBits .f32 0x3C231ACC#32 ≠ 0 := by simp [Ideal.ofBits, Ideal.ieee]
theorem small : Ideal.ofBits .f32 0x322BCC77#32 ≠ 0 := by simp [Ideal.ofBits, Ideal.ieee]

/-- The root of zero is zero. -/
theorem sqrt_zero : Ideal.sqrt 0 = 0 := by
  show (if (0 : ℝ) < 0 then (⊥ : EReal) else (Real.sqrt 0 : EReal)) = 0
  simp

theorem change_zero : change 0 0 0 0 = 0 := by
  simp only [change, first_zero, second_zero, Ideal.hostDivf_def, Ideal.hostUnary_sqrt_def, Ideal.mulf_def, Ideal.addf_def, Ideal.ofBits_def]
  rw [Ideal.zero_div shrunk_first, Ideal.zero_div shrunk_second, sqrt_zero, zero_add, Ideal.zero_div small, mul_zero, add_zero, mul_zero]

/-- The reference's first sixteen arrays, joined. -/
theorem changes16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) : val_main_v426 (F := Ideal) x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 = fun j => changes (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j) :=
  funext fun j => Packed.map changes S594816 0 [⟨S8192, quad (shapeCast S8192 x0 shapeCasts_S4x2048_S8192) (shapeCast S8192 x17 shapeCasts_S4x2048_S8192) (shapeCast S8192 x34 shapeCasts_S4x2048_S8192) (shapeCast S8192 x51 shapeCasts_S4x2048_S8192)⟩, ⟨S8192, quad (shapeCast S8192 x1 shapeCasts_S4x2048_S8192) (shapeCast S8192 x18 shapeCasts_S4x2048_S8192) (shapeCast S8192 x35 shapeCasts_S4x2048_S8192) (shapeCast S8192 x52 shapeCasts_S4x2048_S8192)⟩, ⟨S1024, quad (shapeCast S1024 x2 shapeCasts_S2x512_S1024) (shapeCast S1024 x19 shapeCasts_S2x512_S1024) (shapeCast S1024 x36 shapeCasts_S2x512_S1024) (shapeCast S1024 x53 shapeCasts_S2x512_S1024)⟩, ⟨S1024, quad (shapeCast S1024 x3 shapeCasts_S2x512_S1024) (shapeCast S1024 x20 shapeCasts_S2x512_S1024) (shapeCast S1024 x37 shapeCasts_S2x512_S1024) (shapeCast S1024 x54 shapeCasts_S2x512_S1024)⟩, ⟨S128, quad (shapeCast S128 x4 shapeCasts_S1x128_S128) (shapeCast S128 x21 shapeCasts_S1x128_S128) (shapeCast S128 x38 shapeCasts_S1x128_S128) (shapeCast S128 x55 shapeCasts_S1x128_S128)⟩, ⟨S128, quad (shapeCast S128 x5 shapeCasts_S1x128_S128) (shapeCast S128 x22 shapeCasts_S1x128_S128) (shapeCast S128 x39 shapeCasts_S1x128_S128) (shapeCast S128 x56 shapeCasts_S1x128_S128)⟩, ⟨S8192, quad (shapeCast S8192 x6 shapeCasts_S1x128x64_S8192) (shapeCast S8192 x23 shapeCasts_S1x128x64_S8192) (shapeCast S8192 x40 shapeCasts_S1x128x64_S8192) (shapeCast S8192 x57 shapeCasts_S1x128x64_S8192)⟩, ⟨S8192, quad (shapeCast S8192 x7 shapeCasts_S1x128x64_S8192) (shapeCast S8192 x24 shapeCasts_S1x128x64_S8192) (shapeCast S8192 x41 shapeCasts_S1x128x64_S8192) (shapeCast S8192 x58 shapeCasts_S1x128x64_S8192)⟩, ⟨S128, quad (shapeCast S128 x8 shapeCasts_S1x128_S128) (shapeCast S128 x25 shapeCasts_S1x128_S128) (shapeCast S128 x42 shapeCasts_S1x128_S128) (shapeCast S128 x59 shapeCasts_S1x128_S128)⟩, ⟨S131072, quad (shapeCast S131072 x9 shapeCasts_S1x128x64x16_S131072) (shapeCast S131072 x26 shapeCasts_S1x128x64x16_S131072) (shapeCast S131072 x43 shapeCasts_S1x128x64x16_S131072) (shapeCast S131072 x60 shapeCasts_S1x128x64x16_S131072)⟩, ⟨S131072, quad (shapeCast S131072 x10 shapeCasts_S1x128x64x16_S131072) (shapeCast S131072 x27 shapeCasts_S1x128x64x16_S131072) (shapeCast S131072 x44 shapeCasts_S1x128x64x16_S131072) (shapeCast S131072 x61 shapeCasts_S1x128x64x16_S131072)⟩, ⟨S131072, quad (shapeCast S131072 x11 shapeCasts_S1x128x16x64_S131072) (shapeCast S131072 x28 shapeCasts_S1x128x16x64_S131072) (shapeCast S131072 x45 shapeCasts_S1x128x16x64_S131072) (shapeCast S131072 x62 shapeCasts_S1x128x16x64_S131072)⟩, ⟨S131072, quad (shapeCast S131072 x12 shapeCasts_S1x128x16x64_S131072) (shapeCast S131072 x29 shapeCasts_S1x128x16x64_S131072) (shapeCast S131072 x46 shapeCasts_S1x128x16x64_S131072) (shapeCast S131072 x63 shapeCasts_S1x128x16x64_S131072)⟩, ⟨S512, quad (shapeCast S512 x13 shapeCasts_S1x512_S512) (shapeCast S512 x30 shapeCasts_S1x512_S512) (shapeCast S512 x47 shapeCasts_S1x512_S512) (shapeCast S512 x64 shapeCasts_S1x512_S512)⟩, ⟨S1024, quad (shapeCast S1024 x14 shapeCasts_S1x1024_S1024) (shapeCast S1024 x31 shapeCasts_S1x1024_S1024) (shapeCast S1024 x48 shapeCasts_S1x1024_S1024) (shapeCast S1024 x65 shapeCasts_S1x1024_S1024)⟩, ⟨S33792, quad (shapeCast S33792 x15 shapeCasts_S4x3x2816_S33792) (shapeCast S33792 x32 shapeCasts_S4x3x2816_S33792) (shapeCast S33792 x49 shapeCasts_S4x3x2816_S33792) (shapeCast S33792 x66 shapeCasts_S4x3x2816_S33792)⟩] concatenates_S8192_S8192_S1024_S1024_S128_S128_S8192_S8192_S128_S131072_S131072_S131072_S131072_S512_S1024_S33792_S594816_d0 concatenates_S8192_S8192_S1024_S1024_S128_S128_S8192_S8192_S128_S131072_S131072_S131072_S131072_S512_S1024_S33792_S594816_d0 j

/-- The reference's result is the step of the joined arrays. -/
theorem changes_eq (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x33 : (⟨S4x11264, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x50 : (⟨S4x11264, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (x67 : (⟨S4x11264, .f32⟩ : BufTy).Contents (Elt Ideal)) : val_main_v429 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67
    = shapeCast S5056x128 (fun j => change (lay x0 x1 x2 x3 x4 x5 x6 x7 x8 x9 x10 x11 x12 x13 x14 x15 x16 j) (lay x17 x18 x19 x20 x21 x22 x23 x24 x25 x26 x27 x28 x29 x30 x31 x32 x33 j) (lay x34 x35 x36 x37 x38 x39 x40 x41 x42 x43 x44 x45 x46 x47 x48 x49 x50 j) (lay x51 x52 x53 x54 x55 x56 x57 x58 x59 x60 x61 x62 x63 x64 x65 x66 x67 j)) shapeCasts_S647168_S5056x128 := by
  have hz : val_main_v408 (F := Ideal) = fun _ => changes (0, 0, 0, 0) := by
    funext i
    rw [val_main_v408_apply, val_main_cst_152_apply]
    exact (Ideal.ofBits_zero .f32).trans change_zero.symm
  have hl : val_main_v425 (F := Ideal) x16 x33 x50 x67 = fun i => changes (quad (shapeCast S45056 x16 shapeCasts_S4x11264_S45056) (shapeCast S45056 x33 shapeCasts_S4x11264_S45056) (shapeCast S45056 x50 shapeCasts_S4x11264_S45056) (shapeCast S45056 x67 shapeCasts_S4x11264_S45056) i) := rfl
  unfold val_main_v429 val_main_v428 val_main_v427
  rw [changes16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66, hl, hz]
  refine congrArg (fun y => shapeCast S5056x128 y shapeCasts_S647168_S5056x128) (funext fun j => ?_)
  rw [weights x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j, grads x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j, firstMoments x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j, secondMoments x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j]
  exact Packed.map_tail (t₂ := S52352) (t := S647168) changes 0 0 (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66) (quad (shapeCast S45056 x16 shapeCasts_S4x11264_S45056) (shapeCast S45056 x33 shapeCasts_S4x11264_S45056) (shapeCast S45056 x50 shapeCasts_S4x11264_S45056) (shapeCast S45056 x67 shapeCasts_S4x11264_S45056)) (fun _ => (0, 0, 0, 0)) _ _ j

/-- The reference's first sixteen arrays, joined. -/
theorem firsts16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) : val_main_v447 (F := Ideal) x17 x18 x19 x20 x21 x22 x23 x24 x25 x26 x27 x28 x29 x30 x31 x32 x34 x35 x36 x37 x38 x39 x40 x41 x42 x43 x44 x45 x46 x47 x48 x49 = fun j => firsts (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j) :=
  funext fun j => Packed.map firsts S594816 0 [⟨S8192, quad (shapeCast S8192 x0 shapeCasts_S4x2048_S8192) (shapeCast S8192 x17 shapeCasts_S4x2048_S8192) (shapeCast S8192 x34 shapeCasts_S4x2048_S8192) (shapeCast S8192 x51 shapeCasts_S4x2048_S8192)⟩, ⟨S8192, quad (shapeCast S8192 x1 shapeCasts_S4x2048_S8192) (shapeCast S8192 x18 shapeCasts_S4x2048_S8192) (shapeCast S8192 x35 shapeCasts_S4x2048_S8192) (shapeCast S8192 x52 shapeCasts_S4x2048_S8192)⟩, ⟨S1024, quad (shapeCast S1024 x2 shapeCasts_S2x512_S1024) (shapeCast S1024 x19 shapeCasts_S2x512_S1024) (shapeCast S1024 x36 shapeCasts_S2x512_S1024) (shapeCast S1024 x53 shapeCasts_S2x512_S1024)⟩, ⟨S1024, quad (shapeCast S1024 x3 shapeCasts_S2x512_S1024) (shapeCast S1024 x20 shapeCasts_S2x512_S1024) (shapeCast S1024 x37 shapeCasts_S2x512_S1024) (shapeCast S1024 x54 shapeCasts_S2x512_S1024)⟩, ⟨S128, quad (shapeCast S128 x4 shapeCasts_S1x128_S128) (shapeCast S128 x21 shapeCasts_S1x128_S128) (shapeCast S128 x38 shapeCasts_S1x128_S128) (shapeCast S128 x55 shapeCasts_S1x128_S128)⟩, ⟨S128, quad (shapeCast S128 x5 shapeCasts_S1x128_S128) (shapeCast S128 x22 shapeCasts_S1x128_S128) (shapeCast S128 x39 shapeCasts_S1x128_S128) (shapeCast S128 x56 shapeCasts_S1x128_S128)⟩, ⟨S8192, quad (shapeCast S8192 x6 shapeCasts_S1x128x64_S8192) (shapeCast S8192 x23 shapeCasts_S1x128x64_S8192) (shapeCast S8192 x40 shapeCasts_S1x128x64_S8192) (shapeCast S8192 x57 shapeCasts_S1x128x64_S8192)⟩, ⟨S8192, quad (shapeCast S8192 x7 shapeCasts_S1x128x64_S8192) (shapeCast S8192 x24 shapeCasts_S1x128x64_S8192) (shapeCast S8192 x41 shapeCasts_S1x128x64_S8192) (shapeCast S8192 x58 shapeCasts_S1x128x64_S8192)⟩, ⟨S128, quad (shapeCast S128 x8 shapeCasts_S1x128_S128) (shapeCast S128 x25 shapeCasts_S1x128_S128) (shapeCast S128 x42 shapeCasts_S1x128_S128) (shapeCast S128 x59 shapeCasts_S1x128_S128)⟩, ⟨S131072, quad (shapeCast S131072 x9 shapeCasts_S1x128x64x16_S131072) (shapeCast S131072 x26 shapeCasts_S1x128x64x16_S131072) (shapeCast S131072 x43 shapeCasts_S1x128x64x16_S131072) (shapeCast S131072 x60 shapeCasts_S1x128x64x16_S131072)⟩, ⟨S131072, quad (shapeCast S131072 x10 shapeCasts_S1x128x64x16_S131072) (shapeCast S131072 x27 shapeCasts_S1x128x64x16_S131072) (shapeCast S131072 x44 shapeCasts_S1x128x64x16_S131072) (shapeCast S131072 x61 shapeCasts_S1x128x64x16_S131072)⟩, ⟨S131072, quad (shapeCast S131072 x11 shapeCasts_S1x128x16x64_S131072) (shapeCast S131072 x28 shapeCasts_S1x128x16x64_S131072) (shapeCast S131072 x45 shapeCasts_S1x128x16x64_S131072) (shapeCast S131072 x62 shapeCasts_S1x128x16x64_S131072)⟩, ⟨S131072, quad (shapeCast S131072 x12 shapeCasts_S1x128x16x64_S131072) (shapeCast S131072 x29 shapeCasts_S1x128x16x64_S131072) (shapeCast S131072 x46 shapeCasts_S1x128x16x64_S131072) (shapeCast S131072 x63 shapeCasts_S1x128x16x64_S131072)⟩, ⟨S512, quad (shapeCast S512 x13 shapeCasts_S1x512_S512) (shapeCast S512 x30 shapeCasts_S1x512_S512) (shapeCast S512 x47 shapeCasts_S1x512_S512) (shapeCast S512 x64 shapeCasts_S1x512_S512)⟩, ⟨S1024, quad (shapeCast S1024 x14 shapeCasts_S1x1024_S1024) (shapeCast S1024 x31 shapeCasts_S1x1024_S1024) (shapeCast S1024 x48 shapeCasts_S1x1024_S1024) (shapeCast S1024 x65 shapeCasts_S1x1024_S1024)⟩, ⟨S33792, quad (shapeCast S33792 x15 shapeCasts_S4x3x2816_S33792) (shapeCast S33792 x32 shapeCasts_S4x3x2816_S33792) (shapeCast S33792 x49 shapeCasts_S4x3x2816_S33792) (shapeCast S33792 x66 shapeCasts_S4x3x2816_S33792)⟩] concatenates_S8192_S8192_S1024_S1024_S128_S128_S8192_S8192_S128_S131072_S131072_S131072_S131072_S512_S1024_S33792_S594816_d0 concatenates_S8192_S8192_S1024_S1024_S128_S128_S8192_S8192_S128_S131072_S131072_S131072_S131072_S512_S1024_S33792_S594816_d0 j

/-- The reference's result is the step of the joined arrays. -/
theorem firsts_eq (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x33 : (⟨S4x11264, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x50 : (⟨S4x11264, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (x67 : (⟨S4x11264, .f32⟩ : BufTy).Contents (Elt Ideal)) : val_main_v450 (F := Ideal) x17 x18 x19 x20 x21 x22 x23 x24 x25 x26 x27 x28 x29 x30 x31 x32 x33 x34 x35 x36 x37 x38 x39 x40 x41 x42 x43 x44 x45 x46 x47 x48 x49 x50
    = shapeCast S5056x128 (fun j => newFirst (lay x17 x18 x19 x20 x21 x22 x23 x24 x25 x26 x27 x28 x29 x30 x31 x32 x33 j) (lay x34 x35 x36 x37 x38 x39 x40 x41 x42 x43 x44 x45 x46 x47 x48 x49 x50 j)) shapeCasts_S647168_S5056x128 := by
  have hz : val_main_v408 (F := Ideal) = fun _ => firsts (0, 0, 0, 0) := by
    funext i
    rw [val_main_v408_apply, val_main_cst_152_apply]
    exact (Ideal.ofBits_zero .f32).trans first_zero.symm
  have hl : val_main_v446 (F := Ideal) x33 x50 = fun i => firsts (quad (shapeCast S45056 x16 shapeCasts_S4x11264_S45056) (shapeCast S45056 x33 shapeCasts_S4x11264_S45056) (shapeCast S45056 x50 shapeCasts_S4x11264_S45056) (shapeCast S45056 x67 shapeCasts_S4x11264_S45056) i) := rfl
  unfold val_main_v450 val_main_v449 val_main_v448
  rw [firsts16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66, hl, hz]
  refine congrArg (fun y => shapeCast S5056x128 y shapeCasts_S647168_S5056x128) (funext fun j => ?_)
  rw [grads x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j, firstMoments x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j]
  exact Packed.map_tail (t₂ := S52352) (t := S647168) firsts 0 0 (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66) (quad (shapeCast S45056 x16 shapeCasts_S4x11264_S45056) (shapeCast S45056 x33 shapeCasts_S4x11264_S45056) (shapeCast S45056 x50 shapeCasts_S4x11264_S45056) (shapeCast S45056 x67 shapeCasts_S4x11264_S45056)) (fun _ => (0, 0, 0, 0)) _ _ j

/-- The reference's first sixteen arrays, joined. -/
theorem seconds16 (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) : val_main_v468 (F := Ideal) x17 x18 x19 x20 x21 x22 x23 x24 x25 x26 x27 x28 x29 x30 x31 x32 x51 x52 x53 x54 x55 x56 x57 x58 x59 x60 x61 x62 x63 x64 x65 x66 = fun j => seconds (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66 j) :=
  funext fun j => Packed.map seconds S594816 0 [⟨S8192, quad (shapeCast S8192 x0 shapeCasts_S4x2048_S8192) (shapeCast S8192 x17 shapeCasts_S4x2048_S8192) (shapeCast S8192 x34 shapeCasts_S4x2048_S8192) (shapeCast S8192 x51 shapeCasts_S4x2048_S8192)⟩, ⟨S8192, quad (shapeCast S8192 x1 shapeCasts_S4x2048_S8192) (shapeCast S8192 x18 shapeCasts_S4x2048_S8192) (shapeCast S8192 x35 shapeCasts_S4x2048_S8192) (shapeCast S8192 x52 shapeCasts_S4x2048_S8192)⟩, ⟨S1024, quad (shapeCast S1024 x2 shapeCasts_S2x512_S1024) (shapeCast S1024 x19 shapeCasts_S2x512_S1024) (shapeCast S1024 x36 shapeCasts_S2x512_S1024) (shapeCast S1024 x53 shapeCasts_S2x512_S1024)⟩, ⟨S1024, quad (shapeCast S1024 x3 shapeCasts_S2x512_S1024) (shapeCast S1024 x20 shapeCasts_S2x512_S1024) (shapeCast S1024 x37 shapeCasts_S2x512_S1024) (shapeCast S1024 x54 shapeCasts_S2x512_S1024)⟩, ⟨S128, quad (shapeCast S128 x4 shapeCasts_S1x128_S128) (shapeCast S128 x21 shapeCasts_S1x128_S128) (shapeCast S128 x38 shapeCasts_S1x128_S128) (shapeCast S128 x55 shapeCasts_S1x128_S128)⟩, ⟨S128, quad (shapeCast S128 x5 shapeCasts_S1x128_S128) (shapeCast S128 x22 shapeCasts_S1x128_S128) (shapeCast S128 x39 shapeCasts_S1x128_S128) (shapeCast S128 x56 shapeCasts_S1x128_S128)⟩, ⟨S8192, quad (shapeCast S8192 x6 shapeCasts_S1x128x64_S8192) (shapeCast S8192 x23 shapeCasts_S1x128x64_S8192) (shapeCast S8192 x40 shapeCasts_S1x128x64_S8192) (shapeCast S8192 x57 shapeCasts_S1x128x64_S8192)⟩, ⟨S8192, quad (shapeCast S8192 x7 shapeCasts_S1x128x64_S8192) (shapeCast S8192 x24 shapeCasts_S1x128x64_S8192) (shapeCast S8192 x41 shapeCasts_S1x128x64_S8192) (shapeCast S8192 x58 shapeCasts_S1x128x64_S8192)⟩, ⟨S128, quad (shapeCast S128 x8 shapeCasts_S1x128_S128) (shapeCast S128 x25 shapeCasts_S1x128_S128) (shapeCast S128 x42 shapeCasts_S1x128_S128) (shapeCast S128 x59 shapeCasts_S1x128_S128)⟩, ⟨S131072, quad (shapeCast S131072 x9 shapeCasts_S1x128x64x16_S131072) (shapeCast S131072 x26 shapeCasts_S1x128x64x16_S131072) (shapeCast S131072 x43 shapeCasts_S1x128x64x16_S131072) (shapeCast S131072 x60 shapeCasts_S1x128x64x16_S131072)⟩, ⟨S131072, quad (shapeCast S131072 x10 shapeCasts_S1x128x64x16_S131072) (shapeCast S131072 x27 shapeCasts_S1x128x64x16_S131072) (shapeCast S131072 x44 shapeCasts_S1x128x64x16_S131072) (shapeCast S131072 x61 shapeCasts_S1x128x64x16_S131072)⟩, ⟨S131072, quad (shapeCast S131072 x11 shapeCasts_S1x128x16x64_S131072) (shapeCast S131072 x28 shapeCasts_S1x128x16x64_S131072) (shapeCast S131072 x45 shapeCasts_S1x128x16x64_S131072) (shapeCast S131072 x62 shapeCasts_S1x128x16x64_S131072)⟩, ⟨S131072, quad (shapeCast S131072 x12 shapeCasts_S1x128x16x64_S131072) (shapeCast S131072 x29 shapeCasts_S1x128x16x64_S131072) (shapeCast S131072 x46 shapeCasts_S1x128x16x64_S131072) (shapeCast S131072 x63 shapeCasts_S1x128x16x64_S131072)⟩, ⟨S512, quad (shapeCast S512 x13 shapeCasts_S1x512_S512) (shapeCast S512 x30 shapeCasts_S1x512_S512) (shapeCast S512 x47 shapeCasts_S1x512_S512) (shapeCast S512 x64 shapeCasts_S1x512_S512)⟩, ⟨S1024, quad (shapeCast S1024 x14 shapeCasts_S1x1024_S1024) (shapeCast S1024 x31 shapeCasts_S1x1024_S1024) (shapeCast S1024 x48 shapeCasts_S1x1024_S1024) (shapeCast S1024 x65 shapeCasts_S1x1024_S1024)⟩, ⟨S33792, quad (shapeCast S33792 x15 shapeCasts_S4x3x2816_S33792) (shapeCast S33792 x32 shapeCasts_S4x3x2816_S33792) (shapeCast S33792 x49 shapeCasts_S4x3x2816_S33792) (shapeCast S33792 x66 shapeCasts_S4x3x2816_S33792)⟩] concatenates_S8192_S8192_S1024_S1024_S128_S128_S8192_S8192_S128_S131072_S131072_S131072_S131072_S512_S1024_S33792_S594816_d0 concatenates_S8192_S8192_S1024_S1024_S128_S128_S8192_S8192_S128_S131072_S131072_S131072_S131072_S512_S1024_S33792_S594816_d0 j

/-- The reference's result is the step of the joined arrays. -/
theorem seconds_eq (x0 : (⟨S4x2048, .f32⟩ : BufTy).Contents (Elt Ideal)) (x1 : (⟨S4x2048, .f32⟩ : BufTy).Contents (Elt Ideal)) (x2 : (⟨S2x512, .f32⟩ : BufTy).Contents (Elt Ideal)) (x3 : (⟨S2x512, .f32⟩ : BufTy).Contents (Elt Ideal)) (x4 : (⟨S1x128, .f32⟩ : BufTy).Contents (Elt Ideal)) (x5 : (⟨S1x128, .f32⟩ : BufTy).Contents (Elt Ideal)) (x6 : (⟨S1x128x64, .f32⟩ : BufTy).Contents (Elt Ideal)) (x7 : (⟨S1x128x64, .f32⟩ : BufTy).Contents (Elt Ideal)) (x8 : (⟨S1x128, .f32⟩ : BufTy).Contents (Elt Ideal)) (x9 : (⟨S1x128x64x16, .f32⟩ : BufTy).Contents (Elt Ideal)) (x10 : (⟨S1x128x64x16, .f32⟩ : BufTy).Contents (Elt Ideal)) (x11 : (⟨S1x128x16x64, .f32⟩ : BufTy).Contents (Elt Ideal)) (x12 : (⟨S1x128x16x64, .f32⟩ : BufTy).Contents (Elt Ideal)) (x13 : (⟨S1x512, .f32⟩ : BufTy).Contents (Elt Ideal)) (x14 : (⟨S1x1024, .f32⟩ : BufTy).Contents (Elt Ideal)) (x15 : (⟨S4x3x2816, .f32⟩ : BufTy).Contents (Elt Ideal)) (x16 : (⟨S4x11264, .f32⟩ : BufTy).Contents (Elt Ideal)) (x17 : (⟨S4x2048, .f32⟩ : BufTy).Contents (Elt Ideal)) (x18 : (⟨S4x2048, .f32⟩ : BufTy).Contents (Elt Ideal)) (x19 : (⟨S2x512, .f32⟩ : BufTy).Contents (Elt Ideal)) (x20 : (⟨S2x512, .f32⟩ : BufTy).Contents (Elt Ideal)) (x21 : (⟨S1x128, .f32⟩ : BufTy).Contents (Elt Ideal)) (x22 : (⟨S1x128, .f32⟩ : BufTy).Contents (Elt Ideal)) (x23 : (⟨S1x128x64, .f32⟩ : BufTy).Contents (Elt Ideal)) (x24 : (⟨S1x128x64, .f32⟩ : BufTy).Contents (Elt Ideal)) (x25 : (⟨S1x128, .f32⟩ : BufTy).Contents (Elt Ideal)) (x26 : (⟨S1x128x64x16, .f32⟩ : BufTy).Contents (Elt Ideal)) (x27 : (⟨S1x128x64x16, .f32⟩ : BufTy).Contents (Elt Ideal)) (x28 : (⟨S1x128x16x64, .f32⟩ : BufTy).Contents (Elt Ideal)) (x29 : (⟨S1x128x16x64, .f32⟩ : BufTy).Contents (Elt Ideal)) (x30 : (⟨S1x512, .f32⟩ : BufTy).Contents (Elt Ideal)) (x31 : (⟨S1x1024, .f32⟩ : BufTy).Contents (Elt Ideal)) (x32 : (⟨S4x3x2816, .f32⟩ : BufTy).Contents (Elt Ideal)) (x33 : (⟨S4x11264, .f32⟩ : BufTy).Contents (Elt Ideal)) (x34 : (⟨S4x2048, .f32⟩ : BufTy).Contents (Elt Ideal)) (x35 : (⟨S4x2048, .f32⟩ : BufTy).Contents (Elt Ideal)) (x36 : (⟨S2x512, .f32⟩ : BufTy).Contents (Elt Ideal)) (x37 : (⟨S2x512, .f32⟩ : BufTy).Contents (Elt Ideal)) (x38 : (⟨S1x128, .f32⟩ : BufTy).Contents (Elt Ideal)) (x39 : (⟨S1x128, .f32⟩ : BufTy).Contents (Elt Ideal)) (x40 : (⟨S1x128x64, .f32⟩ : BufTy).Contents (Elt Ideal)) (x41 : (⟨S1x128x64, .f32⟩ : BufTy).Contents (Elt Ideal)) (x42 : (⟨S1x128, .f32⟩ : BufTy).Contents (Elt Ideal)) (x43 : (⟨S1x128x64x16, .f32⟩ : BufTy).Contents (Elt Ideal)) (x44 : (⟨S1x128x64x16, .f32⟩ : BufTy).Contents (Elt Ideal)) (x45 : (⟨S1x128x16x64, .f32⟩ : BufTy).Contents (Elt Ideal)) (x46 : (⟨S1x128x16x64, .f32⟩ : BufTy).Contents (Elt Ideal)) (x47 : (⟨S1x512, .f32⟩ : BufTy).Contents (Elt Ideal)) (x48 : (⟨S1x1024, .f32⟩ : BufTy).Contents (Elt Ideal)) (x49 : (⟨S4x3x2816, .f32⟩ : BufTy).Contents (Elt Ideal)) (x50 : (⟨S4x11264, .f32⟩ : BufTy).Contents (Elt Ideal)) (x51 : (⟨S4x2048, .f32⟩ : BufTy).Contents (Elt Ideal)) (x52 : (⟨S4x2048, .f32⟩ : BufTy).Contents (Elt Ideal)) (x53 : (⟨S2x512, .f32⟩ : BufTy).Contents (Elt Ideal)) (x54 : (⟨S2x512, .f32⟩ : BufTy).Contents (Elt Ideal)) (x55 : (⟨S1x128, .f32⟩ : BufTy).Contents (Elt Ideal)) (x56 : (⟨S1x128, .f32⟩ : BufTy).Contents (Elt Ideal)) (x57 : (⟨S1x128x64, .f32⟩ : BufTy).Contents (Elt Ideal)) (x58 : (⟨S1x128x64, .f32⟩ : BufTy).Contents (Elt Ideal)) (x59 : (⟨S1x128, .f32⟩ : BufTy).Contents (Elt Ideal)) (x60 : (⟨S1x128x64x16, .f32⟩ : BufTy).Contents (Elt Ideal)) (x61 : (⟨S1x128x64x16, .f32⟩ : BufTy).Contents (Elt Ideal)) (x62 : (⟨S1x128x16x64, .f32⟩ : BufTy).Contents (Elt Ideal)) (x63 : (⟨S1x128x16x64, .f32⟩ : BufTy).Contents (Elt Ideal)) (x64 : (⟨S1x512, .f32⟩ : BufTy).Contents (Elt Ideal)) (x65 : (⟨S1x1024, .f32⟩ : BufTy).Contents (Elt Ideal)) (x66 : (⟨S4x3x2816, .f32⟩ : BufTy).Contents (Elt Ideal)) (x67 : (⟨S4x11264, .f32⟩ : BufTy).Contents (Elt Ideal)) : val_main_v471 (F := Ideal) x17 x18 x19 x20 x21 x22 x23 x24 x25 x26 x27 x28 x29 x30 x31 x32 x33 x51 x52 x53 x54 x55 x56 x57 x58 x59 x60 x61 x62 x63 x64 x65 x66 x67
    = shapeCast S5056x128 (fun j => newSecond (lay x17 x18 x19 x20 x21 x22 x23 x24 x25 x26 x27 x28 x29 x30 x31 x32 x33 j) (lay x51 x52 x53 x54 x55 x56 x57 x58 x59 x60 x61 x62 x63 x64 x65 x66 x67 j)) shapeCasts_S647168_S5056x128 := by
  have hz : val_main_v408 (F := Ideal) = fun _ => seconds (0, 0, 0, 0) := by
    funext i
    rw [val_main_v408_apply, val_main_cst_152_apply]
    exact (Ideal.ofBits_zero .f32).trans second_zero.symm
  have hl : val_main_v467 (F := Ideal) x33 x67 = fun i => seconds (quad (shapeCast S45056 x16 shapeCasts_S4x11264_S45056) (shapeCast S45056 x33 shapeCasts_S4x11264_S45056) (shapeCast S45056 x50 shapeCasts_S4x11264_S45056) (shapeCast S45056 x67 shapeCasts_S4x11264_S45056) i) := rfl
  unfold val_main_v471 val_main_v470 val_main_v469
  rw [seconds16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66, hl, hz]
  refine congrArg (fun y => shapeCast S5056x128 y shapeCasts_S647168_S5056x128) (funext fun j => ?_)
  rw [grads x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j, secondMoments x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 j]
  exact Packed.map_tail (t₂ := S52352) (t := S647168) seconds 0 0 (quads16 x0 x1 x2 x3 x4 x5 x6 x7 x8 x9 x10 x11 x12 x13 x14 x15 x17 x18 x19 x20 x21 x22 x23 x24 x25 x26 x27 x28 x29 x30 x31 x32 x34 x35 x36 x37 x38 x39 x40 x41 x42 x43 x44 x45 x46 x47 x48 x49 x51 x52 x53 x54 x55 x56 x57 x58 x59 x60 x61 x62 x63 x64 x65 x66) (quad (shapeCast S45056 x16 shapeCasts_S4x11264_S45056) (shapeCast S45056 x33 shapeCasts_S4x11264_S45056) (shapeCast S45056 x50 shapeCasts_S4x11264_S45056) (shapeCast S45056 x67 shapeCasts_S4x11264_S45056)) (fun _ => (0, 0, 0, 0)) _ _ j

end Cert.AdamPieces

end
-- ==== Proof.AdamPacked.lean ====
/- AdamW for the small weights: the four packed arrays the call reads are the seventeen arrays, one behind the other. -/
module
public import proofs.«01_k».proof.Proof.Gen.Kernel22Ideal.Value
public import proofs.«01_k».proof.Proof.AdamPieces
public import Idealize.ShloMosaic.Lib.Pipeline.ValueKit
public import Idealize.ShloMosaic.Lib.Claim
public import Idealize.ShloMosaic.Lib.Pointwise
@[expose] public section
set_option maxRecDepth 16384
noncomputable section
namespace Cert.Kernel22Ideal.Hand
open Cert.Kernel22Ideal Cert.Kernel22Ideal.Gen
open Idealize.ShloMosaic Idealize.ShloMosaic.TcCoe Idealize.ShloMosaic.Tactic Idealize.SL.Sem
open Cert.Reference22Ideal (S52352 S7296)
open Cert.AdamPieces (lay lay16)

/-- Zeros behind two joined arrays are zeros joined to the second. -/
theorem pad_tail (A : S594816.Idx → Elt Ideal .f32) (B : S45056.Idx → Elt Ideal .f32) (z : S_.Idx → Elt Ideal .f32) (hz : ∀ i, z i = 0) :
    shapeCast S5056x128 (shapeCast S8x632x128 (pad S647168 ![0] ![7296] ![0]
      (concatenate S639872 0 [⟨S594816, A⟩, ⟨S45056, B⟩] concatenates_S594816_S45056_S639872_d0) z pads_S639872_S647168_072960 h_S_)
      shapeCasts_S647168_S8x632x128) shapeCasts_S8x632x128_S5056x128
    = shapeCast S5056x128 (concatenate S647168 0 [⟨S594816, A⟩,
        ⟨S52352, concatenate S52352 0 [⟨S45056, B⟩, ⟨S7296, fun _ => 0⟩] Cert.Reference22Ideal.Gen.concatenates_S45056_S7296_S52352_d0⟩]
        Cert.Reference22Ideal.Gen.concatenates_S594816_S52352_S647168_d0) Cert.Reference22Ideal.Gen.shapeCasts_S647168_S5056x128 := by
  funext i
  pointwise [hz]
  split_ifs with h1 h2 h3 h4 <;> first | omega | skip
  · rfl
  · rw [dif_pos (by omega)]
  · rfl

/-- The integer zero is the real zero. -/
theorem zero_real : FloatOps.sitofp (F := Ideal) .f32 (0#32 : BitVec 32) = 0 := by
  show ((((0#32 : BitVec 32).toInt : ℝ)) : EReal) = 0
  simp

variable (m : (ℓ : Loc nD τ sig) → Buf (Elt Ideal) ℓ)

/-- The packed weights. -/
theorem weight_array (c : Dev nD) : V m c main_v21 = shapeCast S5056x128 (lay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) Cert.Reference22Ideal.Gen.shapeCasts_S647168_S5056x128 := by
  entry_read
  exact pad_tail _ _ _ (fun i => zero_real)

/-- The packed gradients. -/
theorem grad_array (c : Dev nD) : V m c main_v43 = shapeCast S5056x128 (lay (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33))) Cert.Reference22Ideal.Gen.shapeCasts_S647168_S5056x128 := by
  entry_read
  exact pad_tail _ _ _ (fun i => zero_real)

/-- The packed first moments. -/
theorem first_array (c : Dev nD) : V m c main_v65 = shapeCast S5056x128 (lay (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50))) Cert.Reference22Ideal.Gen.shapeCasts_S647168_S5056x128 := by
  entry_read
  exact pad_tail _ _ _ (fun i => zero_real)

/-- The packed second moments. -/
theorem second_array (c : Dev nD) : V m c main_v87 = shapeCast S5056x128 (lay (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67))) Cert.Reference22Ideal.Gen.shapeCasts_S647168_S5056x128 := by
  entry_read
  exact pad_tail _ _ _ (fun i => zero_real)

end Cert.Kernel22Ideal.Hand

end
-- ==== Proof.AdamVectors.lean ====
/- AdamW for the small weights, laid one behind the other: what the call leaves in its result arrays. -/
module
public import proofs.«01_k».proof.Proof.AdamPacked
public import Idealize.ShloMosaic.Lib.Pipeline.ValueKit
public import Idealize.ShloMosaic.Lib.Pointwise
@[expose] public section
set_option maxRecDepth 16384
noncomputable section
namespace Cert.Kernel22Ideal.Hand
open Cert.Kernel22Ideal Cert.Kernel22Ideal.Gen
open Idealize.ShloMosaic Idealize.ShloMosaic.TcCoe Idealize.ShloMosaic.Tactic Idealize.SL.Sem
open Idealize.ShloMosaic.Pipeline (Dat)
open Cert.AdamPieces (lay change newFirst newSecond)
open Cert.Reference22Ideal.Read (val_main_v429 val_main_v450 val_main_v471)

variable (m : (ℓ : Loc nD τ sig) → Buf (Elt Ideal) ℓ)

/-- Every window shows the same rows at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A block of the packed weights, read in the whole array. -/
theorem weight_point (c : Dev nD) (t : Fin cfg0.N) (j : S2528x128.Idx) (i : S5056x128.Idx)
    (h1 : (i 0).val = t.val * 2528 + (j 0).val) (h2 : (i 1).val = (j 1).val) :
    iblk m c 0 t j = V m c main_v21 i := by
  generalize hA : V m c main_v21 = A
  unfold iblk
  rw [hA]
  blk_point [idx t]

/-- A block of the packed gradients, read in the whole array. -/
theorem grad_point (c : Dev nD) (t : Fin cfg0.N) (j : S2528x128.Idx) (i : S5056x128.Idx)
    (h1 : (i 0).val = t.val * 2528 + (j 0).val) (h2 : (i 1).val = (j 1).val) :
    iblk m c 1 t j = V m c main_v43 i := by
  generalize hA : V m c main_v43 = A
  unfold iblk
  rw [hA]
  blk_point [idx t]

/-- A block of the packed first moments, read in the whole array. -/
theorem first_point (c : Dev nD) (t : Fin cfg0.N) (j : S2528x128.Idx) (i : S5056x128.Idx)
    (h1 : (i 0).val = t.val * 2528 + (j 0).val) (h2 : (i 1).val = (j 1).val) :
    iblk m c 2 t j = V m c main_v65 i := by
  generalize hA : V m c main_v65 = A
  unfold iblk
  rw [hA]
  blk_point [idx t]

/-- A block of the packed second moments, read in the whole array. -/
theorem second_point (c : Dev nD) (t : Fin cfg0.N) (j : S2528x128.Idx) (i : S5056x128.Idx)
    (h1 : (i 0).val = t.val * 2528 + (j 0).val) (h2 : (i 1).val = (j 1).val) :
    iblk m c 3 t j = V m c main_v87 i := by
  generalize hA : V m c main_v87 = A
  unfold iblk
  rw [hA]
  blk_point [idx t]

/-- One element of a block of the new first moment. -/
theorem pay2_apply (g n : Vec Ideal S2528x128 .f32) (j : S2528x128.Idx) (x y : Elt Ideal .f32) (hg : g j = x) (hn : n j = y) :
    k0_pay2 (F := Ideal) g n j = newFirst x y := by
  pointwise [k0_pay2, k0_pay1, newFirst, hg, hn]

/-- One element of a block of the new second moment. -/
theorem pay3_apply (g v : Vec Ideal S2528x128 .f32) (j : S2528x128.Idx) (x z : Elt Ideal .f32) (hg : g j = x) (hv : v j = z) :
    k0_pay3 (F := Ideal) g v j = newSecond x z := by
  pointwise [k0_pay3, k0_pay1, newSecond, hg, hv]

/-- One element of a block of the step. -/
theorem pay4_apply (g w n v : Vec Ideal S2528x128 .f32) (j : S2528x128.Idx) (u x y z : Elt Ideal .f32) (hg : g j = x) (hw : w j = u) (hn : n j = y) (hv : v j = z) :
    k0_pay4 (F := Ideal) w g n v j = change u x y z := by
  pointwise [k0_pay4, k0_pay3, k0_pay2, k0_pay1, change, newFirst, newSecond, hg, hw, hn, hv]

/-- The step's array after the call is the reference's. -/
theorem final4 (c : Dev nD) : (dats m 0 c).arrAt 4 cfg0.N = val_main_v429 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67)) := by
  rw [Cert.AdamPieces.changes_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67))]
  refine (dats m 0 c).arrAt_eq_of_covers 4 _ (by decide +kernel) fun t _ j => ?_
  have h1 : ((((cfg0.win 4).blk t).view.emb j) 0).val = t.val * 2528 + (j 0).val := by blk_simp [idx t]
  have h2 : ((((cfg0.win 4).blk t).view.emb j) 1).val = (j 1).val := by blk_simp [idx t]
  blk_simp
  rw [after0_4]; frame_out
  refine (pay4_apply _ _ _ _ j _ _ _ _ (grad_point m c t j _ h1 h2) (weight_point m c t j _ h1 h2) (first_point m c t j _ h1 h2) (second_point m c t j _ h1 h2)).trans ?_
  rw [weight_array m c, grad_array m c, first_array m c, second_array m c]
  rfl

/-- The first moment's array after the call is the reference's. -/
theorem final5 (c : Dev nD) : (dats m 0 c).arrAt 5 cfg0.N = val_main_v450 (F := Ideal) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) := by
  rw [Cert.AdamPieces.firsts_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67))]
  refine (dats m 0 c).arrAt_eq_of_covers 5 _ (by decide +kernel) fun t _ j => ?_
  have h1 : ((((cfg0.win 5).blk t).view.emb j) 0).val = t.val * 2528 + (j 0).val := by blk_simp [idx t]
  have h2 : ((((cfg0.win 5).blk t).view.emb j) 1).val = (j 1).val := by blk_simp [idx t]
  blk_simp
  rw [after0_5]; frame_out
  refine (pay2_apply _ _ j _ _ (grad_point m c t j _ h1 h2) (first_point m c t j _ h1 h2)).trans ?_
  rw [grad_array m c, first_array m c]
  rfl

/-- The second moment's array after the call is the reference's. -/
theorem final6 (c : Dev nD) : (dats m 0 c).arrAt 6 cfg0.N = val_main_v471 (F := Ideal) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67)) := by
  rw [Cert.AdamPieces.seconds_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67))]
  refine (dats m 0 c).arrAt_eq_of_covers 6 _ (by decide +kernel) fun t _ j => ?_
  have h1 : ((((cfg0.win 6).blk t).view.emb j) 0).val = t.val * 2528 + (j 0).val := by blk_simp [idx t]
  have h2 : ((((cfg0.win 6).blk t).view.emb j) 1).val = (j 1).val := by blk_simp [idx t]
  blk_simp
  rw [after0_6]; frame_out
  refine (pay3_apply _ _ j _ _ (grad_point m c t j _ h1 h2) (second_point m c t j _ h1 h2)).trans ?_
  rw [grad_array m c, second_array m c]
  rfl

end Cert.Kernel22Ideal.Hand

end
-- ==== Proof.AdamPool.lean ====
/- AdamW for the pooling mixer's weights, one layer written into the arrays of the other layers: what the call leaves in its result arrays. -/
module
public import proofs.«01_k».proof.Proof.Gen.Kernel23Ideal.Value
public import proofs.«01_k».proof.Proof.Gen.Reference23Ideal.Read
public import Idealize.ShloMosaic.Lib.Pipeline.ValueKit
public import Idealize.ShloMosaic.Lib.Pointwise
@[expose] public section
set_option maxRecDepth 16384
noncomputable section
namespace Cert.Kernel23Ideal.Hand
open Cert.Kernel23Ideal Cert.Kernel23Ideal.Gen
open Idealize.ShloMosaic Idealize.ShloMosaic.TcCoe Idealize.ShloMosaic.Tactic Idealize.SL.Sem
open Idealize.ShloMosaic.Pipeline (Dat)
open Cert.Reference23Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_v34 val_main_v35 val_main_v36 val_main_v37 val_main_v38 val_main_cst val_main_cst_0 val_main_cst_1 val_main_cst_2 val_main_cst_3 val_main_cst_4 val_main_cst_5 val_main_cst_6 val_main_cst_7 val_main_v0_apply val_main_v1_apply val_main_v2_apply val_main_v3_apply val_main_v4_apply val_main_v5_apply val_main_v6_apply)

variable (m : (ℓ : Loc nD τ sig) → Buf (Elt Ideal) ℓ)

/-- Every window shows the same rows at every point, those of layer 0. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The first layer of an array made of one layer and the others. -/
theorem cat_first (a : S1x512x512.Idx → Elt Ideal .f32) (b : S1x512x512.Idx → Elt Ideal .f32) (h : Shape.Concatenates [S1x512x512, S1x512x512] S2x512x512 0)
    (i : S2x512x512.Idx) (k : S1x512x512.Idx) (h0 : (i 0).val = 0) (h1 : (k 1).val = (i 1).val) (h2 : (k 2).val = (i 2).val) :
    concatenate S2x512x512 0 [⟨S1x512x512, a⟩, ⟨S1x512x512, b⟩] h i = a k :=
  concatenate_pair_apply_left 0 a b h i rfl k fun e => match e with
    | ⟨0, _⟩ => by
      have hk : (k 0).val < 1 := (k 0).isLt
      show (k 0).val = (i 0).val
      omega
    | ⟨1, _⟩ => h1
    | ⟨2, _⟩ => h2

/-- The other layers of such an array, when they are another array's. -/
theorem cat_rest (a : S1x512x512.Idx → Elt Ideal .f32) (x : S2x512x512.Idx → Elt Ideal .f32) (hs : Shape.Slices S2x512x512 ![1, 0, 0] S1x512x512) (h : Shape.Concatenates [S1x512x512, S1x512x512] S2x512x512 0)
    (i : S2x512x512.Idx) (h0 : (i 0).val ≠ 0) :
    concatenate S2x512x512 0 [⟨S1x512x512, a⟩, ⟨S1x512x512, extractStridedSlice S1x512x512 ![1, 0, 0] x hs⟩] h i = x i := by
  have hi : (i 0).val < 2 := (i 0).isLt
  let k : S1x512x512.Idx := fun e => match e with
    | ⟨0, _⟩ => ⟨(i 0).val - 1, by show (i 0).val - 1 < 1; omega⟩
    | ⟨1, _⟩ => ⟨(i 1).val, (i 1).isLt⟩
    | ⟨2, _⟩ => ⟨(i 2).val, (i 2).isLt⟩
  refine (concatenate_pair_apply_right 0 a _ h i rfl rfl k (fun e he => ?_) ?_).trans
    (extractStridedSlice_apply ![1, 0, 0] x hs k i fun e => ?_)
  · match e with
    | ⟨0, _⟩ => exact absurd rfl he
    | ⟨1, _⟩ => rfl
    | ⟨2, _⟩ => rfl
  · show (i 0).val - 1 + 1 = (i 0).val
    omega
  · match e with
    | ⟨0, _⟩ => show (i 0).val = 1 + ((i 0).val - 1); omega
    | ⟨1, _⟩ => show (i 1).val = 0 + (i 1).val; omega
    | ⟨2, _⟩ => show (i 2).val = 0 + (i 2).val; omega

/-- A block of the weights, read in the reference's weights. -/
theorem weight_point (c : Dev nD) (t : Fin cfg0.N) (j : S1x512x512.Idx) (k : S1x512x512.Idx)
    (h1 : (k 1).val = t.val * 512 + (j 1).val) (h2 : (k 2).val = (j 2).val) :
    iblk m c 0 t j = val_main_v4 (F := Ideal) (m ((c : Thread nD τ).loc main_arg0)) k := by
  rw [val_main_v4_apply]
  pointwise [val_main_v0]
  all_goals blk_point [iblk, V, idx t]

/-- A block of the gradient, read in the reference's gradient. -/
theorem grad_point (c : Dev nD) (t : Fin cfg0.N) (j : S1x512x512.Idx) (k : S1x512x512.Idx)
    (h1 : (k 1).val = t.val * 512 + (j 1).val) (h2 : (k 2).val = (j 2).val) :
    iblk m c 1 t j = val_main_v1 (F := Ideal) (m ((c : Thread nD τ).loc main_arg1)) k := by
  pointwise [val_main_v1]
  all_goals blk_point [iblk, V, idx t]

/-- A block of the first moment, read in the reference's first moment. -/
theorem first_point (c : Dev nD) (t : Fin cfg0.N) (j : S1x512x512.Idx) (k : S1x512x512.Idx)
    (h1 : (k 1).val = t.val * 512 + (j 1).val) (h2 : (k 2).val = (j 2).val) :
    iblk m c 2 t j = val_main_v5 (F := Ideal) (m ((c : Thread nD τ).loc main_arg2)) k := by
  rw [val_main_v5_apply]
  pointwise [val_main_v2]
  all_goals blk_point [iblk, V, idx t]

/-- A block of the second moment, read in the reference's second moment. -/
theorem second_point (c : Dev nD) (t : Fin cfg0.N) (j : S1x512x512.Idx) (k : S1x512x512.Idx)
    (h1 : (k 1).val = t.val * 512 + (j 1).val) (h2 : (k 2).val = (j 2).val) :
    iblk m c 3 t j = val_main_v6 (F := Ideal) (m ((c : Thread nD τ).loc main_arg3)) k := by
  rw [val_main_v6_apply]
  pointwise [val_main_v3]
  all_goals blk_point [iblk, V, idx t]

/-- One element of a block of the new first moment, where the block's elements are the arrays'. -/
theorem pay1_apply (g n : Vec Ideal S1x512x512 .f32) (G : (⟨S1x1x512x512, .f32⟩ : BufTy).Contents (Elt Ideal)) (N : (⟨S2x1x512x512, .f32⟩ : BufTy).Contents (Elt Ideal)) (j : S1x512x512.Idx) (k : S1x512x512.Idx) (hg : g j = val_main_v1 (F := Ideal) G k) (hn : n j = val_main_v5 (F := Ideal) N k) :
    k0_pay1 (F := Ideal) (k0_pay5 (F := Ideal) g n) j = val_main_v11 (F := Ideal) G N k := by
  pointwise [k0_pay1, k0_pay5, k0_pay4, val_main_v11, val_main_v10, val_main_v9, val_main_v8, val_main_v7, val_main_cst, val_main_cst_0, val_main_cst_1, val_main_cst_2, val_main_cst_3, val_main_cst_4, val_main_cst_5, val_main_cst_6, val_main_cst_7, hg, hn]

/-- One element of a block of the new second moment. -/
theorem pay2_apply (g v : Vec Ideal S1x512x512 .f32) (G : (⟨S1x1x512x512, .f32⟩ : BufTy).Contents (Elt Ideal)) (W : (⟨S2x1x512x512, .f32⟩ : BufTy).Contents (Elt Ideal)) (j : S1x512x512.Idx) (k : S1x512x512.Idx) (hg : g j = val_main_v1 (F := Ideal) G k) (hv : v j = val_main_v6 (F := Ideal) W k) :
    k0_pay2 (F := Ideal) (k0_pay6 (F := Ideal) g v) j = val_main_v17 (F := Ideal) G W k := by
  pointwise [k0_pay2, k0_pay6, k0_pay4, val_main_v17, val_main_v16, val_main_v15, val_main_v14, val_main_v13, val_main_v12, val_main_v11, val_main_v10, val_main_v9, val_main_v8, val_main_v7, val_main_cst, val_main_cst_0, val_main_cst_1, val_main_cst_2, val_main_cst_3, val_main_cst_4, val_main_cst_5, val_main_cst_6, val_main_cst_7, hg, hv]

/-- One element of a block of the step. -/
theorem pay7_apply (g w n v : Vec Ideal S1x512x512 .f32) (X : (⟨S2x1x512x512, .f32⟩ : BufTy).Contents (Elt Ideal)) (G : (⟨S1x1x512x512, .f32⟩ : BufTy).Contents (Elt Ideal)) (N W : (⟨S2x1x512x512, .f32⟩ : BufTy).Contents (Elt Ideal)) (j : S1x512x512.Idx) (k : S1x512x512.Idx)
    (hg : g j = val_main_v1 (F := Ideal) G k) (hw : w j = val_main_v4 (F := Ideal) X k) (hn : n j = val_main_v5 (F := Ideal) N k) (hv : v j = val_main_v6 (F := Ideal) W k) :
    k0_pay7 (F := Ideal) g w n v j = val_main_v30 (F := Ideal) X G N W k := by
  pointwise [k0_pay7, k0_pay6, k0_pay5, k0_pay4, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_cst_2, val_main_cst_3, val_main_cst_4, val_main_cst_5, val_main_cst_6, val_main_cst_7, hg, hw, hn, hv]

/-- One element of a block of the gradient's copy. -/
theorem pay3_apply (g : Vec Ideal S1x512x512 .f32) (j : S1x512x512.Idx) : k0_pay3 (F := Ideal) (k0_pay4 (F := Ideal) g) j = g j := by
  pointwise [k0_pay3, k0_pay4]

/-- An element of the first layer, as an element of an array of one layer. -/
def one (i : S2x512x512.Idx) : S1x512x512.Idx := fun e => match e with
  | ⟨0, _⟩ => ⟨0, by show 0 < 1; omega⟩
  | ⟨1, _⟩ => ⟨(i 1).val, (i 1).isLt⟩
  | ⟨2, _⟩ => ⟨(i 2).val, (i 2).isLt⟩

/-- Window 4's blocks are the rows of the first layer. -/
theorem covered4 (i : S2x512x512.Idx) (h0 : (i 0).val = 0) : ∃ t : Fin cfg0.N, (cfg0.win 4).flush t = true ∧ i ∈ ((cfg0.win 4).blk t).view.set := by
  have hi1 : (i 1).val < 512 := (i 1).isLt
  have hi2 : (i 2).val < 512 := (i 2).isLt
  have ht : (i 1).val / 512 < cfg0.N := by
    have hN : cfg0.N = 1 := by decide
    rw [hN]; omega
  obtain ⟨t, hv⟩ : ∃ t : Fin cfg0.N, t.val = (i 1).val / 512 := ⟨⟨_, ht⟩, rfl⟩
  refine ⟨t, (by decide +kernel : ∀ t : Fin grid0.N, (cfg0.win 4).flush t = true) _, ?_⟩
  mem_blk [idx t]
  omega

/-- What the call finds in the array of window 4. -/
theorem entry_array4 (c : Dev nD) : V m c main_v4_0 = (m ((c : Thread nD τ).loc main_arg4)) := by
  entry_read
  rfl

/-- The first layer of the reference's gradient. -/
theorem ref4 (x1 : (⟨S1x1x512x512, .f32⟩ : BufTy).Contents (Elt Ideal)) (x4 : (⟨S2x512x512, .f32⟩ : BufTy).Contents (Elt Ideal)) (i : S2x512x512.Idx) (h0 : (i 0).val = 0) :
    val_main_v32 (F := Ideal) x1 x4 i = val_main_v1 (F := Ideal) x1 (one i) := by
  unfold val_main_v32
  exact cat_first _ _ _ i (one i) h0 rfl rfl

/-- The gradient's copy after the call is the reference's. -/
theorem final4 (c : Dev nD) : (dats m 0 c).arrAt 4 cfg0.N = val_main_v32 (F := Ideal) (m ((c : Thread nD τ).loc main_arg1)) (m ((c : Thread nD τ).loc main_arg4)) := by
  funext i
  by_cases h0 : (i 0).val = 0
  · obtain ⟨t, hf, hi⟩ := covered4 i h0
    refine (dats m 0 c).arrAt_apply_of_mem 4 (val_main_v32 (F := Ideal) (m ((c : Thread nD τ).loc main_arg1)) (m ((c : Thread nD τ).loc main_arg4))) (fun t _ => ?_) cfg0.N t i t.isLt hf hi
    funext j
    have hj : (((((cfg0.win 4).blk t).view.emb j) 0) : Nat) = 0 := by
      blk_simp [idx t]
    have h1 : (one (((cfg0.win 4).blk t).view.emb j) 1).val = t.val * 512 + (j 1).val := by
      show ((((cfg0.win 4).blk t).view.emb j) 1).val = _
      blk_simp [idx t]
    have h2 : (one (((cfg0.win 4).blk t).view.emb j) 2).val = (j 2).val := by
      show ((((cfg0.win 4).blk t).view.emb j) 2).val = _
      blk_simp [idx t]
    blk_simp
    refine Eq.trans ?_ (ref4 (m ((c : Thread nD τ).loc main_arg1)) (m ((c : Thread nD τ).loc main_arg4)) (((cfg0.win 4).blk t).view.emb j) hj).symm
    rw [after0_4]
    refine Eq.trans (?_ : (outsAt0 m c t).1 j = iblk m c 1 t j) (grad_point m c t j (one (((cfg0.win 4).blk t).view.emb j)) h1 h2)
    simp only [outsAt0]
    frame_out
    exact pay3_apply _ j
  · have hn : (dats m 0 c).arrAt 4 cfg0.N i = V m c main_v4_0 i := Value.entry4 m c i fun t _ hi => h0 (by
      mem_blk [idx t] at hi
      omega)
    rw [hn, entry_array4]
    exact (cat_rest _ _ _ _ i h0).symm

/-- Window 5's blocks are the rows of the first layer. -/
theorem covered5 (i : S2x512x512.Idx) (h0 : (i 0).val = 0) : ∃ t : Fin cfg0.N, (cfg0.win 5).flush t = true ∧ i ∈ ((cfg0.win 5).blk t).view.set := by
  have hi1 : (i 1).val < 512 := (i 1).isLt
  have hi2 : (i 2).val < 512 := (i 2).isLt
  have ht : (i 1).val / 512 < cfg0.N := by
    have hN : cfg0.N = 1 := by decide
    rw [hN]; omega
  obtain ⟨t, hv⟩ : ∃ t : Fin cfg0.N, t.val = (i 1).val / 512 := ⟨⟨_, ht⟩, rfl⟩
  refine ⟨t, (by decide +kernel : ∀ t : Fin grid0.N, (cfg0.win 5).flush t = true) _, ?_⟩
  mem_blk [idx t]
  omega

/-- What the call finds in the array of window 5. -/
theorem entry_array5 (c : Dev nD) : V m c main_v4_1 = (m ((c : Thread nD τ).loc main_arg5)) := by
  entry_read
  rfl

/-- The step's array after the call is the reference's. -/
theorem final5 (c : Dev nD) : (dats m 0 c).arrAt 5 cfg0.N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  funext i
  by_cases h0 : (i 0).val = 0
  · obtain ⟨t, hf, hi⟩ := covered5 i h0
    refine (dats m 0 c).arrAt_apply_of_mem 5 (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (fun t _ => ?_) cfg0.N t i t.isLt hf hi
    funext j
    have hj : (((((cfg0.win 5).blk t).view.emb j) 0) : Nat) = 0 := by
      blk_simp [idx t]
    have h1 : (one (((cfg0.win 5).blk t).view.emb j) 1).val = t.val * 512 + (j 1).val := by
      show ((((cfg0.win 5).blk t).view.emb j) 1).val = _
      blk_simp [idx t]
    have h2 : (one (((cfg0.win 5).blk t).view.emb j) 2).val = (j 2).val := by
      show ((((cfg0.win 5).blk t).view.emb j) 2).val = _
      blk_simp [idx t]
    blk_simp
    refine Eq.trans ?_ (cat_first _ _ _ _ (one (((cfg0.win 5).blk t).view.emb j)) hj rfl rfl).symm
    rw [after0_5]; frame_out
    exact pay7_apply _ _ _ _ _ _ _ _ j _ (grad_point m c t j _ h1 h2) (weight_point m c t j _ h1 h2) (first_point m c t j _ h1 h2) (second_point m c t j _ h1 h2)
  · have hn : (dats m 0 c).arrAt 5 cfg0.N i = V m c main_v4_1 i := Value.entry5 m c i fun t _ hi => h0 (by
      mem_blk [idx t] at hi
      omega)
    rw [hn, entry_array5]
    exact (cat_rest _ _ _ _ i h0).symm

/-- Window 6's blocks are the rows of the first layer. -/
theorem covered6 (i : S2x512x512.Idx) (h0 : (i 0).val = 0) : ∃ t : Fin cfg0.N, (cfg0.win 6).flush t = true ∧ i ∈ ((cfg0.win 6).blk t).view.set := by
  have hi1 : (i 1).val < 512 := (i 1).isLt
  have hi2 : (i 2).val < 512 := (i 2).isLt
  have ht : (i 1).val / 512 < cfg0.N := by
    have hN : cfg0.N = 1 := by decide
    rw [hN]; omega
  obtain ⟨t, hv⟩ : ∃ t : Fin cfg0.N, t.val = (i 1).val / 512 := ⟨⟨_, ht⟩, rfl⟩
  refine ⟨t, (by decide +kernel : ∀ t : Fin grid0.N, (cfg0.win 6).flush t = true) _, ?_⟩
  mem_blk [idx t]
  omega

/-- What the call finds in the array of window 6. -/
theorem entry_array6 (c : Dev nD) : V m c main_v4_2 = (m ((c : Thread nD τ).loc main_arg6)) := by
  entry_read
  rfl

/-- The first moment's array after the call is the reference's. -/
theorem final6 (c : Dev nD) : (dats m 0 c).arrAt 6 cfg0.N = val_main_v36 (F := Ideal) (m ((c : Thread nD τ).loc main_arg1)) (m ((c : Thread nD τ).loc main_arg2)) (m ((c : Thread nD τ).loc main_arg6)) := by
  funext i
  by_cases h0 : (i 0).val = 0
  · obtain ⟨t, hf, hi⟩ := covered6 i h0
    refine (dats m 0 c).arrAt_apply_of_mem 6 (val_main_v36 (F := Ideal) (m ((c : Thread nD τ).loc main_arg1)) (m ((c : Thread nD τ).loc main_arg2)) (m ((c : Thread nD τ).loc main_arg6))) (fun t _ => ?_) cfg0.N t i t.isLt hf hi
    funext j
    have hj : (((((cfg0.win 6).blk t).view.emb j) 0) : Nat) = 0 := by
      blk_simp [idx t]
    have h1 : (one (((cfg0.win 6).blk t).view.emb j) 1).val = t.val * 512 + (j 1).val := by
      show ((((cfg0.win 6).blk t).view.emb j) 1).val = _
      blk_simp [idx t]
    have h2 : (one (((cfg0.win 6).blk t).view.emb j) 2).val = (j 2).val := by
      show ((((cfg0.win 6).blk t).view.emb j) 2).val = _
      blk_simp [idx t]
    blk_simp
    refine Eq.trans ?_ (cat_first _ _ _ _ (one (((cfg0.win 6).blk t).view.emb j)) hj rfl rfl).symm
    rw [after0_6]; frame_out
    exact pay1_apply _ _ _ _ j _ (grad_point m c t j _ h1 h2) (first_point m c t j _ h1 h2)
  · have hn : (dats m 0 c).arrAt 6 cfg0.N i = V m c main_v4_2 i := Value.entry6 m c i fun t _ hi => h0 (by
      mem_blk [idx t] at hi
      omega)
    rw [hn, entry_array6]
    exact (cat_rest _ _ _ _ i h0).symm

/-- Window 7's blocks are the rows of the first layer. -/
theorem covered7 (i : S2x512x512.Idx) (h0 : (i 0).val = 0) : ∃ t : Fin cfg0.N, (cfg0.win 7).flush t = true ∧ i ∈ ((cfg0.win 7).blk t).view.set := by
  have hi1 : (i 1).val < 512 := (i 1).isLt
  have hi2 : (i 2).val < 512 := (i 2).isLt
  have ht : (i 1).val / 512 < cfg0.N := by
    have hN : cfg0.N = 1 := by decide
    rw [hN]; omega
  obtain ⟨t, hv⟩ : ∃ t : Fin cfg0.N, t.val = (i 1).val / 512 := ⟨⟨_, ht⟩, rfl⟩
  refine ⟨t, (by decide +kernel : ∀ t : Fin grid0.N, (cfg0.win 7).flush t = true) _, ?_⟩
  mem_blk [idx t]
  omega

/-- What the call finds in the array of window 7. -/
theorem entry_array7 (c : Dev nD) : V m c main_v4_3 = (m ((c : Thread nD τ).loc main_arg7)) := by
  entry_read
  rfl

/-- The second moment's array after the call is the reference's. -/
theorem final7 (c : Dev nD) : (dats m 0 c).arrAt 7 cfg0.N = val_main_v38 (F := Ideal) (m ((c : Thread nD τ).loc main_arg1)) (m ((c : Thread nD τ).loc main_arg3)) (m ((c : Thread nD τ).loc main_arg7)) := by
  funext i
  by_cases h0 : (i 0).val = 0
  · obtain ⟨t, hf, hi⟩ := covered7 i h0
    refine (dats m 0 c).arrAt_apply_of_mem 7 (val_main_v38 (F := Ideal) (m ((c : Thread nD τ).loc main_arg1)) (m ((c : Thread nD τ).loc main_arg3)) (m ((c : Thread nD τ).loc main_arg7))) (fun t _ => ?_) cfg0.N t i t.isLt hf hi
    funext j
    have hj : (((((cfg0.win 7).blk t).view.emb j) 0) : Nat) = 0 := by
      blk_simp [idx t]
    have h1 : (one (((cfg0.win 7).blk t).view.emb j) 1).val = t.val * 512 + (j 1).val := by
      show ((((cfg0.win 7).blk t).view.emb j) 1).val = _
      blk_simp [idx t]
    have h2 : (one (((cfg0.win 7).blk t).view.emb j) 2).val = (j 2).val := by
      show ((((cfg0.win 7).blk t).view.emb j) 2).val = _
      blk_simp [idx t]
    blk_simp
    refine Eq.trans ?_ (cat_first _ _ _ _ (one (((cfg0.win 7).blk t).view.emb j)) hj rfl rfl).symm
    rw [after0_7]; frame_out
    exact pay2_apply _ _ _ _ j _ (grad_point m c t j _ h1 h2) (second_point m c t j _ h1 h2)
  · have hn : (dats m 0 c).arrAt 7 cfg0.N i = V m c main_v4_3 i := Value.entry7 m c i fun t _ hi => h0 (by
      mem_blk [idx t] at hi
      omega)
    rw [hn, entry_array7]
    exact (cat_rest _ _ _ _ i h0).symm

end Cert.Kernel23Ideal.Hand

end
-- ==== Proof.AdamUp.lean ====
/- AdamW for the up-projection's weights, one layer written into the arrays of the other layers: what the call leaves in its result arrays. -/
module
public import proofs.«01_k».proof.Proof.Gen.Kernel24Ideal.Value
public import proofs.«01_k».proof.Proof.Gen.Reference24Ideal.Read
public import Idealize.ShloMosaic.Lib.Pipeline.ValueKit
public import Idealize.ShloMosaic.Lib.Pointwise
@[expose] public section
set_option maxRecDepth 16384
noncomputable section
namespace Cert.Kernel24Ideal.Hand
open Cert.Kernel24Ideal Cert.Kernel24Ideal.Gen
open Idealize.ShloMosaic Idealize.ShloMosaic.TcCoe Idealize.ShloMosaic.Tactic Idealize.SL.Sem
open Idealize.ShloMosaic.Pipeline (Dat)
open Cert.Reference24Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_v34 val_main_cst val_main_cst_0 val_main_cst_1 val_main_cst_2 val_main_cst_3 val_main_cst_4 val_main_cst_5 val_main_cst_6 val_main_cst_7 val_main_v0_apply val_main_v1_apply val_main_v2_apply)

variable (m : (ℓ : Loc nD τ sig) → Buf (Elt Ideal) ℓ)

/-- Every window shows the same rows at every point, those of layer 0. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The first layer of an array made of one layer and the others. -/
theorem cat_first (a : S1x2048x2816.Idx → Elt Ideal .f32) (b : Cert.Reference24Ideal.S3x2048x2816.Idx → Elt Ideal .f32) (h : Shape.Concatenates [S1x2048x2816, Cert.Reference24Ideal.S3x2048x2816] S4x2048x2816 0)
    (i : S4x2048x2816.Idx) (k : S1x2048x2816.Idx) (h0 : (i 0).val = 0) (h1 : (k 1).val = (i 1).val) (h2 : (k 2).val = (i 2).val) :
    concatenate S4x2048x2816 0 [⟨S1x2048x2816, a⟩, ⟨Cert.Reference24Ideal.S3x2048x2816, b⟩] h i = a k :=
  concatenate_pair_apply_left 0 a b h i rfl k fun e => match e with
    | ⟨0, _⟩ => by
      have hk : (k 0).val < 1 := (k 0).isLt
      show (k 0).val = (i 0).val
      omega
    | ⟨1, _⟩ => h1
    | ⟨2, _⟩ => h2

/-- The other layers of such an array, when they are another array's. -/
theorem cat_rest (a : S1x2048x2816.Idx → Elt Ideal .f32) (x : S4x2048x2816.Idx → Elt Ideal .f32) (hs : Shape.Slices S4x2048x2816 ![1, 0, 0] Cert.Reference24Ideal.S3x2048x2816) (h : Shape.Concatenates [S1x2048x2816, Cert.Reference24Ideal.S3x2048x2816] S4x2048x2816 0)
    (i : S4x2048x2816.Idx) (h0 : (i 0).val ≠ 0) :
    concatenate S4x2048x2816 0 [⟨S1x2048x2816, a⟩, ⟨Cert.Reference24Ideal.S3x2048x2816, extractStridedSlice Cert.Reference24Ideal.S3x2048x2816 ![1, 0, 0] x hs⟩] h i = x i := by
  have hi : (i 0).val < 4 := (i 0).isLt
  let k : Cert.Reference24Ideal.S3x2048x2816.Idx := fun e => match e with
    | ⟨0, _⟩ => ⟨(i 0).val - 1, by show (i 0).val - 1 < 3; omega⟩
    | ⟨1, _⟩ => ⟨(i 1).val, (i 1).isLt⟩
    | ⟨2, _⟩ => ⟨(i 2).val, (i 2).isLt⟩
  refine (concatenate_pair_apply_right 0 a _ h i rfl rfl k (fun e he => ?_) ?_).trans
    (extractStridedSlice_apply ![1, 0, 0] x hs k i fun e => ?_)
  · match e with
    | ⟨0, _⟩ => exact absurd rfl he
    | ⟨1, _⟩ => rfl
    | ⟨2, _⟩ => rfl
  · show (i 0).val - 1 + 1 = (i 0).val
    omega
  · match e with
    | ⟨0, _⟩ => show (i 0).val = 1 + ((i 0).val - 1); omega
    | ⟨1, _⟩ => show (i 1).val = 0 + (i 1).val; omega
    | ⟨2, _⟩ => show (i 2).val = 0 + (i 2).val; omega

/-- A block of the weights, read in the reference's weights. -/
theorem weight_point (c : Dev nD) (t : Fin cfg0.N) (j : S1x128x2816.Idx) (k : S1x2048x2816.Idx)
    (h1 : (k 1).val = t.val * 128 + (j 1).val) (h2 : (k 2).val = (j 2).val) :
    iblk m c 0 t j = val_main_v0 (F := Ideal) (m ((c : Thread nD τ).loc main_arg0)) k := by
  rw [val_main_v0_apply]
  blk_point [iblk, V, idx t]

/-- A block of the gradient, read in the reference's gradient. -/
theorem grad_point (c : Dev nD) (t : Fin cfg0.N) (j : S1x128x2816.Idx) (k : S1x2048x2816.Idx)
    (h1 : (k 1).val = t.val * 128 + (j 1).val) (h2 : (k 2).val = (j 2).val) :
    iblk m c 1 t j = (m ((c : Thread nD τ).loc main_arg1)) k := by
  blk_point [iblk, V, idx t]

/-- A block of the first moment, read in the reference's first moment. -/
theorem first_point (c : Dev nD) (t : Fin cfg0.N) (j : S1x128x2816.Idx) (k : S1x2048x2816.Idx)
    (h1 : (k 1).val = t.val * 128 + (j 1).val) (h2 : (k 2).val = (j 2).val) :
    iblk m c 2 t j = val_main_v1 (F := Ideal) (m ((c : Thread nD τ).loc main_arg2)) k := by
  rw [val_main_v1_apply]
  blk_point [iblk, V, idx t]

/-- A block of the second moment, read in the reference's second moment. -/
theorem second_point (c : Dev nD) (t : Fin cfg0.N) (j : S1x128x2816.Idx) (k : S1x2048x2816.Idx)
    (h1 : (k 1).val = t.val * 128 + (j 1).val) (h2 : (k 2).val = (j 2).val) :
    iblk m c 3 t j = val_main_v2 (F := Ideal) (m ((c : Thread nD τ).loc main_arg3)) k := by
  rw [val_main_v2_apply]
  blk_point [iblk, V, idx t]

/-- One element of a block of the new first moment, where the block's elements are the arrays'. -/
theorem pay1_apply (g n : Vec Ideal S1x128x2816 .f32) (G : (⟨S1x2048x2816, .f32⟩ : BufTy).Contents (Elt Ideal)) (N : (⟨S4x2048x2816, .f32⟩ : BufTy).Contents (Elt Ideal)) (j : S1x128x2816.Idx) (k : S1x2048x2816.Idx) (hg : g j = G k) (hn : n j = val_main_v1 (F := Ideal) N k) :
    k0_pay1 (F := Ideal) (k0_pay5 (F := Ideal) g n) j = val_main_v7 (F := Ideal) G N k := by
  pointwise [k0_pay1, k0_pay5, k0_pay4, val_main_v7, val_main_v6, val_main_v5, val_main_v4, val_main_v3, val_main_cst, val_main_cst_0, val_main_cst_1, val_main_cst_2, val_main_cst_3, val_main_cst_4, val_main_cst_5, val_main_cst_6, val_main_cst_7, hg, hn]

/-- One element of a block of the new second moment. -/
theorem pay2_apply (g v : Vec Ideal S1x128x2816 .f32) (G : (⟨S1x2048x2816, .f32⟩ : BufTy).Contents (Elt Ideal)) (W : (⟨S4x2048x2816, .f32⟩ : BufTy).Contents (Elt Ideal)) (j : S1x128x2816.Idx) (k : S1x2048x2816.Idx) (hg : g j = G k) (hv : v j = val_main_v2 (F := Ideal) W k) :
    k0_pay2 (F := Ideal) (k0_pay6 (F := Ideal) g v) j = val_main_v13 (F := Ideal) G W k := by
  pointwise [k0_pay2, k0_pay6, k0_pay4, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, hg, hv]

/-- One element of a block of the step. -/
theorem pay7_apply (g w n v : Vec Ideal S1x128x2816 .f32) (X : (⟨S4x2048x2816, .f32⟩ : BufTy).Contents (Elt Ideal)) (G : (⟨S1x2048x2816, .f32⟩ : BufTy).Contents (Elt Ideal)) (N W : (⟨S4x2048x2816, .f32⟩ : BufTy).Contents (Elt Ideal)) (j : S1x128x2816.Idx) (k : S1x2048x2816.Idx)
    (hg : g j = G k) (hw : w j = val_main_v0 (F := Ideal) X k) (hn : n j = val_main_v1 (F := Ideal) N k) (hv : v j = val_main_v2 (F := Ideal) W k) :
    k0_pay7 (F := Ideal) g w n v j = val_main_v26 (F := Ideal) X G N W k := by
  pointwise [k0_pay7, k0_pay6, k0_pay5, k0_pay4, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, hg, hw, hn, hv]

/-- One element of a block of the gradient's copy. -/
theorem pay3_apply (g : Vec Ideal S1x128x2816 .f32) (j : S1x128x2816.Idx) : k0_pay3 (F := Ideal) (k0_pay4 (F := Ideal) g) j = g j := by
  pointwise [k0_pay3, k0_pay4]

/-- An element of the first layer, as an element of an array of one layer. -/
def one (i : S4x2048x2816.Idx) : S1x2048x2816.Idx := fun e => match e with
  | ⟨0, _⟩ => ⟨0, by show 0 < 1; omega⟩
  | ⟨1, _⟩ => ⟨(i 1).val, (i 1).isLt⟩
  | ⟨2, _⟩ => ⟨(i 2).val, (i 2).isLt⟩

/-- Window 4's blocks are the rows of the first layer. -/
theorem covered4 (i : S4x2048x2816.Idx) (h0 : (i 0).val = 0) : ∃ t : Fin cfg0.N, (cfg0.win 4).flush t = true ∧ i ∈ ((cfg0.win 4).blk t).view.set := by
  have hi1 : (i 1).val < 2048 := (i 1).isLt
  have hi2 : (i 2).val < 2816 := (i 2).isLt
  have ht : (i 1).val / 128 < cfg0.N := by
    have hN : cfg0.N = 16 := by decide
    rw [hN]; omega
  obtain ⟨t, hv⟩ : ∃ t : Fin cfg0.N, t.val = (i 1).val / 128 := ⟨⟨_, ht⟩, rfl⟩
  refine ⟨t, (by decide +kernel : ∀ t : Fin grid0.N, (cfg0.win 4).flush t = true) _, ?_⟩
  mem_blk [idx t]
  omega

/-- What the call finds in the array of window 4. -/
theorem entry_array4 (c : Dev nD) : V m c main_v0_0 = (m ((c : Thread nD τ).loc main_arg4)) := by
  entry_read
  rfl

/-- The first layer of the reference's gradient. -/
theorem ref4 (x1 : (⟨S1x2048x2816, .f32⟩ : BufTy).Contents (Elt Ideal)) (x4 : (⟨S4x2048x2816, .f32⟩ : BufTy).Contents (Elt Ideal)) (i : S4x2048x2816.Idx) (h0 : (i 0).val = 0) :
    val_main_v28 (F := Ideal) x1 x4 i = x1 (one i) := by
  unfold val_main_v28
  exact cat_first _ _ _ i (one i) h0 rfl rfl

/-- The gradient's copy after the call is the reference's. -/
theorem final4 (c : Dev nD) : (dats m 0 c).arrAt 4 cfg0.N = val_main_v28 (F := Ideal) (m ((c : Thread nD τ).loc main_arg1)) (m ((c : Thread nD τ).loc main_arg4)) := by
  funext i
  by_cases h0 : (i 0).val = 0
  · obtain ⟨t, hf, hi⟩ := covered4 i h0
    refine (dats m 0 c).arrAt_apply_of_mem 4 (val_main_v28 (F := Ideal) (m ((c : Thread nD τ).loc main_arg1)) (m ((c : Thread nD τ).loc main_arg4))) (fun t _ => ?_) cfg0.N t i t.isLt hf hi
    funext j
    have hj : (((((cfg0.win 4).blk t).view.emb j) 0) : Nat) = 0 := by
      blk_simp [idx t]
    have h1 : (one (((cfg0.win 4).blk t).view.emb j) 1).val = t.val * 128 + (j 1).val := by
      show ((((cfg0.win 4).blk t).view.emb j) 1).val = _
      blk_simp [idx t]
    have h2 : (one (((cfg0.win 4).blk t).view.emb j) 2).val = (j 2).val := by
      show ((((cfg0.win 4).blk t).view.emb j) 2).val = _
      blk_simp [idx t]
    blk_simp
    refine Eq.trans ?_ (ref4 (m ((c : Thread nD τ).loc main_arg1)) (m ((c : Thread nD τ).loc main_arg4)) (((cfg0.win 4).blk t).view.emb j) hj).symm
    rw [after0_4]
    refine Eq.trans (?_ : (outsAt0 m c t).1 j = iblk m c 1 t j) (grad_point m c t j (one (((cfg0.win 4).blk t).view.emb j)) h1 h2)
    simp only [outsAt0]
    frame_out
    exact pay3_apply _ j
  · have hn : (dats m 0 c).arrAt 4 cfg0.N i = V m c main_v0_0 i := Value.entry4 m c i fun t _ hi => h0 (by
      mem_blk [idx t] at hi
      omega)
    rw [hn, entry_array4]
    exact (cat_rest _ _ _ _ i h0).symm

/-- Window 5's blocks are the rows of the first layer. -/
theorem covered5 (i : S4x2048x2816.Idx) (h0 : (i 0).val = 0) : ∃ t : Fin cfg0.N, (cfg0.win 5).flush t = true ∧ i ∈ ((cfg0.win 5).blk t).view.set := by
  have hi1 : (i 1).val < 2048 := (i 1).isLt
  have hi2 : (i 2).val < 2816 := (i 2).isLt
  have ht : (i 1).val / 128 < cfg0.N := by
    have hN : cfg0.N = 16 := by decide
    rw [hN]; omega
  obtain ⟨t, hv⟩ : ∃ t : Fin cfg0.N, t.val = (i 1).val / 128 := ⟨⟨_, ht⟩, rfl⟩
  refine ⟨t, (by decide +kernel : ∀ t : Fin grid0.N, (cfg0.win 5).flush t = true) _, ?_⟩
  mem_blk [idx t]
  omega

/-- What the call finds in the array of window 5. -/
theorem entry_array5 (c : Dev nD) : V m c main_v0_1 = (m ((c : Thread nD τ).loc main_arg5)) := by
  entry_read
  rfl

/-- The step's array after the call is the reference's. -/
theorem final5 (c : Dev nD) : (dats m 0 c).arrAt 5 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  funext i
  by_cases h0 : (i 0).val = 0
  · obtain ⟨t, hf, hi⟩ := covered5 i h0
    refine (dats m 0 c).arrAt_apply_of_mem 5 (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (fun t _ => ?_) cfg0.N t i t.isLt hf hi
    funext j
    have hj : (((((cfg0.win 5).blk t).view.emb j) 0) : Nat) = 0 := by
      blk_simp [idx t]
    have h1 : (one (((cfg0.win 5).blk t).view.emb j) 1).val = t.val * 128 + (j 1).val := by
      show ((((cfg0.win 5).blk t).view.emb j) 1).val = _
      blk_simp [idx t]
    have h2 : (one (((cfg0.win 5).blk t).view.emb j) 2).val = (j 2).val := by
      show ((((cfg0.win 5).blk t).view.emb j) 2).val = _
      blk_simp [idx t]
    blk_simp
    refine Eq.trans ?_ (cat_first _ _ _ _ (one (((cfg0.win 5).blk t).view.emb j)) hj rfl rfl).symm
    rw [after0_5]; frame_out
    exact pay7_apply _ _ _ _ _ _ _ _ j _ (grad_point m c t j _ h1 h2) (weight_point m c t j _ h1 h2) (first_point m c t j _ h1 h2) (second_point m c t j _ h1 h2)
  · have hn : (dats m 0 c).arrAt 5 cfg0.N i = V m c main_v0_1 i := Value.entry5 m c i fun t _ hi => h0 (by
      mem_blk [idx t] at hi
      omega)
    rw [hn, entry_array5]
    exact (cat_rest _ _ _ _ i h0).symm

/-- Window 6's blocks are the rows of the first layer. -/
theorem covered6 (i : S4x2048x2816.Idx) (h0 : (i 0).val = 0) : ∃ t : Fin cfg0.N, (cfg0.win 6).flush t = true ∧ i ∈ ((cfg0.win 6).blk t).view.set := by
  have hi1 : (i 1).val < 2048 := (i 1).isLt
  have hi2 : (i 2).val < 2816 := (i 2).isLt
  have ht : (i 1).val / 128 < cfg0.N := by
    have hN : cfg0.N = 16 := by decide
    rw [hN]; omega
  obtain ⟨t, hv⟩ : ∃ t : Fin cfg0.N, t.val = (i 1).val / 128 := ⟨⟨_, ht⟩, rfl⟩
  refine ⟨t, (by decide +kernel : ∀ t : Fin grid0.N, (cfg0.win 6).flush t = true) _, ?_⟩
  mem_blk [idx t]
  omega

/-- What the call finds in the array of window 6. -/
theorem entry_array6 (c : Dev nD) : V m c main_v0_2 = (m ((c : Thread nD τ).loc main_arg6)) := by
  entry_read
  rfl

/-- The first moment's array after the call is the reference's. -/
theorem final6 (c : Dev nD) : (dats m 0 c).arrAt 6 cfg0.N = val_main_v32 (F := Ideal) (m ((c : Thread nD τ).loc main_arg1)) (m ((c : Thread nD τ).loc main_arg2)) (m ((c : Thread nD τ).loc main_arg6)) := by
  funext i
  by_cases h0 : (i 0).val = 0
  · obtain ⟨t, hf, hi⟩ := covered6 i h0
    refine (dats m 0 c).arrAt_apply_of_mem 6 (val_main_v32 (F := Ideal) (m ((c : Thread nD τ).loc main_arg1)) (m ((c : Thread nD τ).loc main_arg2)) (m ((c : Thread nD τ).loc main_arg6))) (fun t _ => ?_) cfg0.N t i t.isLt hf hi
    funext j
    have hj : (((((cfg0.win 6).blk t).view.emb j) 0) : Nat) = 0 := by
      blk_simp [idx t]
    have h1 : (one (((cfg0.win 6).blk t).view.emb j) 1).val = t.val * 128 + (j 1).val := by
      show ((((cfg0.win 6).blk t).view.emb j) 1).val = _
      blk_simp [idx t]
    have h2 : (one (((cfg0.win 6).blk t).view.emb j) 2).val = (j 2).val := by
      show ((((cfg0.win 6).blk t).view.emb j) 2).val = _
      blk_simp [idx t]
    blk_simp
    refine Eq.trans ?_ (cat_first _ _ _ _ (one (((cfg0.win 6).blk t).view.emb j)) hj rfl rfl).symm
    rw [after0_6]; frame_out
    exact pay1_apply _ _ _ _ j _ (grad_point m c t j _ h1 h2) (first_point m c t j _ h1 h2)
  · have hn : (dats m 0 c).arrAt 6 cfg0.N i = V m c main_v0_2 i := Value.entry6 m c i fun t _ hi => h0 (by
      mem_blk [idx t] at hi
      omega)
    rw [hn, entry_array6]
    exact (cat_rest _ _ _ _ i h0).symm

/-- Window 7's blocks are the rows of the first layer. -/
theorem covered7 (i : S4x2048x2816.Idx) (h0 : (i 0).val = 0) : ∃ t : Fin cfg0.N, (cfg0.win 7).flush t = true ∧ i ∈ ((cfg0.win 7).blk t).view.set := by
  have hi1 : (i 1).val < 2048 := (i 1).isLt
  have hi2 : (i 2).val < 2816 := (i 2).isLt
  have ht : (i 1).val / 128 < cfg0.N := by
    have hN : cfg0.N = 16 := by decide
    rw [hN]; omega
  obtain ⟨t, hv⟩ : ∃ t : Fin cfg0.N, t.val = (i 1).val / 128 := ⟨⟨_, ht⟩, rfl⟩
  refine ⟨t, (by decide +kernel : ∀ t : Fin grid0.N, (cfg0.win 7).flush t = true) _, ?_⟩
  mem_blk [idx t]
  omega

/-- What the call finds in the array of window 7. -/
theorem entry_array7 (c : Dev nD) : V m c main_v0_3 = (m ((c : Thread nD τ).loc main_arg7)) := by
  entry_read
  rfl

/-- The second moment's array after the call is the reference's. -/
theorem final7 (c : Dev nD) : (dats m 0 c).arrAt 7 cfg0.N = val_main_v34 (F := Ideal) (m ((c : Thread nD τ).loc main_arg1)) (m ((c : Thread nD τ).loc main_arg3)) (m ((c : Thread nD τ).loc main_arg7)) := by
  funext i
  by_cases h0 : (i 0).val = 0
  · obtain ⟨t, hf, hi⟩ := covered7 i h0
    refine (dats m 0 c).arrAt_apply_of_mem 7 (val_main_v34 (F := Ideal) (m ((c : Thread nD τ).loc main_arg1)) (m ((c : Thread nD τ).loc main_arg3)) (m ((c : Thread nD τ).loc main_arg7))) (fun t _ => ?_) cfg0.N t i t.isLt hf hi
    funext j
    have hj : (((((cfg0.win 7).blk t).view.emb j) 0) : Nat) = 0 := by
      blk_simp [idx t]
    have h1 : (one (((cfg0.win 7).blk t).view.emb j) 1).val = t.val * 128 + (j 1).val := by
      show ((((cfg0.win 7).blk t).view.emb j) 1).val = _
      blk_simp [idx t]
    have h2 : (one (((cfg0.win 7).blk t).view.emb j) 2).val = (j 2).val := by
      show ((((cfg0.win 7).blk t).view.emb j) 2).val = _
      blk_simp [idx t]
    blk_simp
    refine Eq.trans ?_ (cat_first _ _ _ _ (one (((cfg0.win 7).blk t).view.emb j)) hj rfl rfl).symm
    rw [after0_7]; frame_out
    exact pay2_apply _ _ _ _ j _ (grad_point m c t j _ h1 h2) (second_point m c t j _ h1 h2)
  · have hn : (dats m 0 c).arrAt 7 cfg0.N i = V m c main_v0_3 i := Value.entry7 m c i fun t _ hi => h0 (by
      mem_blk [idx t] at hi
      omega)
    rw [hn, entry_array7]
    exact (cat_rest _ _ _ _ i h0).symm

end Cert.Kernel24Ideal.Hand

end
-- ==== Proof.AdamDown.lean ====
/- AdamW for the down-projection's weights, one layer written into the arrays of the other layers: what the call leaves in its result arrays. -/
module
public import proofs.«01_k».proof.Proof.Gen.Kernel25Ideal.Value
public import proofs.«01_k».proof.Proof.Gen.Reference25Ideal.Read
public import Idealize.ShloMosaic.Lib.Pipeline.ValueKit
public import Idealize.ShloMosaic.Lib.Pointwise
@[expose] public section
set_option maxRecDepth 16384
noncomputable section
namespace Cert.Kernel25Ideal.Hand
open Cert.Kernel25Ideal Cert.Kernel25Ideal.Gen
open Idealize.ShloMosaic Idealize.ShloMosaic.TcCoe Idealize.ShloMosaic.Tactic Idealize.SL.Sem
open Idealize.ShloMosaic.Pipeline (Dat)
open Cert.Reference25Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_v34 val_main_cst val_main_cst_0 val_main_cst_1 val_main_cst_2 val_main_cst_3 val_main_cst_4 val_main_cst_5 val_main_cst_6 val_main_cst_7 val_main_v0_apply val_main_v1_apply val_main_v2_apply)

variable (m : (ℓ : Loc nD τ sig) → Buf (Elt Ideal) ℓ)

/-- Every window shows the same rows at every point, those of layer 0. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The first layer of an array made of one layer and the others. -/
theorem cat_first (a : S1x1408x2048.Idx → Elt Ideal .f32) (b : Cert.Reference25Ideal.S3x1408x2048.Idx → Elt Ideal .f32) (h : Shape.Concatenates [S1x1408x2048, Cert.Reference25Ideal.S3x1408x2048] S4x1408x2048 0)
    (i : S4x1408x2048.Idx) (k : S1x1408x2048.Idx) (h0 : (i 0).val = 0) (h1 : (k 1).val = (i 1).val) (h2 : (k 2).val = (i 2).val) :
    concatenate S4x1408x2048 0 [⟨S1x1408x2048, a⟩, ⟨Cert.Reference25Ideal.S3x1408x2048, b⟩] h i = a k :=
  concatenate_pair_apply_left 0 a b h i rfl k fun e => match e with
    | ⟨0, _⟩ => by
      have hk : (k 0).val < 1 := (k 0).isLt
      show (k 0).val = (i 0).val
      omega
    | ⟨1, _⟩ => h1
    | ⟨2, _⟩ => h2

/-- The other layers of such an array, when they are another array's. -/
theorem cat_rest (a : S1x1408x2048.Idx → Elt Ideal .f32) (x : S4x1408x2048.Idx → Elt Ideal .f32) (hs : Shape.Slices S4x1408x2048 ![1, 0, 0] Cert.Reference25Ideal.S3x1408x2048) (h : Shape.Concatenates [S1x1408x2048, Cert.Reference25Ideal.S3x1408x2048] S4x1408x2048 0)
    (i : S4x1408x2048.Idx) (h0 : (i 0).val ≠ 0) :
    concatenate S4x1408x2048 0 [⟨S1x1408x2048, a⟩, ⟨Cert.Reference25Ideal.S3x1408x2048, extractStridedSlice Cert.Reference25Ideal.S3x1408x2048 ![1, 0, 0] x hs⟩] h i = x i := by
  have hi : (i 0).val < 4 := (i 0).isLt
  let k : Cert.Reference25Ideal.S3x1408x2048.Idx := fun e => match e with
    | ⟨0, _⟩ => ⟨(i 0).val - 1, by show (i 0).val - 1 < 3; omega⟩
    | ⟨1, _⟩ => ⟨(i 1).val, (i 1).isLt⟩
    | ⟨2, _⟩ => ⟨(i 2).val, (i 2).isLt⟩
  refine (concatenate_pair_apply_right 0 a _ h i rfl rfl k (fun e he => ?_) ?_).trans
    (extractStridedSlice_apply ![1, 0, 0] x hs k i fun e => ?_)
  · match e with
    | ⟨0, _⟩ => exact absurd rfl he
    | ⟨1, _⟩ => rfl
    | ⟨2, _⟩ => rfl
  · show (i 0).val - 1 + 1 = (i 0).val
    omega
  · match e with
    | ⟨0, _⟩ => show (i 0).val = 1 + ((i 0).val - 1); omega
    | ⟨1, _⟩ => show (i 1).val = 0 + (i 1).val; omega
    | ⟨2, _⟩ => show (i 2).val = 0 + (i 2).val; omega

/-- A block of the weights, read in the reference's weights. -/
theorem weight_point (c : Dev nD) (t : Fin cfg0.N) (j : S1x176x2048.Idx) (k : S1x1408x2048.Idx)
    (h1 : (k 1).val = t.val * 176 + (j 1).val) (h2 : (k 2).val = (j 2).val) :
    iblk m c 0 t j = val_main_v0 (F := Ideal) (m ((c : Thread nD τ).loc main_arg0)) k := by
  rw [val_main_v0_apply]
  blk_point [iblk, V, idx t]

/-- A block of the gradient, read in the reference's gradient. -/
theorem grad_point (c : Dev nD) (t : Fin cfg0.N) (j : S1x176x2048.Idx) (k : S1x1408x2048.Idx)
    (h1 : (k 1).val = t.val * 176 + (j 1).val) (h2 : (k 2).val = (j 2).val) :
    iblk m c 1 t j = (m ((c : Thread nD τ).loc main_arg1)) k := by
  blk_point [iblk, V, idx t]

/-- A block of the first moment, read in the reference's first moment. -/
theorem first_point (c : Dev nD) (t : Fin cfg0.N) (j : S1x176x2048.Idx) (k : S1x1408x2048.Idx)
    (h1 : (k 1).val = t.val * 176 + (j 1).val) (h2 : (k 2).val = (j 2).val) :
    iblk m c 2 t j = val_main_v1 (F := Ideal) (m ((c : Thread nD τ).loc main_arg2)) k := by
  rw [val_main_v1_apply]
  blk_point [iblk, V, idx t]

/-- A block of the second moment, read in the reference's second moment. -/
theorem second_point (c : Dev nD) (t : Fin cfg0.N) (j : S1x176x2048.Idx) (k : S1x1408x2048.Idx)
    (h1 : (k 1).val = t.val * 176 + (j 1).val) (h2 : (k 2).val = (j 2).val) :
    iblk m c 3 t j = val_main_v2 (F := Ideal) (m ((c : Thread nD τ).loc main_arg3)) k := by
  rw [val_main_v2_apply]
  blk_point [iblk, V, idx t]

/-- One element of a block of the new first moment, where the block's elements are the arrays'. -/
theorem pay1_apply (g n : Vec Ideal S1x176x2048 .f32) (G : (⟨S1x1408x2048, .f32⟩ : BufTy).Contents (Elt Ideal)) (N : (⟨S4x1408x2048, .f32⟩ : BufTy).Contents (Elt Ideal)) (j : S1x176x2048.Idx) (k : S1x1408x2048.Idx) (hg : g j = G k) (hn : n j = val_main_v1 (F := Ideal) N k) :
    k0_pay1 (F := Ideal) (k0_pay5 (F := Ideal) g n) j = val_main_v7 (F := Ideal) G N k := by
  pointwise [k0_pay1, k0_pay5, k0_pay4, val_main_v7, val_main_v6, val_main_v5, val_main_v4, val_main_v3, val_main_cst, val_main_cst_0, val_main_cst_1, val_main_cst_2, val_main_cst_3, val_main_cst_4, val_main_cst_5, val_main_cst_6, val_main_cst_7, hg, hn]

/-- One element of a block of the new second moment. -/
theorem pay2_apply (g v : Vec Ideal S1x176x2048 .f32) (G : (⟨S1x1408x2048, .f32⟩ : BufTy).Contents (Elt Ideal)) (W : (⟨S4x1408x2048, .f32⟩ : BufTy).Contents (Elt Ideal)) (j : S1x176x2048.Idx) (k : S1x1408x2048.Idx) (hg : g j = G k) (hv : v j = val_main_v2 (F := Ideal) W k) :
    k0_pay2 (F := Ideal) (k0_pay6 (F := Ideal) g v) j = val_main_v13 (F := Ideal) G W k := by
  pointwise [k0_pay2, k0_pay6, k0_pay4, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, hg, hv]

/-- One element of a block of the step. -/
theorem pay7_apply (g w n v : Vec Ideal S1x176x2048 .f32) (X : (⟨S4x1408x2048, .f32⟩ : BufTy).Contents (Elt Ideal)) (G : (⟨S1x1408x2048, .f32⟩ : BufTy).Contents (Elt Ideal)) (N W : (⟨S4x1408x2048, .f32⟩ : BufTy).Contents (Elt Ideal)) (j : S1x176x2048.Idx) (k : S1x1408x2048.Idx)
    (hg : g j = G k) (hw : w j = val_main_v0 (F := Ideal) X k) (hn : n j = val_main_v1 (F := Ideal) N k) (hv : v j = val_main_v2 (F := Ideal) W k) :
    k0_pay7 (F := Ideal) g w n v j = val_main_v26 (F := Ideal) X G N W k := by
  pointwise [k0_pay7, k0_pay6, k0_pay5, k0_pay4, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, hg, hw, hn, hv]

/-- One element of a block of the gradient's copy. -/
theorem pay3_apply (g : Vec Ideal S1x176x2048 .f32) (j : S1x176x2048.Idx) : k0_pay3 (F := Ideal) (k0_pay4 (F := Ideal) g) j = g j := by
  pointwise [k0_pay3, k0_pay4]

/-- An element of the first layer, as an element of an array of one layer. -/
def one (i : S4x1408x2048.Idx) : S1x1408x2048.Idx := fun e => match e with
  | ⟨0, _⟩ => ⟨0, by show 0 < 1; omega⟩
  | ⟨1, _⟩ => ⟨(i 1).val, (i 1).isLt⟩
  | ⟨2, _⟩ => ⟨(i 2).val, (i 2).isLt⟩

/-- Window 4's blocks are the rows of the first layer. -/
theorem covered4 (i : S4x1408x2048.Idx) (h0 : (i 0).val = 0) : ∃ t : Fin cfg0.N, (cfg0.win 4).flush t = true ∧ i ∈ ((cfg0.win 4).blk t).view.set := by
  have hi1 : (i 1).val < 1408 := (i 1).isLt
  have hi2 : (i 2).val < 2048 := (i 2).isLt
  have ht : (i 1).val / 176 < cfg0.N := by
    have hN : cfg0.N = 8 := by decide
    rw [hN]; omega
  obtain ⟨t, hv⟩ : ∃ t : Fin cfg0.N, t.val = (i 1).val / 176 := ⟨⟨_, ht⟩, rfl⟩
  refine ⟨t, (by decide +kernel : ∀ t : Fin grid0.N, (cfg0.win 4).flush t = true) _, ?_⟩
  mem_blk [idx t]
  omega

/-- What the call finds in the array of window 4. -/
theorem entry_array4 (c : Dev nD) : V m c main_v0_0 = (m ((c : Thread nD τ).loc main_arg4)) := by
  entry_read
  rfl

/-- The first layer of the reference's gradient. -/
theorem ref4 (x1 : (⟨S1x1408x2048, .f32⟩ : BufTy).Contents (Elt Ideal)) (x4 : (⟨S4x1408x2048, .f32⟩ : BufTy).Contents (Elt Ideal)) (i : S4x1408x2048.Idx) (h0 : (i 0).val = 0) :
    val_main_v28 (F := Ideal) x1 x4 i = x1 (one i) := by
  unfold val_main_v28
  exact cat_first _ _ _ i (one i) h0 rfl rfl

/-- The gradient's copy after the call is the reference's. -/
theorem final4 (c : Dev nD) : (dats m 0 c).arrAt 4 cfg0.N = val_main_v28 (F := Ideal) (m ((c : Thread nD τ).loc main_arg1)) (m ((c : Thread nD τ).loc main_arg4)) := by
  funext i
  by_cases h0 : (i 0).val = 0
  · obtain ⟨t, hf, hi⟩ := covered4 i h0
    refine (dats m 0 c).arrAt_apply_of_mem 4 (val_main_v28 (F := Ideal) (m ((c : Thread nD τ).loc main_arg1)) (m ((c : Thread nD τ).loc main_arg4))) (fun t _ => ?_) cfg0.N t i t.isLt hf hi
    funext j
    have hj : (((((cfg0.win 4).blk t).view.emb j) 0) : Nat) = 0 := by
      blk_simp [idx t]
    have h1 : (one (((cfg0.win 4).blk t).view.emb j) 1).val = t.val * 176 + (j 1).val := by
      show ((((cfg0.win 4).blk t).view.emb j) 1).val = _
      blk_simp [idx t]
    have h2 : (one (((cfg0.win 4).blk t).view.emb j) 2).val = (j 2).val := by
      show ((((cfg0.win 4).blk t).view.emb j) 2).val = _
      blk_simp [idx t]
    blk_simp
    refine Eq.trans ?_ (ref4 (m ((c : Thread nD τ).loc main_arg1)) (m ((c : Thread nD τ).loc main_arg4)) (((cfg0.win 4).blk t).view.emb j) hj).symm
    rw [after0_4]
    refine Eq.trans (?_ : (outsAt0 m c t).1 j = iblk m c 1 t j) (grad_point m c t j (one (((cfg0.win 4).blk t).view.emb j)) h1 h2)
    simp only [outsAt0]
    frame_out
    exact pay3_apply _ j
  · have hn : (dats m 0 c).arrAt 4 cfg0.N i = V m c main_v0_0 i := Value.entry4 m c i fun t _ hi => h0 (by
      mem_blk [idx t] at hi
      omega)
    rw [hn, entry_array4]
    exact (cat_rest _ _ _ _ i h0).symm

/-- Window 5's blocks are the rows of the first layer. -/
theorem covered5 (i : S4x1408x2048.Idx) (h0 : (i 0).val = 0) : ∃ t : Fin cfg0.N, (cfg0.win 5).flush t = true ∧ i ∈ ((cfg0.win 5).blk t).view.set := by
  have hi1 : (i 1).val < 1408 := (i 1).isLt
  have hi2 : (i 2).val < 2048 := (i 2).isLt
  have ht : (i 1).val / 176 < cfg0.N := by
    have hN : cfg0.N = 8 := by decide
    rw [hN]; omega
  obtain ⟨t, hv⟩ : ∃ t : Fin cfg0.N, t.val = (i 1).val / 176 := ⟨⟨_, ht⟩, rfl⟩
  refine ⟨t, (by decide +kernel : ∀ t : Fin grid0.N, (cfg0.win 5).flush t = true) _, ?_⟩
  mem_blk [idx t]
  omega

/-- What the call finds in the array of window 5. -/
theorem entry_array5 (c : Dev nD) : V m c main_v0_1 = (m ((c : Thread nD τ).loc main_arg5)) := by
  entry_read
  rfl

/-- The step's array after the call is the reference's. -/
theorem final5 (c : Dev nD) : (dats m 0 c).arrAt 5 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  funext i
  by_cases h0 : (i 0).val = 0
  · obtain ⟨t, hf, hi⟩ := covered5 i h0
    refine (dats m 0 c).arrAt_apply_of_mem 5 (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (fun t _ => ?_) cfg0.N t i t.isLt hf hi
    funext j
    have hj : (((((cfg0.win 5).blk t).view.emb j) 0) : Nat) = 0 := by
      blk_simp [idx t]
    have h1 : (one (((cfg0.win 5).blk t).view.emb j) 1).val = t.val * 176 + (j 1).val := by
      show ((((cfg0.win 5).blk t).view.emb j) 1).val = _
      blk_simp [idx t]
    have h2 : (one (((cfg0.win 5).blk t).view.emb j) 2).val = (j 2).val := by
      show ((((cfg0.win 5).blk t).view.emb j) 2).val = _
      blk_simp [idx t]
    blk_simp
    refine Eq.trans ?_ (cat_first _ _ _ _ (one (((cfg0.win 5).blk t).view.emb j)) hj rfl rfl).symm
    rw [after0_5]; frame_out
    exact pay7_apply _ _ _ _ _ _ _ _ j _ (grad_point m c t j _ h1 h2) (weight_point m c t j _ h1 h2) (first_point m c t j _ h1 h2) (second_point m c t j _ h1 h2)
  · have hn : (dats m 0 c).arrAt 5 cfg0.N i = V m c main_v0_1 i := Value.entry5 m c i fun t _ hi => h0 (by
      mem_blk [idx t] at hi
      omega)
    rw [hn, entry_array5]
    exact (cat_rest _ _ _ _ i h0).symm

/-- Window 6's blocks are the rows of the first layer. -/
theorem covered6 (i : S4x1408x2048.Idx) (h0 : (i 0).val = 0) : ∃ t : Fin cfg0.N, (cfg0.win 6).flush t = true ∧ i ∈ ((cfg0.win 6).blk t).view.set := by
  have hi1 : (i 1).val < 1408 := (i 1).isLt
  have hi2 : (i 2).val < 2048 := (i 2).isLt
  have ht : (i 1).val / 176 < cfg0.N := by
    have hN : cfg0.N = 8 := by decide
    rw [hN]; omega
  obtain ⟨t, hv⟩ : ∃ t : Fin cfg0.N, t.val = (i 1).val / 176 := ⟨⟨_, ht⟩, rfl⟩
  refine ⟨t, (by decide +kernel : ∀ t : Fin grid0.N, (cfg0.win 6).flush t = true) _, ?_⟩
  mem_blk [idx t]
  omega

/-- What the call finds in the array of window 6. -/
theorem entry_array6 (c : Dev nD) : V m c main_v0_2 = (m ((c : Thread nD τ).loc main_arg6)) := by
  entry_read
  rfl

/-- The first moment's array after the call is the reference's. -/
theorem final6 (c : Dev nD) : (dats m 0 c).arrAt 6 cfg0.N = val_main_v32 (F := Ideal) (m ((c : Thread nD τ).loc main_arg1)) (m ((c : Thread nD τ).loc main_arg2)) (m ((c : Thread nD τ).loc main_arg6)) := by
  funext i
  by_cases h0 : (i 0).val = 0
  · obtain ⟨t, hf, hi⟩ := covered6 i h0
    refine (dats m 0 c).arrAt_apply_of_mem 6 (val_main_v32 (F := Ideal) (m ((c : Thread nD τ).loc main_arg1)) (m ((c : Thread nD τ).loc main_arg2)) (m ((c : Thread nD τ).loc main_arg6))) (fun t _ => ?_) cfg0.N t i t.isLt hf hi
    funext j
    have hj : (((((cfg0.win 6).blk t).view.emb j) 0) : Nat) = 0 := by
      blk_simp [idx t]
    have h1 : (one (((cfg0.win 6).blk t).view.emb j) 1).val = t.val * 176 + (j 1).val := by
      show ((((cfg0.win 6).blk t).view.emb j) 1).val = _
      blk_simp [idx t]
    have h2 : (one (((cfg0.win 6).blk t).view.emb j) 2).val = (j 2).val := by
      show ((((cfg0.win 6).blk t).view.emb j) 2).val = _
      blk_simp [idx t]
    blk_simp
    refine Eq.trans ?_ (cat_first _ _ _ _ (one (((cfg0.win 6).blk t).view.emb j)) hj rfl rfl).symm
    rw [after0_6]; frame_out
    exact pay1_apply _ _ _ _ j _ (grad_point m c t j _ h1 h2) (first_point m c t j _ h1 h2)
  · have hn : (dats m 0 c).arrAt 6 cfg0.N i = V m c main_v0_2 i := Value.entry6 m c i fun t _ hi => h0 (by
      mem_blk [idx t] at hi
      omega)
    rw [hn, entry_array6]
    exact (cat_rest _ _ _ _ i h0).symm

/-- Window 7's blocks are the rows of the first layer. -/
theorem covered7 (i : S4x1408x2048.Idx) (h0 : (i 0).val = 0) : ∃ t : Fin cfg0.N, (cfg0.win 7).flush t = true ∧ i ∈ ((cfg0.win 7).blk t).view.set := by
  have hi1 : (i 1).val < 1408 := (i 1).isLt
  have hi2 : (i 2).val < 2048 := (i 2).isLt
  have ht : (i 1).val / 176 < cfg0.N := by
    have hN : cfg0.N = 8 := by decide
    rw [hN]; omega
  obtain ⟨t, hv⟩ : ∃ t : Fin cfg0.N, t.val = (i 1).val / 176 := ⟨⟨_, ht⟩, rfl⟩
  refine ⟨t, (by decide +kernel : ∀ t : Fin grid0.N, (cfg0.win 7).flush t = true) _, ?_⟩
  mem_blk [idx t]
  omega

/-- What the call finds in the array of window 7. -/
theorem entry_array7 (c : Dev nD) : V m c main_v0_3 = (m ((c : Thread nD τ).loc main_arg7)) := by
  entry_read
  rfl

/-- The second moment's array after the call is the reference's. -/
theorem final7 (c : Dev nD) : (dats m 0 c).arrAt 7 cfg0.N = val_main_v34 (F := Ideal) (m ((c : Thread nD τ).loc main_arg1)) (m ((c : Thread nD τ).loc main_arg3)) (m ((c : Thread nD τ).loc main_arg7)) := by
  funext i
  by_cases h0 : (i 0).val = 0
  · obtain ⟨t, hf, hi⟩ := covered7 i h0
    refine (dats m 0 c).arrAt_apply_of_mem 7 (val_main_v34 (F := Ideal) (m ((c : Thread nD τ).loc main_arg1)) (m ((c : Thread nD τ).loc main_arg3)) (m ((c : Thread nD τ).loc main_arg7))) (fun t _ => ?_) cfg0.N t i t.isLt hf hi
    funext j
    have hj : (((((cfg0.win 7).blk t).view.emb j) 0) : Nat) = 0 := by
      blk_simp [idx t]
    have h1 : (one (((cfg0.win 7).blk t).view.emb j) 1).val = t.val * 176 + (j 1).val := by
      show ((((cfg0.win 7).blk t).view.emb j) 1).val = _
      blk_simp [idx t]
    have h2 : (one (((cfg0.win 7).blk t).view.emb j) 2).val = (j 2).val := by
      show ((((cfg0.win 7).blk t).view.emb j) 2).val = _
      blk_simp [idx t]
    blk_simp
    refine Eq.trans ?_ (cat_first _ _ _ _ (one (((cfg0.win 7).blk t).view.emb j)) hj rfl rfl).symm
    rw [after0_7]; frame_out
    exact pay2_apply _ _ _ _ j _ (grad_point m c t j _ h1 h2) (second_point m c t j _ h1 h2)
  · have hn : (dats m 0 c).arrAt 7 cfg0.N i = V m c main_v0_3 i := Value.entry7 m c i fun t _ hi => h0 (by
      mem_blk [idx t] at hi
      omega)
    rw [hn, entry_array7]
    exact (cat_rest _ _ _ _ i h0).symm

end Cert.Kernel25Ideal.Hand

end
-- ==== Proof.lean ====
/- The calls of the gated channel mixer, the products around the attention and behind the state-space layer, the norms and the
   optimiser: for each, the frames of the kernel, its idealization and its reference, that idealization changes nothing, and that over the extended
   reals the kernel computes the reference's results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Free
public import proofs.«01_k».proof.Proof.Whole
public import proofs.«01_k».proof.Proof.Ref
public import proofs.«01_k».proof.Proof.Pre
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.DownWeight
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.UpWeight
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.InGrad
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Down
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Up
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.NormBack
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.GluBack
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.QkvWeight
public import proofs.«01_k».proof.Proof.Gen.Kernel10
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.OutWeight
public import proofs.«01_k».proof.Proof.Gen.Kernel11
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.OutGrad
public import proofs.«01_k».proof.Proof.Gen.Kernel12
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.QkvGrad
public import proofs.«01_k».proof.Proof.Gen.Kernel13
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.GluGrad
public import proofs.«01_k».proof.Proof.Gen.Kernel14
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Qkv
public import proofs.«01_k».proof.Proof.Gen.Kernel15
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Out
public import proofs.«01_k».proof.Proof.Gen.Kernel16
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Glu
public import proofs.«01_k».proof.Proof.Gen.Kernel17
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.AdamQkv
public import proofs.«01_k».proof.Proof.Gen.Kernel18
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.AdamOut
public import proofs.«01_k».proof.Proof.Gen.Kernel19
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.AdamGlu
public import proofs.«01_k».proof.Proof.Gen.Kernel20
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.NormRound
public import proofs.«01_k».proof.Proof.Gen.Kernel21
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.NormFull
public import proofs.«01_k».proof.Proof.Gen.Kernel22
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.AdamVectors
public import proofs.«01_k».proof.Proof.Gen.Kernel23
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.AdamPool
public import proofs.«01_k».proof.Proof.Gen.Kernel24
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.AdamUp
public import proofs.«01_k».proof.Proof.Gen.Kernel25
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.AdamDown
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.Tactic Idealize.SL.Sem

/-- At words the kernel's body table is the idealization's: they have the same text. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- So are the tables with the pipeline's own bodies. -/
theorem tables_eq : Cert.Kernel.defs (F := Bits) = Cert.KernelIdeal.defs (F := Bits) := by
  unfold Cert.Kernel.defs Cert.KernelIdeal.defs
  exact congrArg (Pipeline.defs (Cert.Kernel.pcfgs (F := Bits))) bodies_eq

/-- The kernel ends on every memory of words: its text is the idealization's, whose run is at any float values. -/
theorem frame_kernel : Cert.quiescent_Kernel := fun m g _ => by
  rw [tables_eq]
  exact Cert.KernelIdeal.Free.ends (F := Bits) m g

/-- The reference ends without fault, its arguments and the semaphores as they were. -/
theorem frame_reference : Cert.quiescent_ReferenceIdeal := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

/-- A function of six arguments at equal arguments. -/
theorem six {A B C D E G R : Type} (f : A → B → C → D → E → G → R) {a a' : A} {b b' : B} {c c' : C} {d d' : D} {e e' : E} {g g' : G}
    (ha : a = a') (hb : b = b') (hc : c = c') (hd : d = d') (he : e = e') (hg : g = g') : f a b c d e g = f a' b' c' d' e' g' := by
  subst ha hb hc hd he hg; rfl

/-- The precondition of a memory, of one device's arguments. -/
theorem finite_args (m) (h : Cert.Pre_KernelIdeal_finite_inputs m) (c : Dev Cert.KernelIdeal.nD) :
(∀ i, Cert.Hand.Fin' (m ((c.tc : Thread Cert.KernelIdeal.nD Cert.KernelIdeal.τ).loc Cert.KernelIdeal.main_arg0) i))
    ∧ (∀ i, Cert.Hand.Fin' (m ((c.tc : Thread Cert.KernelIdeal.nD Cert.KernelIdeal.τ).loc Cert.KernelIdeal.main_arg1) i))
    ∧ (∀ i, Cert.Hand.Fin' (m ((c.tc : Thread Cert.KernelIdeal.nD Cert.KernelIdeal.τ).loc Cert.KernelIdeal.main_arg2) i))
    ∧ (∀ i, Cert.Hand.Fin' (m ((c.tc : Thread Cert.KernelIdeal.nD Cert.KernelIdeal.τ).loc Cert.KernelIdeal.main_arg4) i))
    ∧ (∀ i, Cert.Hand.Fin' (m ((c.tc : Thread Cert.KernelIdeal.nD Cert.KernelIdeal.τ).loc Cert.KernelIdeal.main_arg5) i)) := by
  obtain ⟨p0, p1, p2, p3, p4⟩ := h c
  exact Cert.Pre_finite_inputs.finite (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (fun a => a.elim0) (congrFun p0 _) (congrFun p1 _) (congrFun p2 _) (congrFun p3 _) (congrFun p4 _)

open Cert.ReferenceIdeal.Read Cert.ReferenceIdeal.Hand Cert.KernelIdeal.Hand in
set_option maxHeartbeats 1600000 in
/-- The idealized kernel leaves the reference's six results, for finite inputs. -/
theorem same : Cert.algebraic_KernelIdeal_ReferenceIdeal_pre_finite_inputs := by
  pair_intro
  · run_from Cert.KernelIdeal.Hand.run_named m g
  · run_from Cert.ReferenceIdeal.Value.run m' g'
    all_goals
      obtain ⟨a0, a1, a2, a3, a4, a5⟩ := hagree c
      obtain ⟨f0, f1, f2, f4, f5⟩ := finite_args m hpre c
    · exact (val_main_v82_eq m' c).trans ((six (val_main_v82 (F := Ideal)) a0 a1 a2 a3 a4 a5).trans ((res8 _ _ _ _ _ _).trans (whole8 m c).symm))
    · exact (val_main_v83_eq m' c).trans ((six (val_main_v83 (F := Ideal)) a0 a1 a2 a3 a4 a5).trans ((res9 _ _ _ _ _ _ f0 f1 f2 f4 f5).trans (whole9 m c).symm))
    · exact (val_main_v84_eq m' c).trans ((six (val_main_v84 (F := Ideal)) a0 a1 a2 a3 a4 a5).trans ((res10 _ _ _ _ _ _).trans (whole10 m c).symm))
    · exact (val_main_v85_eq m' c).trans ((six (val_main_v85 (F := Ideal)) a0 a1 a2 a3 a4 a5).trans ((res11 _ _ _ _ _ _ f0 f1 f2 f4 f5).trans (whole11 m c).symm))
    · exact (val_main_v86_eq m' c).trans ((six (val_main_v86 (F := Ideal)) a0 a1 a2 a3 a4 a5).trans ((res12 _ _ _ _ _ _).trans (whole12 m c).symm))
    · exact (val_main_v87_eq m' c).trans ((six (val_main_v87 (F := Ideal)) a0 a1 a2 a3 a4 a5).trans ((res13 _ _ _ _ _ _ f0 f1 f2 f4 f5).trans (whole13 m c).symm))

/-- The bodies of the kernel for the gradient of the down-projection are the idealization's. -/
theorem bodies_eq2 : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) => rfl

/-- So are the tables. -/
theorem tables_eq2 : Cert.Kernel2.defs (F := Bits) = Cert.Kernel2Ideal.defs (F := Bits) := by
  unfold Cert.Kernel2.defs Cert.Kernel2Ideal.defs
  exact congrArg (Pipeline.defs (Cert.Kernel2.pcfgs (F := Bits))) bodies_eq2

/-- The kernel for the gradient of the down-projection ends on every memory of words. -/
theorem frame_kernel2 : Cert.quiescent_Kernel2 := fun m g _ => by
  rw [tables_eq2]
  exact Cert.Kernel2Ideal.Gen.frame (F := Bits) m g

/-- Its reference ends without fault, its arguments and the semaphores as they were. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The gradient of the down-projection: the idealized kernel leaves the reference's result. -/
theorem same2 : Cert.algebraic_Kernel2Ideal_Reference2Ideal := by
  pair_intro
  · run_from Cert.Kernel2Ideal.Value.run_blocks m g
  · run_from Cert.Reference2Ideal.Value.run m' g'
    exact (Cert.Reference2Ideal.Read.val_main_v6_eq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).trans (Cert.Kernel2Ideal.Hand.final m c).symm

/-- The bodies of the kernel for the gradient of one half of the up-projection are the idealization's. -/
theorem bodies_eq3 : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | 0, (t, s) => rfl

/-- So are the tables. -/
theorem tables_eq3 : Cert.Kernel3.defs (F := Bits) = Cert.Kernel3Ideal.defs (F := Bits) := by
  unfold Cert.Kernel3.defs Cert.Kernel3Ideal.defs
  exact congrArg (Pipeline.defs (Cert.Kernel3.pcfgs (F := Bits))) bodies_eq3

/-- The kernel for the gradient of one half of the up-projection ends on every memory of words. -/
theorem frame_kernel3 : Cert.quiescent_Kernel3 := fun m g _ => by
  rw [tables_eq3]
  exact Cert.Kernel3Ideal.Gen.frame (F := Bits) m g

/-- Its reference ends without fault, its arguments and the semaphores as they were. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The gradient of one half of the up-projection: the idealized kernel leaves the reference's result. -/
theorem same3 : Cert.algebraic_Kernel3Ideal_Reference3Ideal := by
  pair_intro
  · run_from Cert.Kernel3Ideal.Value.run_blocks m g
  · run_from Cert.Reference3Ideal.Value.run m' g'
    exact (Cert.Reference3Ideal.Read.val_main_v6_eq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).trans (Cert.Kernel3Ideal.Hand.final m c).symm

/-- The bodies of the kernel for the gradient of the input through the up-projection are the idealization's. -/
theorem bodies_eq4 : Cert.Kernel4.defs₀ (F := Bits) = Cert.Kernel4Ideal.defs₀ (F := Bits) := by
  unfold Cert.Kernel4.defs₀ Cert.Kernel4Ideal.defs₀
  refine congrArg Defs.onTc (funext fun l => funext fun x => ?_)
  match l, x with
  | 0, (t, s) => rfl

/-- So are the tables. -/
theorem tables_eq4 : Cert.Kernel4.defs (F := Bits) = Cert.Kernel4Ideal.defs (F := Bits) := by
  unfold Cert.Kernel4.defs Cert.Kernel4Ideal.defs
  exact congrArg (Pipeline.defs (Cert.Kernel4.pcfgs (F := Bits))) bodies_eq4

/-- The kernel for the gradient of the input through the up-projection ends on every memory of words. -/
theorem frame_kernel4 : Cert.quiescent_Kernel4 := fun m g _ => by
  rw [tables_eq4]
  exact Cert.Kernel4Ideal.Gen.frame (F := Bits) m g

/-- Its reference ends without fault, its arguments and the semaphores as they were. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The gradient of the input through the up-projection: the idealized kernel leaves the reference's result. -/
theorem same4 : Cert.algebraic_Kernel4Ideal_Reference4Ideal := by
  pair_intro
  · run_from Cert.Kernel4Ideal.Value.run_blocks m g
  · run_from Cert.Reference4Ideal.Value.run m' g'
    exact (Cert.Reference4Ideal.Read.val_main_v6_eq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).trans (Cert.Kernel4Ideal.Hand.final m c).symm

/-- The bodies of the kernel for the down-projection with the residual are the idealization's. -/
theorem bodies_eq5 : Cert.Kernel5.defs₀ (F := Bits) = Cert.Kernel5Ideal.defs₀ (F := Bits) := by
  unfold Cert.Kernel5.defs₀ Cert.Kernel5Ideal.defs₀
  refine congrArg Defs.onTc (funext fun l => funext fun x => ?_)
  match l, x with
  | 0, (t, s) => rfl

/-- So are the tables. -/
theorem tables_eq5 : Cert.Kernel5.defs (F := Bits) = Cert.Kernel5Ideal.defs (F := Bits) := by
  unfold Cert.Kernel5.defs Cert.Kernel5Ideal.defs
  exact congrArg (Pipeline.defs (Cert.Kernel5.pcfgs (F := Bits))) bodies_eq5

/-- The kernel for the down-projection with the residual ends on every memory of words. -/
theorem frame_kernel5 : Cert.quiescent_Kernel5 := fun m g _ => by
  rw [tables_eq5]
  exact Cert.Kernel5Ideal.Gen.frame (F := Bits) m g

/-- Its reference ends without fault, its arguments and the semaphores as they were. -/
theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The down-projection with the residual: the idealized kernel leaves the reference's result. -/
theorem same5 : Cert.algebraic_Kernel5Ideal_Reference5Ideal := by
  pair_intro
  · run_from Cert.Kernel5Ideal.Value.run_blocks m g
  · run_from Cert.Reference5Ideal.Value.run m' g'
    exact (Cert.Reference5Ideal.Read.val_main_v4_eq (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).trans (Cert.Kernel5Ideal.Hand.final m c).symm

/-- The bodies of the kernel for the up-projection with the gated convolution are the idealization's. -/
theorem bodies_eq6 : Cert.Kernel6.defs₀ (F := Bits) = Cert.Kernel6Ideal.defs₀ (F := Bits) := by
  unfold Cert.Kernel6.defs₀ Cert.Kernel6Ideal.defs₀
  refine congrArg Defs.onTc (funext fun l => funext fun x => ?_)
  match l, x with
  | 0, (t, s) => rfl

/-- So are the tables. -/
theorem tables_eq6 : Cert.Kernel6.defs (F := Bits) = Cert.Kernel6Ideal.defs (F := Bits) := by
  unfold Cert.Kernel6.defs Cert.Kernel6Ideal.defs
  exact congrArg (Pipeline.defs (Cert.Kernel6.pcfgs (F := Bits))) bodies_eq6

/-- The kernel for the up-projection with the gated convolution ends on every memory of words. -/
theorem frame_kernel6 : Cert.quiescent_Kernel6 := fun m g _ => by
  rw [tables_eq6]
  exact Cert.Kernel6Ideal.Gen.frame (F := Bits) m g

/-- Its reference ends without fault, its arguments and the semaphores as they were. -/
theorem frame_reference6 : Cert.quiescent_Reference6Ideal := fun m g _ =>
  (θ_run Cert.Reference6Ideal.defs _ _).mono (fun r h => ⟨fun c => (h c).2.2.2, sem_eq_zero_of_no_sems (by decide) r.2⟩)
    (Cert.Reference6Ideal.Value.run (F := Ideal) m g)

/-- A function of four arguments at equal arguments. -/
theorem four {A B C D R : Type} (f : A → B → C → D → R) {a a' : A} {b b' : B} {c c' : C} {d d' : D}
    (ha : a = a') (hb : b = b') (hc : c = c') (hd : d = d') : f a b c d = f a' b' c' d' := by
  subst ha hb hc hd; rfl

/-- The up-projection with the gated convolution: the idealized kernel leaves the reference's results. -/
theorem same6 : Cert.algebraic_Kernel6Ideal_Reference6Ideal := by
  pair_intro
  · run_from Cert.Kernel6Ideal.Value.run_blocks m g
  · run_from Cert.Reference6Ideal.Value.run m' g'
    · exact (Cert.Reference6Ideal.Read.val_main_v36_eq (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).trans (Cert.Kernel6Ideal.Hand.final7 m c).symm
    · exact (Cert.Reference6Ideal.Read.val_main_v37_eq (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).trans (Cert.Kernel6Ideal.Hand.final8 m c).symm
    · obtain ⟨a0, a1, a2, a3⟩ := hagree c
      exact (Cert.Reference6Ideal.Read.val_main_v38_eq m' c).trans ((four (Cert.Reference6Ideal.Read.val_main_v38 (F := Ideal)) a0 a1 a2 a3).trans (Cert.Kernel6Ideal.Hand.final9 m c).symm)

/-- The bodies of the kernel for the norm's gradients are the idealization's. -/
theorem bodies_eq7 : Cert.Kernel7.defs₀ (F := Bits) = Cert.Kernel7Ideal.defs₀ (F := Bits) := by
  unfold Cert.Kernel7.defs₀ Cert.Kernel7Ideal.defs₀
  refine congrArg Defs.onTc (funext fun l => funext fun x => ?_)
  match l, x with
  | 0, (t, s) => rfl

/-- So are the tables. -/
theorem tables_eq7 : Cert.Kernel7.defs (F := Bits) = Cert.Kernel7Ideal.defs (F := Bits) := by
  unfold Cert.Kernel7.defs Cert.Kernel7Ideal.defs
  exact congrArg (Pipeline.defs (Cert.Kernel7.pcfgs (F := Bits))) bodies_eq7

/-- The kernel for the norm's gradients ends on every memory of words. -/
theorem frame_kernel7 : Cert.quiescent_Kernel7 := fun m g _ => by
  rw [tables_eq7]
  exact Cert.Kernel7Ideal.Gen.frame (F := Bits) m g

/-- Its reference ends without fault, its arguments and the semaphores as they were. -/
theorem frame_reference7 : Cert.quiescent_Reference7Ideal := fun m g _ =>
  (θ_run Cert.Reference7Ideal.defs _ _).mono (fun r h => ⟨fun c => (h c).2.2.2, sem_eq_zero_of_no_sems (by decide) r.2⟩)
    (Cert.Reference7Ideal.Value.run (F := Ideal) m g)

set_option maxHeartbeats 1600000 in
/-- The norm's gradients: the idealized kernel leaves the reference's results. -/
theorem same7 : Cert.algebraic_Kernel7Ideal_Reference7Ideal := by
  pair_intro
  · run_from Cert.Kernel7Ideal.Value.run_blocks m g
  · refine Idealize.ShloMosaic.θ_run_mono (Cert.Reference7Ideal.Value.run m' g') ?_
    intro r hr c
    obtain ⟨h0, h1, h2, hrest⟩ := hr c
    obtain ⟨a0, a1, a2, a3⟩ := hagree c
    refine ⟨h0.trans ((Cert.Reference7Ideal.Read.val_main_v34_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))).trans (Eq.trans ?_ (Cert.Kernel7Ideal.Hand.final4 m c).symm)),
      h1.trans ((Cert.Reference7Ideal.Read.val_main_v36_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))).trans (Eq.trans ?_ (Cert.Kernel7Ideal.Hand.final5 m c).symm)),
      h2.trans ((Cert.Reference7Ideal.Read.val_main_v17_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg2))).trans (Eq.trans ?_ (Cert.Kernel7Ideal.Hand.final6 m c).symm)), hrest⟩
    · exact congr (congr (congr (congrArg (Cert.Reference7Ideal.Read.val_main_v34 (F := Ideal)) a0) a1) a2) a3
    · exact congr (congr (congr (congrArg (Cert.Reference7Ideal.Read.val_main_v36 (F := Ideal)) a0) a1) a2) a3
    · exact congr (congrArg (Cert.Reference7Ideal.Read.val_main_v17 (F := Ideal)) a0) a2

/-- The bodies of the kernel for the gated linear unit's gradients are the idealization's. -/
theorem bodies_eq8 : Cert.Kernel8.defs₀ (F := Bits) = Cert.Kernel8Ideal.defs₀ (F := Bits) := by
  unfold Cert.Kernel8.defs₀ Cert.Kernel8Ideal.defs₀
  refine congrArg Defs.onTc (funext fun l => funext fun x => ?_)
  match l, x with
  | 0, (t, s) => rfl

/-- So are the tables. -/
theorem tables_eq8 : Cert.Kernel8.defs (F := Bits) = Cert.Kernel8Ideal.defs (F := Bits) := by
  unfold Cert.Kernel8.defs Cert.Kernel8Ideal.defs
  exact congrArg (Pipeline.defs (Cert.Kernel8.pcfgs (F := Bits))) bodies_eq8

/-- The kernel for the gated linear unit's gradients ends on every memory of words. -/
theorem frame_kernel8 : Cert.quiescent_Kernel8 := fun m g _ => by
  rw [tables_eq8]
  exact Cert.Kernel8Ideal.Gen.frame (F := Bits) m g

/-- Its reference ends without fault, its arguments and the semaphores as they were. -/
theorem frame_reference8 : Cert.quiescent_Reference8Ideal := fun m g _ =>
  (θ_run Cert.Reference8Ideal.defs _ _).mono (fun r h => ⟨fun c => (h c).2.2.2.2, sem_eq_zero_of_no_sems (by decide) r.2⟩)
    (Cert.Reference8Ideal.Value.run (F := Ideal) m g)

/-- A function of three arguments at equal arguments. -/
theorem three {A B C R : Type} (f : A → B → C → R) {a a' : A} {b b' : B} {c c' : C}
    (ha : a = a') (hb : b = b') (hc : c = c') : f a b c = f a' b' c' := by
  subst ha hb hc; rfl

/-- The gated linear unit's gradients: the idealized kernel leaves the reference's results. -/
theorem same8 : Cert.algebraic_Kernel8Ideal_Reference8Ideal := by
  pair_intro
  · run_from Cert.Kernel8Ideal.Value.run_blocks m g
  · refine Idealize.ShloMosaic.θ_run_mono (Cert.Reference8Ideal.Value.run m' g') ?_
    intro r hr c
    obtain ⟨h0, h1, h2, h3, hrest⟩ := hr c
    obtain ⟨a0, a1, a2⟩ := hagree c
    exact ⟨h0.trans ((Cert.Reference8Ideal.Read.val_main_v24_eq _ _).trans ((congrArg₂ (Cert.Reference8Ideal.Read.val_main_v24 (F := Ideal)) a0 a2).trans (Cert.Kernel8Ideal.Hand.final3 m c).symm)),
      h1.trans ((Cert.Reference8Ideal.Read.val_main_v25_eq _ _ _).trans ((three (Cert.Reference8Ideal.Read.val_main_v25 (F := Ideal)) a0 a1 a2).trans (Cert.Kernel8Ideal.Hand.final4 m c).symm)),
      h2.trans ((Cert.Reference8Ideal.Read.val_main_v23_eq _ _).trans ((congrArg₂ (Cert.Reference8Ideal.Read.val_main_v23 (F := Ideal)) a0 a2).trans (Cert.Kernel8Ideal.Hand.final5 m c).symm)),
      h3.trans ((Cert.Reference8Ideal.Read.val_main_v21_eq _ _ _).trans ((three (Cert.Reference8Ideal.Read.val_main_v21 (F := Ideal)) a0 a1 a2).trans (Cert.Kernel8Ideal.Hand.final6 m c).symm)), hrest⟩

/-- The bodies of the kernel for the gradient of the weights of the product to queries, keys and values are the idealization's. -/
theorem bodies_eq9 : Cert.Kernel9.defs₀ (F := Bits) = Cert.Kernel9Ideal.defs₀ (F := Bits) := by
  unfold Cert.Kernel9.defs₀ Cert.Kernel9Ideal.defs₀
  refine congrArg Defs.onTc (funext fun l => funext fun x => ?_)
  match l, x with
  | 0, (t, s) => rfl

/-- So are the tables. -/
theorem tables_eq9 : Cert.Kernel9.defs (F := Bits) = Cert.Kernel9Ideal.defs (F := Bits) := by
  unfold Cert.Kernel9.defs Cert.Kernel9Ideal.defs
  exact congrArg (Pipeline.defs (Cert.Kernel9.pcfgs (F := Bits))) bodies_eq9

/-- The kernel for the gradient of the weights of the product to queries, keys and values ends on every memory of words. -/
theorem frame_kernel9 : Cert.quiescent_Kernel9 := fun m g _ => by
  rw [tables_eq9]
  exact Cert.Kernel9Ideal.Gen.frame (F := Bits) m g

/-- Its reference ends without fault, its arguments and the semaphores as they were. -/
theorem frame_reference9 : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- The gradient of the weights of the product to queries, keys and values: the idealized kernel leaves the reference's result. -/
theorem same9 : Cert.algebraic_Kernel9Ideal_Reference9Ideal := by
  pair_intro
  · run_from Cert.Kernel9Ideal.Value.run_blocks m g
  · run_from Cert.Reference9Ideal.Value.run m' g'
    exact (Cert.Reference9Ideal.Read.val_main_v6_eq (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))).trans (Cert.Kernel9Ideal.Hand.final m c).symm

/-- The bodies of the kernel for the gradient of the weights of the attention's output product are the idealization's. -/
theorem bodies_eq10 : Cert.Kernel10.defs₀ (F := Bits) = Cert.Kernel10Ideal.defs₀ (F := Bits) := by
  unfold Cert.Kernel10.defs₀ Cert.Kernel10Ideal.defs₀
  refine congrArg Defs.onTc (funext fun l => funext fun x => ?_)
  match l, x with
  | 0, (t, s) => rfl

/-- So are the tables. -/
theorem tables_eq10 : Cert.Kernel10.defs (F := Bits) = Cert.Kernel10Ideal.defs (F := Bits) := by
  unfold Cert.Kernel10.defs Cert.Kernel10Ideal.defs
  exact congrArg (Pipeline.defs (Cert.Kernel10.pcfgs (F := Bits))) bodies_eq10

/-- The kernel for the gradient of the weights of the attention's output product ends on every memory of words. -/
theorem frame_kernel10 : Cert.quiescent_Kernel10 := fun m g _ => by
  rw [tables_eq10]
  exact Cert.Kernel10Ideal.Gen.frame (F := Bits) m g

/-- Its reference ends without fault, its arguments and the semaphores as they were. -/
theorem frame_reference10 : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-- The gradient of the weights of the attention's output product: the idealized kernel leaves the reference's result. -/
theorem same10 : Cert.algebraic_Kernel10Ideal_Reference10Ideal := by
  pair_intro
  · run_from Cert.Kernel10Ideal.Value.run_blocks m g
  · run_from Cert.Reference10Ideal.Value.run m' g'
    exact (Cert.Reference10Ideal.Read.val_main_v6_eq (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).trans (Cert.Kernel10Ideal.Hand.final m c).symm

/-- The bodies of the kernel for the gradient of the attention's output are the idealization's. -/
theorem bodies_eq11 : Cert.Kernel11.defs₀ (F := Bits) = Cert.Kernel11Ideal.defs₀ (F := Bits) := by
  unfold Cert.Kernel11.defs₀ Cert.Kernel11Ideal.defs₀
  refine congrArg Defs.onTc (funext fun l => funext fun x => ?_)
  match l, x with
  | 0, (t, s) => rfl

/-- So are the tables. -/
theorem tables_eq11 : Cert.Kernel11.defs (F := Bits) = Cert.Kernel11Ideal.defs (F := Bits) := by
  unfold Cert.Kernel11.defs Cert.Kernel11Ideal.defs
  exact congrArg (Pipeline.defs (Cert.Kernel11.pcfgs (F := Bits))) bodies_eq11

/-- The kernel for the gradient of the attention's output ends on every memory of words. -/
theorem frame_kernel11 : Cert.quiescent_Kernel11 := fun m g _ => by
  rw [tables_eq11]
  exact Cert.Kernel11Ideal.Gen.frame (F := Bits) m g

/-- Its reference ends without fault, its arguments and the semaphores as they were. -/
theorem frame_reference11 : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- The gradient of the attention's output: the idealized kernel leaves the reference's result. -/
theorem same11 : Cert.algebraic_Kernel11Ideal_Reference11Ideal := by
  pair_intro
  · run_from Cert.Kernel11Ideal.Value.run_blocks m g
  · run_from Cert.Reference11Ideal.Value.run m' g'
    exact (Cert.Reference11Ideal.Read.val_main_v6_eq (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))).trans (Cert.Kernel11Ideal.Hand.final m c).symm

/-- The bodies of the kernel for the gradient of the input of the product to queries, keys and values are the idealization's. -/
theorem bodies_eq12 : Cert.Kernel12.defs₀ (F := Bits) = Cert.Kernel12Ideal.defs₀ (F := Bits) := by
  unfold Cert.Kernel12.defs₀ Cert.Kernel12Ideal.defs₀
  refine congrArg Defs.onTc (funext fun l => funext fun x => ?_)
  match l, x with
  | 0, (t, s) => rfl

/-- So are the tables. -/
theorem tables_eq12 : Cert.Kernel12.defs (F := Bits) = Cert.Kernel12Ideal.defs (F := Bits) := by
  unfold Cert.Kernel12.defs Cert.Kernel12Ideal.defs
  exact congrArg (Pipeline.defs (Cert.Kernel12.pcfgs (F := Bits))) bodies_eq12

/-- The kernel for the gradient of the input of the product to queries, keys and values ends on every memory of words. -/
theorem frame_kernel12 : Cert.quiescent_Kernel12 := fun m g _ => by
  rw [tables_eq12]
  exact Cert.Kernel12Ideal.Gen.frame (F := Bits) m g

/-- Its reference ends without fault, its arguments and the semaphores as they were. -/
theorem frame_reference12 : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

/-- The gradient of the input of the product to queries, keys and values: the idealized kernel leaves the reference's result. -/
theorem same12 : Cert.algebraic_Kernel12Ideal_Reference12Ideal := by
  pair_intro
  · run_from Cert.Kernel12Ideal.Value.run_blocks m g
  · run_from Cert.Reference12Ideal.Value.run m' g'
    exact (Cert.Reference12Ideal.Read.val_main_v5_eq (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))).trans (Cert.Kernel12Ideal.Hand.final m c).symm

/-- The bodies of the kernel for the gradient of the input of the gated linear unit's product are the idealization's. -/
theorem bodies_eq13 : Cert.Kernel13.defs₀ (F := Bits) = Cert.Kernel13Ideal.defs₀ (F := Bits) := by
  unfold Cert.Kernel13.defs₀ Cert.Kernel13Ideal.defs₀
  refine congrArg Defs.onTc (funext fun l => funext fun x => ?_)
  match l, x with
  | 0, (t, s) => rfl

/-- So are the tables. -/
theorem tables_eq13 : Cert.Kernel13.defs (F := Bits) = Cert.Kernel13Ideal.defs (F := Bits) := by
  unfold Cert.Kernel13.defs Cert.Kernel13Ideal.defs
  exact congrArg (Pipeline.defs (Cert.Kernel13.pcfgs (F := Bits))) bodies_eq13

/-- The kernel for the gradient of the input of the gated linear unit's product ends on every memory of words. -/
theorem frame_kernel13 : Cert.quiescent_Kernel13 := fun m g _ => by
  rw [tables_eq13]
  exact Cert.Kernel13Ideal.Gen.frame (F := Bits) m g

/-- Its reference ends without fault, its arguments and the semaphores as they were. -/
theorem frame_reference13 : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

/-- The gradient of the input of the gated linear unit's product: the idealized kernel leaves the reference's result. -/
theorem same13 : Cert.algebraic_Kernel13Ideal_Reference13Ideal := by
  pair_intro
  · run_from Cert.Kernel13Ideal.Value.run_blocks m g
  · run_from Cert.Reference13Ideal.Value.run m' g'
    exact (Cert.Reference13Ideal.Read.val_main_v6_eq (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).trans (Cert.Kernel13Ideal.Hand.final m c).symm

/-- The bodies of the kernel for the product to queries, keys and values are the idealization's. -/
theorem bodies_eq14 : Cert.Kernel14.defs₀ (F := Bits) = Cert.Kernel14Ideal.defs₀ (F := Bits) := by
  unfold Cert.Kernel14.defs₀ Cert.Kernel14Ideal.defs₀
  refine congrArg Defs.onTc (funext fun l => funext fun x => ?_)
  match l, x with
  | 0, (t, s) => rfl

/-- So are the tables. -/
theorem tables_eq14 : Cert.Kernel14.defs (F := Bits) = Cert.Kernel14Ideal.defs (F := Bits) := by
  unfold Cert.Kernel14.defs Cert.Kernel14Ideal.defs
  exact congrArg (Pipeline.defs (Cert.Kernel14.pcfgs (F := Bits))) bodies_eq14

/-- The kernel for the product to queries, keys and values ends on every memory of words. -/
theorem frame_kernel14 : Cert.quiescent_Kernel14 := fun m g _ => by
  rw [tables_eq14]
  exact Cert.Kernel14Ideal.Gen.frame (F := Bits) m g

/-- Its reference ends without fault, its arguments and the semaphores as they were. -/
theorem frame_reference14 : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

/-- The product to queries, keys and values: the idealized kernel leaves the reference's result. -/
theorem same14 : Cert.algebraic_Kernel14Ideal_Reference14Ideal := by
  pair_intro
  · run_from Cert.Kernel14Ideal.Value.run_blocks m g
  · run_from Cert.Reference14Ideal.Value.run m' g'
    exact (Cert.Reference14Ideal.Read.val_main_v4_eq (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).trans (Cert.Kernel14Ideal.Hand.final m c).symm

/-- The bodies of the kernel for the attention's output product with the residual are the idealization's. -/
theorem bodies_eq15 : Cert.Kernel15.defs₀ (F := Bits) = Cert.Kernel15Ideal.defs₀ (F := Bits) := by
  unfold Cert.Kernel15.defs₀ Cert.Kernel15Ideal.defs₀
  refine congrArg Defs.onTc (funext fun l => funext fun x => ?_)
  match l, x with
  | 0, (t, s) => rfl

/-- So are the tables. -/
theorem tables_eq15 : Cert.Kernel15.defs (F := Bits) = Cert.Kernel15Ideal.defs (F := Bits) := by
  unfold Cert.Kernel15.defs Cert.Kernel15Ideal.defs
  exact congrArg (Pipeline.defs (Cert.Kernel15.pcfgs (F := Bits))) bodies_eq15

/-- The kernel for the attention's output product with the residual ends on every memory of words. -/
theorem frame_kernel15 : Cert.quiescent_Kernel15 := fun m g _ => by
  rw [tables_eq15]
  exact Cert.Kernel15Ideal.Gen.frame (F := Bits) m g

/-- Its reference ends without fault, its arguments and the semaphores as they were. -/
theorem frame_reference15 : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

/-- The attention's output product with the residual: the idealized kernel leaves the reference's result. -/
theorem same15 : Cert.algebraic_Kernel15Ideal_Reference15Ideal := by
  pair_intro
  · run_from Cert.Kernel15Ideal.Value.run_blocks m g
  · run_from Cert.Reference15Ideal.Value.run m' g'
    exact (Cert.Reference15Ideal.Read.val_main_v4_eq (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).trans (Cert.Kernel15Ideal.Hand.final m c).symm

/-- The bodies of the kernel for the gated linear unit with the residual are the idealization's. -/
theorem bodies_eq16 : Cert.Kernel16.defs₀ (F := Bits) = Cert.Kernel16Ideal.defs₀ (F := Bits) := by
  unfold Cert.Kernel16.defs₀ Cert.Kernel16Ideal.defs₀
  refine congrArg Defs.onTc (funext fun l => funext fun x => ?_)
  match l, x with
  | 0, (t, s) => rfl

/-- So are the tables. -/
theorem tables_eq16 : Cert.Kernel16.defs (F := Bits) = Cert.Kernel16Ideal.defs (F := Bits) := by
  unfold Cert.Kernel16.defs Cert.Kernel16Ideal.defs
  exact congrArg (Pipeline.defs (Cert.Kernel16.pcfgs (F := Bits))) bodies_eq16

/-- The kernel for the gated linear unit with the residual ends on every memory of words. -/
theorem frame_kernel16 : Cert.quiescent_Kernel16 := fun m g _ => by
  rw [tables_eq16]
  exact Cert.Kernel16Ideal.Gen.frame (F := Bits) m g

/-- Its reference ends without fault, its arguments and the semaphores as they were. -/
theorem frame_reference16 : Cert.quiescent_Reference16Ideal := fun m g _ =>
  (θ_run Cert.Reference16Ideal.defs _ _).mono (fun r h => ⟨fun c => (h c).2.2.2, sem_eq_zero_of_no_sems (by decide) r.2⟩)
    (Cert.Reference16Ideal.Value.run (F := Ideal) m g)

/-- The gated linear unit with the residual: the idealized kernel leaves the reference's results. -/
theorem same16 : Cert.algebraic_Kernel16Ideal_Reference16Ideal := by
  pair_intro
  · run_from Cert.Kernel16Ideal.Value.run_blocks m g
  · run_from Cert.Reference16Ideal.Value.run m' g'
    · exact (Cert.Reference16Ideal.Read.val_main_v8_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).trans (Cert.Kernel16Ideal.Hand.final6 m c).symm
    · exact (Cert.Reference16Ideal.Read.val_main_v9_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).trans (Cert.Kernel16Ideal.Hand.final7 m c).symm
    · exact (Cert.Reference16Ideal.Read.val_main_v17_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).trans (Cert.Kernel16Ideal.Hand.final8 m c).symm

/-- The bodies of the kernel for the optimiser's step on the weights to queries, keys and values are the idealization's. -/
theorem bodies_eq17 : Cert.Kernel17.defs₀ (F := Bits) = Cert.Kernel17Ideal.defs₀ (F := Bits) := by
  unfold Cert.Kernel17.defs₀ Cert.Kernel17Ideal.defs₀
  refine congrArg Defs.onTc (funext fun l => funext fun x => ?_)
  match l, x with
  | 0, (t, s) => rfl

/-- So are the tables. -/
theorem tables_eq17 : Cert.Kernel17.defs (F := Bits) = Cert.Kernel17Ideal.defs (F := Bits) := by
  unfold Cert.Kernel17.defs Cert.Kernel17Ideal.defs
  exact congrArg (Pipeline.defs (Cert.Kernel17.pcfgs (F := Bits))) bodies_eq17

/-- The kernel for the optimiser's step on the weights to queries, keys and values ends on every memory of words. -/
theorem frame_kernel17 : Cert.quiescent_Kernel17 := fun m g _ => by
  rw [tables_eq17]
  exact Cert.Kernel17Ideal.Gen.frame (F := Bits) m g

/-- Its reference ends without fault, its arguments and the semaphores as they were. -/
theorem frame_reference17 : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run (F := Ideal) m g)

/-- The optimiser's step on the weights to queries, keys and values: the idealized kernel leaves the reference's results. -/
theorem same17 : Cert.algebraic_Kernel17Ideal_Reference17Ideal := by
  pair_intro
  · run_from Cert.Kernel17Ideal.Value.run_blocks m g
  · run_from Cert.Reference17Ideal.Value.run m' g'
    · exact (Cert.Kernel17Ideal.Hand.final4 m c).symm
    · exact (Cert.Reference17Ideal.Read.val_main_v23_eq (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).trans (Cert.Kernel17Ideal.Hand.final5 m c).symm
    · exact (Cert.Reference17Ideal.Read.val_main_v4_eq (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).trans (Cert.Kernel17Ideal.Hand.final6 m c).symm
    · exact (Cert.Reference17Ideal.Read.val_main_v10_eq (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg3))).trans (Cert.Kernel17Ideal.Hand.final7 m c).symm

/-- The bodies of the kernel for the optimiser's step on the attention's output weights are the idealization's. -/
theorem bodies_eq18 : Cert.Kernel18.defs₀ (F := Bits) = Cert.Kernel18Ideal.defs₀ (F := Bits) := by
  unfold Cert.Kernel18.defs₀ Cert.Kernel18Ideal.defs₀
  refine congrArg Defs.onTc (funext fun l => funext fun x => ?_)
  match l, x with
  | 0, (t, s) => rfl

/-- So are the tables. -/
theorem tables_eq18 : Cert.Kernel18.defs (F := Bits) = Cert.Kernel18Ideal.defs (F := Bits) := by
  unfold Cert.Kernel18.defs Cert.Kernel18Ideal.defs
  exact congrArg (Pipeline.defs (Cert.Kernel18.pcfgs (F := Bits))) bodies_eq18

/-- The kernel for the optimiser's step on the attention's output weights ends on every memory of words. -/
theorem frame_kernel18 : Cert.quiescent_Kernel18 := fun m g _ => by
  rw [tables_eq18]
  exact Cert.Kernel18Ideal.Gen.frame (F := Bits) m g

/-- Its reference ends without fault, its arguments and the semaphores as they were. -/
theorem frame_reference18 : Cert.quiescent_Reference18Ideal := fun m g _ =>
  (θ_run Cert.Reference18Ideal.defs _ _).mono (fun r h => ⟨fun c => (h c).2.2.2.2, sem_eq_zero_of_no_sems (by decide) r.2⟩)
    (Cert.Reference18Ideal.Value.run (F := Ideal) m g)

/-- The optimiser's step on the attention's output weights: the idealized kernel leaves the reference's results. -/
theorem same18 : Cert.algebraic_Kernel18Ideal_Reference18Ideal := by
  pair_intro
  · run_from Cert.Kernel18Ideal.Value.run_blocks m g
  · run_from Cert.Reference18Ideal.Value.run m' g'
    · exact (Cert.Kernel18Ideal.Hand.final4 m c).symm
    · exact (Cert.Reference18Ideal.Read.val_main_v23_eq (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))).trans (Cert.Kernel18Ideal.Hand.final5 m c).symm
    · exact (Cert.Reference18Ideal.Read.val_main_v4_eq (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).trans (Cert.Kernel18Ideal.Hand.final6 m c).symm
    · exact (Cert.Reference18Ideal.Read.val_main_v10_eq (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg3))).trans (Cert.Kernel18Ideal.Hand.final7 m c).symm

/-- The bodies of the kernel for the optimiser's step on the gated linear unit's weights are the idealization's. -/
theorem bodies_eq19 : Cert.Kernel19.defs₀ (F := Bits) = Cert.Kernel19Ideal.defs₀ (F := Bits) := by
  unfold Cert.Kernel19.defs₀ Cert.Kernel19Ideal.defs₀
  refine congrArg Defs.onTc (funext fun l => funext fun x => ?_)
  match l, x with
  | 0, (t, s) => rfl

/-- So are the tables. -/
theorem tables_eq19 : Cert.Kernel19.defs (F := Bits) = Cert.Kernel19Ideal.defs (F := Bits) := by
  unfold Cert.Kernel19.defs Cert.Kernel19Ideal.defs
  exact congrArg (Pipeline.defs (Cert.Kernel19.pcfgs (F := Bits))) bodies_eq19

/-- The kernel for the optimiser's step on the gated linear unit's weights ends on every memory of words. -/
theorem frame_kernel19 : Cert.quiescent_Kernel19 := fun m g _ => by
  rw [tables_eq19]
  exact Cert.Kernel19Ideal.Gen.frame (F := Bits) m g

/-- Its reference ends without fault, its arguments and the semaphores as they were. -/
theorem frame_reference19 : Cert.quiescent_Reference19Ideal := fun m g _ =>
  (θ_run Cert.Reference19Ideal.defs _ _).mono (fun r h => ⟨fun c => (h c).2.2.2.2, sem_eq_zero_of_no_sems (by decide) r.2⟩)
    (Cert.Reference19Ideal.Value.run (F := Ideal) m g)

/-- The optimiser's step on the gated linear unit's weights: the idealized kernel leaves the reference's results. -/
theorem same19 : Cert.algebraic_Kernel19Ideal_Reference19Ideal := by
  pair_intro
  · run_from Cert.Kernel19Ideal.Value.run_blocks m g
  · run_from Cert.Reference19Ideal.Value.run m' g'
    · exact (Cert.Kernel19Ideal.Hand.final4 m c).symm
    · exact (Cert.Reference19Ideal.Read.val_main_v23_eq (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).trans (Cert.Kernel19Ideal.Hand.final5 m c).symm
    · exact (Cert.Reference19Ideal.Read.val_main_v4_eq (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).trans (Cert.Kernel19Ideal.Hand.final6 m c).symm
    · exact (Cert.Reference19Ideal.Read.val_main_v10_eq (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg3))).trans (Cert.Kernel19Ideal.Hand.final7 m c).symm

/-- The bodies of the kernel for the rounded norm are the idealization's. -/
theorem bodies_eq20 : Cert.Kernel20.defs₀ (F := Bits) = Cert.Kernel20Ideal.defs₀ (F := Bits) := by
  unfold Cert.Kernel20.defs₀ Cert.Kernel20Ideal.defs₀
  refine congrArg Defs.onTc (funext fun l => funext fun x => ?_)
  match l, x with
  | 0, (t, s) => rfl

/-- So are the tables. -/
theorem tables_eq20 : Cert.Kernel20.defs (F := Bits) = Cert.Kernel20Ideal.defs (F := Bits) := by
  unfold Cert.Kernel20.defs Cert.Kernel20Ideal.defs
  exact congrArg (Pipeline.defs (Cert.Kernel20.pcfgs (F := Bits))) bodies_eq20

/-- The kernel for the rounded norm ends on every memory of words. -/
theorem frame_kernel20 : Cert.quiescent_Kernel20 := fun m g _ => by
  rw [tables_eq20]
  exact Cert.Kernel20Ideal.Gen.frame (F := Bits) m g

/-- Its reference ends without fault, its arguments and the semaphores as they were. -/
theorem frame_reference20 : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

/-- The rounded norm: the idealized kernel leaves the reference's result. -/
theorem same20 : Cert.algebraic_Kernel20Ideal_Reference20Ideal := by
  pair_intro
  · run_from Cert.Kernel20Ideal.Value.run_blocks m g
  · run_from Cert.Reference20Ideal.Value.run m' g'
    exact (Cert.Reference20Ideal.Read.val_main_v12_eq (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).trans (Cert.Kernel20Ideal.Hand.final m c).symm

/-- The bodies of the kernel for the norm in full are the idealization's. -/
theorem bodies_eq21 : Cert.Kernel21.defs₀ (F := Bits) = Cert.Kernel21Ideal.defs₀ (F := Bits) := by
  unfold Cert.Kernel21.defs₀ Cert.Kernel21Ideal.defs₀
  refine congrArg Defs.onTc (funext fun l => funext fun x => ?_)
  match l, x with
  | 0, (t, s) => rfl

/-- So are the tables. -/
theorem tables_eq21 : Cert.Kernel21.defs (F := Bits) = Cert.Kernel21Ideal.defs (F := Bits) := by
  unfold Cert.Kernel21.defs Cert.Kernel21Ideal.defs
  exact congrArg (Pipeline.defs (Cert.Kernel21.pcfgs (F := Bits))) bodies_eq21

/-- The kernel for the norm in full ends on every memory of words. -/
theorem frame_kernel21 : Cert.quiescent_Kernel21 := fun m g _ => by
  rw [tables_eq21]
  exact Cert.Kernel21Ideal.Gen.frame (F := Bits) m g

/-- Its reference ends without fault, its arguments and the semaphores as they were. -/
theorem frame_reference21 : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

/-- The norm in full: the idealized kernel leaves the reference's result. -/
theorem same21 : Cert.algebraic_Kernel21Ideal_Reference21Ideal := by
  pair_intro
  · run_from Cert.Kernel21Ideal.Value.run_blocks m g
  · run_from Cert.Reference21Ideal.Value.run m' g'
    exact (Cert.Reference21Ideal.Read.val_main_v11_eq (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))).trans (Cert.Kernel21Ideal.Hand.final m c).symm

/-- The bodies of the kernel for the optimiser's step on the packed vectors are the idealization's. -/
theorem bodies_eq22 : Cert.Kernel22.defs₀ (F := Bits) = Cert.Kernel22Ideal.defs₀ (F := Bits) := by
  unfold Cert.Kernel22.defs₀ Cert.Kernel22Ideal.defs₀
  refine congrArg Defs.onTc (funext fun l => funext fun x => ?_)
  match l, x with
  | 0, (t, s) => rfl

/-- So are the tables. -/
theorem tables_eq22 : Cert.Kernel22.defs (F := Bits) = Cert.Kernel22Ideal.defs (F := Bits) := by
  unfold Cert.Kernel22.defs Cert.Kernel22Ideal.defs
  exact congrArg (Pipeline.defs (Cert.Kernel22.pcfgs (F := Bits))) bodies_eq22

set_option maxHeartbeats 4000000 in
/-- The kernel for the optimiser's step on the packed vectors ends on every memory of words. -/
theorem frame_kernel22 : Cert.quiescent_Kernel22 := fun m g _ => by
  rw [tables_eq22]
  exact Cert.Kernel22Ideal.Gen.frame (F := Bits) m g

/-- Its reference ends without fault, its arguments and the semaphores as they were. -/
theorem frame_reference22 : Cert.quiescent_Reference22Ideal := fun m g _ =>
  (θ_run Cert.Reference22Ideal.defs _ _).mono (fun r h => ⟨fun c => (h c).2.2.2, sem_eq_zero_of_no_sems (by decide) r.2⟩)
    (Cert.Reference22Ideal.Value.run (F := Ideal) m g)

set_option maxHeartbeats 1600000 in
/-- The optimiser's step on the packed vectors: the idealized kernel leaves the reference's results. -/
theorem same22 : Cert.algebraic_Kernel22Ideal_Reference22Ideal := by
  pair_intro
  · run_from Cert.Kernel22Ideal.Value.run_blocks m g
  · refine Idealize.ShloMosaic.θ_run_mono (Cert.Reference22Ideal.Value.run m' g') ?_
    intro r hr c
    obtain ⟨h0, h1, h2, hrest⟩ := hr c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67⟩ := hagree c
    refine ⟨h0.trans ((Cert.Reference22Ideal.Read.val_main_v429_eq (fun b => m' (c, b))).trans (Eq.trans ?_ (Cert.Kernel22Ideal.Hand.final4 m c).symm)),
      h1.trans ((Cert.Reference22Ideal.Read.val_main_v450_eq (fun b => m' (c, b))).trans (Eq.trans ?_ (Cert.Kernel22Ideal.Hand.final5 m c).symm)),
      h2.trans ((Cert.Reference22Ideal.Read.val_main_v471_eq (fun b => m' (c, b))).trans (Eq.trans ?_ (Cert.Kernel22Ideal.Hand.final6 m c).symm)), hrest⟩
    · exact (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congrArg (Cert.Reference22Ideal.Read.val_main_v429 (F := Ideal)) a0) a1) a2) a3) a4) a5) a6) a7) a8) a9) a10) a11) a12) a13) a14) a15) a16) a17) a18) a19) a20) a21) a22) a23) a24) a25) a26) a27) a28) a29) a30) a31) a32) a33) a34) a35) a36) a37) a38) a39) a40) a41) a42) a43) a44) a45) a46) a47) a48) a49) a50) a51) a52) a53) a54) a55) a56) a57) a58) a59) a60) a61) a62) a63) a64) a65) a66) a67)
    · exact (congr (congr (congr (congr (congr (congr (congr (congr (congr (congr (congr (congr (congr (congr (congr (congr (congr (congr (congr (congr (congr (congr (congr (congr (congr (congr (congr (congr (congr (congr (congr (congr (congr (congrArg (Cert.Reference22Ideal.Read.val_main_v450 (F := Ideal)) a17) a18) a19) a20) a21) a22) a23) a24) a25) a26) a27) a28) a29) a30) a31) a32) a33) a34) a35) a36) a37) a38) a39) a40) a41) a42) a43) a44) a45) a46) a47) a48) a49) a50)
    · exact (congr (congr (congr (congr (congr (congr (congr (congr (congr (congr (congr (congr (congr (congr (congr (congr (congr (congr (congr (congr (congr (congr (congr (congr (congr (congr (congr (congr (congr (congr (congr (congr (congr (congrArg (Cert.Reference22Ideal.Read.val_main_v471 (F := Ideal)) a17) a18) a19) a20) a21) a22) a23) a24) a25) a26) a27) a28) a29) a30) a31) a32) a33) a51) a52) a53) a54) a55) a56) a57) a58) a59) a60) a61) a62) a63) a64) a65) a66) a67)

/-- The bodies of the kernel for the optimiser's step on the pooling mixer's weights are the idealization's. -/
theorem bodies_eq23 : Cert.Kernel23.defs₀ (F := Bits) = Cert.Kernel23Ideal.defs₀ (F := Bits) := by
  unfold Cert.Kernel23.defs₀ Cert.Kernel23Ideal.defs₀
  refine congrArg Defs.onTc (funext fun l => funext fun x => ?_)
  match l, x with
  | 0, (t, s) => rfl

/-- So are the tables. -/
theorem tables_eq23 : Cert.Kernel23.defs (F := Bits) = Cert.Kernel23Ideal.defs (F := Bits) := by
  unfold Cert.Kernel23.defs Cert.Kernel23Ideal.defs
  exact congrArg (Pipeline.defs (Cert.Kernel23.pcfgs (F := Bits))) bodies_eq23

/-- The kernel for the optimiser's step on the pooling mixer's weights ends on every memory of words. -/
theorem frame_kernel23 : Cert.quiescent_Kernel23 := fun m g _ => by
  rw [tables_eq23]
  exact Cert.Kernel23Ideal.Gen.frame (F := Bits) m g

/-- Its reference ends without fault, its arguments and the semaphores as they were. -/
theorem frame_reference23 : Cert.quiescent_Reference23Ideal := fun m g _ =>
  (θ_run Cert.Reference23Ideal.defs _ _).mono (fun r h => ⟨fun c => (h c).2.2.2.2, sem_eq_zero_of_no_sems (by decide) r.2⟩)
    (Cert.Reference23Ideal.Value.run (F := Ideal) m g)

/-- The optimiser's step on the pooling mixer's weights: the idealized kernel leaves the reference's results. -/
theorem same23 : Cert.algebraic_Kernel23Ideal_Reference23Ideal := by
  pair_intro
  · run_from Cert.Kernel23Ideal.Value.run_blocks m g
  · refine Idealize.ShloMosaic.θ_run_mono (Cert.Reference23Ideal.Value.run m' g') ?_
    intro r hr c
    obtain ⟨h0, h1, h2, h3, hrest⟩ := hr c
    obtain ⟨a0, a1, a2, a3, a4, a5, a6, a7⟩ := hagree c
    refine ⟨h0.trans ((Cert.Reference23Ideal.Read.val_main_v32_eq (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg4))).trans (Eq.trans ?_ (Cert.Kernel23Ideal.Hand.final4 m c).symm)),
      h1.trans ((Cert.Reference23Ideal.Read.val_main_v34_eq (m' ((c.tc : Thread Cert.Reference23Ideal.nD Cert.Reference23Ideal.τ).loc Cert.Reference23Ideal.main_arg0)) (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg2)) (m' ((c.tc : Thread Cert.Reference23Ideal.nD Cert.Reference23Ideal.τ).loc Cert.Reference23Ideal.main_arg3)) (m' ((c.tc : Thread Cert.Reference23Ideal.nD Cert.Reference23Ideal.τ).loc Cert.Reference23Ideal.main_arg5))).trans (Eq.trans ?_ (Cert.Kernel23Ideal.Hand.final5 m c).symm)),
      h2.trans ((Cert.Reference23Ideal.Read.val_main_v36_eq (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg2)) (m' ((c.tc : Thread Cert.Reference23Ideal.nD Cert.Reference23Ideal.τ).loc Cert.Reference23Ideal.main_arg6))).trans (Eq.trans ?_ (Cert.Kernel23Ideal.Hand.final6 m c).symm)),
      h3.trans ((Cert.Reference23Ideal.Read.val_main_v38_eq (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg3)) (m' ((c.tc : Thread Cert.Reference23Ideal.nD Cert.Reference23Ideal.τ).loc Cert.Reference23Ideal.main_arg7))).trans (Eq.trans ?_ (Cert.Kernel23Ideal.Hand.final7 m c).symm)), hrest⟩
    · exact congr (congrArg (Cert.Reference23Ideal.Read.val_main_v32 (F := Ideal)) a1) a4
    · exact congr (congr (congr (congr (congrArg (Cert.Reference23Ideal.Read.val_main_v34 (F := Ideal)) a0) a1) a2) a3) a5
    · exact congr (congr (congrArg (Cert.Reference23Ideal.Read.val_main_v36 (F := Ideal)) a1) a2) a6
    · exact congr (congr (congrArg (Cert.Reference23Ideal.Read.val_main_v38 (F := Ideal)) a1) a3) a7

/-- The bodies of the kernel for the optimiser's step on the up-projection's weights are the idealization's. -/
theorem bodies_eq24 : Cert.Kernel24.defs₀ (F := Bits) = Cert.Kernel24Ideal.defs₀ (F := Bits) := by
  unfold Cert.Kernel24.defs₀ Cert.Kernel24Ideal.defs₀
  refine congrArg Defs.onTc (funext fun l => funext fun x => ?_)
  match l, x with
  | 0, (t, s) => rfl

/-- So are the tables. -/
theorem tables_eq24 : Cert.Kernel24.defs (F := Bits) = Cert.Kernel24Ideal.defs (F := Bits) := by
  unfold Cert.Kernel24.defs Cert.Kernel24Ideal.defs
  exact congrArg (Pipeline.defs (Cert.Kernel24.pcfgs (F := Bits))) bodies_eq24

/-- The kernel for the optimiser's step on the up-projection's weights ends on every memory of words. -/
theorem frame_kernel24 : Cert.quiescent_Kernel24 := fun m g _ => by
  rw [tables_eq24]
  exact Cert.Kernel24Ideal.Gen.frame (F := Bits) m g

/-- Its reference ends without fault, its arguments and the semaphores as they were. -/
theorem frame_reference24 : Cert.quiescent_Reference24Ideal := fun m g _ =>
  (θ_run Cert.Reference24Ideal.defs _ _).mono (fun r h => ⟨fun c => (h c).2.2.2.2, sem_eq_zero_of_no_sems (by decide) r.2⟩)
    (Cert.Reference24Ideal.Value.run (F := Ideal) m g)

/-- The optimiser's step on the up-projection's weights: the idealized kernel leaves the reference's results. -/
theorem same24 : Cert.algebraic_Kernel24Ideal_Reference24Ideal := by
  pair_intro
  · run_from Cert.Kernel24Ideal.Value.run_blocks m g
  · refine Idealize.ShloMosaic.θ_run_mono (Cert.Reference24Ideal.Value.run m' g') ?_
    intro r hr c
    obtain ⟨h0, h1, h2, h3, hrest⟩ := hr c
    obtain ⟨a0, a1, a2, a3, a4, a5, a6, a7⟩ := hagree c
    refine ⟨h0.trans ((Cert.Reference24Ideal.Read.val_main_v28_eq (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg4))).trans (Eq.trans ?_ (Cert.Kernel24Ideal.Hand.final4 m c).symm)),
      h1.trans ((Cert.Reference24Ideal.Read.val_main_v30_eq (m' ((c.tc : Thread Cert.Reference24Ideal.nD Cert.Reference24Ideal.τ).loc Cert.Reference24Ideal.main_arg0)) (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg2)) (m' ((c.tc : Thread Cert.Reference24Ideal.nD Cert.Reference24Ideal.τ).loc Cert.Reference24Ideal.main_arg3)) (m' ((c.tc : Thread Cert.Reference24Ideal.nD Cert.Reference24Ideal.τ).loc Cert.Reference24Ideal.main_arg5))).trans (Eq.trans ?_ (Cert.Kernel24Ideal.Hand.final5 m c).symm)),
      h2.trans ((Cert.Reference24Ideal.Read.val_main_v32_eq (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg2)) (m' ((c.tc : Thread Cert.Reference24Ideal.nD Cert.Reference24Ideal.τ).loc Cert.Reference24Ideal.main_arg6))).trans (Eq.trans ?_ (Cert.Kernel24Ideal.Hand.final6 m c).symm)),
      h3.trans ((Cert.Reference24Ideal.Read.val_main_v34_eq (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg3)) (m' ((c.tc : Thread Cert.Reference24Ideal.nD Cert.Reference24Ideal.τ).loc Cert.Reference24Ideal.main_arg7))).trans (Eq.trans ?_ (Cert.Kernel24Ideal.Hand.final7 m c).symm)), hrest⟩
    · exact congr (congrArg (Cert.Reference24Ideal.Read.val_main_v28 (F := Ideal)) a1) a4
    · exact congr (congr (congr (congr (congrArg (Cert.Reference24Ideal.Read.val_main_v30 (F := Ideal)) a0) a1) a2) a3) a5
    · exact congr (congr (congrArg (Cert.Reference24Ideal.Read.val_main_v32 (F := Ideal)) a1) a2) a6
    · exact congr (congr (congrArg (Cert.Reference24Ideal.Read.val_main_v34 (F := Ideal)) a1) a3) a7

/-- The bodies of the kernel for the optimiser's step on the down-projection's weights are the idealization's. -/
theorem bodies_eq25 : Cert.Kernel25.defs₀ (F := Bits) = Cert.Kernel25Ideal.defs₀ (F := Bits) := by
  unfold Cert.Kernel25.defs₀ Cert.Kernel25Ideal.defs₀
  refine congrArg Defs.onTc (funext fun l => funext fun x => ?_)
  match l, x with
  | 0, (t, s) => rfl

/-- So are the tables. -/
theorem tables_eq25 : Cert.Kernel25.defs (F := Bits) = Cert.Kernel25Ideal.defs (F := Bits) := by
  unfold Cert.Kernel25.defs Cert.Kernel25Ideal.defs
  exact congrArg (Pipeline.defs (Cert.Kernel25.pcfgs (F := Bits))) bodies_eq25

/-- The kernel for the optimiser's step on the down-projection's weights ends on every memory of words. -/
theorem frame_kernel25 : Cert.quiescent_Kernel25 := fun m g _ => by
  rw [tables_eq25]
  exact Cert.Kernel25Ideal.Gen.frame (F := Bits) m g

/-- Its reference ends without fault, its arguments and the semaphores as they were. -/
theorem frame_reference25 : Cert.quiescent_Reference25Ideal := fun m g _ =>
  (θ_run Cert.Reference25Ideal.defs _ _).mono (fun r h => ⟨fun c => (h c).2.2.2.2, sem_eq_zero_of_no_sems (by decide) r.2⟩)
    (Cert.Reference25Ideal.Value.run (F := Ideal) m g)

/-- The optimiser's step on the down-projection's weights: the idealized kernel leaves the reference's results. -/
theorem same25 : Cert.algebraic_Kernel25Ideal_Reference25Ideal := by
  pair_intro
  · run_from Cert.Kernel25Ideal.Value.run_blocks m g
  · refine Idealize.ShloMosaic.θ_run_mono (Cert.Reference25Ideal.Value.run m' g') ?_
    intro r hr c
    obtain ⟨h0, h1, h2, h3, hrest⟩ := hr c
    obtain ⟨a0, a1, a2, a3, a4, a5, a6, a7⟩ := hagree c
    refine ⟨h0.trans ((Cert.Reference25Ideal.Read.val_main_v28_eq (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg4))).trans (Eq.trans ?_ (Cert.Kernel25Ideal.Hand.final4 m c).symm)),
      h1.trans ((Cert.Reference25Ideal.Read.val_main_v30_eq (m' ((c.tc : Thread Cert.Reference25Ideal.nD Cert.Reference25Ideal.τ).loc Cert.Reference25Ideal.main_arg0)) (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg2)) (m' ((c.tc : Thread Cert.Reference25Ideal.nD Cert.Reference25Ideal.τ).loc Cert.Reference25Ideal.main_arg3)) (m' ((c.tc : Thread Cert.Reference25Ideal.nD Cert.Reference25Ideal.τ).loc Cert.Reference25Ideal.main_arg5))).trans (Eq.trans ?_ (Cert.Kernel25Ideal.Hand.final5 m c).symm)),
      h2.trans ((Cert.Reference25Ideal.Read.val_main_v32_eq (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg2)) (m' ((c.tc : Thread Cert.Reference25Ideal.nD Cert.Reference25Ideal.τ).loc Cert.Reference25Ideal.main_arg6))).trans (Eq.trans ?_ (Cert.Kernel25Ideal.Hand.final6 m c).symm)),
      h3.trans ((Cert.Reference25Ideal.Read.val_main_v34_eq (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg3)) (m' ((c.tc : Thread Cert.Reference25Ideal.nD Cert.Reference25Ideal.τ).loc Cert.Reference25Ideal.main_arg7))).trans (Eq.trans ?_ (Cert.Kernel25Ideal.Hand.final7 m c).symm)), hrest⟩
    · exact congr (congrArg (Cert.Reference25Ideal.Read.val_main_v28 (F := Ideal)) a1) a4
    · exact congr (congr (congr (congr (congrArg (Cert.Reference25Ideal.Read.val_main_v30 (F := Ideal)) a0) a1) a2) a3) a5
    · exact congr (congr (congrArg (Cert.Reference25Ideal.Read.val_main_v32 (F := Ideal)) a1) a2) a6
    · exact congr (congr (congrArg (Cert.Reference25Ideal.Read.val_main_v34 (F := Ideal)) a1) a3) a7

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Pre_finite_inputs.factsHold,
  frame_kernel, fun m g _ => Cert.KernelIdeal.Free.ends m g, fun m g _ => Cert.KernelIdeal.Free.ends m g,
  frame_reference, fun m g h => frame_reference m g trivial,
  frame_kernel2, fun m g _ => Cert.Kernel2Ideal.Gen.frame m g, frame_reference2,
  frame_kernel3, fun m g _ => Cert.Kernel3Ideal.Gen.frame m g, frame_reference3,
  frame_kernel4, fun m g _ => Cert.Kernel4Ideal.Gen.frame m g, frame_reference4,
  frame_kernel5, fun m g _ => Cert.Kernel5Ideal.Gen.frame m g, frame_reference5,
  frame_kernel6, fun m g _ => Cert.Kernel6Ideal.Gen.frame m g, frame_reference6,
  frame_kernel7, fun m g _ => Cert.Kernel7Ideal.Gen.frame m g, frame_reference7,
  frame_kernel8, fun m g _ => Cert.Kernel8Ideal.Gen.frame m g, frame_reference8,
  frame_kernel9, fun m g _ => Cert.Kernel9Ideal.Gen.frame m g, frame_reference9,
  frame_kernel10, fun m g _ => Cert.Kernel10Ideal.Gen.frame m g, frame_reference10,
  frame_kernel11, fun m g _ => Cert.Kernel11Ideal.Gen.frame m g, frame_reference11,
  frame_kernel12, fun m g _ => Cert.Kernel12Ideal.Gen.frame m g, frame_reference12,
  frame_kernel13, fun m g _ => Cert.Kernel13Ideal.Gen.frame m g, frame_reference13,
  frame_kernel14, fun m g _ => Cert.Kernel14Ideal.Gen.frame m g, frame_reference14,
  frame_kernel15, fun m g _ => Cert.Kernel15Ideal.Gen.frame m g, frame_reference15,
  frame_kernel16, fun m g _ => Cert.Kernel16Ideal.Gen.frame m g, frame_reference16,
  frame_kernel17, fun m g _ => Cert.Kernel17Ideal.Gen.frame m g, frame_reference17,
  frame_kernel18, fun m g _ => Cert.Kernel18Ideal.Gen.frame m g, frame_reference18,
  frame_kernel19, fun m g _ => Cert.Kernel19Ideal.Gen.frame m g, frame_reference19,
  frame_kernel20, fun m g _ => Cert.Kernel20Ideal.Gen.frame m g, frame_reference20,
  frame_kernel21, fun m g _ => Cert.Kernel21Ideal.Gen.frame m g, frame_reference21,
  frame_kernel22, fun m g _ => Cert.Kernel22Ideal.Gen.frame m g, frame_reference22,
  frame_kernel23, fun m g _ => Cert.Kernel23Ideal.Gen.frame m g, frame_reference23,
  frame_kernel24, fun m g _ => Cert.Kernel24Ideal.Gen.frame m g, frame_reference24,
  frame_kernel25, fun m g _ => Cert.Kernel25Ideal.Gen.frame m g, frame_reference25,
  trivial, same, trivial, same2, trivial, same3, trivial, same4, trivial, same5, trivial, same6, trivial, same7, trivial, same8, trivial, same9, trivial, same10, trivial, same11, trivial, same12, trivial, same13, trivial, same14, trivial, same15, trivial, same16, trivial, same17, trivial, same18, trivial, same19, trivial, same20, trivial, same21, trivial, same22, trivial, same23, trivial, same24, trivial, same25⟩

end Cert.Proof

end
